-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v143) = v0 c
          ∧ r.2.mem ((c.tc : Thread Cert.Reference2Ideal.nD Cert.Reference2Ideal.τ).loc Cert.Reference2Ideal.main_v148) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v70_0)) (v1 : (c : Dev Cert.Kernel3Ideal.nD) → Buf (Elt Ideal) ((c.tc : Thread Cert.Kernel3Ideal.nD Cert.Kernel3Ideal.τ).loc Cert.Kernel3Ideal.main_v70_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v70_0) = v0 c
          ∧ r.2.mem ((c.tc : Thread Cert.Kernel3Ideal.nD Cert.Kernel3Ideal.τ).loc Cert.Kernel3Ideal.main_v70_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v124) = v0 c
          ∧ r.2.mem ((c.tc : Thread Cert.Reference3Ideal.nD Cert.Reference3Ideal.τ).loc Cert.Reference3Ideal.main_v125) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v136) = v0 c
          ∧ r.2.mem ((c.tc : Thread Cert.Reference4Ideal.nD Cert.Reference4Ideal.τ).loc Cert.Reference4Ideal.main_v138) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)) (v1 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_v9) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_arg1) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v4) = v2 c
          ∧ r.2.mem ((c.tc : Thread Cert.Reference6Ideal.nD Cert.Reference6Ideal.τ).loc Cert.Reference6Ideal.main_v10) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v17)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2x2048x512 : Shape := ⟨3, ![2, 2048, 512]⟩
abbrev S2x2048x1024 : Shape := ⟨3, ![2, 2048, 1024]⟩
abbrev S2x3072 : Shape := ⟨2, ![2, 3072]⟩
abbrev S1024 : Shape := ⟨1, ![1024]⟩
abbrev S1x1024x1024 : Shape := ⟨3, ![1, 1024, 1024]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S2x3072 : S_.BroadcastsInDim S2x3072 (![] : Fin 0 → Fin S2x3072.rank)
  reducesTo_S2x3072_S_d0_1 : S2x3072.ReducesTo [0, 1] S_
  bcast_S_S1024 : S_.BroadcastsInDim S1024 (![] : Fin 0 → Fin S1024.rank)
  reducesTo_S1024_S_d0 : S1024.ReducesTo [0] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_arg4 : FVec F S2x3072 .f32) (main_arg5 : FVec F S1024 .f32) (main_arg6 : FVec F S1x1024x1024 .f32) (main_v13 : IVec S_ 1) (main_v16 : IVec S2x2048x1024 1) : IVec S_ 1 :=
  let main_c_5 : IVec S_ 1 := constantI S_ 1 1#1
  let main_v17 : IVec S_ 1 := (fun x v => Host.reduce IntOp.andi x v reducesTo_S2x2048x1024_S_d0_1_2 h_S_) main_v16 main_c_5
  let main_v18 : IVec S_ 1 := andi main_v13 main_v17
  let main_v19 : FVec F S2x3072 .f32 := Host.absf main_arg4
  let main_cst_6 : FVec F S_ .f32 := constant S_ .f32 0x7F800000#32
  let main_v20 : FVec F S2x3072 .f32 := broadcastInDim S2x3072 ![] bcast_S_S2x3072 main_cst_6
  let main_v21 : IVec S2x3072 1 := cmpf .olt main_v19 main_v20
  let main_c_7 : IVec S_ 1 := constantI S_ 1 1#1
  let main_v22 : IVec S_ 1 := (fun x v => Host.reduce IntOp.andi x v reducesTo_S2x3072_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x1024x1024 .f32 := Host.absf main_arg6
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  main_v33

def fn {F : FTy → Type} [FloatOps F] (main_arg0 : FVec F S2x2048x512 .f32) (main_arg1 : FVec F S2x2048x512 .f32) (main_arg2 : FVec F S2x2048x1024 .f32) (main_arg3 : FVec F S2x2048x1024 .f32) (main_arg4 : FVec F S2x3072 .f32) (main_arg5 : FVec F S1024 .f32) (main_arg6 : FVec F S1x1024x1024 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S2x2048x1024 .f32 := Host.absf main_arg3
  let main_cst_4 : FVec F S_ .f32 := constant S_ .f32 0x7F800000#32
  let main_v15 : FVec F S2x2048x1024 .f32 := broadcastInDim S2x2048x1024 ![] bcast_S_S2x2048x1024 main_cst_4
  let main_v16 : IVec S2x2048x1024 1 := cmpf .olt main_v14 main_v15
  fn_part1 (F := F) main_arg4 main_arg5 main_arg6 main_v13 main_v16
-- ==== Pre_finite2.lean ====
abbrev S2x2304x4x1024 : Shape := ⟨4, ![2, 2304, 4, 1024]⟩
abbrev S4x1024x1024 : Shape := ⟨3, ![4, 1024, 1024]⟩
abbrev S2x2048x1024 : Shape := ⟨3, ![2, 2048, 1024]⟩
abbrev S2x256x1024 : Shape := ⟨3, ![2, 256, 1024]⟩
abbrev S3x3072 : Shape := ⟨2, ![3, 3072]⟩
abbrev S1024 : Shape := ⟨1, ![1024]⟩
abbrev S_ : Shape := ⟨0, ![]⟩

class Facts : Prop where
  bcast_S_S2x2304x4x1024 : S_.BroadcastsInDim S2x2304x4x1024 (![] : Fin 0 → Fin S2x2304x4x1024.rank)
  reducesTo_S2x2304x4x1024_S_d0_1_2_3 : S2x2304x4x1024.ReducesTo [0, 1, 2, 3] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S2x256x1024 : S_.BroadcastsInDim S2x256x1024 (![] : Fin 0 → Fin S2x256x1024.rank)
  reducesTo_S2x256x1024_S_d0_1_2 : S2x256x1024.ReducesTo [0, 1, 2] S_
  bcast_S_S3x3072 : S_.BroadcastsInDim S3x3072 (![] : Fin 0 → Fin S3x3072.rank)
  reducesTo_S3x3072_S_d0_1 : S3x3072.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2x2048x1024 .f32) (main_arg5 : FVec F S3x3072 .f32) (main_arg6 : FVec F S1024 .f32) (main_v13 : IVec S_ 1) (main_v16 : IVec S2x256x1024 1) : IVec S_ 1 :=
  let main_c_5 : IVec S_ 1 := constantI S_ 1 1#1
  let main_v17 : IVec S_ 1 := (fun x v => Host.reduce IntOp.andi x v reducesTo_S2x256x1024_S_d0_1_2 h_S_) main_v16 main_c_5
  let main_v18 : IVec S_ 1 := andi main_v13 main_v17
  let main_v19 : FVec F S2x2048x1024 .f32 := Host.absf main_arg4
  let main_cst_6 : FVec F S_ .f32 := constant S_ .f32 0x7F800000#32
  let main_v20 : FVec F S2x2048x1024 .f32 := broadcastInDim S2x2048x1024 ![] bcast_S_S2x2048x1024 main_cst_6
  let main_v21 : IVec S2x2048x1024 1 := cmpf .olt main_v19 main_v20
  let main_c_7 : IVec S_ 1 := constantI S_ 1 1#1
  let main_v22 : IVec S_ 1 := (fun x v => Host.reduce IntOp.andi x v reducesTo_S2x2048x1024_S_d0_1_2 h_S_) main_v21 main_c_7
  let main_v23 : IVec S_ 1 := andi main_v18 main_v22
  let main_v24 : FVec F S3x3072 .f32 := Host.absf main_arg5
  let main_cst_8 : FVec F S_ .f32 := constant S_ .f32 0x7F800000#32
  let main_v25 : FVec F S3x3072 .f32 := broadcastInDim S3x3072 ![] bcast_S_S3x3072 main_cst_8
  let main_v26 : IVec S3x3072 1 := cmpf .olt main_v24 main_v25
  let main_c_9 : IVec S_ 1 := constantI S_ 1 1#1
  let main_v27 : IVec S_ 1 := (fun x v => Host.reduce IntOp.andi x v reducesTo_S3x3072_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2x2304x4x1024 .f32) (main_arg1 : FVec F S4x1024x1024 .f32) (main_arg2 : FVec F S2x2048x1024 .f32) (main_arg3 : FVec F S2x256x1024 .f32) (main_arg4 : FVec F S2x2048x1024 .f32) (main_arg5 : FVec F S3x3072 .f32) (main_arg6 : FVec F S1024 .f32) : IVec S_ 1 :=
  let main_v0 : FVec F S2x2304x4x1024 .f32 := Host.absf main_arg0
  let main_cst : FVec F S_ .f32 := constant S_ .f32 0x7F800000#32
  let main_v1 : FVec F S2x2304x4x1024 .f32 := broadcastInDim S2x2304x4x1024 ![] bcast_S_S2x2304x4x1024 main_cst
  let main_v2 : IVec S2x2304x4x1024 1 := cmpf .olt main_v0 main_v1
  let main_c : IVec S_ 1 := constantI S_ 1 1#1
  let main_v3 : IVec S_ 1 := (fun x v => Host.reduce IntOp.andi x v reducesTo_S2x2304x4x1024_S_d0_1_2_3 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S2x256x1024 .f32 := Host.absf main_arg3
  let main_cst_4 : FVec F S_ .f32 := constant S_ .f32 0x7F800000#32
  let main_v15 : FVec F S2x256x1024 .f32 := broadcastInDim S2x256x1024 ![] bcast_S_S2x256x1024 main_cst_4
  let main_v16 : IVec S2x256x1024 1 := cmpf .olt main_v14 main_v15
  fn_part1 (F := F) main_arg4 main_arg5 main_arg6 main_v13 main_v16
-- ==== Pre_finite3.lean ====
abbrev S2x2048x512 : Shape := ⟨3, ![2, 2048, 512]⟩
abbrev S2x256x512 : Shape := ⟨3, ![2, 256, 512]⟩
abbrev S8x15x31 : Shape := ⟨3, ![8, 15, 31]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x256x512 : S_.BroadcastsInDim S2x256x512 (![] : Fin 0 → Fin S2x256x512.rank)
  reducesTo_S2x256x512_S_d0_1_2 : S2x256x512.ReducesTo [0, 1, 2] S_
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_v13 : IVec S_ 1) (main_v16 : IVec S8x15x31 1) : IVec S_ 1 :=
  let main_c_5 : IVec S_ 1 := constantI S_ 1 1#1
  let main_v17 : IVec S_ 1 := (fun x v => Host.reduce IntOp.andi x v reducesTo_S8x15x31_S_d0_1_2 h_S_) main_v16 main_c_5
  let main_v18 : IVec S_ 1 := andi main_v13 main_v17
  main_v18

def fn {F : FTy → Type} [FloatOps F] (main_arg0 : FVec F S2x2048x512 .f32) (main_arg1 : FVec F S2x2048x512 .f32) (main_arg2 : FVec F S2x2048x512 .f32) (main_arg3 : FVec F S2x2048x512 .f32) (main_arg4 : FVec F S2x256x512 .f32) (main_arg5 : FVec F S2x256x512 .f32) (main_arg6 : FVec F S8x15x31 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S2x256x512 .f32 := Host.absf main_arg4
  let main_cst_2 : FVec F S_ .f32 := constant S_ .f32 0x7F800000#32
  let main_v10 : FVec F S2x256x512 .f32 := broadcastInDim S2x256x512 ![] bcast_S_S2x256x512 main_cst_2
  let main_v11 : IVec S2x256x512 1 := cmpf .olt main_v9 main_v10
  let main_c_3 : IVec S_ 1 := constantI S_ 1 1#1
  let main_v12 : IVec S_ 1 := (fun x v => Host.reduce IntOp.andi x v reducesTo_S2x256x512_S_d0_1_2 h_S_) main_v11 main_c_3
  let main_v13 : IVec S_ 1 := andi main_v8 main_v12
  let main_v14 : FVec F S8x15x31 .f32 := Host.absf main_arg6
  let main_cst_4 : FVec F S_ .f32 := constant S_ .f32 0x7F800000#32
  let main_v15 : FVec F S8x15x31 .f32 := broadcastInDim S8x15x31 ![] bcast_S_S8x15x31 main_cst_4
  let main_v16 : IVec S8x15x31 1 := cmpf .olt main_v14 main_v15
  fn_part1 (F := F) main_v13 main_v16
-- ==== Pre_finite4.lean ====
abbrev S2x2048x512 : Shape := ⟨3, ![2, 2048, 512]⟩
abbrev S2x256x512 : Shape := ⟨3, ![2, 256, 512]⟩
abbrev S1x4 : Shape := ⟨2, ![1, 4]⟩
abbrev S1x512 : Shape := ⟨2, ![1, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x256x512 : S_.BroadcastsInDim S2x256x512 (![] : Fin 0 → Fin S2x256x512.rank)
  reducesTo_S2x256x512_S_d0_1_2 : S2x256x512.ReducesTo [0, 1, 2] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg5 : FVec F S2x256x512 .f32) (main_arg6 : FVec F S1x4 .f32) (main_arg7 : FVec F S1x4 .f32) (main_v13 : IVec S_ 1) (main_v16 : IVec S2x256x512 1) : IVec S_ 1 :=
  let main_c_5 : IVec S_ 1 := constantI S_ 1 1#1
  let main_v17 : IVec S_ 1 := (fun x v => Host.reduce IntOp.andi x v reducesTo_S2x256x512_S_d0_1_2 h_S_) main_v16 main_c_5
  let main_v18 : IVec S_ 1 := andi main_v13 main_v17
  let main_v19 : FVec F S2x256x512 .f32 := Host.absf main_arg5
  let main_cst_6 : FVec F S_ .f32 := constant S_ .f32 0x7F800000#32
  let main_v20 : FVec F S2x256x512 .f32 := broadcastInDim S2x256x512 ![] bcast_S_S2x256x512 main_cst_6
  let main_v21 : IVec S2x256x512 1 := cmpf .olt main_v19 main_v20
  let main_c_7 : IVec S_ 1 := constantI S_ 1 1#1
  let main_v22 : IVec S_ 1 := (fun x v => Host.reduce IntOp.andi x v reducesTo_S2x256x512_S_d0_1_2 h_S_) main_v21 main_c_7
  let main_v23 : IVec S_ 1 := andi main_v18 main_v22
  let main_v24 : FVec F S1x4 .f32 := Host.absf main_arg6
  let main_cst_8 : FVec F S_ .f32 := constant S_ .f32 0x7F800000#32
  let main_v25 : FVec F S1x4 .f32 := broadcastInDim S1x4 ![] bcast_S_S1x4 main_cst_8
  let main_v26 : IVec S1x4 1 := cmpf .olt main_v24 main_v25
  let main_c_9 : IVec S_ 1 := constantI S_ 1 1#1
  let main_v27 : IVec S_ 1 := (fun x v => Host.reduce IntOp.andi x v reducesTo_S1x4_S_d0_1 h_S_) main_v26 main_c_9
  let main_v28 : IVec S_ 1 := andi main_v23 main_v27
  let main_v29 : FVec F S1x4 .f32 := Host.absf main_arg7
  let main_cst_10 : FVec F S_ .f32 := constant S_ .f32 0x7F800000#32
  let main_v30 : FVec F S1x4 .f32 := broadcastInDim S1x4 ![] bcast_S_S1x4 main_cst_10
  let main_v31 : IVec S1x4 1 := cmpf .olt main_v29 main_v30
  let main_c_11 : IVec S_ 1 := constantI S_ 1 1#1
  let main_v32 : IVec S_ 1 := (fun x v => Host.reduce IntOp.andi x v reducesTo_S1x4_S_d0_1 h_S_) main_v31 main_c_11
  let main_v33 : IVec S_ 1 := andi main_v28 main_v32
  main_v33

def fn {F : FTy → Type} [FloatOps F] (main_arg0 : FVec F S2x2048x512 .f32) (main_arg1 : FVec F S2x2048x512 .f32) (main_arg2 : FVec F S2x2048x512 .f32) (main_arg3 : FVec F S2x2048x512 .f32) (main_arg4 : FVec F S2x256x512 .f32) (main_arg5 : FVec F S2x256x512 .f32) (main_arg6 : FVec F S1x4 .f32) (main_arg7 : FVec F S1x4 .f32) (main_arg8 : FVec F S1x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S2x2048x512 .f32 := Host.absf main_arg2
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  let main_c_3 : IVec S_ 1 := constantI S_ 1 1#1
  let main_v12 : IVec S_ 1 := (fun x v => Host.reduce IntOp.andi x v reducesTo_S2x2048x512_S_d0_1_2 h_S_) main_v11 main_c_3
  let main_v13 : IVec S_ 1 := andi main_v8 main_v12
  let main_v14 : FVec F S2x256x512 .f32 := Host.absf main_arg4
  let main_cst_4 : FVec F S_ .f32 := constant S_ .f32 0x7F800000#32
  let main_v15 : FVec F S2x256x512 .f32 := broadcastInDim S2x256x512 ![] bcast_S_S2x256x512 main_cst_4
  let main_v16 : IVec S2x256x512 1 := cmpf .olt main_v14 main_v15
  fn_part1 (F := F) main_arg5 main_arg6 main_arg7 main_v13 main_v16
-- ==== Kernel.lean ====
abbrev S2x2048x512 : Shape := ⟨3, ![2, 2048, 512]⟩
abbrev S2x2048x1024 : Shape := ⟨3, ![2, 2048, 1024]⟩
abbrev S2x3072 : Shape := ⟨2, ![2, 3072]⟩
abbrev S1024 : Shape := ⟨1, ![1024]⟩
abbrev S1x1024x1024 : Shape := ⟨3, ![1, 1024, 1024]⟩
abbrev S_ : Shape := ⟨0, ![]⟩
abbrev S6x3072 : Shape := ⟨2, ![6, 3072]⟩
abbrev S8x3072 : Shape := ⟨2, ![8, 3072]⟩
abbrev S1x1024 : Shape := ⟨2, ![1, 1024]⟩
abbrev S1024x1024 : Shape := ⟨2, ![1024, 1024]⟩
abbrev S8x1024 : Shape := ⟨2, ![8, 1024]⟩
abbrev S1x1024x512 : Shape := ⟨3, ![1, 1024, 512]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 19
  | .vmem => 18
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S2x2048x1024, .f32⟩
  | .hbm, ⟨4, _⟩ => ⟨S2x3072, .f32⟩
  | .hbm, ⟨5, _⟩ => ⟨S1024, .f32⟩
  | .hbm, ⟨6, _⟩ => ⟨S1x1024x1024, .f32⟩
  | .hbm, ⟨7, _⟩ => ⟨S_, .f32⟩
  | .hbm, ⟨8, _⟩ => ⟨S6x3072, .f32⟩
  | .hbm, ⟨9, _⟩ => ⟨S8x3072, .f32⟩
  | .hbm, ⟨10, _⟩ => ⟨S2x2048x512, .bf16⟩
  | .hbm, ⟨11, _⟩ => ⟨S2x2048x512, .bf16⟩
  | .hbm, ⟨12, _⟩ => ⟨S1x1024, .f32⟩
  | .hbm, ⟨13, _⟩ => ⟨S1024x1024, .f32⟩
  | .hbm, ⟨14, _⟩ => ⟨S1024x1024, .bf16⟩
  | .hbm, ⟨15, _⟩ => ⟨S2x2048x1024, .bf16⟩
  | .hbm, ⟨16, _⟩ => ⟨S2x2048x1024, .f32⟩
  | .hbm, ⟨17, _⟩ => ⟨S1024x1024, .bf16⟩
  | .hbm, ⟨18, _⟩ => ⟨S8x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S8x3072, .f32⟩
  | .local _ .vmem, ⟨9, _⟩ => ⟨S1x1024, .f32⟩
  | .local _ .vmem, ⟨10, _⟩ => ⟨S1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S1024x1024, .bf16⟩
  | .local _ .vmem, ⟨16, _⟩ => ⟨S8x1024, .f32⟩
  | .local _ .vmem, ⟨17, _⟩ => ⟨S1024x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![2, 2], ![false, false]⟩

def k0_off1 (i : grid0.Coords) : Fin 2 → Nat :=
  let arg0 : BitVec 32 := BitVec.ofNat 32 (i 0).val
  let v5 : Index := Scalar.indexCast arg0
  let c2048 : Index := 2048#32
  ![v5.toNat, 2048]
def k0_off2 (i : grid0.Coords) : Fin 2 → Nat :=
  let c2_i32 : BitVec 32 := 2#32
  let arg0 : BitVec 32 := BitVec.ofNat 32 (i 0).val
  let v72 : BitVec 32 := Scalar.addi c2_i32 arg0
  let v73 : Index := Scalar.indexCast v72
  let c0_37 : Index := 0#32
  ![v73.toNat, 0]
def k0_cond2 (i : grid0.Coords) : BitVec 1 :=
  let arg0 : BitVec 32 := BitVec.ofNat 32 (i 0).val
  let c1_i32 : BitVec 32 := 1#32
  let v111 : BitVec 1 := Scalar.cmpi .eq arg0 c1_i32
  let arg1 : BitVec 32 := BitVec.ofNat 32 (i 1).val
  let c1_i32_62 : BitVec 32 := 1#32
  let v112 : BitVec 1 := Scalar.cmpi .eq arg1 c1_i32_62
  let v113 : BitVec 1 := Scalar.andi v111 v112
  let v114 : BitVec 32 := Scalar.extui v113
  let c0_i32_63 : BitVec 32 := 0#32
  let v115 : BitVec 1 := Scalar.cmpi .ne v114 c0_i32_63
  v115

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S2x2048x512 : Shape := ⟨3, ![2, 2048, 512]⟩
abbrev S2x2048x1024 : Shape := ⟨3, ![2, 2048, 1024]⟩
abbrev S2x3072 : Shape := ⟨2, ![2, 3072]⟩
abbrev S1024 : Shape := ⟨1, ![1024]⟩
abbrev S1x1024x1024 : Shape := ⟨3, ![1, 1024, 1024]⟩
abbrev S2x1024 : Shape := ⟨2, ![2, 1024]⟩
abbrev S1024x1024 : Shape := ⟨2, ![1024, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x1024 : Shape := ⟨2, ![1, 1024]⟩
abbrev S4x1024 : Shape := ⟨2, ![4, 1024]⟩
abbrev S8x1024 : Shape := ⟨2, ![8, 1024]⟩

abbrev nBuf : Space → Nat
  | .hbm => 103
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S2x2048x1024, .f32⟩
  | .hbm, ⟨4, _⟩ => ⟨S2x3072, .f32⟩
  | .hbm, ⟨5, _⟩ => ⟨S1024, .f32⟩
  | .hbm, ⟨6, _⟩ => ⟨S1x1024x1024, .f32⟩
  | .hbm, ⟨7, _⟩ => ⟨S2x2048x1024, .f32⟩
  | .hbm, ⟨8, _⟩ => ⟨S2x1024, .f32⟩
  | .hbm, ⟨9, _⟩ => ⟨S1024x1024, .f32⟩
  | .hbm, ⟨10, _⟩ => ⟨S2x2048x1024, .f32⟩
  | .hbm, ⟨11, _⟩ => ⟨S2x1x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1024, .f32⟩
  | .hbm, ⟨31, _⟩ => ⟨S2x2048x1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x2048, .f32⟩
  | .hbm, ⟨42, _⟩ => ⟨S_, .f32⟩
  | .hbm, ⟨43, _⟩ => ⟨S2x2048, .f32⟩
  | .hbm, ⟨44, _⟩ => ⟨S2x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2x2048, .f32⟩
  | .hbm, ⟨55, _⟩ => ⟨S_, .f32⟩
  | .hbm, ⟨56, _⟩ => ⟨S2x2048, .f32⟩
  | .hbm, ⟨57, _⟩ => ⟨S2x2048, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S1024, .f32⟩
  | .hbm, ⟨68, _⟩ => ⟨S2x2048x1024, .f32⟩
  | .hbm, ⟨69, _⟩ => ⟨S_, .f32⟩
  | .hbm, ⟨70, _⟩ => ⟨S2x2048, .f32⟩
  | .hbm, ⟨71, _⟩ => ⟨S2x2048x1, .f32⟩
  | .hbm, ⟨72, _⟩ => ⟨S2x2048x1024, .f32⟩
  | .hbm, ⟨73, _⟩ => ⟨S2x2048x1024, .f32⟩
  | .hbm, ⟨74, _⟩ => ⟨S2x2048x1, .f32⟩
  | .hbm, ⟨75, _⟩ => ⟨S_, .f32⟩
  | .hbm, ⟨76, _⟩ => ⟨S2x2048x1, .f32⟩
  | .hbm, ⟨77, _⟩ => ⟨S2x2048x1, .f32⟩
  | .hbm, ⟨78, _⟩ => ⟨S_, .f32⟩
  | .hbm, ⟨79, _⟩ => ⟨S2x2048, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | .hbm, ⟨88, _⟩ => ⟨S_, .f32⟩
  | .hbm, ⟨89, _⟩ => ⟨S2x1024, .f32⟩
  | .hbm, ⟨90, _⟩ => ⟨S2x1x1024, .f32⟩
  | .hbm, ⟨91, _⟩ => ⟨S_, .f32⟩
  | .hbm, ⟨92, _⟩ => ⟨S2x1024, .f32⟩
  | .hbm, ⟨93, _⟩ => ⟨S1024x1024, .f32⟩
  | .hbm, ⟨94, _⟩ => ⟨S1024x1024, .f32⟩
  | .hbm, ⟨95, _⟩ => ⟨S2x2048x1024, .f32⟩
  | .hbm, ⟨96, _⟩ => ⟨S1x1024, .f32⟩
  | .hbm, ⟨97, _⟩ => ⟨S1x1024, .f32⟩
  | .hbm, ⟨98, _⟩ => ⟨S_, .f32⟩
  | .hbm, ⟨99, _⟩ => ⟨S4x1024, .f32⟩
  | .hbm, ⟨100, _⟩ => ⟨S8x1024, .f32⟩
  | .hbm, ⟨101, _⟩ => ⟨S2x2048x1024, .bf16⟩
  | .hbm, ⟨102, _⟩ => ⟨S1024x1024, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_cst_9 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_17 : Ref sig .tc := ⟨.hbm, 88, rfl⟩
abbrev main_v63 : Ref sig .tc := ⟨.hbm, 89, rfl⟩
abbrev main_v64 : Ref sig .tc := ⟨.hbm, 90, rfl⟩
abbrev main_cst_18 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_19 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Kernel2.lean ====
abbrev S2x2304x4x1024 : Shape := ⟨4, ![2, 2304, 4, 1024]⟩
abbrev S4x1024x1024 : Shape := ⟨3, ![4, 1024, 1024]⟩
abbrev S2x2048x1024 : Shape := ⟨3, ![2, 2048, 1024]⟩
abbrev S2x256x1024 : Shape := ⟨3, ![2, 256, 1024]⟩
abbrev S3x3072 : Shape := ⟨2, ![3, 3072]⟩
abbrev S1024 : Shape := ⟨1, ![1024]⟩
abbrev S2x2048x1x512 : Shape := ⟨4, ![2, 2048, 1, 512]⟩
abbrev S2x2048x512 : Shape := ⟨3, ![2, 2048, 512]⟩
abbrev S2x2304x1x512 : Shape := ⟨4, ![2, 2304, 1, 512]⟩
abbrev S2x2304x512 : Shape := ⟨3, ![2, 2304, 512]⟩
abbrev S_ : Shape := ⟨0, ![]⟩
abbrev S5x3072 : Shape := ⟨2, ![5, 3072]⟩
abbrev S8x3072 : Shape := ⟨2, ![8, 3072]⟩
abbrev S1x1024 : Shape := ⟨2, ![1, 1024]⟩
abbrev S8x1024 : Shape := ⟨2, ![8, 1024]⟩
abbrev S1x256x512 : Shape := ⟨3, ![1, 256, 512]⟩
abbrev S1x256x1024 : Shape := ⟨3, ![1, 256, 1024]⟩
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩
abbrev S1x3072 : Shape := ⟨2, ![1, 3072]⟩
abbrev S256 : Shape := ⟨1, ![256]⟩
abbrev S256x1 : Shape := ⟨2, ![256, 1]⟩

abbrev nBuf : Space → Nat
  | .hbm => 38
  | .vmem => 28
  | .smem => 0
  | _ => 0

abbrev bufTy : (tb : Table) → Fin (tcTables nBuf tb) → BufTy
  | .hbm, ⟨0, _⟩ => ⟨S2x2304x4x1024, .f32⟩
  | .hbm, ⟨1, _⟩ => ⟨S4x1024x1024, .f32⟩
  | .hbm, ⟨2, _⟩ => ⟨S2x2048x1024, .f32⟩
  | .hbm, ⟨3, _⟩ => ⟨S2x256x1024, .f32⟩
  | .hbm, ⟨4, _⟩ => ⟨S2x2048x1024, .f32⟩
  | .hbm, ⟨5, _⟩ => ⟨S3x3072, .f32⟩
  | .hbm, ⟨6, _⟩ => ⟨S1024, .f32⟩
  | .hbm, ⟨7, _⟩ => ⟨S2x2048x1x512, .f32⟩
  | .hbm, ⟨8, _⟩ => ⟨S2x2048x512, .f32⟩
  | .hbm, ⟨9, _⟩ => ⟨S2x2048x512, .bf16⟩
  | .hbm, ⟨10, _⟩ => ⟨S2x2304x1x512, .f32⟩
  | .hbm, ⟨11, _⟩ => ⟨S2x2304x512, .f32⟩
  | .hbm, ⟨12, _⟩ => ⟨S2x2304x512, .bf16⟩
  | .hbm, ⟨13, _⟩ => ⟨S2x2304x1x512, .f32⟩
  | .hbm, ⟨14, _⟩ => ⟨S2x2304x512, .f32⟩
  | .hbm, ⟨15, _⟩ => ⟨S2x2304x512, .bf16⟩
  | .hbm, ⟨16, _⟩ => ⟨S2x2048x1x512, .f32⟩
  | .hbm, ⟨17, _⟩ => ⟨S2x2048x512, .f32⟩
  | .hbm, ⟨18, _⟩ => ⟨S2x2048x512, .bf16⟩
  | .hbm, ⟨19, _⟩ => ⟨S2x2048x1x512, .f32⟩
  | .hbm, ⟨20, _⟩ => ⟨S2x2048x512, .f32⟩
  | .hbm, ⟨21, _⟩ => ⟨S2x2048x512, .bf16⟩
  | .hbm, ⟨22, _⟩ => ⟨S2x2304x1x512, .f32⟩
  | .hbm, ⟨23, _⟩ => ⟨S2x2304x512, .f32⟩
  | .hbm, ⟨24, _⟩ => ⟨S2x2304x512, .bf16⟩
  | .hbm, ⟨25, _⟩ => ⟨S2x2304x1x512, .f32⟩
  | .hbm, ⟨26, _⟩ => ⟨S2x2304x512, .f32⟩
  | .hbm, ⟨27, _⟩ => ⟨S2x2304x512, .bf16⟩
  | .hbm, ⟨28, _⟩ => ⟨S2x2048x1x512, .f32⟩
  | .hbm, ⟨29, _⟩ => ⟨S2x2048x512, .f32⟩
  | .hbm, ⟨30, _⟩ => ⟨S2x2048x512, .bf16⟩
  | .hbm, ⟨31, _⟩ => ⟨S_, .f32⟩
  | .hbm, ⟨32, _⟩ => ⟨S5x3072, .f32⟩
  | .hbm, ⟨33, _⟩ => ⟨S8x3072, .f32⟩
  | .hbm, ⟨34, _⟩ => ⟨S4x1024x1024, .bf16⟩
  | .hbm, ⟨35, _⟩ => ⟨S1x1024, .f32⟩
  | .hbm, ⟨36, _⟩ => ⟨S2x2048x1024, .f32⟩
  | .hbm, ⟨37, _⟩ => ⟨S8x1024, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S4x1024x1024, .bf16⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S8x3072, .f32⟩
  | .local _ .vmem, ⟨24, _⟩ => ⟨S1x1024, .f32⟩
  | .local _ .vmem, ⟨25, _⟩ => ⟨S1x256x1024, .f32⟩
  | .local _ .vmem, ⟨26, _⟩ => ⟨S1x256x1024, .f32⟩
  | .local _ .vmem, ⟨27, _⟩ => ⟨S8x1024, .f32⟩
  | _, _ => ⟨S2x2304x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27

abbrev nD : Nat := 1
abbrev τ : Topo := Topo.v7x

variable {F : FTy → Type} [FloatOps F]

abbrev grid0 : Pipeline.Grid := ⟨2, ![2, 9], ![false, false]⟩

def k0_cond2 (i : grid0.Coords) : BitVec 1 :=
  let arg1 : BitVec 32 := BitVec.ofNat 32 (i 1).val
  let c8_i32 : BitVec 32 := 8#32
  let v0 : BitVec 1 := Scalar.cmpi .slt arg1 c8_i32
  let v6 : BitVec 32 := Scalar.extui v0
  let c0_i32_2 : BitVec 32 := 0#32
  let v7 : BitVec 1 := Scalar.cmpi .ne v6 c0_i32_2
  v7

def k0_off1 (i : grid0.Coords) : Fin 2 → Nat :=
  let arg0 : BitVec 32 := BitVec.ofNat 32 (i 0).val
  let v62 : Index := Scalar.indexCast arg0
  let c0_58 : Index := 0#32
  ![v62.toNat, 0]
def k0_off2 (i : grid0.Coords) (c3_i32 : BitVec 32) : Fin 2 → Nat :=
  let arg0 : BitVec 32 := BitVec.ofNat 32 (i 0).val
  let v108 : BitVec 32 := Scalar.addi c3_i32 arg0
  let v109 : Index := Scalar.indexCast v108
  let c0_74 : Index := 0#32
  ![v109.toNat, 0]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32 : BitVec 32 := 8#32
  let v0 : BitVec 1 := Scalar.cmpi .slt arg1 c8_i32
  let v_true : BitVec 1 := 1#1
  let v8 : BitVec 1 := Scalar.xori v0 v_true
  let v9 : BitVec 32 := Scalar.extui v8
  let c0_i32_3 : BitVec 32 := 0#32
  let v10 : BitVec 1 := Scalar.cmpi .ne v9 c0_i32_3
  v10

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference2Ideal.lean ====
abbrev S2x2304x4x1024 : Shape := ⟨4, ![2, 2304, 4, 1024]⟩
abbrev S4x1024x1024 : Shape := ⟨3, ![4, 1024, 1024]⟩
abbrev S2x2048x1024 : Shape := ⟨3, ![2, 2048, 1024]⟩
abbrev S2x256x1024 : Shape := ⟨3, ![2, 256, 1024]⟩
abbrev S3x3072 : Shape := ⟨2, ![3, 3072]⟩
abbrev S1024 : Shape := ⟨1, ![1024]⟩
abbrev S2x1024 : Shape := ⟨2, ![2, 1024]⟩
abbrev S1x1024 : Shape := ⟨2, ![1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x256 : Shape := ⟨2, ![2, 256]⟩
abbrev S2x256x1 : Shape := ⟨3, ![2, 256, 1]⟩
abbrev S2x2048x4x1024 : Shape := ⟨4, ![2, 2048, 4, 1024]⟩
abbrev S1x1024x512 : Shape := ⟨3, ![1, 1024, 512]⟩
abbrev S1024x512 : Shape := ⟨2, ![1024, 512]⟩
abbrev S2x256x512 : Shape := ⟨3, ![2, 256, 512]⟩
abbrev S2x256x1x512 : Shape := ⟨4, ![2, 256, 1, 512]⟩
abbrev S8x1024 : Shape := ⟨2, ![8, 1024]⟩

abbrev nBuf : Space → Nat
  | .hbm => 185
  | .vmem => 0
  | .smem => 0
  | _ => 0

abbrev hbmTy0_0 (i : Nat) : BufTy := match i % 128 with
  | 0 => ⟨S2x2304x4x1024, .f32⟩
  | 1 => ⟨S4x1024x1024, .f32⟩
  | 2 => ⟨S2x2048x1024, .f32⟩
  | 3 => ⟨S2x256x1024, .f32⟩
  | 4 => ⟨S2x2048x1024, .f32⟩
  | 5 => ⟨S3x3072, .f32⟩
  | 6 => ⟨S1024, .f32⟩
  | 7 => ⟨S2x1024, .f32⟩
  | 8 => ⟨S2x1024, .f32⟩
  | 9 => ⟨S1x1024, .f32⟩
  | 10 => ⟨S1024, .f32⟩
  | 11 => ⟨S1x1024, .f32⟩
  | 12 => ⟨S1024, .f32⟩
  | 13 => ⟨S2x2048x1024, .f32⟩
  | 14 => ⟨S_, .f32⟩
  | 15 => ⟨S2x2048, .f32⟩
  | 16 => ⟨S2x2048x1, .f32⟩
  | 17 => ⟨S_, .f32⟩
  | 18 => ⟨S2x2048x1, .f32⟩
  | 19 => ⟨S2x2048x1, .f32⟩
  | 20 => ⟨S_, .f32⟩
  | 21 => ⟨S2x2048x1, .f32⟩
  | 22 => ⟨S2x2048x1, .f32⟩
  | 23 => ⟨S2x2048x1, .f32⟩
  | 24 => ⟨S2x2048x1, .f32⟩
  | 25 => ⟨S_, .f32⟩
  | 26 => ⟨S2x2048x1, .f32⟩
  | 27 => ⟨S2x2048x1, .f32⟩
  | 28 => ⟨S2x2048x1024, .f32⟩
  | 29 => ⟨S2x2048x1024, .f32⟩
  | 30 => ⟨S1x1x1024, .f32⟩
  | 31 => ⟨S2x2048x1024, .f32⟩
  | 32 => ⟨S2x2048x1024, .f32⟩
  | 33 => ⟨S2x1x1024, .f32⟩
  | 34 => ⟨S_, .f32⟩
  | 35 => ⟨S2x1x1024, .f32⟩
  | 36 => ⟨S2x1x1024, .f32⟩
  | 37 => ⟨S2x2048x1024, .f32⟩
  | 38 => ⟨S2x2048x1024, .f32⟩
  | 39 => ⟨S2x1x1024, .f32⟩
  | 40 => ⟨S2x2048x1024, .f32⟩
  | 41 => ⟨S2x2048x1024, .f32⟩
  | 42 => ⟨S2x256x1024, .f32⟩
  | 43 => ⟨S_, .f32⟩
  | 44 => ⟨S2x256, .f32⟩
  | 45 => ⟨S2x256x1, .f32⟩
  | 46 => ⟨S_, .f32⟩
  | 47 => ⟨S2x256x1, .f32⟩
  | 48 => ⟨S2x256x1, .f32⟩
  | 49 => ⟨S_, .f32⟩
  | 50 => ⟨S2x256x1, .f32⟩
  | 51 => ⟨S2x256x1, .f32⟩
  | 52 => ⟨S2x256x1, .f32⟩
  | 53 => ⟨S2x256x1, .f32⟩
  | 54 => ⟨S_, .f32⟩
  | 55 => ⟨S2x256x1, .f32⟩
  | 56 => ⟨S2x256x1, .f32⟩
  | 57 => ⟨S2x256x1024, .f32⟩
  | 58 => ⟨S2x256x1024, .f32⟩
  | 59 => ⟨S1x1x1024, .f32⟩
  | 60 => ⟨S2x256x1024, .f32⟩
  | 61 => ⟨S2x256x1024, .f32⟩
  | 62 => ⟨S_, .f32⟩
  | 63 => ⟨S1024, .f32⟩
  | 64 => ⟨S1024, .f32⟩
  | 65 => ⟨S1x1x1024, .f32⟩
  | 66 => ⟨S2x256x1024, .f32⟩
  | 67 => ⟨S2x256x1024, .f32⟩
  | 68 => ⟨S1x1x1024, .f32⟩
  | 69 => ⟨S2x256x1024, .f32⟩
  | 70 => ⟨S2x256x1024, .f32⟩
  | 71 => ⟨S2x2048x4x1024, .f32⟩
  | 72 => ⟨S1x1024x512, .f32⟩
  | 73 => ⟨S1024x512, .f32⟩
  | 74 => ⟨S2x256x512, .f32⟩
  | 75 => ⟨S1x1024x512, .f32⟩
  | 76 => ⟨S1024x512, .f32⟩
  | 77 => ⟨S2x256x512, .f32⟩
  | 78 => ⟨S1x1024x512, .f32⟩
  | 79 => ⟨S1024x512, .f32⟩
  | 80 => ⟨S2x256x512, .f32⟩
  | 81 => ⟨S1x1024x512, .f32⟩
  | 82 => ⟨S1024x512, .f32⟩
  | 83 => ⟨S2x256x512, .f32⟩
  | 84 => ⟨S2x2048x4x1024, .f32⟩
  | 85 => ⟨S2x256x1x512, .f32⟩
  | 86 => ⟨S2x256x512, .f32⟩
  | 87 => ⟨S2x256x1x512, .f32⟩
  | 88 => ⟨S2x256x512, .f32⟩
  | 89 => ⟨S2x256x1x512, .f32⟩
  | 90 => ⟨S2x256x512, .f32⟩
  | 91 => ⟨S2x256x1x512, .f32⟩
  | 92 => ⟨S2x256x512, .f32⟩
  | 93 => ⟨S2x256x1024, .f32⟩
  | 94 => ⟨S2x256x1024, .f32⟩
  | 95 => ⟨S2x256x1024, .f32⟩
  | 96 => ⟨S2x256x1024, .f32⟩
  | 97 => ⟨S2x256x1024, .f32⟩
  | 98 => ⟨S2x256x1024, .f32⟩
  | 99 => ⟨S2x256x1024, .f32⟩
  | 100 => ⟨S2x2048x1024, .f32⟩
  | 101 => ⟨S_, .f32⟩
  | 102 => ⟨S1024, .f32⟩
  | 103 => ⟨S1x1x1024, .f32⟩
  | 104 => ⟨S_, .f32⟩
  | 105 => ⟨S1024, .f32⟩
  | 106 => ⟨S2x256x1024, .f32⟩
  | 107 => ⟨S_, .f32⟩
  | 108 => ⟨S1024, .f32⟩
  | 109 => ⟨S1x1x1024, .f32⟩
  | 110 => ⟨S2x256x1024, .f32⟩
  | 111 => ⟨S2x256x1024, .f32⟩
  | 112 => ⟨S_, .f32⟩
  | 113 => ⟨S1024, .f32⟩
  | 114 => ⟨S2x256x1024, .f32⟩
  | 115 => ⟨S_, .f32⟩
  | 116 => ⟨S1024, .f32⟩
  | 117 => ⟨S1x1x1024, .f32⟩
  | 118 => ⟨S2x256x1024, .f32⟩
  | 119 => ⟨S2x256x1024, .f32⟩
  | 120 => ⟨S_, .f32⟩
  | 121 => ⟨S1024, .f32⟩
  | 122 => ⟨S2x256x1024, .f32⟩
  | 123 => ⟨S_, .f32⟩
  | 124 => ⟨S2x256, .f32⟩
  | 125 => ⟨S2x256x1, .f32⟩
  | 126 => ⟨S2x256x1024, .f32⟩
  | 127 => ⟨S2x256x1024, .f32⟩
  | _ => ⟨S2x2304x4x1024, .f32⟩

abbrev hbmTy0_1 (i : Nat) : BufTy := match i % 128 with
  | 0 => ⟨S2x256x1, .f32⟩
  | 1 => ⟨S_, .f32⟩
  | 2 => ⟨S2x256x1, .f32⟩
  | 3 => ⟨S2x256x1, .f32⟩
  | 4 => ⟨S_, .f32⟩
  | 5 => ⟨S2x256, .f32⟩
  | 6 => ⟨S2x256x1024, .f32⟩
  | 7 => ⟨S2x256x1024, .f32⟩
  | 8 => ⟨S2x256x1024, .f32⟩
  | 9 => ⟨S2x256x1024, .f32⟩
  | 10 => ⟨S2x256x1024, .f32⟩
  | 11 => ⟨S_, .f32⟩
  | 12 => ⟨S2x1024, .f32⟩
  | 13 => ⟨S2x1x1024, .f32⟩
  | 14 => ⟨S_, .f32⟩
  | 15 => ⟨S2x1024, .f32⟩
  | 16 => ⟨S2x2048x1024, .f32⟩
  | 17 => ⟨S_, .f32⟩
  | 18 => ⟨S2x1024, .f32⟩
  | 19 => ⟨S2x1x1024, .f32⟩
  | 20 => ⟨S2x2048x1024, .f32⟩
  | 21 => ⟨S2x2048x1024, .f32⟩
  | 22 => ⟨S_, .f32⟩
  | 23 => ⟨S2x1024, .f32⟩
  | 24 => ⟨S2x2048x1024, .f32⟩
  | 25 => ⟨S_, .f32⟩
  | 26 => ⟨S1024, .f32⟩
  | 27 => ⟨S1x1x1024, .f32⟩
  | 28 => ⟨S2x2048x1024, .f32⟩
  | 29 => ⟨S2x2048x1024, .f32⟩
  | 30 => ⟨S_, .f32⟩
  | 31 => ⟨S1024, .f32⟩
  | 32 => ⟨S1024, .f32⟩
  | 33 => ⟨S2x2048x1024, .f32⟩
  | 34 => ⟨S_, .f32⟩
  | 35 => ⟨S2x2048, .f32⟩
  | 36 => ⟨S2x2048x1, .f32⟩
  | 37 => ⟨S2x2048x1024, .f32⟩
  | 38 => ⟨S2x2048x1024, .f32⟩
  | 39 => ⟨S2x2048x1024, .f32⟩
  | 40 => ⟨S2x2048x1, .f32⟩
  | 41 => ⟨S_, .f32⟩
  | 42 => ⟨S2x2048x1, .f32⟩
  | 43 => ⟨S2x2048x1, .f32⟩
  | 44 => ⟨S_, .f32⟩
  | 45 => ⟨S2x2048, .f32⟩
  | 46 => ⟨S2x2048x1024, .f32⟩
  | 47 => ⟨S2x2048x1024, .f32⟩
  | 48 => ⟨S2x2048x1024, .f32⟩
  | 49 => ⟨S2x2048x1024, .f32⟩
  | 50 => ⟨S2x2048x1024, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S8x1024, .f32⟩
  | _ => ⟨S2x2304x4x1024, .f32⟩

abbrev hbmTy (i : Nat) : BufTy := match i / 128 with
  | 0 => hbmTy0_0 i
  | 1 => hbmTy0_1 i
  | _ => ⟨S2x2304x4x1024, .f32⟩

abbrev bufTy : (tb : Table) → Fin (tcTables nBuf tb) → BufTy
  | .hbm, ⟨i, _⟩ => hbmTy i
  | _, _ => ⟨S2x2304x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_9 : Ref sig .tc := ⟨.hbm, 101, rfl⟩
abbrev main_v84 : Ref sig .tc := ⟨.hbm, 102, rfl⟩
abbrev main_v85 : Ref sig .tc := ⟨.hbm, 103, rfl⟩
abbrev main_cst_10 : Ref sig .tc := ⟨.hbm, 104, rfl⟩
abbrev main_v86 : Ref sig .tc := ⟨.hbm, 105, rfl⟩
abbrev main_v87 : Ref sig .tc := ⟨.hbm, 106, rfl⟩
abbrev main_cst_11 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_12 : Ref sig .tc := ⟨.hbm, 112, rfl⟩
abbrev main_v92 : Ref sig .tc := ⟨.hbm, 113, rfl⟩
abbrev main_v93 : Ref sig .tc := ⟨.hbm, 114, rfl⟩
abbrev main_cst_13 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_14 : Ref sig .tc := ⟨.hbm, 120, rfl⟩
abbrev main_v98 : Ref sig .tc := ⟨.hbm, 121, rfl⟩
abbrev main_v99 : Ref sig .tc := ⟨.hbm, 122, rfl⟩
abbrev main_cst_15 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_16 : Ref sig .tc := ⟨.hbm, 129, rfl⟩
abbrev main_v105 : Ref sig .tc := ⟨.hbm, 130, rfl⟩
abbrev main_v106 : Ref sig .tc := ⟨.hbm, 131, rfl⟩
abbrev main_cst_17 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_18 : Ref sig .tc := ⟨.hbm, 139, rfl⟩
abbrev main_v113 : Ref sig .tc := ⟨.hbm, 140, rfl⟩
abbrev main_v114 : Ref sig .tc := ⟨.hbm, 141, rfl⟩
abbrev main_cst_19 : Ref sig .tc := ⟨.hbm, 142, rfl⟩
abbrev main_v115 : Ref sig .tc := ⟨.hbm, 143, rfl⟩
abbrev main_v116 : Ref sig .tc := ⟨.hbm, 144, rfl⟩
abbrev main_cst_20 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_21 : Ref sig .tc := ⟨.hbm, 150, rfl⟩
abbrev main_v121 : Ref sig .tc := ⟨.hbm, 151, rfl⟩
abbrev main_v122 : Ref sig .tc := ⟨.hbm, 152, rfl⟩
abbrev main_cst_22 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_23 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_24 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_25 : Ref sig .tc := ⟨.hbm, 169, rfl⟩
abbrev main_v136 : Ref sig .tc := ⟨.hbm, 170, rfl⟩
abbrev main_v137 : Ref sig .tc := ⟨.hbm, 171, rfl⟩
abbrev main_cst_26 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_27 : Ref sig .tc := ⟨.hbm, 182, rfl⟩
abbrev main_v147 : Ref sig .tc := ⟨.hbm, 183, rfl⟩
abbrev main_v148 : Ref sig .tc := ⟨.hbm, 184, rfl⟩

abbrev nD : Nat := 1
abbrev τ : Topo := Topo.v7x

variable {F : FTy → Type} [FloatOps F]
-- ==== Kernel3.lean ====
abbrev S2x2048x512 : Shape := ⟨3, ![2, 2048, 512]⟩
abbrev S2x256x512 : Shape := ⟨3, ![2, 256, 512]⟩
abbrev S8x15x31 : Shape := ⟨3, ![8, 15, 31]⟩
abbrev S_ : Shape := ⟨0, ![]⟩
abbrev S2x2048x1024 : Shape := ⟨3, ![2, 2048, 1024]⟩
abbrev S2x2048x2048 : Shape := ⟨3, ![2, 2048, 2048]⟩
abbrev S2x256x1024 : Shape := ⟨3, ![2, 256, 1024]⟩
abbrev S2x256x2048 : Shape := ⟨3, ![2, 256, 2048]⟩
abbrev S2x2304x2048 : Shape := ⟨3, ![2, 2304, 2048]⟩
abbrev S2x2304x4096 : Shape := ⟨3, ![2, 2304, 4096]⟩
abbrev S3x4x12 : Shape := ⟨3, ![3, 4, 12]⟩
abbrev S64x64 : Shape := ⟨2, ![64, 64]⟩
abbrev S64x64x1 : Shape := ⟨3, ![64, 64, 1]⟩
abbrev S8x15x64x64 : Shape := ⟨4, ![8, 15, 64, 64]⟩
abbrev S3x4x12x1 : Shape := ⟨4, ![3, 4, 12, 1]⟩
abbrev S8x3x4x12x64x64 : Shape := ⟨6, ![8, 3, 4, 12, 64, 64]⟩
abbrev S1x3x4x12x1x1 : Shape := ⟨6, ![1, 3, 4, 12, 1, 1]⟩
abbrev S1x1x1x1x64x64 : Shape := ⟨6, ![1, 1, 1, 1, 64, 64]⟩
abbrev S1x3x4x12x64x64 : Shape := ⟨6, ![1, 3, 4, 12, 64, 64]⟩
abbrev S8x3x4x64x12x64 : Shape := ⟨6, ![8, 3, 4, 64, 12, 64]⟩
abbrev S8x3x256x768 : Shape := ⟨4, ![8, 3, 256, 768]⟩
abbrev S1x256x256 : Shape := ⟨3, ![1, 256, 256]⟩
abbrev S1x2304x256 : Shape := ⟨3, ![1, 2304, 256]⟩
abbrev S4x3x256x768 : Shape := ⟨4, ![4, 3, 256, 768]⟩
abbrev S1x256x64 : Shape := ⟨3, ![1, 256, 64]⟩
abbrev S256x64 : Shape := ⟨2, ![256, 64]⟩
abbrev S1x768x64 : Shape := ⟨3, ![1, 768, 64]⟩
abbrev S768x64 : Shape := ⟨2, ![768, 64]⟩
abbrev S256x768 : Shape := ⟨2, ![256, 768]⟩
abbrev S1x1x256x768 : Shape := ⟨4, ![1, 1, 256, 768]⟩
abbrev S256x256 : Shape := ⟨2, ![256, 256]⟩
abbrev S256 : Shape := ⟨1, ![256]⟩
abbrev S256x1 : Shape := ⟨2, ![256, 1]⟩

abbrev nBuf : Space → Nat
  | .hbm => 99
  | .vmem => 14
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x256x512, .f32⟩
  | .hbm, ⟨5, _⟩ => ⟨S2x256x512, .f32⟩
  | .hbm, ⟨6, _⟩ => ⟨S8x15x31, .f32⟩
  | .hbm, ⟨7, _⟩ => ⟨S_, .f32⟩
  | .hbm, ⟨8, _⟩ => ⟨S2x256x512, .f32⟩
  | .hbm, ⟨9, _⟩ => ⟨S_, .f32⟩
  | .hbm, ⟨10, _⟩ => ⟨S2x2048x512, .f32⟩
  | .hbm, ⟨11, _⟩ => ⟨S2x2048x512, .f32⟩
  | .hbm, ⟨12, _⟩ => ⟨S2x2048x1024, .f32⟩
  | .hbm, ⟨13, _⟩ => ⟨S2x2048x1024, .f32⟩
  | .hbm, ⟨14, _⟩ => ⟨S2x2048x2048, .f32⟩
  | .hbm, ⟨15, _⟩ => ⟨S2x256x1024, .f32⟩
  | .hbm, ⟨16, _⟩ => ⟨S2x256x1024, .f32⟩
  | .hbm, ⟨17, _⟩ => ⟨S2x256x2048, .f32⟩
  | .hbm, ⟨18, _⟩ => ⟨S2x2304x2048, .f32⟩
  | .hbm, ⟨19, _⟩ => ⟨S_, .f32⟩
  | .hbm, ⟨20, _⟩ => ⟨S2x2304x2048, .f32⟩
  | .hbm, ⟨21, _⟩ => ⟨S2x2304x4096, .f32⟩
  | .hbm, ⟨22, _⟩ => ⟨S2x2304x4096, .bf16⟩
  | .hbm, ⟨23, _⟩ => ⟨S3x4x12, .i32⟩
  | .hbm, ⟨24, _⟩ => ⟨S3x4x12, .i32⟩
  | .hbm, ⟨25, _⟩ => ⟨S3x4x12, .i32⟩
  | .hbm, ⟨26, _⟩ => ⟨S_, .i32⟩
  | .hbm, ⟨27, _⟩ => ⟨S3x4x12, .i32⟩
  | .hbm, ⟨28, _⟩ => ⟨S3x4x12, .i32⟩
  | .hbm, ⟨29, _⟩ => ⟨S3x4x12, .i32⟩
  | .hbm, ⟨30, _⟩ => ⟨S_, .i32⟩
  | .hbm, ⟨31, _⟩ => ⟨S3x4x12, .i32⟩
  | .hbm, ⟨32, _⟩ => ⟨S3x4x12, .i32⟩
  | .hbm, ⟨33, _⟩ => ⟨S_, .i32⟩
  | .hbm, ⟨34, _⟩ => ⟨S_, .i32⟩
  | .hbm, ⟨35, _⟩ => ⟨S3x4x12, .i32⟩
  | .hbm, ⟨36, _⟩ => ⟨S3x4x12, .i32⟩
  | .hbm, ⟨37, _⟩ => ⟨S3x4x12, .i32⟩
  | .hbm, ⟨38, _⟩ => ⟨S3x4x12, .i1⟩
  | .hbm, ⟨39, _⟩ => ⟨S_, .i32⟩
  | .hbm, ⟨40, _⟩ => ⟨S3x4x12, .i32⟩
  | .hbm, ⟨41, _⟩ => ⟨S3x4x12, .i32⟩
  | .hbm, ⟨42, _⟩ => ⟨S3x4x12, .i1⟩
  | .hbm, ⟨43, _⟩ => ⟨S3x4x12, .i1⟩
  | .hbm, ⟨44, _⟩ => ⟨S3x4x12, .i32⟩
  | .hbm, ⟨45, _⟩ => ⟨S_, .i32⟩
  | .hbm, ⟨46, _⟩ => ⟨S3x4x12, .i32⟩
  | .hbm, ⟨47, _⟩ => ⟨S3x4x12, .i32⟩
  | .hbm, ⟨48, _⟩ => ⟨S3x4x12, .i32⟩
  | .hbm, ⟨49, _⟩ => ⟨S_, .i32⟩
  | .hbm, ⟨50, _⟩ => ⟨S3x4x12, .i32⟩
  | .hbm, ⟨51, _⟩ => ⟨S3x4x12, .i32⟩
  | .hbm, ⟨52, _⟩ => ⟨S_, .i32⟩
  | .hbm, ⟨53, _⟩ => ⟨S_, .i32⟩
  | .hbm, ⟨54, _⟩ => ⟨S3x4x12, .i32⟩
  | .hbm, ⟨55, _⟩ => ⟨S3x4x12, .i32⟩
  | .hbm, ⟨56, _⟩ => ⟨S3x4x12, .i32⟩
  | .hbm, ⟨57, _⟩ => ⟨S64x64, .i32⟩
  | .hbm, ⟨58, _⟩ => ⟨S64x64, .i32⟩
  | .hbm, ⟨59, _⟩ => ⟨S_, .i32⟩
  | .hbm, ⟨60, _⟩ => ⟨S64x64, .i32⟩
  | .hbm, ⟨61, _⟩ => ⟨S64x64, .i32⟩
  | .hbm, ⟨62, _⟩ => ⟨S_, .i32⟩
  | .hbm, ⟨63, _⟩ => ⟨S_, .i32⟩
  | .hbm, ⟨64, _⟩ => ⟨S64x64, .i32⟩
  | .hbm, ⟨65, _⟩ => ⟨S64x64, .i32⟩
  | .hbm, ⟨66, _⟩ => ⟨S64x64, .i32⟩
  | .hbm, ⟨67, _⟩ => ⟨S64x64, .i1⟩
  | .hbm, ⟨68, _⟩ => ⟨S_, .i32⟩
  | .hbm, ⟨69, _⟩ => ⟨S64x64, .i32⟩
  | .hbm, ⟨70, _⟩ => ⟨S64x64, .i32⟩
  | .hbm, ⟨71, _⟩ => ⟨S64x64, .i1⟩
  | .hbm, ⟨72, _⟩ => ⟨S64x64, .i1⟩
  | .hbm, ⟨73, _⟩ => ⟨S64x64, .i32⟩
  | .hbm, ⟨74, _⟩ => ⟨S_, .i32⟩
  | .hbm, ⟨75, _⟩ => ⟨S64x64, .i32⟩
  | .hbm, ⟨76, _⟩ => ⟨S64x64, .i32⟩
  | .hbm, ⟨77, _⟩ => ⟨S_, .i32⟩
  | .hbm, ⟨78, _⟩ => ⟨S_, .i32⟩
  | .hbm, ⟨79, _⟩ => ⟨S64x64, .i32⟩
  | .hbm, ⟨80, _⟩ => ⟨S64x64, .i32⟩
  | .hbm, ⟨81, _⟩ => ⟨S64x64, .i32⟩
  | .hbm, ⟨82, _⟩ => ⟨S64x64x1, .i32⟩
  | .hbm, ⟨83, _⟩ => ⟨S8x15x64x64, .f32⟩
  | .hbm, ⟨84, _⟩ => ⟨S3x4x12x1, .i32⟩
  | .hbm, ⟨85, _⟩ => ⟨S8x3x4x12x64x64, .f32⟩
  | .hbm, ⟨86, _⟩ => ⟨S1x3x4x12x1x1, .i1⟩
  | .hbm, ⟨87, _⟩ => ⟨S1x1x1x1x64x64, .i1⟩
  | .hbm, ⟨88, _⟩ => ⟨S1x3x4x12x64x64, .i1⟩
  | .hbm, ⟨89, _⟩ => ⟨S1x3x4x12x64x64, .i1⟩
  | .hbm, ⟨90, _⟩ => ⟨S1x3x4x12x64x64, .i1⟩
  | .hbm, ⟨91, _⟩ => ⟨S8x3x4x12x64x64, .i1⟩
  | .hbm, ⟨92, _⟩ => ⟨S_, .f32⟩
  | .hbm, ⟨93, _⟩ => ⟨S8x3x4x12x64x64, .f32⟩
  | .hbm, ⟨94, _⟩ => ⟨S8x3x4x12x64x64, .f32⟩
  | .hbm, ⟨95, _⟩ => ⟨S8x3x4x64x12x64, .f32⟩
  | .hbm, ⟨96, _⟩ => ⟨S8x3x256x768, .f32⟩
  | .hbm, ⟨97, _⟩ => ⟨S2x2048x512, .bf16⟩
  | .hbm, ⟨98, _⟩ => ⟨S2x2048x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x256, .bf16⟩
  | .local _ .vmem, ⟨5, _⟩ => ⟨S1x2304x256, .bf16⟩
  | .local _ .vmem, ⟨6, _⟩ => ⟨S1x256x256, .bf16⟩
  | .local _ .vmem, ⟨7, _⟩ => ⟨S1x256x256, .bf16⟩
  | .local _ .vmem, ⟨8, _⟩ => ⟨S4x3x256x768, .f32⟩
  | .local _ .vmem, ⟨9, _⟩ => ⟨S4x3x256x768, .f32⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_c_12 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_14 : Ref sig .tc := ⟨.hbm, 74, rfl⟩
abbrev main_v51 : Ref sig .tc := ⟨.hbm, 75, rfl⟩
abbrev main_v52 : Ref sig .tc := ⟨.hbm, 76, rfl⟩
abbrev main_c_15 : Ref sig .tc := ⟨.hbm, 77, rfl⟩
abbrev main_c_16 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70_0 : Ref sig .tc := ⟨.hbm, 97, rfl⟩
abbrev main_v70_1 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 8], ![false, false, false]⟩

def k0_mult1 (i : grid0.Coords) : BitVec 32 :=
  let c20_i32 : BitVec 32 := 20#32
  let c0_i32_2 : BitVec 32 := 0#32
  let c4_i32 : BitVec 32 := 4#32
  let arg2 : BitVec 32 := BitVec.ofNat 32 (i 2).val
  let v4 : BitVec 32 := Scalar.muli c4_i32 arg2
  let c4_i32_1 : BitVec 32 := 4#32
  let v5 : BitVec 32 := Scalar.subi v4 c4_i32_1
  let v6 : BitVec 32 := Scalar.maxsi c0_i32_2 v5
  let v7 : BitVec 32 := Scalar.minsi c20_i32 v6
  let c64_i32 : BitVec 32 := 64#32
  let v8 : BitVec 32 := Scalar.muli v7 c64_i32
  v8
def k0_off1 (i : grid0.Coords) : Fin 3 → Nat :=
  let c0_5 : Index := 0#32
  let c20_i32 : BitVec 32 := 20#32
  let c0_i32_2 : BitVec 32 := 0#32
  let c4_i32 : BitVec 32 := 4#32
  let arg2 : BitVec 32 := BitVec.ofNat 32 (i 2).val
  let v4 : BitVec 32 := Scalar.muli c4_i32 arg2
  let c4_i32_1 : BitVec 32 := 4#32
  let v5 : BitVec 32 := Scalar.subi v4 c4_i32_1
  let v6 : BitVec 32 := Scalar.maxsi c0_i32_2 v5
  let v7 : BitVec 32 := Scalar.minsi c20_i32 v6
  let c64_i32 : BitVec 32 := 64#32
  let v8 : BitVec 32 := Scalar.muli v7 c64_i32
  let v9 : BitVec 32 := v8
  let v12 : Index := Scalar.indexCast v9
  let c0_6 : Index := 0#32
  ![0, v12.toNat, 0]
def k0_off2 (i : grid0.Coords) : Fin 4 → Nat :=
  let c0_14 : Index := 0#32
  let arg2 : BitVec 32 := BitVec.ofNat 32 (i 2).val
  let c0_i32 : BitVec 32 := 0#32
  let v0 : BitVec 1 := Scalar.cmpi .eq arg2 c0_i32
  let c0_i32_0 : BitVec 32 := 0#32
  let c7_i32 : BitVec 32 := 7#32
  let v1 : BitVec 1 := Scalar.cmpi .eq arg2 c7_i32
  let c2_i32 : BitVec 32 := 2#32
  let c1_i32 : BitVec 32 := 1#32
  let v2 : BitVec 32 := Scalar.select v1 c2_i32 c1_i32
  let v3 : BitVec 32 := Scalar.select v0 c0_i32_0 v2
  let v23 : Index := Scalar.indexCast v3
  let c0_15 : Index := 0#32
  let c0_16 : Index := 0#32
  ![0, v23.toNat, 0, 0]
def k0_off3 (i : grid0.Coords) : Fin 3 → Nat :=
  let c0_39 : Index := 0#32
  let c20_i32 : BitVec 32 := 20#32
  let c0_i32_2 : BitVec 32 := 0#32
  let c4_i32 : BitVec 32 := 4#32
  let arg2 : BitVec 32 := BitVec.ofNat 32 (i 2).val
  let v4 : BitVec 32 := Scalar.muli c4_i32 arg2
  let c4_i32_1 : BitVec 32 := 4#32
  let v5 : BitVec 32 := Scalar.subi v4 c4_i32_1
  let v6 : BitVec 32 := Scalar.maxsi c0_i32_2 v5
  let v7 : BitVec 32 := Scalar.minsi c20_i32 v6
  let c64_i32 : BitVec 32 := 64#32
  let v8 : BitVec 32 := Scalar.muli v7 c64_i32
  let v9 : BitVec 32 := v8
  let v75 : Index := Scalar.indexCast v9
  let c64_40 : Index := 64#32
  ![0, v75.toNat, 64]
def k0_off4 (i : grid0.Coords) : Fin 4 → Nat :=
  let c1 : Index := 1#32
  let arg2 : BitVec 32 := BitVec.ofNat 32 (i 2).val
  let c0_i32 : BitVec 32 := 0#32
  let v0 : BitVec 1 := Scalar.cmpi .eq arg2 c0_i32
  let c0_i32_0 : BitVec 32 := 0#32
  let c7_i32 : BitVec 32 := 7#32
  let v1 : BitVec 1 := Scalar.cmpi .eq arg2 c7_i32
  let c2_i32 : BitVec 32 := 2#32
  let c1_i32 : BitVec 32 := 1#32
  let v2 : BitVec 32 := Scalar.select v1 c2_i32 c1_i32
  let v3 : BitVec 32 := Scalar.select v0 c0_i32_0 v2
  let v86 : Index := Scalar.indexCast v3
  let c0_50 : Index := 0#32
  let c0_51 : Index := 0#32
  ![1, v86.toNat, 0, 0]
def k0_off5 (i : grid0.Coords) : Fin 3 → Nat :=
  let c0_74 : Index := 0#32
  let c20_i32 : BitVec 32 := 20#32
  let c0_i32_2 : BitVec 32 := 0#32
  let c4_i32 : BitVec 32 := 4#32
  let arg2 : BitVec 32 := BitVec.ofNat 32 (i 2).val
  let v4 : BitVec 32 := Scalar.muli c4_i32 arg2
  let c4_i32_1 : BitVec 32 := 4#32
  let v5 : BitVec 32 := Scalar.subi v4 c4_i32_1
  let v6 : BitVec 32 := Scalar.maxsi c0_i32_2 v5
  let v7 : BitVec 32 := Scalar.minsi c20_i32 v6
  let c64_i32 : BitVec 32 := 64#32
  let v8 : BitVec 32 := Scalar.muli v7 c64_i32
  let v9 : BitVec 32 := v8
  let v138 : Index := Scalar.indexCast v9
  let c128_75 : Index := 128#32
  ![0, v138.toNat, 128]
def k0_off6 (i : grid0.Coords) : Fin 4 → Nat :=
  let c2 : Index := 2#32
  let arg2 : BitVec 32 := BitVec.ofNat 32 (i 2).val
  let c0_i32 : BitVec 32 := 0#32
  let v0 : BitVec 1 := Scalar.cmpi .eq arg2 c0_i32
  let c0_i32_0 : BitVec 32 := 0#32
  let c7_i32 : BitVec 32 := 7#32
  let v1 : BitVec 1 := Scalar.cmpi .eq arg2 c7_i32
  let c2_i32 : BitVec 32 := 2#32
  let c1_i32 : BitVec 32 := 1#32
  let v2 : BitVec 32 := Scalar.select v1 c2_i32 c1_i32
  let v3 : BitVec 32 := Scalar.select v0 c0_i32_0 v2
  let v149 : Index := Scalar.indexCast v3
  let c0_85 : Index := 0#32
  let c0_86 : Index := 0#32
  ![2, v149.toNat, 0, 0]
def k0_off7 (i : grid0.Coords) : Fin 3 → Nat :=
  let c0_109 : Index := 0#32
  let c20_i32 : BitVec 32 := 20#32
  let c0_i32_2 : BitVec 32 := 0#32
  let c4_i32 : BitVec 32 := 4#32
  let arg2 : BitVec 32 := BitVec.ofNat 32 (i 2).val
  let v4 : BitVec 32 := Scalar.muli c4_i32 arg2
  let c4_i32_1 : BitVec 32 := 4#32
  let v5 : BitVec 32 := Scalar.subi v4 c4_i32_1
  let v6 : BitVec 32 := Scalar.maxsi c0_i32_2 v5
  let v7 : BitVec 32 := Scalar.minsi c20_i32 v6
  let c64_i32 : BitVec 32 := 64#32
  let v8 : BitVec 32 := Scalar.muli v7 c64_i32
  let v9 : BitVec 32 := v8
  let v201 : Index := Scalar.indexCast v9
  let c192_110 : Index := 192#32
  ![0, v201.toNat, 192]
def k0_off8 (i : grid0.Coords) : Fin 4 → Nat :=
  let c3 : Index := 3#32
  let arg2 : BitVec 32 := BitVec.ofNat 32 (i 2).val
  let c0_i32 : BitVec 32 := 0#32
  let v0 : BitVec 1 := Scalar.cmpi .eq arg2 c0_i32
  let c0_i32_0 : BitVec 32 := 0#32
  let c7_i32 : BitVec 32 := 7#32
  let v1 : BitVec 1 := Scalar.cmpi .eq arg2 c7_i32
  let c2_i32 : BitVec 32 := 2#32
  let c1_i32 : BitVec 32 := 1#32
  let v2 : BitVec 32 := Scalar.select v1 c2_i32 c1_i32
  let v3 : BitVec 32 := Scalar.select v0 c0_i32_0 v2
  let v212 : Index := Scalar.indexCast v3
  let c0_120 : Index := 0#32
  let c0_121 : Index := 0#32
  ![3, v212.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg0
  let c0_i32 : BitVec 32 := 0#32
  ![arg1.toNat, arg2.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x3x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference3Ideal.lean ====
abbrev S2x2048x512 : Shape := ⟨3, ![2, 2048, 512]⟩
abbrev S2x256x512 : Shape := ⟨3, ![2, 256, 512]⟩
abbrev S8x15x31 : Shape := ⟨3, ![8, 15, 31]⟩
abbrev S2x2048x8x64 : Shape := ⟨4, ![2, 2048, 8, 64]⟩
abbrev S2x8x2048x64 : Shape := ⟨4, ![2, 8, 2048, 64]⟩
abbrev S2x256x8x64 : Shape := ⟨4, ![2, 256, 8, 64]⟩
abbrev S2x8x256x64 : Shape := ⟨4, ![2, 8, 256, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S8x32x64x8x64 : Shape := ⟨5, ![8, 32, 64, 8, 64]⟩
abbrev S8x32x64x512 : Shape := ⟨4, ![8, 32, 64, 512]⟩
abbrev S64x1x64 : Shape := ⟨3, ![64, 1, 64]⟩
abbrev S64x8x64 : Shape := ⟨3, ![64, 8, 64]⟩
abbrev S64x512 : Shape := ⟨2, ![64, 512]⟩
abbrev S2x8x32x64x64 : Shape := ⟨5, ![2, 8, 32, 64, 64]⟩
abbrev S32x8x1 : Shape := ⟨3, ![32, 8, 1]⟩
abbrev S2x8x32x8x64x64 : Shape := ⟨6, ![2, 8, 32, 8, 64, 64]⟩
abbrev S2x8x32x512x64 : Shape := ⟨5, ![2, 8, 32, 512, 64]⟩
abbrev S2x8x32x64x512 : Shape := ⟨5, ![2, 8, 32, 64, 512]⟩
abbrev S1x8x32x64x512 : Shape := ⟨5, ![1, 8, 32, 64, 512]⟩
abbrev S2x8x32x64x256 : Shape := ⟨5, ![2, 8, 32, 64, 256]⟩
abbrev S2x8x32x64x768 : Shape := ⟨5, ![2, 8, 32, 64, 768]⟩
abbrev S2x8x32x64 : Shape := ⟨4, ![2, 8, 32, 64]⟩
abbrev S2x8x32x64x1 : Shape := ⟨5, ![2, 8, 32, 64, 1]⟩

abbrev nBuf : Space → Nat
  | .hbm => 184
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x512, .f32⟩
  | 3 => ⟨S2x2048x512, .f32⟩
  | 4 => ⟨S2x256x512, .f32⟩
  | 5 => ⟨S2x256x512, .f32⟩
  | 6 => ⟨S8x15x31, .f32⟩
  | 7 => ⟨S2x2048x8x64, .f32⟩
  | 8 => ⟨S2x8x2048x64, .f32⟩
  | 9 => ⟨S2x2048x8x64, .f32⟩
  | 10 => ⟨S2x8x2048x64, .f32⟩
  | 11 => ⟨S2x2048x8x64, .f32⟩
  | 12 => ⟨S2x8x2048x64, .f32⟩
  | 13 => ⟨S2x256x8x64, .f32⟩
  | 14 => ⟨S2x8x256x64, .f32⟩
  | 15 => ⟨S2x256x8x64, .f32⟩
  | 16 => ⟨S2x8x256x64, .f32⟩
  | 17 => ⟨S32, .i32⟩
  | 18 => ⟨S_, .i32⟩
  | 19 => ⟨S32, .i32⟩
  | 20 => ⟨S32, .i32⟩
  | 21 => ⟨S_, .i32⟩
  | 22 => ⟨S_, .i32⟩
  | 23 => ⟨S_, .i32⟩
  | 24 => ⟨S32, .i32⟩
  | 25 => ⟨S32, .i32⟩
  | 26 => ⟨S_, .i32⟩
  | 27 => ⟨S32, .i32⟩
  | 28 => ⟨S32, .i32⟩
  | 29 => ⟨S32x1, .i32⟩
  | 30 => ⟨S8, .i32⟩
  | 31 => ⟨S1x8, .i32⟩
  | 32 => ⟨S32x8, .i32⟩
  | 33 => ⟨S32x8, .i32⟩
  | 34 => ⟨S32x8, .i32⟩
  | 35 => ⟨S64, .i32⟩
  | 36 => ⟨S64, .i32⟩
  | 37 => ⟨S_, .i32⟩
  | 38 => ⟨S64, .i32⟩
  | 39 => ⟨S64, .i32⟩
  | 40 => ⟨S_, .i32⟩
  | 41 => ⟨S_, .i32⟩
  | 42 => ⟨S_, .i32⟩
  | 43 => ⟨S64, .i32⟩
  | 44 => ⟨S64, .i32⟩
  | 45 => ⟨S_, .i32⟩
  | 46 => ⟨S64, .i32⟩
  | 47 => ⟨S64, .i32⟩
  | 48 => ⟨S1x64, .i32⟩
  | 49 => ⟨S64x1, .i32⟩
  | 50 => ⟨S64x64, .i32⟩
  | 51 => ⟨S64x64, .i32⟩
  | 52 => ⟨S64x64, .i1⟩
  | 53 => ⟨S1x64, .i32⟩
  | 54 => ⟨S64x1, .i32⟩
  | 55 => ⟨S_, .i32⟩
  | 56 => ⟨S64x1, .i32⟩
  | 57 => ⟨S64x1, .i32⟩
  | 58 => ⟨S64x64, .i32⟩
  | 59 => ⟨S64x64, .i32⟩
  | 60 => ⟨S64x64, .i1⟩
  | 61 => ⟨S64x64, .i1⟩
  | 62 => ⟨S32x1, .i32⟩
  | 63 => ⟨S32x8, .i32⟩
  | 64 => ⟨S32x8, .i32⟩
  | 65 => ⟨S_, .i32⟩
  | 66 => ⟨S32x8, .i32⟩
  | 67 => ⟨S32x8, .i32⟩
  | 68 => ⟨S1x64, .i32⟩
  | 69 => ⟨S64x1, .i32⟩
  | 70 => ⟨S64x64, .i32⟩
  | 71 => ⟨S64x64, .i32⟩
  | 72 => ⟨S64x64, .i32⟩
  | 73 => ⟨S_, .i32⟩
  | 74 => ⟨S64x64, .i32⟩
  | 75 => ⟨S64x64, .i32⟩
  | 76 => ⟨S_, .i32⟩
  | 77 => ⟨S_, .i32⟩
  | 78 => ⟨S_, .i32⟩
  | 79 => ⟨S64x64, .i32⟩
  | 80 => ⟨S64x64, .i32⟩
  | 81 => ⟨S_, .i32⟩
  | 82 => ⟨S64x64, .i32⟩
  | 83 => ⟨S64x64, .i32⟩
  | 84 => ⟨S32x1x8x1, .i32⟩
  | 85 => ⟨S1x64x1x64, .i32⟩
  | 86 => ⟨S_, .i32⟩
  | 87 => ⟨S32x1x8x1, .i32⟩
  | 88 => ⟨S32x1x8x1, .i1⟩
  | 89 => ⟨S_, .i32⟩
  | 90 => ⟨S32x1x8x1, .i32⟩
  | 91 => ⟨S32x1x8x1, .i32⟩
  | 92 => ⟨S32x1x8x1, .i32⟩
  | 93 => ⟨S_, .i32⟩
  | 94 => ⟨S1x64x1x64, .i32⟩
  | 95 => ⟨S1x64x1x64, .i1⟩
  | 96 => ⟨S_, .i32⟩
  | 97 => ⟨S1x64x1x64, .i32⟩
  | 98 => ⟨S1x64x1x64, .i32⟩
  | 99 => ⟨S1x64x1x64, .i32⟩
  | 100 => ⟨S32x64x8x64, .i32⟩
  | 101 => ⟨S32x64x8x64, .i32⟩
  | 102 => ⟨S32x64x8x64x1, .i32⟩
  | 103 => ⟨S32x64x8x64x1, .i32⟩
  | 104 => ⟨S32x64x8x64x2, .i32⟩
  | 105 => ⟨S8x32x64x8x64, .f32⟩
  | 106 => ⟨S8x32x64x512, .f32⟩
  | 107 => ⟨S64x1x64, .i1⟩
  | 108 => ⟨S64x8x64, .i1⟩
  | 109 => ⟨S64x512, .i1⟩
  | 110 => ⟨S2x8x32x64x64, .f32⟩
  | 111 => ⟨S_, .i32⟩
  | 112 => ⟨S32x8, .i32⟩
  | 113 => ⟨S32x8, .i1⟩
  | 114 => ⟨S_, .i32⟩
  | 115 => ⟨S32x8, .i32⟩
  | 116 => ⟨S32x8, .i32⟩
  | 117 => ⟨S32x8, .i32⟩
  | 118 => ⟨S32x8x1, .i32⟩
  | 119 => ⟨S2x8x32x8x64x64, .f32⟩
  | 120 => ⟨S2x8x32x512x64, .f32⟩
  | 121 => ⟨S2x8x32x64x64, .f32⟩
  | 122 => ⟨S_, .i32⟩
  | 123 => ⟨S32x8, .i32⟩
  | 124 => ⟨S32x8, .i1⟩
  | 125 => ⟨S_, .i32⟩
  | 126 => ⟨S32x8, .i32⟩
  | 127 => ⟨S32x8, .i32⟩
  | _ => ⟨S2x2048x512, .f32⟩

abbrev hbmTy0_1 (i : Nat) : BufTy := match i % 128 with
  | 0 => ⟨S32x8, .i32⟩
  | 1 => ⟨S32x8x1, .i32⟩
  | 2 => ⟨S2x8x32x8x64x64, .f32⟩
  | 3 => ⟨S2x8x32x512x64, .f32⟩
  | 4 => ⟨S2x8x32x64x64, .f32⟩
  | 5 => ⟨S2x8x32x64x512, .f32⟩
  | 6 => ⟨S_, .f32⟩
  | 7 => ⟨S2x8x32x64x512, .f32⟩
  | 8 => ⟨S2x8x32x64x512, .f32⟩
  | 9 => ⟨S1x8x32x64x512, .f32⟩
  | 10 => ⟨S2x8x32x64x512, .f32⟩
  | 11 => ⟨S2x8x32x64x512, .f32⟩
  | 12 => ⟨S_, .f32⟩
  | 13 => ⟨S_, .f32⟩
  | 14 => ⟨S2x8x32x64x512, .i1⟩
  | 15 => ⟨S2x8x32x64x512, .f32⟩
  | 16 => ⟨S2x8x32x64x512, .f32⟩
  | 17 => ⟨S2x8x32x64x256, .f32⟩
  | 18 => ⟨S_, .f32⟩
  | 19 => ⟨S2x8x32x64x256, .f32⟩
  | 20 => ⟨S2x8x32x64x256, .f32⟩
  | 21 => ⟨S2x8x32x64x768, .f32⟩
  | 22 => ⟨S_, .f32⟩
  | 23 => ⟨S2x8x32x64, .f32⟩
  | 24 => ⟨S_, .f32⟩
  | 25 => ⟨S2x8x32x64, .f32⟩
  | 26 => ⟨S2x8x32x64, .f32⟩
  | 27 => ⟨S2x8x32x64x1, .f32⟩
  | 28 => ⟨S2x8x32x64x768, .f32⟩
  | 29 => ⟨S2x8x32x64x768, .f32⟩
  | 30 => ⟨S2x8x32x64x768, .f32⟩
  | 31 => ⟨S_, .f32⟩
  | 32 => ⟨S2x8x32x64, .f32⟩
  | 33 => ⟨S2x8x32x64x1, .f32⟩
  | 34 => ⟨S2x8x32x64x768, .f32⟩
  | 35 => ⟨S2x8x32x64x768, .f32⟩
  | 36 => ⟨S2x8x32x64x512, .f32⟩
  | 37 => ⟨S2x8x32x64x64, .f32⟩
  | 38 => ⟨S2x8x32x64x256, .f32⟩
  | 39 => ⟨S2x8x32x64x64, .f32⟩
  | 40 => ⟨S2x8x32x64x64, .f32⟩
  | 41 => ⟨S2x8x2048x64, .f32⟩
  | 42 => ⟨S2x2048x8x64, .f32⟩
  | 43 => ⟨S2x2048x512, .f32⟩
  | 44 => ⟨S2x2048x512, .f32⟩
  | 45 => ⟨S2x2048x512, .f32⟩
  | 46 => ⟨S_, .f32⟩
  | 47 => ⟨S2x2048x512, .f32⟩
  | 48 => ⟨S2x2048x512, .f32⟩
  | 49 => ⟨S_, .f32⟩
  | 50 => ⟨S2x2048x512, .f32⟩
  | 51 => ⟨S2x2048x512, .f32⟩
  | 52 => ⟨S2x2048x512, .f32⟩
  | 53 => ⟨S2x2048x512, .f32⟩
  | 54 => ⟨S2x2048x512, .bf16⟩
  | 55 => ⟨S2x2048x512, .bf16⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_c_9 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_10 : Ref sig .tc := ⟨.hbm, 86, rfl⟩
abbrev main_v53 : Ref sig .tc := ⟨.hbm, 87, rfl⟩
abbrev main_v54 : Ref sig .tc := ⟨.hbm, 88, rfl⟩
abbrev main_c_11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_12 : Ref sig .tc := ⟨.hbm, 93, rfl⟩
abbrev main_v58 : Ref sig .tc := ⟨.hbm, 94, rfl⟩
abbrev main_v59 : Ref sig .tc := ⟨.hbm, 95, rfl⟩
abbrev main_c_13 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_14 : Ref sig .tc := ⟨.hbm, 111, rfl⟩
abbrev main_v74 : Ref sig .tc := ⟨.hbm, 112, rfl⟩
abbrev main_v75 : Ref sig .tc := ⟨.hbm, 113, rfl⟩
abbrev main_c_15 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_16 : Ref sig .tc := ⟨.hbm, 122, rfl⟩
abbrev main_v83 : Ref sig .tc := ⟨.hbm, 123, rfl⟩
abbrev main_v84 : Ref sig .tc := ⟨.hbm, 124, rfl⟩
abbrev main_c_17 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_18 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_v98 : Ref sig .tc := ⟨.hbm, 144, rfl⟩
abbrev main_v99 : Ref sig .tc := ⟨.hbm, 145, rfl⟩
abbrev main_cst_19 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_20 : Ref sig .tc := ⟨.hbm, 150, rfl⟩
abbrev main_v103 : Ref sig .tc := ⟨.hbm, 151, rfl⟩
abbrev main_cst_21 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_22 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_call4_v0 : Ref sig .tc := ⟨.hbm, 172, rfl⟩
abbrev main_call4_v1 : Ref sig .tc := ⟨.hbm, 173, rfl⟩
abbrev main_call4_cst : Ref sig .tc := ⟨.hbm, 174, rfl⟩
abbrev main_call4_v2 : Ref sig .tc := ⟨.hbm, 175, rfl⟩
abbrev main_call4_v3 : Ref sig .tc := ⟨.hbm, 176, rfl⟩
abbrev main_call4_cst_0 : Ref sig .tc := ⟨.hbm, 177, rfl⟩
abbrev main_call4_v4 : Ref sig .tc := ⟨.hbm, 178, rfl⟩
abbrev main_call4_v5 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩

abbrev nD : Nat := 1
abbrev τ : Topo := Topo.v7x

variable {F : FTy → Type} [FloatOps F]
-- ==== Kernel4.lean ====
abbrev S2x2048x512 : Shape := ⟨3, ![2, 2048, 512]⟩
abbrev S2x256x512 : Shape := ⟨3, ![2, 256, 512]⟩
abbrev S1x4 : Shape := ⟨2, ![1, 4]⟩
abbrev S1x512 : Shape := ⟨2, ![1, 512]⟩
abbrev S_ : Shape := ⟨0, ![]⟩
abbrev S2x2048x1024 : Shape := ⟨3, ![2, 2048, 1024]⟩
abbrev S2x2048x2048 : Shape := ⟨3, ![2, 2048, 2048]⟩
abbrev S2x256x1024 : Shape := ⟨3, ![2, 256, 1024]⟩
abbrev S2x256x2048 : Shape := ⟨3, ![2, 256, 2048]⟩
abbrev S2x2304x2048 : Shape := ⟨3, ![2, 2304, 2048]⟩
abbrev S2x2304x4096 : Shape := ⟨3, ![2, 2304, 4096]⟩
abbrev S2x4x8x128x128 : Shape := ⟨5, ![2, 4, 8, 128, 128]⟩
abbrev S1x2304x128 : Shape := ⟨3, ![1, 2304, 128]⟩
abbrev S1x1x8x128x128 : Shape := ⟨5, ![1, 1, 8, 128, 128]⟩
abbrev S1 : Shape := ⟨1, ![1]⟩
abbrev S1x1 : Shape := ⟨2, ![1, 1]⟩
abbrev S256x1 : Shape := ⟨2, ![256, 1]⟩
abbrev S1x256x128 : Shape := ⟨3, ![1, 256, 128]⟩
abbrev S256x128 : Shape := ⟨2, ![256, 128]⟩
abbrev S128x128 : Shape := ⟨2, ![128, 128]⟩
abbrev S1x1x1x128x128 : Shape := ⟨5, ![1, 1, 1, 128, 128]⟩
abbrev S1x256x512 : Shape := ⟨3, ![1, 256, 512]⟩
abbrev S1x4x1x128x128 : Shape := ⟨5, ![1, 4, 1, 128, 128]⟩
abbrev S1x256 : Shape := ⟨2, ![1, 256]⟩
abbrev S256x256 : Shape := ⟨2, ![256, 256]⟩
abbrev S256 : Shape := ⟨1, ![256]⟩
abbrev S1x128 : Shape := ⟨2, ![1, 128]⟩

abbrev nBuf : Space → Nat
  | .hbm => 26
  | .vmem => 29
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x256x512, .f32⟩
  | .hbm, ⟨5, _⟩ => ⟨S2x256x512, .f32⟩
  | .hbm, ⟨6, _⟩ => ⟨S1x4, .f32⟩
  | .hbm, ⟨7, _⟩ => ⟨S1x4, .f32⟩
  | .hbm, ⟨8, _⟩ => ⟨S1x512, .f32⟩
  | .hbm, ⟨9, _⟩ => ⟨S_, .f32⟩
  | .hbm, ⟨10, _⟩ => ⟨S2x256x512, .f32⟩
  | .hbm, ⟨11, _⟩ => ⟨S2x2048x1024, .f32⟩
  | .hbm, ⟨12, _⟩ => ⟨S2x2048x1024, .f32⟩
  | .hbm, ⟨13, _⟩ => ⟨S2x2048x2048, .f32⟩
  | .hbm, ⟨14, _⟩ => ⟨S2x256x1024, .f32⟩
  | .hbm, ⟨15, _⟩ => ⟨S2x256x1024, .f32⟩
  | .hbm, ⟨16, _⟩ => ⟨S2x256x2048, .f32⟩
  | .hbm, ⟨17, _⟩ => ⟨S2x2304x2048, .f32⟩
  | .hbm, ⟨18, _⟩ => ⟨S_, .f32⟩
  | .hbm, ⟨19, _⟩ => ⟨S2x2304x2048, .f32⟩
  | .hbm, ⟨20, _⟩ => ⟨S2x2304x4096, .f32⟩
  | .hbm, ⟨21, _⟩ => ⟨S2x2304x4096, .bf16⟩
  | .hbm, ⟨22, _⟩ => ⟨S2x4x8x128x128, .f32⟩
  | .hbm, ⟨23, _⟩ => ⟨S2x4x8x128x128, .f32⟩
  | .hbm, ⟨24, _⟩ => ⟨S2x2048x512, .bf16⟩
  | .hbm, ⟨25, _⟩ => ⟨S2x2048x512, .f32⟩
  | .local _ .vmem, ⟨0, _⟩ => ⟨S1x4, .f32⟩
  | .local _ .vmem, ⟨1, _⟩ => ⟨S1x4, .f32⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x1x8x128x128, .f32⟩
  | .local _ .vmem, ⟨7, _⟩ => ⟨S1x1x8x128x128, .f32⟩
  | .local _ .vmem, ⟨8, _⟩ => ⟨S1x1x8x128x128, .f32⟩
  | .local _ .vmem, ⟨9, _⟩ => ⟨S1x1x8x128x128, .f32⟩
  | .local _ .vmem, ⟨10, _⟩ => ⟨S1x4, .f32⟩
  | .local _ .vmem, ⟨11, _⟩ => ⟨S1x4, .f32⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x512, .f32⟩
  | .local _ .vmem, ⟨21, _⟩ => ⟨S1x4x1x128x128, .f32⟩
  | .local _ .vmem, ⟨22, _⟩ => ⟨S1x4x1x128x128, .f32⟩
  | .local _ .vmem, ⟨23, _⟩ => ⟨S1x4x1x128x128, .f32⟩
  | .local _ .vmem, ⟨24, _⟩ => ⟨S1x4x1x128x128, .f32⟩
  | .local _ .vmem, ⟨25, _⟩ => ⟨S1x256x512, .bf16⟩
  | .local _ .vmem, ⟨26, _⟩ => ⟨S1x256x512, .bf16⟩
  | .local _ .vmem, ⟨27, _⟩ => ⟨S1x256x512, .f32⟩
  | .local _ .vmem, ⟨28, _⟩ => ⟨S1x256x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12_0 : Ref sig .tc := ⟨.hbm, 24, rfl⟩
abbrev main_v12_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg10_1 : Ref sig .tc := ⟨.vmem, 28, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem10_1 : DmaSem sig := 28

abbrev nD : Nat := 1
abbrev τ : Topo := Topo.v7x

variable {F : FTy → Type} [FloatOps F]

abbrev grid0 : Pipeline.Grid := ⟨2, ![2, 4], ![false, false]⟩

def k0_mult1 : BitVec 32 :=
  let c0_i32 : BitVec 32 := 0#32
  let c256_i32 : BitVec 32 := 256#32
  let v60 : BitVec 32 := Scalar.muli c0_i32 c256_i32
  v60
def k0_off1 (c0_i32 : BitVec 32) : Fin 3 → Nat :=
  let c0_22 : Index := 0#32
  let c256_i32 : BitVec 32 := 256#32
  let v60 : BitVec 32 := Scalar.muli c0_i32 c256_i32
  let v61 : BitVec 32 := v60
  let v62 : Index := Scalar.indexCast v61
  let c0_23 : Index := 0#32
  ![0, v62.toNat, 0]
def k0_mult2 : BitVec 32 :=
  let c1_i32 : BitVec 32 := 1#32
  let c256_i32_31 : BitVec 32 := 256#32
  let v80 : BitVec 32 := Scalar.muli c1_i32 c256_i32_31
  v80
def k0_mult3 : BitVec 32 :=
  let c2_i32 : BitVec 32 := 2#32
  let c256_i32_41 : BitVec 32 := 256#32
  let v100 : BitVec 32 := Scalar.muli c2_i32 c256_i32_41
  v100
def k0_mult4 : BitVec 32 :=
  let c3_i32 : BitVec 32 := 3#32
  let c256_i32_51 : BitVec 32 := 256#32
  let v120 : BitVec 32 := Scalar.muli c3_i32 c256_i32_51
  v120
def k0_mult5 : BitVec 32 :=
  let c4_i32 : BitVec 32 := 4#32
  let c256_i32_61 : BitVec 32 := 256#32
  let v140 : BitVec 32 := Scalar.muli c4_i32 c256_i32_61
  v140
def k0_mult6 : BitVec 32 :=
  let c5_i32 : BitVec 32 := 5#32
  let c256_i32_71 : BitVec 32 := 256#32
  let v160 : BitVec 32 := Scalar.muli c5_i32 c256_i32_71
  v160
def k0_mult7 : BitVec 32 :=
  let c6_i32 : BitVec 32 := 6#32
  let c256_i32_81 : BitVec 32 := 256#32
  let v180 : BitVec 32 := Scalar.muli c6_i32 c256_i32_81
  v180
def k0_mult8 : BitVec 32 :=
  let c7_i32 : BitVec 32 := 7#32
  let c256_i32_91 : BitVec 32 := 256#32
  let v200 : BitVec 32 := Scalar.muli c7_i32 c256_i32_91
  v200
def k0_off2 (c0_i32_98 : BitVec 32) : Fin 5 → Nat :=
  let c0_100 : Index := 0#32
  let c0_101 : Index := 0#32
  let c7_i32_99 : BitVec 32 := 7#32
  let v221 : BitVec 32 := Scalar.subi c7_i32_99 c0_i32_98
  let v222 : Index := Scalar.indexCast v221
  let c0_102 : Index := 0#32
  let c0_103 : Index := 0#32
  ![0, 0, v222.toNat, 0, 0]
def k0_mult9 : BitVec 32 :=
  let c7_i32_99 : BitVec 32 := 7#32
  let c0_i32_98 : BitVec 32 := 0#32
  let v221 : BitVec 32 := Scalar.subi c7_i32_99 c0_i32_98
  let c256_i32_104 : BitVec 32 := 256#32
  let v228 : BitVec 32 := Scalar.muli v221 c256_i32_104
  v228
def k0_off3 (c0_i32_98 : BitVec 32) : Fin 3 → Nat :=
  let c0_105 : Index := 0#32
  let c7_i32_99 : BitVec 32 := 7#32
  let v221 : BitVec 32 := Scalar.subi c7_i32_99 c0_i32_98
  let c256_i32_104 : BitVec 32 := 256#32
  let v228 : BitVec 32 := Scalar.muli v221 c256_i32_104
  let v229 : BitVec 32 := v228
  let v230 : Index := Scalar.indexCast v229
  let c0_106 : Index := 0#32
  ![0, v230.toNat, 0]
def k0_mult10 : BitVec 32 :=
  let c7_i32_111 : BitVec 32 := 7#32
  let c1_i32_110 : BitVec 32 := 1#32
  let v242 : BitVec 32 := Scalar.subi c7_i32_111 c1_i32_110
  let c256_i32_116 : BitVec 32 := 256#32
  let v249 : BitVec 32 := Scalar.muli v242 c256_i32_116
  v249
def k0_mult11 : BitVec 32 :=
  let c7_i32_123 : BitVec 32 := 7#32
  let c2_i32_122 : BitVec 32 := 2#32
  let v263 : BitVec 32 := Scalar.subi c7_i32_123 c2_i32_122
  let c256_i32_128 : BitVec 32 := 256#32
  let v270 : BitVec 32 := Scalar.muli v263 c256_i32_128
  v270
def k0_mult12 : BitVec 32 :=
  let c7_i32_135 : BitVec 32 := 7#32
  let c3_i32_134 : BitVec 32 := 3#32
  let v284 : BitVec 32 := Scalar.subi c7_i32_135 c3_i32_134
  let c256_i32_140 : BitVec 32 := 256#32
  let v291 : BitVec 32 := Scalar.muli v284 c256_i32_140
  v291
def k0_mult13 : BitVec 32 :=
  let c7_i32_147 : BitVec 32 := 7#32
  let c4_i32_146 : BitVec 32 := 4#32
  let v305 : BitVec 32 := Scalar.subi c7_i32_147 c4_i32_146
  let c256_i32_152 : BitVec 32 := 256#32
  let v312 : BitVec 32 := Scalar.muli v305 c256_i32_152
  v312
def k0_mult14 : BitVec 32 :=
  let c7_i32_159 : BitVec 32 := 7#32
  let c5_i32_158 : BitVec 32 := 5#32
  let v326 : BitVec 32 := Scalar.subi c7_i32_159 c5_i32_158
  let c256_i32_164 : BitVec 32 := 256#32
  let v333 : BitVec 32 := Scalar.muli v326 c256_i32_164
  v333
def k0_mult15 : BitVec 32 :=
  let c7_i32_171 : BitVec 32 := 7#32
  let c6_i32_170 : BitVec 32 := 6#32
  let v347 : BitVec 32 := Scalar.subi c7_i32_171 c6_i32_170
  let c256_i32_176 : BitVec 32 := 256#32
  let v354 : BitVec 32 := Scalar.muli v347 c256_i32_176
  v354
def k0_mult16 : BitVec 32 :=
  let c7_i32_183 : BitVec 32 := 7#32
  let c7_i32_182 : BitVec 32 := 7#32
  let v368 : BitVec 32 := Scalar.subi c7_i32_183 c7_i32_182
  let c256_i32_188 : BitVec 32 := 256#32
  let v375 : BitVec 32 := Scalar.muli v368 c256_i32_188
  v375
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc1_transform_3 (i : grid1.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc1_transform_4 (i : grid1.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc1_transform_5 (i : grid1.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_8 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S1x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x4x1x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x4x1x128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x256x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== Reference4Ideal.lean ====
abbrev S2x2048x512 : Shape := ⟨3, ![2, 2048, 512]⟩
abbrev S2x256x512 : Shape := ⟨3, ![2, 256, 512]⟩
abbrev S1x4 : Shape := ⟨2, ![1, 4]⟩
abbrev S1x512 : Shape := ⟨2, ![1, 512]⟩
abbrev S2x2048x4x128 : Shape := ⟨4, ![2, 2048, 4, 128]⟩
abbrev S2x4x2048x128 : Shape := ⟨4, ![2, 4, 2048, 128]⟩
abbrev S2x256x4x128 : Shape := ⟨4, ![2, 256, 4, 128]⟩
abbrev S2x4x256x128 : Shape := ⟨4, ![2, 4, 256, 128]⟩
abbrev S4 : Shape := ⟨1, ![4]⟩
abbrev S4x1 : Shape := ⟨2, ![4, 1]⟩
abbrev S256 : Shape := ⟨1, ![256]⟩
abbrev S_ : Shape := ⟨0, ![]⟩
abbrev S1x256 : Shape := ⟨2, ![1, 256]⟩
abbrev S4x256 : Shape := ⟨2, ![4, 256]⟩
abbrev S1x4x256x1 : Shape := ⟨4, ![1, 4, 256, 1]⟩
abbrev S2x4x128x128 : Shape := ⟨4, ![2, 4, 128, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S2x4x2048x2048 : Shape := ⟨4, ![2, 4, 2048, 2048]⟩
abbrev S1x4x2048x2048 : Shape := ⟨4, ![1, 4, 2048, 2048]⟩
abbrev S4x2048 : Shape := ⟨2, ![4, 2048]⟩
abbrev S1x4x2048x1 : Shape := ⟨4, ![1, 4, 2048, 1]⟩
abbrev S2x4x2048 : Shape := ⟨3, ![2, 4, 2048]⟩
abbrev S2x4x2048x1 : Shape := ⟨4, ![2, 4, 2048, 1]⟩
abbrev S1x1x512 : Shape := ⟨3, ![1, 1, 512]⟩

abbrev nBuf : Space → Nat
  | .hbm => 175
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x512, .f32⟩
  | 3 => ⟨S2x2048x512, .f32⟩
  | 4 => ⟨S2x256x512, .f32⟩
  | 5 => ⟨S2x256x512, .f32⟩
  | 6 => ⟨S1x4, .f32⟩
  | 7 => ⟨S1x4, .f32⟩
  | 8 => ⟨S1x512, .f32⟩
  | 9 => ⟨S2x2048x4x128, .f32⟩
  | 10 => ⟨S2x4x2048x128, .f32⟩
  | 11 => ⟨S2x2048x4x128, .f32⟩
  | 12 => ⟨S2x4x2048x128, .f32⟩
  | 13 => ⟨S2x2048x4x128, .f32⟩
  | 14 => ⟨S2x4x2048x128, .f32⟩
  | 15 => ⟨S2x256x4x128, .f32⟩
  | 16 => ⟨S2x4x256x128, .f32⟩
  | 17 => ⟨S2x256x4x128, .f32⟩
  | 18 => ⟨S2x4x256x128, .f32⟩
  | 19 => ⟨S4, .f32⟩
  | 20 => ⟨S4, .f32⟩
  | 21 => ⟨S4, .f32⟩
  | 22 => ⟨S4, .f32⟩
  | 23 => ⟨S4, .f32⟩
  | 24 => ⟨S4, .f32⟩
  | 25 => ⟨S4x1, .f32⟩
  | 26 => ⟨S256, .f32⟩
  | 27 => ⟨S_, .f32⟩
  | 28 => ⟨S256, .f32⟩
  | 29 => ⟨S256, .f32⟩
  | 30 => ⟨S1x256, .f32⟩
  | 31 => ⟨S4x256, .f32⟩
  | 32 => ⟨S4x256, .f32⟩
  | 33 => ⟨S4x256, .f32⟩
  | 34 => ⟨S4x256, .f32⟩
  | 35 => ⟨S1x4x256x1, .f32⟩
  | 36 => ⟨S2x4x256x128, .f32⟩
  | 37 => ⟨S2x4x256x128, .f32⟩
  | 38 => ⟨S2x4x128x128, .f32⟩
  | 39 => ⟨S2048, .f32⟩
  | 40 => ⟨S2048x1, .f32⟩
  | 41 => ⟨S1x2048, .f32⟩
  | 42 => ⟨S2048x2048, .f32⟩
  | 43 => ⟨S2048x2048, .f32⟩
  | 44 => ⟨S2048x2048, .f32⟩
  | 45 => ⟨S_, .f32⟩
  | 46 => ⟨S2048x2048, .f32⟩
  | 47 => ⟨S2048x2048, .i1⟩
  | 48 => ⟨S4x1x1, .f32⟩
  | 49 => ⟨S_, .f32⟩
  | 50 => ⟨S2048x2048, .f32⟩
  | 51 => ⟨S2048x2048, .f32⟩
  | 52 => ⟨S1x2048x2048, .f32⟩
  | 53 => ⟨S4x2048x2048, .f32⟩
  | 54 => ⟨S4x2048x2048, .f32⟩
  | 55 => ⟨S4x2048x2048, .f32⟩
  | 56 => ⟨S4x2048x2048, .f32⟩
  | 57 => ⟨S_, .f32⟩
  | 58 => ⟨S_, .f32⟩
  | 59 => ⟨S4x2048x2048, .i1⟩
  | 60 => ⟨S4x2048x2048, .f32⟩
  | 61 => ⟨S4x2048x2048, .f32⟩
  | 62 => ⟨S2x4x2048x2048, .f32⟩
  | 63 => ⟨S1x4x2048x2048, .f32⟩
  | 64 => ⟨S2x4x2048x2048, .f32⟩
  | 65 => ⟨S2x4x2048x2048, .f32⟩
  | 66 => ⟨S4x1, .f32⟩
  | 67 => ⟨S_, .f32⟩
  | 68 => ⟨S2048, .f32⟩
  | 69 => ⟨S2048, .f32⟩
  | 70 => ⟨S1x2048, .f32⟩
  | 71 => ⟨S4x2048, .f32⟩
  | 72 => ⟨S4x2048, .f32⟩
  | 73 => ⟨S4x2048, .f32⟩
  | 74 => ⟨S4x2048, .f32⟩
  | 75 => ⟨S1x4x2048x1, .f32⟩
  | 76 => ⟨S2x4x2048x128, .f32⟩
  | 77 => ⟨S2x4x2048x128, .f32⟩
  | 78 => ⟨S2x4x2048x128, .f32⟩
  | 79 => ⟨S2x4x2048x128, .f32⟩
  | 80 => ⟨S2x4x2048x128, .f32⟩
  | 81 => ⟨S2x4x2048x128, .f32⟩
  | 82 => ⟨S2x4x2048x128, .f32⟩
  | 83 => ⟨S2x4x2048x128, .f32⟩
  | 84 => ⟨S2x4x256x128, .f32⟩
  | 85 => ⟨S2x4x256x128, .f32⟩
  | 86 => ⟨S4x1, .f32⟩
  | 87 => ⟨S256, .f32⟩
  | 88 => ⟨S_, .f32⟩
  | 89 => ⟨S256, .f32⟩
  | 90 => ⟨S256, .f32⟩
  | 91 => ⟨S1x256, .f32⟩
  | 92 => ⟨S4x256, .f32⟩
  | 93 => ⟨S4x256, .f32⟩
  | 94 => ⟨S4x256, .f32⟩
  | 95 => ⟨S4x256, .f32⟩
  | 96 => ⟨S1x4x256x1, .f32⟩
  | 97 => ⟨S2x4x256x128, .f32⟩
  | 98 => ⟨S2x4x256x128, .f32⟩
  | 99 => ⟨S2x4x128x128, .f32⟩
  | 100 => ⟨S2048, .f32⟩
  | 101 => ⟨S2048x1, .f32⟩
  | 102 => ⟨S1x2048, .f32⟩
  | 103 => ⟨S2048x2048, .f32⟩
  | 104 => ⟨S2048x2048, .f32⟩
  | 105 => ⟨S2048x2048, .f32⟩
  | 106 => ⟨S_, .f32⟩
  | 107 => ⟨S2048x2048, .f32⟩
  | 108 => ⟨S2048x2048, .i1⟩
  | 109 => ⟨S4x1x1, .f32⟩
  | 110 => ⟨S_, .f32⟩
  | 111 => ⟨S2048x2048, .f32⟩
  | 112 => ⟨S2048x2048, .f32⟩
  | 113 => ⟨S1x2048x2048, .f32⟩
  | 114 => ⟨S4x2048x2048, .f32⟩
  | 115 => ⟨S4x2048x2048, .f32⟩
  | 116 => ⟨S4x2048x2048, .f32⟩
  | 117 => ⟨S4x2048x2048, .f32⟩
  | 118 => ⟨S_, .f32⟩
  | 119 => ⟨S_, .f32⟩
  | 120 => ⟨S4x2048x2048, .i1⟩
  | 121 => ⟨S4x2048x2048, .f32⟩
  | 122 => ⟨S4x2048x2048, .f32⟩
  | 123 => ⟨S2x4x2048x2048, .f32⟩
  | 124 => ⟨S1x4x2048x2048, .f32⟩
  | 125 => ⟨S2x4x2048x2048, .f32⟩
  | 126 => ⟨S2x4x2048x2048, .f32⟩
  | 127 => ⟨S4x1, .f32⟩
  | _ => ⟨S2x2048x512, .f32⟩

abbrev hbmTy0_1 (i : Nat) : BufTy := match i % 128 with
  | 0 => ⟨S_, .f32⟩
  | 1 => ⟨S2048, .f32⟩
  | 2 => ⟨S2048, .f32⟩
  | 3 => ⟨S1x2048, .f32⟩
  | 4 => ⟨S4x2048, .f32⟩
  | 5 => ⟨S4x2048, .f32⟩
  | 6 => ⟨S4x2048, .f32⟩
  | 7 => ⟨S4x2048, .f32⟩
  | 8 => ⟨S1x4x2048x1, .f32⟩
  | 9 => ⟨S2x4x2048x128, .f32⟩
  | 10 => ⟨S2x4x2048x128, .f32⟩
  | 11 => ⟨S2x4x2048x128, .f32⟩
  | 12 => ⟨S2x4x2048x128, .f32⟩
  | 13 => ⟨S2x4x2048x128, .f32⟩
  | 14 => ⟨S2x4x2048x128, .f32⟩
  | 15 => ⟨S2x4x2048x128, .f32⟩
  | 16 => ⟨S2x4x2048x128, .f32⟩
  | 17 => ⟨S_, .f32⟩
  | 18 => ⟨S2x4x2048, .f32⟩
  | 19 => ⟨S2x4x2048x1, .f32⟩
  | 20 => ⟨S_, .f32⟩
  | 21 => ⟨S2x4x2048x1, .f32⟩
  | 22 => ⟨S2x4x2048x1, .f32⟩
  | 23 => ⟨S_, .f32⟩
  | 24 => ⟨S2x4x2048x1, .f32⟩
  | 25 => ⟨S2x4x2048x1, .f32⟩
  | 26 => ⟨S2x4x2048x1, .f32⟩
  | 27 => ⟨S2x4x2048x128, .f32⟩
  | 28 => ⟨S2x4x2048x128, .f32⟩
  | 29 => ⟨S2x2048x4x128, .f32⟩
  | 30 => ⟨S2x2048x512, .f32⟩
  | 31 => ⟨S1x1x512, .f32⟩
  | 32 => ⟨S2x2048x512, .f32⟩
  | 33 => ⟨S2x2048x512, .f32⟩
  | 34 => ⟨S2x2048x512, .f32⟩
  | 35 => ⟨S2x2048x512, .f32⟩
  | 36 => ⟨S_, .f32⟩
  | 37 => ⟨S2x2048x512, .f32⟩
  | 38 => ⟨S2x2048x512, .f32⟩
  | 39 => ⟨S_, .f32⟩
  | 40 => ⟨S2x2048x512, .f32⟩
  | 41 => ⟨S2x2048x512, .f32⟩
  | 42 => ⟨S2x2048x512, .f32⟩
  | 43 => ⟨S2x2048x512, .f32⟩
  | 44 => ⟨S2x2048x512, .bf16⟩
  | 45 => ⟨S2x2048x4x128, .f32⟩
  | 46 => ⟨S2x2048x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_0 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_1 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_2 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_3 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_4 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_5 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_6 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_7 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_8 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_cst_9 : Ref sig .tc := ⟨.hbm, 145, rfl⟩
abbrev main_v120 : Ref sig .tc := ⟨.hbm, 146, rfl⟩
abbrev main_v121 : Ref sig .tc := ⟨.hbm, 147, rfl⟩
abbrev main_cst_10 : Ref sig .tc := ⟨.hbm, 148, rfl⟩
abbrev main_v122 : Ref sig .tc := ⟨.hbm, 149, rfl⟩
abbrev main_v123 : Ref sig .tc := ⟨.hbm, 150, rfl⟩
abbrev main_cst_11 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_call8_v0 : Ref sig .tc := ⟨.hbm, 162, rfl⟩
abbrev main_call8_v1 : Ref sig .tc := ⟨.hbm, 163, rfl⟩
abbrev main_call8_cst : Ref sig .tc := ⟨.hbm, 164, rfl⟩
abbrev main_call8_v2 : Ref sig .tc := ⟨.hbm, 165, rfl⟩
abbrev main_call8_v3 : Ref sig .tc := ⟨.hbm, 166, rfl⟩
abbrev main_call8_cst_0 : Ref sig .tc := ⟨.hbm, 167, rfl⟩
abbrev main_call8_v4 : Ref sig .tc := ⟨.hbm, 168, rfl⟩
abbrev main_call8_v5 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩

abbrev nD : Nat := 1
abbrev τ : Topo := Topo.v7x

variable {F : FTy → Type} [FloatOps F]
-- ==== Kernel5.lean ====
abbrev S16x1024 : Shape := ⟨2, ![16, 1024]⟩
abbrev S1024 : Shape := ⟨1, ![1024]⟩
abbrev S1x1024x768 : Shape := ⟨3, ![1, 1024, 768]⟩
abbrev S1x3072 : Shape := ⟨2, ![1, 3072]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S1024x768 : Shape := ⟨2, ![1024, 768]⟩
abbrev S1x768 : Shape := ⟨2, ![1, 768]⟩
abbrev S24x768 : Shape := ⟨2, ![24, 768]⟩
abbrev S16x768 : Shape := ⟨2, ![16, 768]⟩
abbrev S768 : Shape := ⟨1, ![768]⟩

abbrev nBuf : Space → Nat
  | .hbm => 15
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1x1024x768, .f32⟩
  | .hbm, ⟨3, _⟩ => ⟨S1x3072, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S1024x768, .f32⟩
  | .hbm, ⟨9, _⟩ => ⟨S1024x768, .bf16⟩
  | .hbm, ⟨10, _⟩ => ⟨S1x768, .f32⟩
  | .hbm, ⟨11, _⟩ => ⟨S24x768, .f32⟩
  | .hbm, ⟨12, _⟩ => ⟨S16x768, .f32⟩
  | .hbm, ⟨13, _⟩ => ⟨S1x768, .f32⟩
  | .hbm, ⟨14, _⟩ => ⟨S768, .f32⟩
  | .local _ .vmem, ⟨0, _⟩ => ⟨S24x1024, .f32⟩
  | .local _ .vmem, ⟨1, _⟩ => ⟨S1024x768, .bf16⟩
  | .local _ .vmem, ⟨2, _⟩ => ⟨S1x768, .f32⟩
  | .local _ .vmem, ⟨3, _⟩ => ⟨S24x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference5Ideal.lean ====
abbrev S16x1024 : Shape := ⟨2, ![16, 1024]⟩
abbrev S1024 : Shape := ⟨1, ![1024]⟩
abbrev S1x1024x768 : Shape := ⟨3, ![1, 1024, 768]⟩
abbrev S1x3072 : Shape := ⟨2, ![1, 3072]⟩
abbrev S_ : Shape := ⟨0, ![]⟩
abbrev S1024x768 : Shape := ⟨2, ![1024, 768]⟩
abbrev S16x768 : Shape := ⟨2, ![16, 768]⟩
abbrev S1x768 : Shape := ⟨2, ![1, 768]⟩
abbrev S768 : Shape := ⟨1, ![768]⟩

abbrev nBuf : Space → Nat
  | .hbm => 34
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1x1024x768, .f32⟩
  | .hbm, ⟨3, _⟩ => ⟨S1x3072, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S1024x768, .f32⟩
  | .hbm, ⟨14, _⟩ => ⟨S16x768, .f32⟩
  | .hbm, ⟨15, _⟩ => ⟨S1x768, .f32⟩
  | .hbm, ⟨16, _⟩ => ⟨S768, .f32⟩
  | .hbm, ⟨17, _⟩ => ⟨S1x768, .f32⟩
  | .hbm, ⟨18, _⟩ => ⟨S16x768, .f32⟩
  | .hbm, ⟨19, _⟩ => ⟨S16x768, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024x768, .f32⟩
  | .hbm, ⟨30, _⟩ => ⟨S768, .f32⟩
  | .hbm, ⟨31, _⟩ => ⟨S1x768, .f32⟩
  | .hbm, ⟨32, _⟩ => ⟨S768, .f32⟩
  | .hbm, ⟨33, _⟩ => ⟨S768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Kernel6.lean ====
abbrev S1024x1024 : Shape := ⟨2, ![1024, 1024]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S2x2304x4x1024 : Shape := ⟨4, ![2, 2304, 4, 1024]⟩
abbrev S2x2304x1024 : Shape := ⟨3, ![2, 2304, 1024]⟩
abbrev S2x2048x1x512 : Shape := ⟨4, ![2, 2048, 1, 512]⟩
abbrev S2x2048x512 : Shape := ⟨3, ![2, 2048, 512]⟩
abbrev S2x2304x1x512 : Shape := ⟨4, ![2, 2304, 1, 512]⟩
abbrev S2x2304x512 : Shape := ⟨3, ![2, 2304, 512]⟩
abbrev S4x1024x1024 : Shape := ⟨3, ![4, 1024, 1024]⟩
abbrev S1x512x512 : Shape := ⟨3, ![1, 512, 512]⟩
abbrev S1x256x512 : Shape := ⟨3, ![1, 256, 512]⟩
abbrev S1x512x1024 : Shape := ⟨3, ![1, 512, 1024]⟩
abbrev S1x256x1024 : Shape := ⟨3, ![1, 256, 1024]⟩
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩
abbrev S256x1024 : Shape := ⟨2, ![256, 1024]⟩
abbrev S256x512 : Shape := ⟨2, ![256, 512]⟩

abbrev nBuf : Space → Nat
  | .hbm => 20
  | .vmem => 30
  | .smem => 0
  | _ => 0

abbrev bufTy : (tb : Table) → Fin (tcTables nBuf tb) → BufTy
  | .hbm, ⟨0, _⟩ => ⟨S2x2304x4x1024, .f32⟩
  | .hbm, ⟨1, _⟩ => ⟨S2x2304x1024, .f32⟩
  | .hbm, ⟨2, _⟩ => ⟨S2x2048x1x512, .f32⟩
  | .hbm, ⟨3, _⟩ => ⟨S2x2048x512, .f32⟩
  | .hbm, ⟨4, _⟩ => ⟨S2x2304x1x512, .f32⟩
  | .hbm, ⟨5, _⟩ => ⟨S2x2304x512, .f32⟩
  | .hbm, ⟨6, _⟩ => ⟨S2x2304x1x512, .f32⟩
  | .hbm, ⟨7, _⟩ => ⟨S2x2304x512, .f32⟩
  | .hbm, ⟨8, _⟩ => ⟨S2x2048x1x512, .f32⟩
  | .hbm, ⟨9, _⟩ => ⟨S2x2048x512, .f32⟩
  | .hbm, ⟨10, _⟩ => ⟨S2x2048x1x512, .f32⟩
  | .hbm, ⟨11, _⟩ => ⟨S2x2048x512, .f32⟩
  | .hbm, ⟨12, _⟩ => ⟨S2x2304x1x512, .f32⟩
  | .hbm, ⟨13, _⟩ => ⟨S2x2304x512, .f32⟩
  | .hbm, ⟨14, _⟩ => ⟨S2x2304x1x512, .f32⟩
  | .hbm, ⟨15, _⟩ => ⟨S2x2304x512, .f32⟩
  | .hbm, ⟨16, _⟩ => ⟨S2x2048x1x512, .f32⟩
  | .hbm, ⟨17, _⟩ => ⟨S2x2048x512, .f32⟩
  | .hbm, ⟨18, _⟩ => ⟨S2x2304x1024, .bf16⟩
  | .hbm, ⟨19, _⟩ => ⟨S4x1024x1024, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x512x1024, .bf16⟩
  | .local _ .vmem, ⟨25, _⟩ => ⟨S1x512x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S4x1024x1024, .bf16⟩
  | .local _ .vmem, ⟨29, _⟩ => ⟨S4x1024x1024, .f32⟩
  | _, _ => ⟨S2x2304x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28

abbrev nD : Nat := 1
abbrev τ : Topo := Topo.v7x

variable {F : FTy → Type} [FloatOps F]

abbrev grid0 : Pipeline.Grid := ⟨2, ![2, 5], ![false, false]⟩

def k0_cond4 (i : grid0.Coords) : BitVec 1 :=
  let arg0 : BitVec 32 := BitVec.ofNat 32 (i 0).val
  let c1_i32 : BitVec 32 := 1#32
  let v11 : BitVec 1 := Scalar.cmpi .eq arg0 c1_i32
  let arg1 : BitVec 32 := BitVec.ofNat 32 (i 1).val
  let c4_i32_5 : BitVec 32 := 4#32
  let v12 : BitVec 1 := Scalar.cmpi .eq arg1 c4_i32_5
  let v13 : BitVec 1 := Scalar.andi v11 v12
  let v14 : BitVec 32 := Scalar.extui v13
  let c0_i32_6 : BitVec 32 := 0#32
  let v15 : BitVec 1 := Scalar.cmpi .ne v14 c0_i32_6
  v15

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![arg0.toNat, c8_i32.toNat, c0_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![arg0.toNat, c8_i32.toNat, c0_i32.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![arg0.toNat, c8_i32.toNat, c0_i32.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![arg0.toNat, c8_i32.toNat, c0_i32.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![arg0.toNat, c8_i32.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S4x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference7Ideal.lean ====
abbrev S2x2304x4x1024 : Shape := ⟨4, ![2, 2304, 4, 1024]⟩
abbrev S2x2304x1024 : Shape := ⟨3, ![2, 2304, 1024]⟩
abbrev S2x256x1024 : Shape := ⟨3, ![2, 256, 1024]⟩
abbrev S_ : Shape := ⟨0, ![]⟩
abbrev S1024x512 : Shape := ⟨2, ![1024, 512]⟩
abbrev S2x256x1x512 : Shape := ⟨4, ![2, 256, 1, 512]⟩
abbrev S2x256x512 : Shape := ⟨3, ![2, 256, 512]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S2x2048x1024 : Shape := ⟨3, ![2, 2048, 1024]⟩
abbrev S2x2048x4x1024 : Shape := ⟨4, ![2, 2048, 4, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x2304x4x1024, .f32⟩
  | .hbm, ⟨1, _⟩ => ⟨S2x2304x1024, .f32⟩
  | .hbm, ⟨2, _⟩ => ⟨S2x256x1024, .f32⟩
  | .hbm, ⟨3, _⟩ => ⟨S_, .f32⟩
  | .hbm, ⟨4, _⟩ => ⟨S1024x512, .f32⟩
  | .hbm, ⟨5, _⟩ => ⟨S2x256x1x512, .f32⟩
  | .hbm, ⟨6, _⟩ => ⟨S2x256x512, .f32⟩
  | .hbm, ⟨7, _⟩ => ⟨S1024x512, .f32⟩
  | .hbm, ⟨8, _⟩ => ⟨S1024x1024, .f32⟩
  | .hbm, ⟨9, _⟩ => ⟨S2x256x1x512, .f32⟩
  | .hbm, ⟨10, _⟩ => ⟨S2x256x512, .f32⟩
  | .hbm, ⟨11, _⟩ => ⟨S1024x512, .f32⟩
  | .hbm, ⟨12, _⟩ => ⟨S1024x1024, .f32⟩
  | .hbm, ⟨13, _⟩ => ⟨S2x256x1x512, .f32⟩
  | .hbm, ⟨14, _⟩ => ⟨S2x256x512, .f32⟩
  | .hbm, ⟨15, _⟩ => ⟨S1024x512, .f32⟩
  | .hbm, ⟨16, _⟩ => ⟨S1024x1024, .f32⟩
  | .hbm, ⟨17, _⟩ => ⟨S2x256x1x512, .f32⟩
  | .hbm, ⟨18, _⟩ => ⟨S2x256x512, .f32⟩
  | .hbm, ⟨19, _⟩ => ⟨S1024x512, .f32⟩
  | .hbm, ⟨20, _⟩ => ⟨S1024x1024, .f32⟩
  | .hbm, ⟨21, _⟩ => ⟨S1x1024x1024, .f32⟩
  | .hbm, ⟨22, _⟩ => ⟨S1x1024x1024, .f32⟩
  | .hbm, ⟨23, _⟩ => ⟨S1x1024x1024, .f32⟩
  | .hbm, ⟨24, _⟩ => ⟨S1x1024x1024, .f32⟩
  | .hbm, ⟨25, _⟩ => ⟨S4x1024x1024, .f32⟩
  | .hbm, ⟨26, _⟩ => ⟨S2x2048x1024, .f32⟩
  | .hbm, ⟨27, _⟩ => ⟨S2x2048x4x1024, .f32⟩
  | .hbm, ⟨28, _⟩ => ⟨S4x1024x1024, .f32⟩
  | .hbm, ⟨29, _⟩ => ⟨S4x1024x1024, .f32⟩
  | .hbm, ⟨30, _⟩ => ⟨S4x1024x1024, .f32⟩
  | .hbm, ⟨31, _⟩ => ⟨S4x1024x1024, .bf16⟩
  | _, _ => ⟨S2x2304x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Proof.Model.lean ====
/- The mathematics both programs compute, over the real numbers: one token row of the output projection with the final
   norm, the squared-error loss and its gradient, and the sums of the rows that make the results. -/
module

public import Idealize.ShloMosaic.Lib.Pipeline.ValueKit
public import Idealize.ShloMosaic.Lib.Pointwise

@[expose] public section

set_option maxRecDepth 16384

noncomputable section

namespace Cert.Model

open Idealize.ShloMosaic Idealize.ShloMosaic.TcCoe

/-! ## Real numbers inside the extended reals -/

/-- A sum of real numbers is the same in the extended reals. -/
theorem coe_sum {ι : Type*} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- A quotient of real numbers by a nonzero one is the same in the extended reals. -/
theorem coe_div {a b : ℝ} (hb : b ≠ 0) : Ideal.div (a : EReal) (b : EReal) = ((a / b : ℝ) : EReal) := by
  rw [Ideal.div_coe hb, ← EReal.coe_mul, mul_one_div]

/-- The reciprocal square root of a positive real number is the real one. -/
theorem coe_rsqrt {a : ℝ} (ha : 0 < a) : Ideal.rsqrt (a : EReal) = (((Real.sqrt a)⁻¹ : ℝ) : EReal) := by
  rw [Ideal.rsqrt_coe, if_neg (not_lt.mpr ha.le), if_neg ha.ne']

/-- The norm's constant, the single-precision number next to a millionth. -/
def eps : ℝ := (Ideal.ofBits .f32 0x358637BD#32).toReal

theorem eps_pos_coe : 0 < eps ∧ Ideal.ofBits .f32 0x358637BD#32 = ((eps : ℝ) : EReal) := by
  have h : ∃ e : ℝ, 0 < e ∧ Ideal.ofBits .f32 0x358637BD#32 = ((e : ℝ) : EReal) :=
    ⟨8796093 * (2 : ℝ) ^ (-43 : Int), by positivity, by
      simp [Ideal.ofBits, Ideal.ieee, -EReal.coe_mul]⟩
  obtain ⟨e, he, hh⟩ := h
  have : eps = e := by rw [eps, hh, EReal.toReal_coe]
  rw [this]; exact ⟨he, hh⟩

theorem eps_coe : Ideal.ofBits .f32 0x358637BD#32 = ((eps : ℝ) : EReal) := eps_pos_coe.2

theorem c1024 : Ideal.ofBits .f32 0x44800000#32 = ((1024 : ℝ) : EReal) := by
  simp [Ideal.ofBits, Ideal.ieee, -EReal.coe_mul]; norm_num

theorem cinv1024 : Ideal.ofBits .f32 0x3A800000#32 = ((1 / 1024 : ℝ) : EReal) := by
  simp [Ideal.ofBits, Ideal.ieee, -EReal.coe_mul]; norm_num

theorem chalf : Ideal.ofBits .f32 0x3F000000#32 = ((1 / 2 : ℝ) : EReal) := by
  simp [Ideal.ofBits, Ideal.ieee, -EReal.coe_mul]; norm_num

theorem cnhalf : Ideal.ofBits .f32 0xBF000000#32 = ((-(1 / 2) : ℝ) : EReal) := by
  simp [Ideal.ofBits, Ideal.ieee, -EReal.coe_mul, -EReal.coe_neg]; norm_num

theorem ctwo : Ideal.ofBits .f32 0x40000000#32 = ((2 : ℝ) : EReal) := by
  simp [Ideal.ofBits, Ideal.ieee, -EReal.coe_mul]; norm_num

/-- A sum over the first two axes of a rank-three array, read at the kept axis. -/
theorem hostSum_front {n0 n1 n2 : ℕ} (h : (⟨3, ![n0, n1, n2]⟩ : Shape).ReducesTo [0, 1] ⟨1, ![n2]⟩)
    (v : (⟨3, ![n0, n1, n2]⟩ : Shape).Idx → EReal) (init : EReal) (q : Fin n2) :
    Ideal.hostReduceAdd h v init (ix1 q) = init + ∑ a : Fin n0, ∑ b : Fin n1, v (ix3 a b q) := by
  unfold Ideal.hostReduceAdd
  congr 1
  refine (Finset.sum_filter_eq_sum_of_fiber _ (fun k : Fin n0 × Fin n1 => (ix3 k.1 k.2 q : (⟨3, ![n0, n1, n2]⟩ : Shape).Idx))
    (fun _ _ e => Prod.ext (congrFun e 0) (congrFun e 1)) (fun i => ?_) v).trans (Fintype.sum_prod_type _)
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
  · rintro ⟨k, rfl⟩
    funext b
    match b with
    | ⟨0, _⟩ => rfl

/-! ## One token row -/

abbrev Row := Fin 1024 → ℝ

/-- Mean square of a row plus the norm's constant. -/
def ms (v : Row) : ℝ := (∑ q, v q * v q) / 1024 + eps
/-- Reciprocal root mean square. -/
def rs (v : Row) : ℝ := (Real.sqrt (ms v))⁻¹
/-- The normalised row. -/
def xr (v : Row) : Row := fun q => v q * rs v
/-- Error of the scaled normalised row against its target. -/
def er (v g t : Row) : Row := fun q => xr v q * g q - t q
/-- Gradient of half the mean squared error with respect to the scaled normalised row. -/
def dout (v g t : Row) : Row := fun q => er v g t q * (1 / 1024)
/-- The gradient times the norm's scale. -/
def gd (v g t : Row) : Row := fun q => dout v g t q * g q
/-- Gradient with respect to the row before the norm. -/
def dx (v g t : Row) : Row := fun q => rs v * (gd v g t q - xr v q * ((∑ p, gd v g t p * xr v p) / 1024))

theorem ms_pos (v : Row) : 0 < ms v :=
  add_pos_of_nonneg_of_pos (div_nonneg (Finset.sum_nonneg fun q _ => mul_self_nonneg _) (by norm_num)) eps_pos_coe.1

theorem rs_sq (v : Row) : rs v * rs v * ms v = 1 := by
  have h := Real.mul_self_sqrt (ms_pos v).le
  have h0 : Real.sqrt (ms v) ≠ 0 := (Real.sqrt_pos.mpr (ms_pos v)).ne'
  rw [rs]
  calc (Real.sqrt (ms v))⁻¹ * (Real.sqrt (ms v))⁻¹ * ms v
      = (Real.sqrt (ms v))⁻¹ * (Real.sqrt (ms v))⁻¹ * (Real.sqrt (ms v) * Real.sqrt (ms v)) := by rw [h]
    _ = 1 := by field_simp

/-- The derivative of the norm as the chain rule writes it: through the product with the reciprocal root, and twice
    through the square of the row. -/
theorem dx_chain (v g t : Row) (q : Fin 1024) :
    gd v g t q * rs v + v q * ((∑ p, v p * gd v g t p) * (-(1 / 2) * (rs v / ms v)) / 1024)
      + ((∑ p, v p * gd v g t p) * (-(1 / 2) * (rs v / ms v)) / 1024) * v q = dx v g t q := by
  have h := rs_sq v
  have hm := (ms_pos v).ne'
  have hr : rs v / ms v = rs v * rs v * rs v := by
    rw [div_eq_iff hm]; linear_combination (-rs v) * h
  have hs : ∑ p, gd v g t p * xr v p = (∑ p, v p * gd v g t p) * rs v := by
    rw [Finset.sum_mul]; exact Finset.sum_congr rfl fun p _ => by unfold xr; ring
  rw [dx, hs, hr, xr]; ring

/-! ## The arrays -/

/-- The arguments as arrays of real numbers: the attention and retention halves of the output, the residual input, the
    target, the modulation, the norm's scale and the projection. -/
structure Args where
  yn : Fin 2 → Fin 2048 → Fin 512 → ℝ
  yr : Fin 2 → Fin 2048 → Fin 512 → ℝ
  x : Fin 2 → Fin 2048 → Row
  t : Fin 2 → Fin 2048 → Row
  mod : Fin 2 → Fin 3072 → ℝ
  g : Row
  w : Fin 1024 → Row

namespace Args

variable (A : Args)

/-- The projected output of a token. -/
def ylat (b : Fin 2) (l : Fin 2048) : Row := fun q =>
  ∑ k : Fin 512, A.yn b l k * A.w ⟨k.val, by omega⟩ q + ∑ k : Fin 512, A.yr b l k * A.w ⟨512 + k.val, by omega⟩ q
/-- The output gate, the last third of the modulation. -/
def gate (b : Fin 2) : Row := fun q => A.mod b ⟨2048 + q.val, by omega⟩
/-- The residual row before the norm. -/
def X (b : Fin 2) (l : Fin 2048) : Row := fun q => A.x b l q + A.gate b q * A.ylat b l q
def Er (b : Fin 2) (l : Fin 2048) : Row := er (A.X b l) A.g (A.t b l)
def Dout (b : Fin 2) (l : Fin 2048) : Row := dout (A.X b l) A.g (A.t b l)
def DX (b : Fin 2) (l : Fin 2048) : Row := dx (A.X b l) A.g (A.t b l)
/-- Gradient with respect to the projected output. -/
def DYL (b : Fin 2) (l : Fin 2048) : Row := fun q => A.gate b q * A.DX b l q
/-- The two halves of the output side by side. -/
def y (b : Fin 2) (l : Fin 2048) (k : Fin 1024) : ℝ :=
  if h : k.val < 512 then A.yn b l ⟨k.val, h⟩ else A.yr b l ⟨k.val - 512, by omega⟩
/-- Gradient with respect to the two halves. -/
def dy (b : Fin 2) (l : Fin 2048) (k : Fin 1024) : ℝ := ∑ q, A.DYL b l q * A.w k q
/-- Gradient of the projection. -/
def dW (k q : Fin 1024) : ℝ := ∑ b, ∑ l, A.y b l k * A.DYL b l q
/-- Gradient of the norm's scale. -/
def sg (q : Fin 1024) : ℝ := ∑ b, ∑ l, A.Dout b l q * xr (A.X b l) q
/-- The squared errors summed over the tokens. -/
def ssq (q : Fin 1024) : ℝ := ∑ b, ∑ l, A.Er b l q * A.Er b l q
/-- Gradient of the gate of a sample. -/
def sgate (b : Fin 2) (q : Fin 1024) : ℝ := ∑ l, A.DX b l q * A.ylat b l q
/-- The small sums, one row each; the last four rows are zero. -/
def sm (r : Fin 8) (q : Fin 1024) : ℝ :=
  if r.val = 0 then A.sg q else if r.val = 1 then A.ssq q else if h : r.val - 2 < 2 then A.sgate ⟨r.val - 2, h⟩ q else 0

end Args

/-- Seven arrays of extended reals are the real arguments `A`. -/
structure Holds (A : Args) (x0 x1 : (⟨3, ![2, 2048, 512]⟩ : Shape).Idx → EReal) (x2 x3 : (⟨3, ![2, 2048, 1024]⟩ : Shape).Idx → EReal)
    (x4 : (⟨2, ![2, 3072]⟩ : Shape).Idx → EReal) (x5 : (⟨1, ![1024]⟩ : Shape).Idx → EReal)
    (x6 : (⟨3, ![1, 1024, 1024]⟩ : Shape).Idx → EReal) : Prop where
  yn : ∀ b l k, x0 (ix3 b l k) = ((A.yn b l k : ℝ) : EReal)
  yr : ∀ b l k, x1 (ix3 b l k) = ((A.yr b l k : ℝ) : EReal)
  x : ∀ b l k, x2 (ix3 b l k) = ((A.x b l k : ℝ) : EReal)
  t : ∀ b l k, x3 (ix3 b l k) = ((A.t b l k : ℝ) : EReal)
  mod : ∀ b k, x4 (ix2 b k) = ((A.mod b k : ℝ) : EReal)
  g : ∀ k, x5 (ix1 k) = ((A.g k : ℝ) : EReal)
  w : ∀ k q, x6 (ix3 0 k q) = ((A.w k q : ℝ) : EReal)

end Cert.Model
end
-- ==== Proof.RefVal.lean ====
/- The reference read at an index as real numbers: each intermediate array that matters, then the four results. -/
module

public import proofs.«01_k».proof.Proof.Gen.ReferenceIdeal.Read
public import proofs.«01_k».proof.Proof.Model

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Model

variable {x0 x1 : (⟨S2x2048x512, .f32⟩ : BufTy).Contents (Elt Ideal)} {x2 x3 : (⟨S2x2048x1024, .f32⟩ : BufTy).Contents (Elt Ideal)}
  {x4 : (⟨S2x3072, .f32⟩ : BufTy).Contents (Elt Ideal)} {x5 : (⟨S1024, .f32⟩ : BufTy).Contents (Elt Ideal)}
  {x6 : (⟨S1x1024x1024, .f32⟩ : BufTy).Contents (Elt Ideal)} {A : Args} (H : Holds A x0 x1 x2 x3 x4 x5 x6)

include H

theorem rylat (b : Fin 2) (l : Fin 2048) (q : Fin 1024) :
    val_main_v3 (F := Ideal) x0 x1 x6 (ix3 b l q) = ((A.ylat b l q : ℝ) : EReal) := by
  pointwise [val_main_v3, val_main_v2, val_main_v0]
  simp only [H.yn, H.yr, H.w, ← EReal.coe_mul, coe_sum, ← EReal.coe_add, Args.ylat]

theorem rgate (b : Fin 2) (l : Fin 2048) (q : Fin 1024) :
    val_main_v5 (F := Ideal) x4 (ix3 b l q) = ((A.gate b q : ℝ) : EReal) := by
  pointwise [val_main_v5, val_main_v4, val_main_v1]
  exact H.mod _ _

theorem rgate' (b : Fin 2) (l : Fin 2048) (q : Fin 1024) :
    val_main_v60 (F := Ideal) x4 (ix3 b l q) = ((A.gate b q : ℝ) : EReal) := by
  pointwise [val_main_v60, val_main_v4, val_main_v1]
  exact H.mod _ _

theorem rX (b : Fin 2) (l : Fin 2048) (q : Fin 1024) :
    val_main_v7 (F := Ideal) x0 x1 x2 x4 x6 (ix3 b l q) = ((A.X b l q : ℝ) : EReal) := by
  pointwise [val_main_v7, val_main_v6]
  simp only [H.x, rgate H, rylat H, ← EReal.coe_mul, ← EReal.coe_add, Args.X]

theorem rms (b : Fin 2) (l : Fin 2048) :
    val_main_v14 (F := Ideal) x0 x1 x2 x4 x6 (ix3 b l 0) = ((ms (A.X b l) : ℝ) : EReal) := by
  pointwise [val_main_v14, val_main_v13, val_main_v12, val_main_v11, val_main_v10, val_main_v9, val_main_v8, val_main_cst,
    val_main_cst_0, val_main_cst_1]
  simp only [rX H, ← EReal.coe_mul, coe_sum, c1024, eps_coe, coe_div (by norm_num : (1024 : ℝ) ≠ 0), ← EReal.coe_add, ms]

theorem rrs (b : Fin 2) (l : Fin 2048) :
    val_main_v15 (F := Ideal) x0 x1 x2 x4 x6 (ix3 b l 0) = ((rs (A.X b l) : ℝ) : EReal) := by
  pointwise [val_main_v15]
  simp only [rms H, coe_rsqrt (ms_pos _), rs]

theorem rslope (b : Fin 2) (l : Fin 2048) :
    val_main_v18 (F := Ideal) x0 x1 x2 x4 x6 (ix3 b l 0) = ((-(1 / 2) * (rs (A.X b l) / ms (A.X b l)) : ℝ) : EReal) := by
  pointwise [val_main_v18, val_main_v17, val_main_v16, val_main_cst_2]
  simp only [rms H, rrs H, coe_div (ms_pos _).ne', cnhalf, ← EReal.coe_mul]

theorem rxr (b : Fin 2) (l : Fin 2048) (q : Fin 1024) :
    val_main_v20 (F := Ideal) x0 x1 x2 x4 x6 (ix3 b l q) = ((xr (A.X b l) q : ℝ) : EReal) := by
  pointwise [val_main_v20, val_main_v19]
  simp only [rX H, rrs H, ← EReal.coe_mul, xr]

theorem rer (b : Fin 2) (l : Fin 2048) (q : Fin 1024) :
    val_main_v24 (F := Ideal) x0 x1 x2 x3 x4 x5 x6 (ix3 b l q) = ((A.Er b l q : ℝ) : EReal) := by
  pointwise [val_main_v24, val_main_v23, val_main_v22, val_main_v21]
  simp only [rxr H, H.g, H.t, ← EReal.coe_mul, ← EReal.coe_sub, Args.Er, er]

theorem rdout (b : Fin 2) (l : Fin 2048) (q : Fin 1024) :
    val_main_v39 (F := Ideal) x0 x1 x2 x3 x4 x5 x6 (ix3 b l q) = ((A.Dout b l q : ℝ) : EReal) := by
  pointwise [val_main_v39, val_main_v38, val_main_v37, val_main_v36, val_main_v35, val_main_v34, val_main_v27, val_main_v26,
    val_main_cst_3, val_main_cst_9, val_main_cst_10, val_main_cst_11]
  have one : (1 : EReal) = ((1 : ℝ) : EReal) := EReal.coe_one.symm
  simp only [rer H, chalf, ctwo, c1024, one, ← EReal.coe_mul, coe_div (by norm_num : (1024 : ℝ) ≠ 0)]
  congr 1
  simp only [Args.Dout, Args.Er, dout]; ring

theorem rdx (b : Fin 2) (l : Fin 2048) (q : Fin 1024) :
    val_main_v59 (F := Ideal) x0 x1 x2 x3 x4 x5 x6 (ix3 b l q) = ((A.DX b l q : ℝ) : EReal) := by
  pointwise [val_main_v59, val_main_v57, val_main_v58, val_main_v50, val_main_v56, val_main_v55, val_main_v54, val_main_v53,
    val_main_v52, val_main_v51, val_main_v49, val_main_v48, val_main_v47, val_main_v46, val_main_v44, val_main_v43, val_main_v21,
    val_main_cst_16, val_main_cst_14, val_main_cst_15]
  simp only [Fin.sum_univ_one]
  simp only [rX H, rdout H, H.g, rrs H, rslope H, ← EReal.coe_mul, coe_sum, c1024, coe_div (by norm_num : (1024 : ℝ) ≠ 0),
    ← EReal.coe_add]
  exact congrArg _ (dx_chain (A.X b l) A.g (A.t b l) q)

theorem rdyl (b : Fin 2) (l : Fin 2048) (q : Fin 1024) :
    val_main_v61 (F := Ideal) x0 x1 x2 x3 x4 x5 x6 (ix3 b l q) = ((A.DYL b l q : ℝ) : EReal) := by
  pointwise [val_main_v61]
  simp only [rgate' H, rdx H, ← EReal.coe_mul, Args.DYL]

theorem ry (b : Fin 2) (l : Fin 2048) (k : Fin 1024) :
    val_main_v0 (F := Ideal) x0 x1 (ix3 b l k) = ((A.y b l k : ℝ) : EReal) := by
  pointwise [val_main_v0]
  simp only [H.yn, H.yr, Args.y]
  split <;> rfl

/-! ## The results -/

theorem out_dy (b : Fin 2) (l : Fin 2048) (k : Fin 1024) :
    val_main_v73 (F := Ideal) x0 x1 x2 x3 x4 x5 x6 (ix3 b l k) = ((A.dy b l k : ℝ) : EReal) := by
  pointwise [val_main_v73, val_main_v68, val_main_v2]
  simp only [rdyl H, H.w, ← EReal.coe_mul, coe_sum, Args.dy]

theorem out_dW (k q : Fin 1024) :
    val_main_v74 (F := Ideal) x0 x1 x2 x3 x4 x5 x6 (ix2 k q) = ((A.dW k q : ℝ) : EReal) := by
  pointwise [val_main_v74, val_main_v67, val_main_v66]
  simp only [rdyl H, ry H, ← EReal.coe_mul, coe_sum, Args.dW]
  congr 1
  exact Finset.sum_congr rfl fun b _ => Finset.sum_congr rfl fun l _ => mul_comm _ _

theorem out_g (q : Fin 1024) :
    val_main_v41 (F := Ideal) x0 x1 x2 x3 x4 x5 x6 (ix1 q) = ((A.sg q : ℝ) : EReal) := by
  pointwise [val_main_v41, val_main_v40, val_main_cst_12]
  rw [hostSum_front]
  pointwise [val_main_v40]
  simp only [rxr H, rdout H, ← EReal.coe_mul, coe_sum, Args.sg]
  congr 1
  exact Finset.sum_congr rfl fun b _ => Finset.sum_congr rfl fun l _ => mul_comm _ _

theorem out_sq (q : Fin 1024) :
    val_main_v33 (F := Ideal) x0 x1 x2 x3 x4 x5 x6 (ix1 q) = ((A.ssq q : ℝ) : EReal) := by
  pointwise [val_main_v33, val_main_v25, val_main_cst_8]
  rw [hostSum_front]
  pointwise [val_main_v25]
  simp only [rer H, ← EReal.coe_mul, coe_sum, Args.ssq]

theorem out_g' (q : Fin 1024) :
    val_main_v45 (F := Ideal) x0 x1 x2 x3 x4 x5 x6 (ix1 q) = ((A.sg q : ℝ) : EReal) := by
  pointwise [val_main_v45, val_main_cst_13]
  rw [hostSum_front]
  pointwise [val_main_v42]
  rw [Fin.sum_univ_one, Fin.sum_univ_one]
  exact out_g H q

theorem out_gate (b : Fin 2) (q : Fin 1024) :
    val_main_v65 (F := Ideal) x0 x1 x2 x3 x4 x5 x6 (ix2 b q) = ((A.sgate b q : ℝ) : EReal) := by
  pointwise [val_main_v65, val_main_v64, val_main_v63, val_main_v62, val_main_cst_17, val_main_cst_18]
  simp only [Fin.sum_univ_one, rdx H, rylat H, ← EReal.coe_mul, coe_sum, Args.sgate]

theorem out_row0 (z : Fin 1) (q : Fin 1024) :
    val_main_v69 (F := Ideal) x0 x1 x2 x3 x4 x5 x6 (ix2 z q) = ((A.sg q : ℝ) : EReal) := by
  pointwise [val_main_v69]
  exact out_g' H q

theorem out_row1 (z : Fin 1) (q : Fin 1024) :
    val_main_v70 (F := Ideal) x0 x1 x2 x3 x4 x5 x6 (ix2 z q) = ((A.ssq q : ℝ) : EReal) := by
  pointwise [val_main_v70]
  exact out_sq H q

omit H in
theorem out_rest (z : Fin 4) (q : Fin 1024) : val_main_v71 (F := Ideal) (ix2 z q) = ((0 : ℝ) : EReal) := by
  pointwise [val_main_v71, val_main_cst_19]
  rfl

theorem out_sm (r : Fin 8) (q : Fin 1024) :
    val_main_v72 (F := Ideal) x0 x1 x2 x3 x4 x5 x6 (ix2 r q) = ((A.sm r q : ℝ) : EReal) := by
  pointwise [val_main_v72]
  simp only [out_row0 H, out_row1 H, out_gate H, out_rest]
  by_cases h0 : r.val < 1
  · exact (dif_pos h0).trans (congrArg _ (if_pos (by omega)).symm)
  refine (dif_neg h0).trans (Eq.trans ?_ (congrArg _ (if_neg (by omega)).symm))
  by_cases h1 : r.val - 1 < 1
  · exact (dif_pos h1).trans (congrArg _ (if_pos (by omega)).symm)
  refine (dif_neg h1).trans (Eq.trans ?_ (congrArg _ (if_neg (by omega)).symm))
  by_cases h2 : r.val - 1 - 1 < 2
  · refine (dif_pos h2).trans (congrArg _ ?_)
    rw [dif_pos (show r.val - 2 < 2 by omega)]; rfl
  · refine (dif_neg h2).trans (congrArg _ ?_)
    rw [dif_neg (show ¬r.val - 2 < 2 by omega)]

end Cert.ReferenceIdeal.Read
end
-- ==== Proof.KerTile.lean ====
/- The kernel's arithmetic on one tile of 1024 tokens, read at an index as real numbers. -/
module

public import proofs.«01_k».proof.Proof.Gen.KernelIdeal.Value
public import proofs.«01_k».proof.Proof.Model

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Model

/-- What the tile of sample `b` whose tokens are `l p` loads: the gate row, the norm's scale, the two halves of the
    output, the two halves of the projection, the residual input and the target. -/
structure Tile (A : Args) (b : Fin 2) (l : Fin 1024 → Fin 2048) (v6 v8 : Vec Ideal S1x1024 .f32)
    (v10 v12 : Vec Ideal S1x1024x512 .bf16) (v14 v17 : Vec Ideal S512x1024 .bf16) (v21 v38 : Vec Ideal S1x1024x1024 .f32) : Prop where
  gate : ∀ q : Fin 1024, v6 (ix2 0 q) = ((A.gate b q : ℝ) : EReal)
  g : ∀ q : Fin 1024, v8 (ix2 0 q) = ((A.g q : ℝ) : EReal)
  yn : ∀ (p : Fin 1024) (k : Fin 512), v10 (ix3 0 p k) = ((A.yn b (l p) k : ℝ) : EReal)
  yr : ∀ (p : Fin 1024) (k : Fin 512), v12 (ix3 0 p k) = ((A.yr b (l p) k : ℝ) : EReal)
  wn : ∀ (k : Fin 512) (q : Fin 1024), v14 (ix2 k q) = ((A.w ⟨k.val, by omega⟩ q : ℝ) : EReal)
  wr : ∀ (k : Fin 512) (q : Fin 1024), v17 (ix2 k q) = ((A.w ⟨512 + k.val, by omega⟩ q : ℝ) : EReal)
  x : ∀ p q : Fin 1024, v21 (ix3 0 p q) = ((A.x b (l p) q : ℝ) : EReal)
  t : ∀ p q : Fin 1024, v38 (ix3 0 p q) = ((A.t b (l p) q : ℝ) : EReal)

variable {A : Args} {b : Fin 2} {l : Fin 1024 → Fin 2048} {v6 v8 : Vec Ideal S1x1024 .f32}
    {v10 v12 : Vec Ideal S1x1024x512 .bf16} {v14 v17 : Vec Ideal S512x1024 .bf16} {v21 v38 : Vec Ideal S1x1024x1024 .f32}
    (T : Tile A b l v6 v8 v10 v12 v14 v17 v21 v38)

include T

theorem Tile.ylat (p q : Fin 1024) : k0_pay9 v10 v12 v14 v17 (ix2 p q) = ((A.ylat b (l p) q : ℝ) : EReal) := by
  pointwise [k0_pay9, k0_pay7, k0_pay8]
  simp only [T.yn, T.yr, T.wn, T.wr, ← EReal.coe_mul, coe_sum, ← EReal.coe_add, Args.ylat]

theorem Tile.X (p q : Fin 1024) : k0_pay10 v6 v10 v12 v14 v17 v21 (ix2 p q) = ((A.X b (l p) q : ℝ) : EReal) := by
  pointwise [k0_pay10, k0_pay5]
  simp only [T.x, T.gate, T.ylat, ← EReal.coe_mul, ← EReal.coe_add, Args.X]

theorem Tile.ms (p : Fin 1024) : k0_pay11 v6 v10 v12 v14 v17 v21 (ix2 p 0) = ((Model.ms (A.X b (l p)) : ℝ) : EReal) := by
  pointwise [k0_pay11]
  simp only [T.X, ← EReal.coe_mul, coe_sum, c1024, eps_coe, coe_div (by norm_num : (1024 : ℝ) ≠ 0), ← EReal.coe_add, Model.ms]

theorem Tile.rs (p : Fin 1024) : k0_pay12 (k0_pay11 v6 v10 v12 v14 v17 v21) (ix2 p 0) = ((Model.rs (A.X b (l p)) : ℝ) : EReal) := by
  pointwise [k0_pay12]
  simp only [T.ms, coe_rsqrt (ms_pos _), Model.rs]

theorem Tile.xr (p q : Fin 1024) :
    k0_pay13 (k0_pay10 v6 v10 v12 v14 v17 v21) (k0_pay11 v6 v10 v12 v14 v17 v21) (ix2 p q) = ((Model.xr (A.X b (l p)) q : ℝ) : EReal) := by
  pointwise [k0_pay13]
  simp only [T.X, T.rs, ← EReal.coe_mul, Model.xr]

theorem Tile.er (p q : Fin 1024) :
    k0_pay14 (k0_pay6 v8) (k0_pay10 v6 v10 v12 v14 v17 v21) (k0_pay11 v6 v10 v12 v14 v17 v21) v38 (ix2 p q)
      = ((A.Er b (l p) q : ℝ) : EReal) := by
  pointwise [k0_pay14, k0_pay6]
  simp only [T.xr, T.g, T.t, ← EReal.coe_mul, ← EReal.coe_sub, Args.Er, Model.er]

theorem Tile.dout (p q : Fin 1024) :
    k0_pay16 (k0_pay6 v8) (k0_pay10 v6 v10 v12 v14 v17 v21) (k0_pay11 v6 v10 v12 v14 v17 v21) v38 (ix2 p q)
      = ((A.Dout b (l p) q : ℝ) : EReal) := by
  pointwise [k0_pay16]
  simp only [T.er, cinv1024, ← EReal.coe_mul, Args.Dout, Args.Er, Model.dout]

theorem Tile.scale (q : Fin 1024) : k0_pay6 v8 (ix2 0 q) = ((A.g q : ℝ) : EReal) := by
  pointwise [k0_pay6]
  exact T.g q

theorem Tile.DX (p q : Fin 1024) :
    k0_pay18 (k0_pay6 v8) (k0_pay10 v6 v10 v12 v14 v17 v21) (k0_pay11 v6 v10 v12 v14 v17 v21) v38 (ix2 p q)
      = ((A.DX b (l p) q : ℝ) : EReal) := by
  pointwise [k0_pay18]
  simp only [T.dout, T.xr, T.rs, T.scale, ← EReal.coe_mul, coe_sum, c1024, coe_div (by norm_num : (1024 : ℝ) ≠ 0), ← EReal.coe_sub,
    Args.DX, Args.Dout, Model.dx, Model.gd]

theorem Tile.DXout (p q : Fin 1024) :
    k0_pay19 (k0_pay6 v8) (k0_pay10 v6 v10 v12 v14 v17 v21) (k0_pay11 v6 v10 v12 v14 v17 v21) v38 (ix3 0 p q)
      = ((A.DX b (l p) q : ℝ) : EReal) := by
  pointwise [k0_pay19]
  exact T.DX p q

theorem Tile.DYL (p q : Fin 1024) :
    k0_pay21 (k0_pay5 v6) (k0_pay18 (k0_pay6 v8) (k0_pay10 v6 v10 v12 v14 v17 v21) (k0_pay11 v6 v10 v12 v14 v17 v21) v38) (ix2 p q)
      = ((A.DYL b (l p) q : ℝ) : EReal) := by
  pointwise [k0_pay21, k0_pay5]
  simp only [T.gate, T.DX, ← EReal.coe_mul, Args.DYL]

theorem Tile.dyn (p : Fin 1024) (k : Fin 512) :
    k0_pay22 (k0_pay5 v6) (k0_pay18 (k0_pay6 v8) (k0_pay10 v6 v10 v12 v14 v17 v21) (k0_pay11 v6 v10 v12 v14 v17 v21) v38) v14 (ix3 0 p k)
      = ((A.dy b (l p) ⟨k.val, by omega⟩ : ℝ) : EReal) := by
  pointwise [k0_pay22]
  simp only [T.wn, T.DYL, ← EReal.coe_mul, coe_sum, Args.dy]

theorem Tile.dyr (p : Fin 1024) (k : Fin 512) :
    k0_pay23 (k0_pay5 v6) (k0_pay18 (k0_pay6 v8) (k0_pay10 v6 v10 v12 v14 v17 v21) (k0_pay11 v6 v10 v12 v14 v17 v21) v38) v17 (ix3 0 p k)
      = ((A.dy b (l p) ⟨512 + k.val, by omega⟩ : ℝ) : EReal) := by
  pointwise [k0_pay23]
  simp only [T.wr, T.DYL, ← EReal.coe_mul, coe_sum, Args.dy]

theorem Tile.dWn (old : Vec Ideal S512x1024 .f32) (k : Fin 512) (q : Fin 1024) :
    k0_pay24 (k0_pay5 v6) (k0_pay7 v10)
        (k0_pay18 (k0_pay6 v8) (k0_pay10 v6 v10 v12 v14 v17 v21) (k0_pay11 v6 v10 v12 v14 v17 v21) v38) old (ix2 k q)
      = old (ix2 k q) + ((∑ p, A.yn b (l p) k * A.DYL b (l p) q : ℝ) : EReal) := by
  pointwise [k0_pay24, k0_pay7]
  simp only [T.yn, T.DYL, ← EReal.coe_mul, coe_sum]

theorem Tile.dWr (old : Vec Ideal S512x1024 .f32) (k : Fin 512) (q : Fin 1024) :
    k0_pay1 (k0_pay8 v12) (k0_pay21 (k0_pay5 v6)
        (k0_pay18 (k0_pay6 v8) (k0_pay10 v6 v10 v12 v14 v17 v21) (k0_pay11 v6 v10 v12 v14 v17 v21) v38)) old (ix2 k q)
      = old (ix2 k q) + ((∑ p, A.yr b (l p) k * A.DYL b (l p) q : ℝ) : EReal) := by
  pointwise [k0_pay1, k0_pay8]
  simp only [T.yr, T.DYL, ← EReal.coe_mul, coe_sum]

theorem Tile.sumsq (old : Vec Ideal S1x1024 .f32) (q : Fin 1024) :
    k0_pay15 (k0_pay6 v8) (k0_pay10 v6 v10 v12 v14 v17 v21) (k0_pay11 v6 v10 v12 v14 v17 v21) v38 old (ix2 0 q)
      = old (ix2 0 q) + ((∑ p, A.Er b (l p) q * A.Er b (l p) q : ℝ) : EReal) := by
  pointwise [k0_pay15]
  simp only [T.er, ← EReal.coe_mul, coe_sum]

theorem Tile.sumg (old : Vec Ideal S1x1024 .f32) (q : Fin 1024) :
    k0_pay17 (k0_pay6 v8) (k0_pay10 v6 v10 v12 v14 v17 v21) (k0_pay11 v6 v10 v12 v14 v17 v21) v38 old (ix2 0 q)
      = old (ix2 0 q) + ((∑ p, A.Dout b (l p) q * Model.xr (A.X b (l p)) q : ℝ) : EReal) := by
  pointwise [k0_pay17]
  simp only [T.dout, T.xr, ← EReal.coe_mul, coe_sum]

theorem Tile.sumgate (old : Vec Ideal S1x1024 .f32) (q : Fin 1024) :
    k0_pay20 (k0_pay9 v10 v12 v14 v17)
        (k0_pay18 (k0_pay6 v8) (k0_pay10 v6 v10 v12 v14 v17 v21) (k0_pay11 v6 v10 v12 v14 v17 v21) v38) old (ix2 0 q)
      = old (ix2 0 q) + ((∑ p, A.DX b (l p) q * A.ylat b (l p) q : ℝ) : EReal) := by
  pointwise [k0_pay20]
  simp only [T.DX, T.ylat, ← EReal.coe_mul, coe_sum]

end Cert.KernelIdeal.Value
end
-- ==== Proof.KerBlk.lean ====
/- What the tile at each grid point loads, from the arguments of the program. -/
module

public import proofs.«01_k».proof.Proof.KerTile

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Model

theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0]
    ∧ win0_4.index t = ![0, 0] ∧ win0_5.index t = ![0, 0] ∧ win0_6.index t = ![0, 0]
    ∧ win0_7.index t = ![t.val / 2, t.val % 2, 0] ∧ win0_8.index t = ![t.val / 2, t.val % 2, 0] :=
  (by decide +kernel : ∀ t : Fin grid0.N, _)

theorem off1 : ∀ t : Fin cfg0.N, k0_off1 (grid0.coords t) = ![t.val / 2, 2048] := (by decide +kernel : ∀ t : Fin grid0.N, _)
theorem off2 : ∀ t : Fin cfg0.N, k0_off2 (grid0.coords t) = ![2 + t.val / 2, 0] := (by decide +kernel : ∀ t : Fin grid0.N, _)

theorem ltN (t : Fin cfg0.N) : t.val < 4 := lt_of_lt_of_eq t.isLt N_0

/-- The sample of a grid point, and the token of a row of its tile. -/
def bOf (t : Fin cfg0.N) : Fin 2 := ⟨t.val / 2, by have := ltN t; omega⟩
def lOf (t : Fin cfg0.N) (p : Fin 1024) : Fin 2048 := ⟨t.val % 2 * 1024 + p.val, by omega⟩

variable (m : (ℓ : Loc nD τ sig) → Buf (Elt Ideal) ℓ) (c : Dev nD)

theorem blk0 (t : Fin cfg0.N) (p : Fin 1024) (k : Fin 512) :
    iblk m c 0 t (ix3 0 p k) = m ((c : Thread nD τ).loc main_arg0) (ix3 (bOf t) (lOf t p) k) := by
  blk_point [iblk, V, idx t, bOf, lOf]
theorem blk1 (t : Fin cfg0.N) (p : Fin 1024) (k : Fin 512) :
    iblk m c 1 t (ix3 0 p k) = m ((c : Thread nD τ).loc main_arg1) (ix3 (bOf t) (lOf t p) k) := by
  blk_point [iblk, V, idx t, bOf, lOf]
theorem blk2 (t : Fin cfg0.N) (p k : Fin 1024) :
    iblk m c 2 t (ix3 0 p k) = m ((c : Thread nD τ).loc main_arg2) (ix3 (bOf t) (lOf t p) k) := by
  blk_point [iblk, V, idx t, bOf, lOf]
theorem blk3 (t : Fin cfg0.N) (p k : Fin 1024) :
    iblk m c 3 t (ix3 0 p k) = m ((c : Thread nD τ).loc main_arg3) (ix3 (bOf t) (lOf t p) k) := by
  blk_point [iblk, V, idx t, bOf, lOf]
theorem blk5 (t : Fin cfg0.N) (k : Fin 1024) :
    iblk m c 5 t (ix2 0 k) = m ((c : Thread nD τ).loc main_arg5) (ix1 k) := by
  blk_point [iblk, V, idx t]
theorem blk6 (t : Fin cfg0.N) (k q : Fin 1024) :
    iblk m c 6 t (ix2 k q) = m ((c : Thread nD τ).loc main_arg6) (ix3 0 k q) := by
  blk_point [iblk, V, idx t]
theorem blk4 (t : Fin cfg0.N) (r : Fin 8) (k : Fin 3072) :
    iblk m c 4 t (ix2 r k) = if h : r.val < 2 then m ((c : Thread nD τ).loc main_arg4) (ix2 ⟨r.val, h⟩ k) else (0 : EReal) := by
  have e : iblk m c 4 t (ix2 r k) = V m c main_v1 (ix2 r k) := by
    rw [iblk]
    blk_ext! [idx t]
  refine e.trans ?_
  entry_read
  pointwise

variable {A : Args}

theorem tile (H : Holds A (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))) (t : Fin cfg0.N)
    (h1 : ∀ a, k0_off1 (grid0.coords t) a + ![1, 1024] a ≤ S8x3072.size a)
    (h2 : ∀ a, ![0, 0] a + ![512, 1024] a ≤ S1024x1024.size a)
    (h3 : ∀ a, ![512, 0] a + ![512, 1024] a ≤ S1024x1024.size a) :
    Tile A (bOf t) (lOf t) (View.ld (iblk m c 4 t) (Rect.unit (k0_off1 (grid0.coords t)) ![1, 1024] h1))
      (iblk m c 5 t) (iblk m c 0 t) (iblk m c 1 t) (View.ld (iblk m c 6 t) (Rect.unit ![0, 0] ![512, 1024] h2))
      (View.ld (iblk m c 6 t) (Rect.unit ![512, 0] ![512, 1024] h3)) (iblk m c 2 t) (iblk m c 3 t) where
  gate q := by
    have e : View.ld (iblk m c 4 t) (Rect.unit (k0_off1 (grid0.coords t)) ![1, 1024] h1) (ix2 0 q)
        = iblk m c 4 t (ix2 ⟨t.val / 2, by have := ltN t; omega⟩ ⟨2048 + q.val, by omega⟩) := by
      refine View.ld_unit_apply_of _ _ _ _ _ _ fun a => ?_
      match a with
      | ⟨0, _⟩ => exact (congrFun (off1 t) 0).symm
      | ⟨1, _⟩ => exact congrArg (· + q.val) (congrFun (off1 t) 1).symm
    refine e.trans ?_
    rw [blk4, dif_pos (show t.val / 2 < 2 by have := ltN t; omega)]
    exact H.mod (bOf t) _
  g q := (blk5 m c t q).trans (H.g q)
  yn p k := (blk0 m c t p k).trans (H.yn _ _ _)
  yr p k := (blk1 m c t p k).trans (H.yr _ _ _)
  wn k q := by
    have e : View.ld (iblk m c 6 t) (Rect.unit ![0, 0] ![512, 1024] h2) (ix2 k q) = iblk m c 6 t (ix2 ⟨k.val, by omega⟩ q) := by
      refine View.ld_unit_apply_of _ _ _ _ _ _ fun a => ?_
      match a with
      | ⟨0, _⟩ => first | rfl | exact (Nat.zero_add _).symm
      | ⟨1, _⟩ => exact (Nat.zero_add _).symm
    exact e.trans ((blk6 m c t _ q).trans (H.w _ _))
  wr k q := by
    have e : View.ld (iblk m c 6 t) (Rect.unit ![512, 0] ![512, 1024] h3) (ix2 k q) = iblk m c 6 t (ix2 ⟨512 + k.val, by omega⟩ q) := by
      refine View.ld_unit_apply_of _ _ _ _ _ _ fun a => ?_
      match a with
      | ⟨0, _⟩ => first | rfl | exact (Nat.zero_add _).symm
      | ⟨1, _⟩ => exact (Nat.zero_add _).symm
    exact e.trans ((blk6 m c t _ q).trans (H.w _ _))
  x p q := (blk2 m c t p q).trans (H.x _ _ _)
  t p q := (blk3 m c t p q).trans (H.t _ _ _)

end Cert.KernelIdeal.Value
end
-- ==== Proof.KerOut.lean ====
/- What the kernel holds after each grid point: its two tiled outputs, the projection's gradient it accumulates, and the
   small sums it accumulates row by row. -/
module

public import proofs.«01_k».proof.Proof.KerBlk

@[expose] public section

set_option maxRecDepth 16384

noncomputable section

/-! ## Sums over the tokens, point by point -/

namespace Cert.Model

/-- The part of a sum over all tokens that one grid point's tile contributes. -/
def tileSum (G : Fin 2 → Fin 2048 → ℝ) (n : ℕ) : ℝ :=
  if h : n < 4 then ∑ p : Fin 1024, G ⟨n / 2, by omega⟩ ⟨n % 2 * 1024 + p.val, by omega⟩ else 0

/-- The part the points up to `n` contribute. -/
def partSum (G : Fin 2 → Fin 2048 → ℝ) : ℕ → ℝ
  | 0 => tileSum G 0
  | n + 1 => partSum G n + tileSum G (n + 1)

theorem partSum_last (G : Fin 2 → Fin 2048 → ℝ) : partSum G 3 = ∑ b, ∑ l, G b l := by
  have h : ∀ f : Fin 2048 → ℝ, ∑ l, f l
      = ∑ p : Fin 1024, f ⟨p.val, by omega⟩ + ∑ p : Fin 1024, f ⟨1024 + p.val, by omega⟩ := fun f => by
    rw [show (∑ l, f l) = ∑ l : Fin (1024 + 1024), f l from rfl, Fin.sum_univ_add]; rfl
  rw [Fin.sum_univ_two, h, h]
  simp only [partSum, tileSum, Nat.reduceLT, ↓reduceDIte, Nat.zero_div, Nat.zero_mod, Nat.zero_mul, Nat.zero_add, Nat.one_mul,
    Nat.reduceAdd, Nat.reduceDiv, Nat.reduceMod]
  rw [← add_assoc]; rfl

namespace Args

variable (A : Args)

/-- The term a token contributes to row `r` of the small sums. -/
def gsm (r : Fin 8) (q : Fin 1024) (b : Fin 2) (l : Fin 2048) : ℝ :=
  if r.val = 0 then A.Dout b l q * xr (A.X b l) q else if r.val = 1 then A.Er b l q * A.Er b l q
  else if r.val = 2 + b.val then A.DX b l q * A.ylat b l q else 0

theorem sm_eq (r : Fin 8) (q : Fin 1024) : A.sm r q = ∑ b, ∑ l, A.gsm r q b l := by
  unfold sm gsm
  by_cases h0 : r.val = 0
  · simp only [h0, ↓reduceIte, sg]
  by_cases h1 : r.val = 1
  · simp only [h1, ↓reduceIte, one_ne_zero, ssq]
  simp only [h0, h1, ↓reduceIte]
  by_cases h2 : r.val - 2 < 2
  · rw [dif_pos h2, Fin.sum_univ_two]
    have hc : r.val = 2 ∨ r.val = 3 := by omega
    rcases hc with hc | hc
    · have e : (⟨r.val - 2, h2⟩ : Fin 2) = 0 := Fin.ext (by show r.val - 2 = 0; omega)
      rw [e]
      simp [hc, sgate]
    · have e : (⟨r.val - 2, h2⟩ : Fin 2) = 1 := Fin.ext (by show r.val - 2 = 1; omega)
      rw [e]
      simp [hc, sgate]
  · rw [dif_neg h2]
    refine (Finset.sum_eq_zero fun b _ => Finset.sum_eq_zero fun l _ => if_neg (by omega)).symm

end Args

end Cert.Model

namespace Cert.KernelIdeal.Value

open Cert.KernelIdeal Cert.KernelIdeal.Gen Idealize.ShloMosaic Idealize.ShloMosaic.TcCoe Idealize.SL.Sem
open Idealize.ShloMosaic.Pipeline (Dat)
open Cert.Model

theorem tileSum_at (G : Fin 2 → Fin 2048 → ℝ) (t : Fin cfg0.N) : tileSum G t.val = ∑ p : Fin 1024, G (bOf t) (lOf t p) := by
  unfold tileSum; rw [dif_pos (ltN t)]; rfl

variable (m : (ℓ : Loc nD τ sig) → Buf (Elt Ideal) ℓ) (c : Dev nD) {A : Args}

/-- The program's arguments are the real arrays `A`. -/
abbrev Hold (A : Args) : Prop :=
  Holds A (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))

variable (H : Hold m c A)

/-! ## The tiled outputs -/

include H in
theorem out8 (t : Fin cfg0.N) (p q : Fin 1024) :
    (outsAt0 m c t.val t.isLt).2.1 (ix3 0 p q) = ((A.DX (bOf t) (lOf t p) q : ℝ) : EReal) := by
  by_cases h0 : t.val % 4 = 0
  · rw [outsAt0_A m c t h0 (by omega)]
    frame_out
    exact (tile m c H t _ _ _).DXout p q
  by_cases h1 : t.val % 4 = 3
  · rw [outsAt0_C m c t h0 h1]
    frame_out
    exact (tile m c H t _ _ _).DXout p q
  · rw [outsAt0_B m c t h0 h1]
    frame_out
    exact (tile m c H t _ _ _).DXout p q

/-- Two stores of half the columns each, read as one tile. -/
theorem halves (w1 w0 : Vec Ideal S1x1024x512 .bf16) (f : Fin 1024 → ℝ) (p k : Fin 1024)
    (e1 : ∀ k : Fin 512, w1 (ix3 0 p k) = ((f ⟨512 + k.val, by omega⟩ : ℝ) : EReal))
    (e0 : ∀ k : Fin 512, w0 (ix3 0 p k) = ((f ⟨k.val, by omega⟩ : ℝ) : EReal)) :
    View.canon (Val := Elt Ideal) (s := S1x1024x1024) (e := .bf16)
      [⟨Rect.unit ![0, 0, 512] ![1, 1024, 512] inb_S1x1024x1024_S1x1024x512_0_0_512, w1⟩,
       ⟨Rect.unit ![0, 0, 0] ![1, 1024, 512] inb_S1x1024x1024_S1x1024x512_0_0_0, w0⟩] (ix3 0 p k)
      = ((f k : ℝ) : EReal) := by
  canon_tiles x h
  · have e : x = ix3 0 p ⟨k.val - 512, by have : k.val = 512 + (x 2).val := h2; omega⟩ := by
      funext a; match a with
      | 0 => exact Fin.ext (by have : (x 0).val < 1 := x0_lt; show (x 0).val = 0; omega)
      | 1 => exact Fin.ext h1.symm
      | 2 => exact Fin.ext (by have : k.val = 512 + (x 2).val := h2; show (x 2).val = k.val - 512; omega)
    rw [e, e1]; congr 2; exact Fin.ext (by have : k.val = 512 + (x 2).val := h2; show 512 + (k.val - 512) = k.val; omega)
  · have e : x = ix3 0 p ⟨k.val, by have : k.val = (x 2).val := h2; omega⟩ := by
      funext a; match a with
      | 0 => exact Fin.ext (by have : (x 0).val < 1 := x0_lt; show (x 0).val = 0; omega)
      | 1 => exact Fin.ext h1.symm
      | 2 => exact Fin.ext h2.symm
    rw [e, e0]

include H in
theorem out7 (t : Fin cfg0.N) (p k : Fin 1024) :
    (outsAt0 m c t.val t.isLt).1 (ix3 0 p k) = ((A.dy (bOf t) (lOf t p) k : ℝ) : EReal) := by
  by_cases h0 : t.val % 4 = 0
  · rw [outsAt0_A m c t h0 (by omega)]
    frame_out
    refine halves _ _ (A.dy (bOf t) (lOf t p)) p k (fun k => ?_) fun k => ?_
    · exact (tile m c H t _ _ _).dyr p k
    · exact (tile m c H t _ _ _).dyn p k
  by_cases h1 : t.val % 4 = 3
  · rw [outsAt0_C m c t h0 h1]
    frame_out
    refine halves _ _ (A.dy (bOf t) (lOf t p)) p k (fun k => ?_) fun k => ?_
    · exact (tile m c H t _ _ _).dyr p k
    · exact (tile m c H t _ _ _).dyn p k
  · rw [outsAt0_B m c t h0 h1]
    frame_out
    refine halves _ _ (A.dy (bOf t) (lOf t p)) p k (fun k => ?_) fun k => ?_
    · exact (tile m c H t _ _ _).dyr p k
    · exact (tile m c H t _ _ _).dyn p k

end Cert.KernelIdeal.Value
end
-- ==== Proof.KerAcc.lean ====
/- What the kernel has accumulated after each grid point. -/
module

public import proofs.«01_k».proof.Proof.KerOut
public import Idealize.ShloMosaic.Lib.WritesUnit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Model

variable (m : (ℓ : Loc nD τ sig) → Buf (Elt Ideal) ℓ) (c : Dev nD) {A : Args} (H : Hold m c A)

/-! ## The small sums: rows 0, 1 and one row of the batch -/

/-- One row of a load. -/
theorem ld_row (P : Vec Ideal S8x1024 .f32) {off : Fin 2 → ℕ} (inb : ∀ a, off a + ![1, 1024] a ≤ S8x1024.size a) (r : Fin 8)
    (hoff : off = ![r.val, 0]) (q : Fin 1024) : View.ld P (Rect.unit off ![1, 1024] inb) (ix2 0 q) = P (ix2 r q) := by
  subst hoff
  refine View.ld_unit_apply_of _ _ _ _ _ _ fun a => ?_
  match a with
  | 0 => rfl
  | 1 => exact (Nat.zero_add _).symm

section Rows

variable {sg' : RefSig} {κ : Kind} {sp : Space} (v : View sg' κ sp S8x1024 .f32) (f : v.ty.Contents (Elt Ideal))
  {o : ℕ} (off : Fin 2 → ℕ) (inb : ∀ a, off a + ![1, 1024] a ≤ S8x1024.size a)
  (w2 w0 w1 : Vec Ideal S1x1024 .f32) (L : List (View.Piece (Elt Ideal) S8x1024 .f32))

theorem row_hit (w : Vec Ideal S1x1024 .f32) (r : Fin 8) (q : Fin 1024) (hoff : off = ![r.val, 0]) :
    v.read (Elt Ideal) (v.writes (Elt Ideal) f (⟨Rect.unit off ![1, 1024] inb, w⟩ :: L)) (ix2 r q) = w (ix2 0 q) :=
  View.read_writes_cons_rows_of_mem v f inb w L (ix2 r q) (ix2 0 q) hoff rfl rfl

theorem row_miss (w : Vec Ideal S1x1024 .f32) (r : Fin 8) (q : Fin 1024) (o : ℕ) (hoff : off = ![o, 0]) (h : r.val < o ∨ o + 1 ≤ r.val) :
    v.read (Elt Ideal) (v.writes (Elt Ideal) f (⟨Rect.unit off ![1, 1024] inb, w⟩ :: L)) (ix2 r q)
      = v.read (Elt Ideal) (v.writes (Elt Ideal) f L) (ix2 r q) :=
  View.read_writes_cons_rows_of_not_mem v f inb w L (ix2 r q) hoff rfl h

theorem rows_below (r : Fin 8) (q : Fin 1024) (hr : 2 ≤ r.val) :
    v.read (Elt Ideal) (v.writes (Elt Ideal) f (⟨Rect.unit ![0, 0] ![1, 1024] inb_S8x1024_S1x1024_0_0, w0⟩ :: ⟨Rect.unit ![1, 0] ![1, 1024] inb_S8x1024_S1x1024_1_0, w1⟩ :: L)) (ix2 r q)
      = v.read (Elt Ideal) (v.writes (Elt Ideal) f L) (ix2 r q) :=
  (row_miss v f _ _ _ w0 r q 0 rfl (Or.inr (by omega))).trans (row_miss v f _ _ L w1 r q 1 rfl (Or.inr (by omega)))

/-- The three row stores of one grid point, over sums `s`, leave the sums with the point's terms added. -/
theorem rows_step (t : Fin cfg0.N) (hoff : off = ![2 + t.val / 2, 0]) (s : Fin 8 → Fin 1024 → ℝ)
    (hL : ∀ r q, v.read (Elt Ideal) (v.writes (Elt Ideal) f L) (ix2 r q) = ((s r q : ℝ) : EReal))
    (e0 : ∀ q, w0 (ix2 0 q) = ((s 0 q : ℝ) : EReal)
      + ((∑ p, A.Dout (bOf t) (lOf t p) q * Model.xr (A.X (bOf t) (lOf t p)) q : ℝ) : EReal))
    (e1 : ∀ q, w1 (ix2 0 q) = ((s 1 q : ℝ) : EReal)
      + ((∑ p, A.Er (bOf t) (lOf t p) q * A.Er (bOf t) (lOf t p) q : ℝ) : EReal))
    (e2 : ∀ q, w2 (ix2 0 q) = ((s ⟨2 + t.val / 2, by have := ltN t; omega⟩ q : ℝ) : EReal)
      + ((∑ p, A.DX (bOf t) (lOf t p) q * A.ylat (bOf t) (lOf t p) q : ℝ) : EReal))
    (r : Fin 8) (q : Fin 1024) :
    v.read (Elt Ideal) (v.writes (Elt Ideal) f (⟨Rect.unit off ![1, 1024] inb, w2⟩ :: ⟨Rect.unit ![0, 0] ![1, 1024] inb_S8x1024_S1x1024_0_0, w0⟩ :: ⟨Rect.unit ![1, 0] ![1, 1024] inb_S8x1024_S1x1024_1_0, w1⟩ :: L)) (ix2 r q)
      = ((s r q + tileSum (A.gsm r q) t.val : ℝ) : EReal) := by
  have ht := ltN t
  rw [tileSum_at]
  by_cases hr : r.val = 2 + t.val / 2
  · refine (row_hit v f off inb _ w2 r q (by rw [hoff, hr])).trans ((e2 q).trans ?_)
    rw [← EReal.coe_add, show (⟨2 + t.val / 2, by omega⟩ : Fin 8) = r from Fin.ext hr.symm]
    refine congrArg _ (congrArg _ (Finset.sum_congr rfl fun p _ => ?_))
    unfold Args.gsm
    rw [if_neg (show ¬ r.val = 0 by omega), if_neg (show ¬ r.val = 1 by omega)]
    exact (if_pos (show r.val = 2 + (bOf t).val from hr)).symm
  refine (row_miss v f off inb _ w2 r q _ hoff (by omega)).trans ?_
  by_cases h0 : r.val = 0
  · refine (row_hit v f _ _ _ w0 r q (by rw [h0])).trans ((e0 q).trans ?_)
    rw [← EReal.coe_add, show (0 : Fin 8) = r from Fin.ext h0.symm]
    refine congrArg _ (congrArg _ (Finset.sum_congr rfl fun p _ => ?_))
    unfold Args.gsm
    exact (if_pos h0).symm
  by_cases h1 : r.val = 1
  · refine (row_miss v f _ _ _ w0 r q 0 rfl (by omega)).trans ((row_hit v f _ _ _ w1 r q (by rw [h1])).trans ((e1 q).trans ?_))
    rw [← EReal.coe_add, show (1 : Fin 8) = r from Fin.ext h1.symm]
    refine congrArg _ (congrArg _ (Finset.sum_congr rfl fun p _ => ?_))
    unfold Args.gsm
    rw [if_neg h0]
    exact (if_pos h1).symm
  · refine (rows_below v f w0 w1 L r q (by omega)).trans ((hL r q).trans (congrArg _ ?_))
    rw [Finset.sum_eq_zero, add_zero]
    intro p _
    unfold Args.gsm
    rw [if_neg h0, if_neg h1, if_neg]
    exact hr

/-- The same where each stored row is a function of the row it loads. -/
theorem rows_step' (t : Fin cfg0.N) (hoff : off = ![2 + t.val / 2, 0]) (s : Fin 8 → Fin 1024 → ℝ)
    (hL : ∀ r q, v.read (Elt Ideal) (v.writes (Elt Ideal) v.junk L) (ix2 r q) = ((s r q : ℝ) : EReal))
    (g0 g1 g2 : Vec Ideal S1x1024 .f32 → Vec Ideal S1x1024 .f32)
    (e0 : ∀ old q, g0 old (ix2 0 q) = old (ix2 0 q)
      + ((∑ p, A.Dout (bOf t) (lOf t p) q * Model.xr (A.X (bOf t) (lOf t p)) q : ℝ) : EReal))
    (e1 : ∀ old q, g1 old (ix2 0 q) = old (ix2 0 q)
      + ((∑ p, A.Er (bOf t) (lOf t p) q * A.Er (bOf t) (lOf t p) q : ℝ) : EReal))
    (e2 : ∀ old q, g2 old (ix2 0 q) = old (ix2 0 q)
      + ((∑ p, A.DX (bOf t) (lOf t p) q * A.ylat (bOf t) (lOf t p) q : ℝ) : EReal))
    (h1 : w1 = g1 (v.readCov L (Rect.toLoadRect (s := S8x1024) (Rect.unit (s := S8x1024) ![1, 0] ![1, 1024] inb_S8x1024_S1x1024_1_0))))
    (h0 : w0 = g0 (v.readCov (⟨Rect.unit ![1, 0] ![1, 1024] inb_S8x1024_S1x1024_1_0, w1⟩ :: L)
      (Rect.toLoadRect (s := S8x1024) (Rect.unit (s := S8x1024) ![0, 0] ![1, 1024] inb_S8x1024_S1x1024_0_0))))
    (h2 : w2 = g2 (View.ld (View.canon (⟨Rect.unit ![0, 0] ![1, 1024] inb_S8x1024_S1x1024_0_0, w0⟩ :: ⟨Rect.unit ![1, 0] ![1, 1024] inb_S8x1024_S1x1024_1_0, w1⟩ :: L))
      (Rect.unit off ![1, 1024] inb)))
    (r : Fin 8) (q : Fin 1024) :
    View.canon (⟨Rect.unit off ![1, 1024] inb, w2⟩ :: ⟨Rect.unit ![0, 0] ![1, 1024] inb_S8x1024_S1x1024_0_0, w0⟩ :: ⟨Rect.unit ![1, 0] ![1, 1024] inb_S8x1024_S1x1024_1_0, w1⟩ :: L) (ix2 r q)
      = ((s r q + tileSum (A.gsm r q) t.val : ℝ) : EReal) := by
  rw [← View.read_writes_junk_apply_eq_canon v]
  rw [← View.read_writes_junk_eq_canon v] at h2
  refine rows_step v v.junk off inb w2 w0 w1 L t hoff s hL (fun q => ?_) (fun q => ?_) (fun q => ?_) r q
  · rw [h0, e0]
    exact congrArg (· + _) ((ld_row _ inb_S8x1024_S1x1024_0_0 0 rfl q).trans
      ((row_miss v v.junk _ _ L w1 0 q 1 rfl (Or.inl Nat.zero_lt_one)).trans (hL 0 q)))
  · rw [h1, e1]
    exact congrArg (· + _) ((ld_row _ inb_S8x1024_S1x1024_1_0 1 rfl q).trans (hL 1 q))
  · rw [h2, e2, ld_row _ _ ⟨2 + t.val / 2, by have := ltN t; omega⟩ hoff, rows_below v v.junk w0 w1 L _ q (Nat.le_add_right 2 _), hL]

end Rows

theorem zeroed (r : Fin 8) (q : Fin 1024) : k0_pay4 (F := Idealize.ShloMosaic.Ideal) (ix2 r q) = ((0 : ℝ) : EReal) := by
  pointwise [k0_pay4]
  exact EReal.coe_zero.symm

set_option maxHeartbeats 1000000 in
include H in
theorem out10 : ∀ (n : ℕ) (h : n < cfg0.N) (r : Fin 8) (q : Fin 1024),
    (outsAt0 m c n h).2.2.2.1 (ix2 r q) = ((partSum (A.gsm r q) n : ℝ) : EReal) := by
  intro n
  induction n with
  | zero =>
    intro h r q
    have e := tile m c H ⟨0, h⟩
    rw [outsAt0_A m c ⟨0, h⟩ rfl (by show ¬ 0 % 4 = 3; omega)]
    frame_out
    obtain ⟨Z, hZ⟩ : ∃ Z : Fin 8 → Fin 1024 → ℝ, ∀ r q, Z r q = 0 := ⟨fun _ _ => 0, fun _ _ => rfl⟩
    have z : ∀ r q, View.read (Elt Ideal) (ms0_10 ⟨0, h⟩).view ((ms0_10 ⟨0, h⟩).view.writes (Elt Ideal) (ms0_10 ⟨0, h⟩).view.junk
        [⟨Rect.unit ![0, 0] ![8, 1024] inb_S8x1024_S8x1024_0_0, k0_pay4 (F := Idealize.ShloMosaic.Ideal)⟩]) (ix2 r q) = ((Z r q : ℝ) : EReal) := fun r q => by
      rw [hZ]
      exact (View.read_writes_cons_rows_of_mem (Val := Elt Ideal) (size := ![8, 1024]) (ms0_10 ⟨0, h⟩).view (ms0_10 ⟨0, h⟩).view.junk inb_S8x1024_S8x1024_0_0
        (k0_pay4 (F := Idealize.ShloMosaic.Ideal)) [] (ix2 r q) (ix2 r q) rfl (Nat.zero_add _).symm rfl).trans (zeroed r q)
    have T := e (k0_off1_inb _) inb_S1024x1024_S512x1024_0_0 inb_S1024x1024_S512x1024_512_0
    have e0 := T.sumg
    have e1 := T.sumsq
    have e2 := T.sumgate
    generalize k0_pay17 (F := Idealize.ShloMosaic.Ideal) _ _ _ _ = g0 at e0 ⊢
    generalize k0_pay15 (F := Idealize.ShloMosaic.Ideal) _ _ _ _ = g1 at e1 ⊢
    generalize k0_pay20 (F := Idealize.ShloMosaic.Ideal) _ _ = g2 at e2 ⊢
    refine (rows_step' (A := A) (ms0_10 ⟨0, h⟩).view _ _ _ _ _ _ ⟨0, h⟩ (off2 ⟨0, h⟩) Z z g0 g1 g2 e0 e1 e2 rfl rfl rfl r q).trans ?_
    rw [hZ, zero_add]; rfl
  | succ n ih =>
    intro h r q
    have e := tile m c H ⟨n + 1, h⟩
    have hn : n + 1 < 4 := h
    have z : ∀ r q, View.read (Elt Ideal) (ms0_10 ⟨n + 1, h⟩).view ((ms0_10 ⟨n + 1, h⟩).view.writes (Elt Ideal)
        ((hs0_10 ⟨n + 1, h⟩).unread (outsAt0 m c n (by omega)).2.2.2.1) []) (ix2 r q) = ((partSum (A.gsm r q) n : ℝ) : EReal) := fun r q =>
      (congrFun (Memref.IsWhole.read_unread _ _) _).trans (ih _ r q)
    by_cases h1 : (n + 1) % 4 = 3
    · rw [outsAt0_C m c ⟨n + 1, h⟩ (show ¬ (n + 1) % 4 = 0 by omega) h1]
      frame_out
      refine (rows_step (A := A) (ms0_10 ⟨n + 1, h⟩).view _ _ _ _ _ _ _ ⟨n + 1, h⟩ (off2 ⟨n + 1, h⟩) (fun r q => partSum (A.gsm r q) n) z ?_ ?_ ?_ r q).trans ?_
      · intro q
        refine ((e _ _ _).sumg _ q).trans (congrArg (· + _) ?_)
        exact (ld_row _ inb_S8x1024_S1x1024_0_0 0 rfl q).trans (ih _ 0 q)
      · intro q
        refine ((e _ _ _).sumsq _ q).trans (congrArg (· + _) ?_)
        exact (ld_row _ inb_S8x1024_S1x1024_1_0 1 rfl q).trans (ih _ 1 q)
      · intro q
        refine ((e _ _ _).sumgate _ q).trans (congrArg (· + _) ?_)
        exact (ld_row _ _ ⟨2 + (n + 1) / 2, by omega⟩ (off2 ⟨n + 1, h⟩) q).trans ((rows_below _ _ _ _ _ _ q (Nat.le_add_right 2 _)).trans (z _ q))
      · rfl
    · rw [outsAt0_B m c ⟨n + 1, h⟩ (show ¬ (n + 1) % 4 = 0 by omega) h1]
      frame_out
      refine (rows_step (A := A) (ms0_10 ⟨n + 1, h⟩).view _ _ _ _ _ _ _ ⟨n + 1, h⟩ (off2 ⟨n + 1, h⟩) (fun r q => partSum (A.gsm r q) n) z ?_ ?_ ?_ r q).trans ?_
      · intro q
        refine ((e _ _ _).sumg _ q).trans (congrArg (· + _) ?_)
        exact (ld_row _ inb_S8x1024_S1x1024_0_0 0 rfl q).trans (ih _ 0 q)
      · intro q
        refine ((e _ _ _).sumsq _ q).trans (congrArg (· + _) ?_)
        exact (ld_row _ inb_S8x1024_S1x1024_1_0 1 rfl q).trans (ih _ 1 q)
      · intro q
        refine ((e _ _ _).sumgate _ q).trans (congrArg (· + _) ?_)
        exact (ld_row _ _ ⟨2 + (n + 1) / 2, by omega⟩ (off2 ⟨n + 1, h⟩) q).trans ((rows_below _ _ _ _ _ _ q (Nat.le_add_right 2 _)).trans (z _ q))
      · rfl

end Cert.KernelIdeal.Value
end
-- ==== Proof.KerFin.lean ====
/- The projection's gradient the kernel accumulates, and the four arrays it leaves. -/
module

public import proofs.«01_k».proof.Proof.KerAcc

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Model

variable (m : (ℓ : Loc nD τ sig) → Buf (Elt Ideal) ℓ) (c : Dev nD) {A : Args} (H : Hold m c A)

/-! ## The accumulated gradient: two halves of 512 rows -/

theorem ld_half (P : Vec Ideal S1024x1024 .f32) (o : ℕ) (inb : ∀ a, ![o, 0] a + ![512, 1024] a ≤ S1024x1024.size a)
    (k : Fin 512) (q : Fin 1024) (h : o + k.val < 1024) :
    View.ld P (Rect.unit ![o, 0] ![512, 1024] inb) (ix2 k q) = P (ix2 ⟨o + k.val, h⟩ q) := by
  refine View.ld_unit_apply_of _ _ _ _ _ _ fun a => ?_
  match a with
  | 0 => rfl
  | 1 => exact (Nat.zero_add _).symm

section Halves

variable {sg' : RefSig} {κ : Kind} {sp : Space} (v : View sg' κ sp S1024x1024 .f32)
  (w1 w0 : Vec Ideal S512x1024 .f32) (L : List (View.Piece (Elt Ideal) S1024x1024 .f32))

include v in
/-- The two stores of one grid point, over sums `s`, leave the sums with the point's terms added. -/
theorem halves_step (t : Fin cfg0.N) (s : Fin 1024 → Fin 1024 → ℝ)
    (e0 : ∀ (k : Fin 512) q, w0 (ix2 k q) = ((s ⟨k.val, by omega⟩ q : ℝ) : EReal)
      + ((∑ p, A.yn (bOf t) (lOf t p) k * A.DYL (bOf t) (lOf t p) q : ℝ) : EReal))
    (e1 : ∀ (k : Fin 512) q, w1 (ix2 k q) = ((s ⟨512 + k.val, by omega⟩ q : ℝ) : EReal)
      + ((∑ p, A.yr (bOf t) (lOf t p) k * A.DYL (bOf t) (lOf t p) q : ℝ) : EReal))
    (k q : Fin 1024) :
    View.canon (⟨Rect.unit ![512, 0] ![512, 1024] inb_S1024x1024_S512x1024_512_0, w1⟩ :: ⟨Rect.unit ![0, 0] ![512, 1024] inb_S1024x1024_S512x1024_0_0, w0⟩ :: L) (ix2 k q)
      = ((s k q + tileSum (fun b l => A.y b l k * A.DYL b l q) t.val : ℝ) : EReal) := by
  rw [tileSum_at, ← View.read_writes_junk_apply_eq_canon v]
  by_cases hk : k.val < 512
  · refine (View.read_writes_cons_rows_of_not_mem v v.junk _ w1 _ (ix2 k q) rfl rfl (Or.inl hk)).trans ?_
    refine (View.read_writes_cons_rows_of_mem v v.junk _ w0 _ (ix2 k q) (ix2 ⟨k.val, hk⟩ q) rfl (Nat.zero_add _).symm rfl).trans ?_
    rw [e0, ← EReal.coe_add]
    refine congrArg _ (congrArg _ (Finset.sum_congr rfl fun p _ => ?_))
    unfold Args.y
    rw [dif_pos hk]
  · have e : (⟨512 + (k.val - 512), by omega⟩ : Fin 1024) = k := Fin.ext (by show 512 + (k.val - 512) = k.val; omega)
    refine (View.read_writes_cons_rows_of_mem v v.junk _ w1 _ (ix2 k q) (ix2 ⟨k.val - 512, by omega⟩ q) rfl
      (show k.val = 512 + (k.val - 512) by omega) rfl).trans ?_
    rw [e1, ← EReal.coe_add, e]
    refine congrArg _ (congrArg _ (Finset.sum_congr rfl fun p _ => ?_))
    unfold Args.y
    rw [dif_neg hk]

variable (g0 g1 : Vec Ideal S512x1024 .f32 → Vec Ideal S512x1024 .f32)

include v in
theorem halves_first (t : Fin cfg0.N) (hL : ∀ k q, View.canon L (ix2 k q) = ((0 : ℝ) : EReal))
    (e0 : ∀ old k q, g0 old (ix2 k q) = old (ix2 k q) + ((∑ p, A.yn (bOf t) (lOf t p) k * A.DYL (bOf t) (lOf t p) q : ℝ) : EReal))
    (e1 : ∀ old k q, g1 old (ix2 k q) = old (ix2 k q) + ((∑ p, A.yr (bOf t) (lOf t p) k * A.DYL (bOf t) (lOf t p) q : ℝ) : EReal))
    (h0 : w0 = g0 (v.readCov L (Rect.toLoadRect (s := S1024x1024) (Rect.unit (s := S1024x1024) ![0, 0] ![512, 1024] inb_S1024x1024_S512x1024_0_0))))
    (h1 : w1 = g1 (v.readCov (⟨Rect.unit ![0, 0] ![512, 1024] inb_S1024x1024_S512x1024_0_0, w0⟩ :: L)
      (Rect.toLoadRect (s := S1024x1024) (Rect.unit (s := S1024x1024) ![512, 0] ![512, 1024] inb_S1024x1024_S512x1024_512_0))))
    (k q : Fin 1024) :
    View.canon (⟨Rect.unit ![512, 0] ![512, 1024] inb_S1024x1024_S512x1024_512_0, w1⟩ :: ⟨Rect.unit ![0, 0] ![512, 1024] inb_S1024x1024_S512x1024_0_0, w0⟩ :: L) (ix2 k q)
      = ((tileSum (fun b l => A.y b l k * A.DYL b l q) t.val : ℝ) : EReal) := by
  refine (halves_step v w1 w0 L t (fun _ _ => 0) (fun k q => ?_) (fun k q => ?_) k q).trans (by rw [zero_add])
  · rw [h0, e0]
    refine congrArg (· + _) ((ld_half (v.read (Elt Ideal) (v.writes (Elt Ideal) v.junk L)) 0 inb_S1024x1024_S512x1024_0_0 k q (by omega)).trans ?_)
    rw [View.read_writes_junk_apply_eq_canon, hL]
  · rw [h1, e1]
    refine congrArg (· + _) ((ld_half (v.read (Elt Ideal) (v.writes (Elt Ideal) v.junk _)) 512 inb_S1024x1024_S512x1024_512_0 k q (by omega)).trans ?_)
    refine (View.read_writes_cons_rows_of_not_mem v v.junk _ w0 _ (ix2 ⟨512 + k.val, by omega⟩ q) rfl rfl
      (Or.inr (show 0 + 512 ≤ 512 + k.val by omega))).trans ?_
    rw [View.read_writes_junk_apply_eq_canon, hL]

include v in
theorem halves_next (t : Fin cfg0.N) (s : Fin 1024 → Fin 1024 → ℝ) (P : Vec Ideal S1024x1024 .f32)
    (hP : ∀ k q, P (ix2 k q) = ((s k q : ℝ) : EReal))
    (e0 : ∀ old k q, g0 old (ix2 k q) = old (ix2 k q) + ((∑ p, A.yn (bOf t) (lOf t p) k * A.DYL (bOf t) (lOf t p) q : ℝ) : EReal))
    (e1 : ∀ old k q, g1 old (ix2 k q) = old (ix2 k q) + ((∑ p, A.yr (bOf t) (lOf t p) k * A.DYL (bOf t) (lOf t p) q : ℝ) : EReal))
    (k q : Fin 1024) :
    View.canon [⟨Rect.unit ![512, 0] ![512, 1024] inb_S1024x1024_S512x1024_512_0, g1 (View.ld P (Rect.unit ![512, 0] ![512, 1024] inb_S1024x1024_S512x1024_512_0))⟩,
        ⟨Rect.unit ![0, 0] ![512, 1024] inb_S1024x1024_S512x1024_0_0, g0 (View.ld P (Rect.unit ![0, 0] ![512, 1024] inb_S1024x1024_S512x1024_0_0))⟩] (ix2 k q)
      = ((s k q + tileSum (fun b l => A.y b l k * A.DYL b l q) t.val : ℝ) : EReal) := by
  refine halves_step v _ _ [] t s (fun k q => ?_) (fun k q => ?_) k q
  · rw [e0]
    refine congrArg (· + _) ((ld_half P 0 inb_S1024x1024_S512x1024_0_0 k q (by omega)).trans ((hP _ _).trans ?_))
    refine congrArg (fun i => ((s i q : ℝ) : EReal)) (Fin.ext (Nat.zero_add _))
  · rw [e1]
    exact congrArg (· + _) ((ld_half P 512 inb_S1024x1024_S512x1024_512_0 k q (by omega)).trans (hP _ _))

end Halves

/-- The sums the scratch holds after point `n`. -/
abbrev acc (A : Args) (k q : Fin 1024) (n : ℕ) : ℝ := partSum (fun b l => A.y b l k * A.DYL b l q) n

theorem zeroed' (k q : Fin 1024) : View.canon (Val := Elt Ideal) (s := S1024x1024) (e := .f32)
    [⟨Rect.unit ![0, 0] ![1024, 1024] inb_S1024x1024_S1024x1024_0_0, k0_pay3 (F := Idealize.ShloMosaic.Ideal)⟩] (ix2 k q)
      = ((0 : ℝ) : EReal) := by
  rw [← View.read_writes_junk_apply_eq_canon (View.whole cc0_scratch0)]
  refine (View.read_writes_cons_rows_of_mem (Val := Elt Ideal) (size := ![1024, 1024]) (View.whole cc0_scratch0)
    (View.whole cc0_scratch0).junk inb_S1024x1024_S1024x1024_0_0 (k0_pay3 (F := Idealize.ShloMosaic.Ideal)) [] (ix2 k q) (ix2 k q)
    rfl (Nat.zero_add _).symm rfl).trans ?_
  pointwise [k0_pay3]
  exact EReal.coe_zero.symm

include H in
theorem scratch : ∀ (n : ℕ) (h : n < cfg0.N) (k q : Fin 1024),
    (outsAt0 m c n h).2.2.2.2 (ix2 k q) = ((acc A k q n : ℝ) : EReal) := by
  intro n
  induction n with
  | zero =>
    intro h k q
    have T := tile m c H ⟨0, h⟩ (k0_off1_inb _) inb_S1024x1024_S512x1024_0_0 inb_S1024x1024_S512x1024_512_0
    have e0 := T.dWn
    have e1 := T.dWr
    rw [outsAt0_A m c ⟨0, h⟩ rfl (by show ¬ 0 % 4 = 3; omega)]
    frame_out
    generalize k0_pay24 (F := Idealize.ShloMosaic.Ideal) _ _ _ = g0 at e0 ⊢
    generalize k0_pay1 (F := Idealize.ShloMosaic.Ideal) _ _ = g1 at e1 ⊢
    exact halves_first (A := A) (View.whole cc0_scratch0) _ _ _ g0 g1 ⟨0, h⟩ zeroed' e0 e1 rfl rfl k q
  | succ n ih =>
    intro h k q
    have T := tile m c H ⟨n + 1, h⟩ (k0_off1_inb _) inb_S1024x1024_S512x1024_0_0 inb_S1024x1024_S512x1024_512_0
    have e0 := T.dWn
    have e1 := T.dWr
    have P := fun (hw : (Memref.whole cc0_scratch0).IsWhole) k q =>
      (congrFun (Memref.IsWhole.read_unread hw (outsAt0 m c n (by omega)).2.2.2.2) (ix2 k q)).trans (ih (by omega) k q)
    by_cases h1 : (n + 1) % 4 = 3
    · rw [outsAt0_C m c ⟨n + 1, h⟩ (show ¬ (n + 1) % 4 = 0 by have : n + 1 < 4 := h; omega) h1]
      frame_out
      generalize k0_pay24 (F := Idealize.ShloMosaic.Ideal) _ _ _ = g0 at e0 ⊢
      generalize k0_pay1 (F := Idealize.ShloMosaic.Ideal) _ _ = g1 at e1 ⊢
      exact halves_next (A := A) (View.whole cc0_scratch0) g0 g1 ⟨n + 1, h⟩ _ _ (P _) e0 e1 k q
    · rw [outsAt0_B m c ⟨n + 1, h⟩ (show ¬ (n + 1) % 4 = 0 by have : n + 1 < 4 := h; omega) h1]
      frame_out
      generalize k0_pay24 (F := Idealize.ShloMosaic.Ideal) _ _ _ = g0 at e0 ⊢
      generalize k0_pay1 (F := Idealize.ShloMosaic.Ideal) _ _ = g1 at e1 ⊢
      exact halves_next (A := A) (View.whole cc0_scratch0) g0 g1 ⟨n + 1, h⟩ _ _ (P _) e0 e1 k q

include H in
/-- At the last point the accumulated gradient is rounded out: what the scratch holds then. -/
theorem out9 (t : Fin cfg0.N) (ht : t.val = 3) (k q : Fin 1024) :
    (outsAt0 m c t.val t.isLt).2.2.1 (ix2 k q) = ((A.dW k q : ℝ) : EReal) := by
  have e : ((A.dW k q : ℝ) : EReal) = (outsAt0 m c t.val t.isLt).2.2.2.2 (ix2 k q) := by
    rw [scratch m c H, ht]; exact congrArg _ (partSum_last _).symm
  rw [e, outsAt0_C m c t (by omega) (by omega)]
  frame_out
  generalize k0_pay24 (F := Idealize.ShloMosaic.Ideal) _ _ _ _ = w0
  generalize k0_pay1 (F := Idealize.ShloMosaic.Ideal) _ _ _ = w1
  rw [View.readCov_eq_canon']
  generalize View.canon (Val := Elt Ideal) (s := S1024x1024) (e := .f32) _ = C
  pointwise [k0_pay2]

/-! ## The arrays after the run -/

include H in
theorem arr7 : G7 m c = fun i => ((A.dy (i 0) (i 1) (i 2) : ℝ) : EReal) := by
  rw [← final7]
  refine (dats m 0 c).arrAt_eq_of_covers 7 _ (by decide +kernel) fun t hf y => ?_
  blk_simp
  rw [after0_7]
  have ey : y = ix3 0 (y 1) (y 2) := by
    funext a; match a with
    | 0 => exact Fin.ext (by have : (y 0).val < 1 := (y 0).isLt; show (y 0).val = 0; omega)
    | 1 => rfl
    | 2 => rfl
  have e0 : (win0_7.blk t).view.emb y 0 = bOf t := Fin.ext (by blk_simp [idx t]; rfl)
  have e1 : (win0_7.blk t).view.emb y 1 = lOf t (y 1) := Fin.ext (by blk_simp [idx t]; rfl)
  have e2 : (win0_7.blk t).view.emb y 2 = y 2 := Fin.ext (by blk_simp [idx t])
  rw [e0, e1, e2]
  refine (congrArg _ ey).trans (out7 m c H t (y 1) (y 2))

include H in
theorem arr8 : G8 m c = fun i => ((A.DX (i 0) (i 1) (i 2) : ℝ) : EReal) := by
  rw [← final8]
  refine (dats m 0 c).arrAt_eq_of_covers 8 _ (by decide +kernel) fun t hf y => ?_
  blk_simp
  rw [after0_8]
  have ey : y = ix3 0 (y 1) (y 2) := by
    funext a; match a with
    | 0 => exact Fin.ext (by have : (y 0).val < 1 := (y 0).isLt; show (y 0).val = 0; omega)
    | 1 => rfl
    | 2 => rfl
  have e0 : (win0_8.blk t).view.emb y 0 = bOf t := Fin.ext (by blk_simp [idx t]; rfl)
  have e1 : (win0_8.blk t).view.emb y 1 = lOf t (y 1) := Fin.ext (by blk_simp [idx t]; rfl)
  have e2 : (win0_8.blk t).view.emb y 2 = y 2 := Fin.ext (by blk_simp [idx t])
  rw [e0, e1, e2]
  refine (congrArg _ ey).trans (out8 m c H t (y 1) (y 2))

theorem idx' : ∀ t : Fin cfg0.N, win0_9.index t = ![0, 0] ∧ win0_10.index t = ![0, 0] := (by decide +kernel : ∀ t : Fin grid0.N, _)

theorem pt_last (t : Fin cfg0.N) (ht : t.val % 4 = 3) : t.val = 3 := by have := ltN t; omega

include H in
theorem arr9 : G9 m c = fun i => ((A.dW (i 0) (i 1) : ℝ) : EReal) := by
  rw [← final9]
  refine (dats m 0 c).arrAt_eq_of_covers 9 _ (by decide +kernel) fun t hf y => ?_
  blk_simp
  rw [after0_9]
  have ey : y = ix2 (y 0) (y 1) := by
    funext a; match a with
    | 0 => rfl
    | 1 => rfl
  have e0 : (win0_9.blk t).view.emb y 0 = y 0 := Fin.ext (by blk_simp [idx' t])
  have e1 : (win0_9.blk t).view.emb y 1 = y 1 := Fin.ext (by blk_simp [idx' t])
  rw [e0, e1]
  exact (congrArg _ ey).trans (out9 m c H t (pt_last t ((flush0_9 t).mp hf)) (y 0) (y 1))

include H in
theorem arr10 : G10 m c = fun i => ((A.sm (i 0) (i 1) : ℝ) : EReal) := by
  rw [← final10]
  refine (dats m 0 c).arrAt_eq_of_covers 10 _ (by decide +kernel) fun t hf y => ?_
  blk_simp
  rw [after0_10]
  have ey : y = ix2 (y 0) (y 1) := by
    funext a; match a with
    | 0 => rfl
    | 1 => rfl
  have e0 : (win0_10.blk t).view.emb y 0 = y 0 := Fin.ext (by blk_simp [idx' t])
  have e1 : (win0_10.blk t).view.emb y 1 = y 1 := Fin.ext (by blk_simp [idx' t])
  rw [e0, e1]
  refine (congrArg _ ey).trans ((out10 m c H t.val t.isLt (y 0) (y 1)).trans (congrArg _ ?_))
  rw [pt_last t ((flush0_10 t).mp hf)]
  exact (partSum_last _).trans (A.sm_eq _ _).symm

end Cert.KernelIdeal.Value
end
-- ==== Proof.Finite.lean ====
/- What the precondition says: every element of every argument is a real number. -/
module

public import proofs.«01_k».proof.Proof.Model
public import proofs.«01_k».proof.Pre_finite
public import Idealize.ShloMosaic.Lib.ReduceAll

@[expose] public section

set_option maxRecDepth 16384

noncomputable section

namespace Cert.Model

open Idealize.ShloMosaic Idealize.SL.Sem

/-- One bit out of a chain of conjunctions. -/
theorem of_andi {s : Shape} (a b : IVec s 1) (i : s.Idx) (h : andi a b i = 1#1) : a i = 1#1 ∧ b i = 1#1 :=
  IntOp.andi_eq_one.1 h

/-- A number whose absolute value is below infinity is a real. -/
theorem real_of_lt (x : EReal) (h : max x (-x) < ⊤) : x = ((x.toReal : ℝ) : EReal) := by
  refine (EReal.coe_toReal (fun e => ?_) (fun e => ?_)).symm
  · rw [e] at h; simp at h
  · rw [e] at h; simp at h

/-- An array whose absolute values are all found below infinity holds reals. -/
theorem reals {s t u w : Shape} {axes : List (Fin s.rank)} [Subsingleton t.Idx] (x : FVec Idealize.ShloMosaic.Ideal s .f32) (init : u.Idx → BitVec 1)
    (hr : s.ReducesTo axes t) (hu : 0 < u.numel) (dims : Fin w.rank → Fin s.rank) (hb : w.BroadcastsInDim s dims) (j : t.Idx)
    (h : Host.reduce IntOp.andi (cmpf .olt (Host.absf x) (broadcastInDim s dims hb (constant w .f32 0x7F800000#32))) init hr hu j = 1#1)
    (i : s.Idx) : x i = (((x i).toReal : ℝ) : EReal) := by
  have e := Host.reduce_andi_all _ _ hr hu j h i
  refine real_of_lt _ ?_
  pointwise at e
  have hb : Ideal.ofBits .f32 0x7F800000#32 = (⊤ : EReal) := by
    simp [Ideal.ofBits, Ideal.ieee]
  rw [hb] at e
  by_contra hn
  have hd : decide (FloatOps.absf (x i) < (⊤ : EReal)) = false := decide_eq_false hn
  rw [hd] at e
  exact absurd e (by decide)

end Cert.Model

namespace Cert.Pre_finite

open Idealize.ShloMosaic Idealize.SL.Sem Cert.Model

variable [Cert.Pre_finite.Facts] (x0 x1 : FVec Idealize.ShloMosaic.Ideal S2x2048x512 .f32) (x2 x3 : FVec Idealize.ShloMosaic.Ideal S2x2048x1024 .f32)
  (x4 : FVec Idealize.ShloMosaic.Ideal S2x3072 .f32) (x5 : FVec Idealize.ShloMosaic.Ideal S1024 .f32)
  (x6 : FVec Idealize.ShloMosaic.Ideal S1x1024x1024 .f32)

/-- The real numbers the arguments hold. -/
def args : Args where
  yn b l k := (x0 (ix3 b l k)).toReal
  yr b l k := (x1 (ix3 b l k)).toReal
  x b l k := (x2 (ix3 b l k)).toReal
  t b l k := (x3 (ix3 b l k)).toReal
  mod b k := (x4 (ix2 b k)).toReal
  g k := (x5 (ix1 k)).toReal
  w k q := (x6 (ix3 0 k q)).toReal

theorem holds (h : fn x0 x1 x2 x3 x4 x5 x6 = fun _ => 1#1) : Holds (args x0 x1 x2 x3 x4 x5 x6) x0 x1 x2 x3 x4 x5 x6 := by
  have j : S_.Idx := fun a => a.elim0
  have h6 := of_andi _ _ j (congrFun h j)
  have h5 := of_andi _ _ j h6.1
  have h4 := of_andi _ _ j h5.1
  have h3 := of_andi _ _ j h4.1
  have h2 := of_andi _ _ j h3.1
  have h1 := of_andi _ _ j h2.1
  exact ⟨fun _ _ _ => reals x0 _ _ _ _ _ j h1.1 _, fun _ _ _ => reals x1 _ _ _ _ _ j h1.2 _,
    fun _ _ _ => reals x2 _ _ _ _ _ j h2.2 _, fun _ _ _ => reals x3 _ _ _ _ _ j h3.2 _,
    fun _ _ => reals x4 _ _ _ _ _ j h4.2 _, fun _ => reals x5 _ _ _ _ _ j h5.2 _, fun _ _ => reals x6 _ _ _ _ _ j h6.2 _⟩

end Cert.Pre_finite
end
-- ==== Proof.DhRun.lean ====
/-
The runs of the kernel's body at one grid point, in its three cases: the first point (the row sums are
cleared, then a latent tile), the other latent points, and the context points (nothing is stored to the
gradient block). Each run finds the list of stores into the two results' buffers.
-/
module

public import proofs.«01_k».proof.Proof.Gen.Kernel2Ideal.Frame
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Dh

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The staging buffers of one point, each a whole buffer. -/
structure Bufs where
  a0 : Memref sig .tc .vmem S1x256x512 .bf16
  h0 : a0.IsWhole
  a1 : Memref sig .tc .vmem S1x256x512 .bf16
  h1 : a1.IsWhole
  a2 : Memref sig .tc .vmem S1x256x512 .bf16
  h2 : a2.IsWhole
  a3 : Memref sig .tc .vmem S1x256x512 .bf16
  h3 : a3.IsWhole
  a4 : Memref sig .tc .vmem S1x256x512 .bf16
  h4 : a4.IsWhole
  a5 : Memref sig .tc .vmem S1x256x512 .bf16
  h5 : a5.IsWhole
  a6 : Memref sig .tc .vmem S1x256x512 .bf16
  h6 : a6.IsWhole
  a7 : Memref sig .tc .vmem S1x256x512 .bf16
  h7 : a7.IsWhole
  a8 : Memref sig .tc .vmem S4x1024x1024 .bf16
  h8 : a8.IsWhole
  a9 : Memref sig .tc .vmem S1x256x1024 .f32
  h9 : a9.IsWhole
  a10 : Memref sig .tc .vmem S1x256x1024 .f32
  h10 : a10.IsWhole
  a11 : Memref sig .tc .vmem S1x256x1024 .f32
  h11 : a11.IsWhole
  a12 : Memref sig .tc .vmem S8x3072 .f32
  h12 : a12.IsWhole
  a13 : Memref sig .tc .vmem S1x1024 .f32
  h13 : a13.IsWhole
  a14 : Memref sig .tc .vmem S1x256x1024 .f32
  h14 : a14.IsWhole
  a15 : Memref sig .tc .vmem S8x1024 .f32
  h15 : a15.IsWhole

/-- The contents of the input buffers. -/
structure Ins (F : FTy → Type) where
  x0 : Vec F S1x256x512 .bf16
  x1 : Vec F S1x256x512 .bf16
  x2 : Vec F S1x256x512 .bf16
  x3 : Vec F S1x256x512 .bf16
  x4 : Vec F S1x256x512 .bf16
  x5 : Vec F S1x256x512 .bf16
  x6 : Vec F S1x256x512 .bf16
  x7 : Vec F S1x256x512 .bf16
  x8 : Vec F S4x1024x1024 .bf16
  x9 : Vec F S1x256x1024 .f32
  x10 : Vec F S1x256x1024 .f32
  x11 : Vec F S1x256x1024 .f32
  x12 : Vec F S8x3072 .f32
  x13 : Vec F S1x1024 .f32

/-- The body on the buffers `B`. -/
abbrev body (i : grid0.Coords) (B : Bufs) : Prog (TpuEff nD τ sig (Elt F) Λ₀ .tc) PUnit :=
  cc0_dh_norm_bwd i B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15

/-- The input buffers owned at the contents `X`. -/
def owned (c : Dev nD) (B : Bufs) (X : Ins F) : sProp 𝕄 :=
  iprop(owns (c : Thread nD τ) B.a0 fullShare X.x0
    ∗ owns (c : Thread nD τ) B.a1 fullShare X.x1
    ∗ owns (c : Thread nD τ) B.a2 fullShare X.x2
    ∗ owns (c : Thread nD τ) B.a3 fullShare X.x3
    ∗ owns (c : Thread nD τ) B.a4 fullShare X.x4
    ∗ owns (c : Thread nD τ) B.a5 fullShare X.x5
    ∗ owns (c : Thread nD τ) B.a6 fullShare X.x6
    ∗ owns (c : Thread nD τ) B.a7 fullShare X.x7
    ∗ owns (c : Thread nD τ) B.a8 fullShare X.x8
    ∗ owns (c : Thread nD τ) B.a9 fullShare X.x9
    ∗ owns (c : Thread nD τ) B.a10 fullShare X.x10
    ∗ owns (c : Thread nD τ) B.a11 fullShare X.x11
    ∗ owns (c : Thread nD τ) B.a12 fullShare X.x12
    ∗ owns (c : Thread nD τ) B.a13 fullShare X.x13)

set_option maxHeartbeats 1000000 in
/-- The first point: the sums are cleared, then a latent tile is worked off. -/
def runFirst (c : Dev nD) (i : grid0.Coords) (B : Bufs) (X : Ins F)
    (hc0 : k0_cond1 i = 1#1) (hc1 : k0_cond2 i = 1#1) (hc2 : ¬k0_cond3 i = 1#1) :
    Σ' (_L14 : List (View.Piece (Elt F) S1x256x1024 .f32)), { L15 : List (View.Piece (Elt F) S8x1024 .f32) //
      ∀ (E : Set ℕ) (K : PUnit → sProp 𝕄),
        iprop(owned c B X ∗ (∃ d, owns (c : Thread nD τ) B.a14 fullShare d) ∗ (∃ d, owns (c : Thread nD τ) B.a15 fullShare d)
            ∗ (iprop(owned c B X ∗ (∃ f, B.a14.view.loc (c : Thread nD τ) ↦[B.a14.view.set]{fullShare} B.a14.view.writes (Elt F) f _L14)
              ∗ (∃ f, B.a15.view.loc (c : Thread nD τ) ↦[B.a15.view.set]{fullShare} B.a15.view.writes (Elt F) f L15)) -∗ K ⟨⟩))
          ⊢ wp frame (wpE (defs₀ (F := F)) Variants.none c none) E (body i B) K } := by
  refine ⟨?_, ?_, fun E K => ?run⟩
  case run =>
    simp only [body, cc0_dh_norm_bwd_eq_skeleton]; unfold cc0_dh_norm_bwd_skel
    simp only [k0_part1_eq_skeleton, k0_part2_eq_skeleton, k0_part3_eq_skeleton]
    unfold owned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d14, %f14, -, H14⟩, ⟨%d15, %f15, -, H15⟩, Hk⟩
    obtain rfl := B.h0.eq_unread hf0; obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7; obtain rfl := B.h8.eq_unread hf8; obtain rfl := B.h9.eq_unread hf9
    obtain rfl := B.h10.eq_unread hf10; obtain rfl := B.h11.eq_unread hf11; obtain rfl := B.h12.eq_unread hf12; obtain rfl := B.h13.eq_unread hf13
    sl_exec (disch := first | sl_exact hc0 | sl_exact hc1 | sl_exact hc2)
    sl_step
    iapply Hk
    isplitl [H0 H1 H2 H3 H4 H5 H6 H7 H8 H9 H10 H11 H12 H13]
    · isplitl [H0]; · iexists _; isplitr; (· ipureintro; exact B.h0.read_unread _); iexact H0
      isplitl [H1]; · iexists _; isplitr; (· ipureintro; exact B.h1.read_unread _); iexact H1
      isplitl [H2]; · iexists _; isplitr; (· ipureintro; exact B.h2.read_unread _); iexact H2
      isplitl [H3]; · iexists _; isplitr; (· ipureintro; exact B.h3.read_unread _); iexact H3
      isplitl [H4]; · iexists _; isplitr; (· ipureintro; exact B.h4.read_unread _); iexact H4
      isplitl [H5]; · iexists _; isplitr; (· ipureintro; exact B.h5.read_unread _); iexact H5
      isplitl [H6]; · iexists _; isplitr; (· ipureintro; exact B.h6.read_unread _); iexact H6
      isplitl [H7]; · iexists _; isplitr; (· ipureintro; exact B.h7.read_unread _); iexact H7
      isplitl [H8]; · iexists _; isplitr; (· ipureintro; exact B.h8.read_unread _); iexact H8
      isplitl [H9]; · iexists _; isplitr; (· ipureintro; exact B.h9.read_unread _); iexact H9
      isplitl [H10]; · iexists _; isplitr; (· ipureintro; exact B.h10.read_unread _); iexact H10
      isplitl [H11]; · iexists _; isplitr; (· ipureintro; exact B.h11.read_unread _); iexact H11
      isplitl [H12]; · iexists _; isplitr; (· ipureintro; exact B.h12.read_unread _); iexact H12
      iexists _; isplitr; (· ipureintro; exact B.h13.read_unread _); iexact H13
    isplitl [H14]; · iexists _; iexact H14
    iexists _; iexact H15

set_option maxHeartbeats 1000000 in
/-- A latent point after the first. -/
def runLat (c : Dev nD) (i : grid0.Coords) (B : Bufs) (X : Ins F) (xo : Vec F S8x1024 .f32)
    (hc0 : ¬k0_cond1 i = 1#1) (hc1 : k0_cond2 i = 1#1) (hc2 : ¬k0_cond3 i = 1#1) :
    Σ' (_L14 : List (View.Piece (Elt F) S1x256x1024 .f32)), { L15 : List (View.Piece (Elt F) S8x1024 .f32) //
      ∀ (E : Set ℕ) (K : PUnit → sProp 𝕄),
        iprop(owned c B X ∗ (∃ d, owns (c : Thread nD τ) B.a14 fullShare d) ∗ owns (c : Thread nD τ) B.a15 fullShare xo
            ∗ (iprop(owned c B X ∗ (∃ f, B.a14.view.loc (c : Thread nD τ) ↦[B.a14.view.set]{fullShare} B.a14.view.writes (Elt F) f _L14)
              ∗ (B.a15.view.loc (c : Thread nD τ) ↦[B.a15.view.set]{fullShare} B.a15.view.writes (Elt F) (B.h15.unread xo) L15)) -∗ K ⟨⟩))
          ⊢ wp frame (wpE (defs₀ (F := F)) Variants.none c none) E (body i B) K } := by
  refine ⟨?_, ?_, fun E K => ?run⟩
  case run =>
    simp only [body, cc0_dh_norm_bwd_eq_skeleton]; unfold cc0_dh_norm_bwd_skel
    simp only [k0_part1_eq_skeleton, k0_part2_eq_skeleton, k0_part3_eq_skeleton]
    unfold owned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d14, %f14, -, H14⟩, ⟨%f15, %hf15, H15⟩, Hk⟩
    obtain rfl := B.h0.eq_unread hf0; obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7; obtain rfl := B.h8.eq_unread hf8; obtain rfl := B.h9.eq_unread hf9
    obtain rfl := B.h10.eq_unread hf10; obtain rfl := B.h11.eq_unread hf11; obtain rfl := B.h12.eq_unread hf12; obtain rfl := B.h13.eq_unread hf13
    obtain rfl := B.h15.eq_unread hf15
    sl_exec (disch := first | sl_exact hc0 | sl_exact hc1 | sl_exact hc2)
    sl_step
    iapply Hk
    isplitl [H0 H1 H2 H3 H4 H5 H6 H7 H8 H9 H10 H11 H12 H13]
    · isplitl [H0]; · iexists _; isplitr; (· ipureintro; exact B.h0.read_unread _); iexact H0
      isplitl [H1]; · iexists _; isplitr; (· ipureintro; exact B.h1.read_unread _); iexact H1
      isplitl [H2]; · iexists _; isplitr; (· ipureintro; exact B.h2.read_unread _); iexact H2
      isplitl [H3]; · iexists _; isplitr; (· ipureintro; exact B.h3.read_unread _); iexact H3
      isplitl [H4]; · iexists _; isplitr; (· ipureintro; exact B.h4.read_unread _); iexact H4
      isplitl [H5]; · iexists _; isplitr; (· ipureintro; exact B.h5.read_unread _); iexact H5
      isplitl [H6]; · iexists _; isplitr; (· ipureintro; exact B.h6.read_unread _); iexact H6
      isplitl [H7]; · iexists _; isplitr; (· ipureintro; exact B.h7.read_unread _); iexact H7
      isplitl [H8]; · iexists _; isplitr; (· ipureintro; exact B.h8.read_unread _); iexact H8
      isplitl [H9]; · iexists _; isplitr; (· ipureintro; exact B.h9.read_unread _); iexact H9
      isplitl [H10]; · iexists _; isplitr; (· ipureintro; exact B.h10.read_unread _); iexact H10
      isplitl [H11]; · iexists _; isplitr; (· ipureintro; exact B.h11.read_unread _); iexact H11
      isplitl [H12]; · iexists _; isplitr; (· ipureintro; exact B.h12.read_unread _); iexact H12
      iexists _; isplitr; (· ipureintro; exact B.h13.read_unread _); iexact H13
    isplitl [H14]; · iexists _; iexact H14
    iexact H15

set_option maxHeartbeats 1000000 in
/-- A context point: only the sums are touched. -/
def runCtx (c : Dev nD) (i : grid0.Coords) (B : Bufs) (X : Ins F) (xo : Vec F S8x1024 .f32)
    (hc0 : ¬k0_cond1 i = 1#1) (hc1 : ¬k0_cond2 i = 1#1) (hc2 : k0_cond3 i = 1#1) :
    { L15 : List (View.Piece (Elt F) S8x1024 .f32) //
      ∀ (E : Set ℕ) (K : PUnit → sProp 𝕄),
        iprop(owned c B X ∗ owns (c : Thread nD τ) B.a15 fullShare xo
            ∗ (iprop(owned c B X
              ∗ (B.a15.view.loc (c : Thread nD τ) ↦[B.a15.view.set]{fullShare} B.a15.view.writes (Elt F) (B.h15.unread xo) L15)) -∗ K ⟨⟩))
          ⊢ wp frame (wpE (defs₀ (F := F)) Variants.none c none) E (body i B) K } := by
  refine ⟨?_, fun E K => ?run⟩
  case run =>
    simp only [body, cc0_dh_norm_bwd_eq_skeleton]; unfold cc0_dh_norm_bwd_skel
    simp only [k0_part4_eq_skeleton, k0_part5_eq_skeleton]
    unfold owned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%f15, %hf15, H15⟩, Hk⟩
    obtain rfl := B.h0.eq_unread hf0; obtain rfl := B.h1.eq_unread hf1; obtain rfl := B.h2.eq_unread hf2; obtain rfl := B.h3.eq_unread hf3; obtain rfl := B.h4.eq_unread hf4
    obtain rfl := B.h5.eq_unread hf5; obtain rfl := B.h6.eq_unread hf6; obtain rfl := B.h7.eq_unread hf7; obtain rfl := B.h8.eq_unread hf8; obtain rfl := B.h9.eq_unread hf9
    obtain rfl := B.h10.eq_unread hf10; obtain rfl := B.h11.eq_unread hf11; obtain rfl := B.h12.eq_unread hf12; obtain rfl := B.h13.eq_unread hf13
    obtain rfl := B.h15.eq_unread hf15
    sl_exec (disch := first | sl_exact hc0 | sl_exact hc1 | sl_exact hc2)
    sl_step
    iapply Hk
    isplitl [H0 H1 H2 H3 H4 H5 H6 H7 H8 H9 H10 H11 H12 H13]
    · isplitl [H0]; · iexists _; isplitr; (· ipureintro; exact B.h0.read_unread _); iexact H0
      isplitl [H1]; · iexists _; isplitr; (· ipureintro; exact B.h1.read_unread _); iexact H1
      isplitl [H2]; · iexists _; isplitr; (· ipureintro; exact B.h2.read_unread _); iexact H2
      isplitl [H3]; · iexists _; isplitr; (· ipureintro; exact B.h3.read_unread _); iexact H3
      isplitl [H4]; · iexists _; isplitr; (· ipureintro; exact B.h4.read_unread _); iexact H4
      isplitl [H5]; · iexists _; isplitr; (· ipureintro; exact B.h5.read_unread _); iexact H5
      isplitl [H6]; · iexists _; isplitr; (· ipureintro; exact B.h6.read_unread _); iexact H6
      isplitl [H7]; · iexists _; isplitr; (· ipureintro; exact B.h7.read_unread _); iexact H7
      isplitl [H8]; · iexists _; isplitr; (· ipureintro; exact B.h8.read_unread _); iexact H8
      isplitl [H9]; · iexists _; isplitr; (· ipureintro; exact B.h9.read_unread _); iexact H9
      isplitl [H10]; · iexists _; isplitr; (· ipureintro; exact B.h10.read_unread _); iexact H10
      isplitl [H11]; · iexists _; isplitr; (· ipureintro; exact B.h11.read_unread _); iexact H11
      isplitl [H12]; · iexists _; isplitr; (· ipureintro; exact B.h12.read_unread _); iexact H12
      iexists _; isplitr; (· ipureintro; exact B.h13.read_unread _); iexact H13
    iexact H15

end Cert.Dh

end
-- ==== Proof.DhFrame.lean ====
/-
What the kernel's two results hold after each grid point, and the run of the whole program: every
execution ends, the arguments are unchanged, and each result is what its points' blocks add up to.
The gradient block of a context point is the one the latent point before it left.
-/
module

public import proofs.«01_k».proof.Proof.DhRun
public import Idealize.ShloMosaic.Lib.Claim

@[expose] public section

set_option maxRecDepth 16384

noncomputable section

namespace Cert.Dh

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffers at point `t`. -/
def bufs (t : Fin cfg0.N) : Bufs where
  a0 := win0_0.stage (cfg0.slots t 0)
  h0 := hstage0_0 ((cfg0.slots t 0).cast nbuf0_0)
  a1 := win0_1.stage (cfg0.slots t 1)
  h1 := hstage0_1 ((cfg0.slots t 1).cast nbuf0_1)
  a2 := win0_2.stage (cfg0.slots t 2)
  h2 := hstage0_2 ((cfg0.slots t 2).cast nbuf0_2)
  a3 := win0_3.stage (cfg0.slots t 3)
  h3 := hstage0_3 ((cfg0.slots t 3).cast nbuf0_3)
  a4 := win0_4.stage (cfg0.slots t 4)
  h4 := hstage0_4 ((cfg0.slots t 4).cast nbuf0_4)
  a5 := win0_5.stage (cfg0.slots t 5)
  h5 := hstage0_5 ((cfg0.slots t 5).cast nbuf0_5)
  a6 := win0_6.stage (cfg0.slots t 6)
  h6 := hstage0_6 ((cfg0.slots t 6).cast nbuf0_6)
  a7 := win0_7.stage (cfg0.slots t 7)
  h7 := hstage0_7 ((cfg0.slots t 7).cast nbuf0_7)
  a8 := win0_8.stage (cfg0.slots t 8)
  h8 := hstage0_8 ((cfg0.slots t 8).cast nbuf0_8)
  a9 := win0_9.stage (cfg0.slots t 9)
  h9 := hstage0_9 ((cfg0.slots t 9).cast nbuf0_9)
  a10 := win0_10.stage (cfg0.slots t 10)
  h10 := hstage0_10 ((cfg0.slots t 10).cast nbuf0_10)
  a11 := win0_11.stage (cfg0.slots t 11)
  h11 := hstage0_11 ((cfg0.slots t 11).cast nbuf0_11)
  a12 := win0_12.stage (cfg0.slots t 12)
  h12 := hstage0_12 ((cfg0.slots t 12).cast nbuf0_12)
  a13 := win0_13.stage (cfg0.slots t 13)
  h13 := hstage0_13 ((cfg0.slots t 13).cast nbuf0_13)
  a14 := win0_14.stage (cfg0.slots t 14)
  h14 := hstage0_14 ((cfg0.slots t 14).cast nbuf0_14)
  a15 := win0_15.stage (cfg0.slots t 15)
  h15 := hstage0_15 ((cfg0.slots t 15).cast nbuf0_15)

/-- The blocks the inputs' buffers hold at point `t`. -/
def ins (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t

theorem init_iff : ∀ t : Fin cfg0.N, k0_cond1 (grid0.coords t) = 1#1 ↔ t.val = 0 :=
  (by decide +kernel : ∀ t : Fin grid0.N, k0_cond1 (grid0.coords t) = 1#1 ↔ t.val = 0)

theorem lat_iff : ∀ t : Fin cfg0.N, k0_cond2 (grid0.coords t) = 1#1 ↔ t.val % 9 ≠ 8 :=
  (by decide +kernel : ∀ t : Fin grid0.N, k0_cond2 (grid0.coords t) = 1#1 ↔ t.val % 9 ≠ 8)

theorem ctx_iff : ∀ t : Fin cfg0.N, k0_cond3 (grid0.coords t) = 1#1 ↔ t.val % 9 = 8 :=
  (by decide +kernel : ∀ t : Fin grid0.N, k0_cond3 (grid0.coords t) = 1#1 ↔ t.val % 9 = 8)

/-- The run of the first point. -/
def atFirst (c : Dev nD) (t : Fin cfg0.N) (h : t.val = 0) :=
  runFirst c (grid0.coords t) (bufs t) (ins m c t) ((init_iff t).mpr h)
    ((lat_iff t).mpr (by omega)) (fun e => by have := (ctx_iff t).mp e; omega)

/-- The run of a later latent point, the sums so far being `xo`. -/
def atLat (c : Dev nD) (t : Fin cfg0.N) (h : t.val ≠ 0) (h8 : t.val % 9 ≠ 8) (xo : Vec F S8x1024 .f32) :=
  runLat c (grid0.coords t) (bufs t) (ins m c t) xo (fun e => h ((init_iff t).mp e))
    ((lat_iff t).mpr h8) (fun e => h8 ((ctx_iff t).mp e))

/-- The run of a context point, the sums so far being `xo`. -/
def atCtx (c : Dev nD) (t : Fin cfg0.N) (h8 : t.val % 9 = 8) (xo : Vec F S8x1024 .f32) :=
  runCtx c (grid0.coords t) (bufs t) (ins m c t) xo (fun e => by have := (init_iff t).mp e; omega)
    (fun e => (lat_iff t).mp e h8) ((ctx_iff t).mpr h8)

/-- The stores of the first point cover the sums' block: one of them clears it whole. -/
theorem coverSums (c : Dev nD) (t : Fin cfg0.N) (h : t.val = 0) (y : S8x1024.Idx) :
    ∃ pc ∈ (atFirst m c t h).2.1, y ∈ pc.1.set :=
  View.cover_of_wholeMem (atFirst m c t h).2.1 (by sl_whole_mem) y

/-- The one store of the first point to the gradient block covers it. -/
theorem coverFirst (c : Dev nD) (t : Fin cfg0.N) (h : t.val = 0) (y : S1x256x1024.Idx) :
    ∃ pc ∈ (atFirst m c t h).1, y ∈ pc.1.set :=
  View.cover_of_wholeMem (atFirst m c t h).1 (by sl_whole_mem) y

/-- The one store of a later latent point to the gradient block covers it. -/
theorem coverLat (c : Dev nD) (t : Fin cfg0.N) (h : t.val ≠ 0) (h8 : t.val % 9 ≠ 8) (xo : Vec F S8x1024 .f32)
    (y : S1x256x1024.Idx) : ∃ pc ∈ (atLat m c t h h8 xo).1, y ∈ pc.1.set :=
  View.cover_of_wholeMem (atLat m c t h h8 xo).1 (by sl_whole_mem) y

/-- The sums after the first point. -/
def sumsFirst (c : Dev nD) (t : Fin cfg0.N) (h : t.val = 0) : Vec F S8x1024 .f32 :=
  (bufs t).a15.view.read (Elt F) ((bufs t).a15.view.writes (Elt F) (bufs t).a15.view.junk (atFirst m c t h).2.1)

/-- The sums after a later latent point. -/
def sumsLat (c : Dev nD) (t : Fin cfg0.N) (h : t.val ≠ 0) (h8 : t.val % 9 ≠ 8) (xo : Vec F S8x1024 .f32) :
    Vec F S8x1024 .f32 :=
  (bufs t).a15.view.read (Elt F) ((bufs t).a15.view.writes (Elt F) ((bufs t).h15.unread xo) (atLat m c t h h8 xo).2.1)

/-- The sums after a context point. -/
def sumsCtx (c : Dev nD) (t : Fin cfg0.N) (h8 : t.val % 9 = 8) (xo : Vec F S8x1024 .f32) : Vec F S8x1024 .f32 :=
  (bufs t).a15.view.read (Elt F) ((bufs t).a15.view.writes (Elt F) ((bufs t).h15.unread xo) (atCtx m c t h8 xo).1)

/-- The gradient block after the first point. -/
def gradFirst (c : Dev nD) (t : Fin cfg0.N) (h : t.val = 0) : Vec F S1x256x1024 .f32 :=
  (bufs t).a14.view.read (Elt F) ((bufs t).a14.view.writes (Elt F) (bufs t).a14.view.junk (atFirst m c t h).1)

/-- The gradient block after a later latent point. -/
def gradLat (c : Dev nD) (t : Fin cfg0.N) (h : t.val ≠ 0) (h8 : t.val % 9 ≠ 8) (xo : Vec F S8x1024 .f32) :
    Vec F S1x256x1024 .f32 :=
  (bufs t).a14.view.read (Elt F) ((bufs t).a14.view.writes (Elt F) (bufs t).a14.view.junk (atLat m c t h h8 xo).1)

/-- The two results' buffers after point `n`. -/
def outs (c : Dev nD) : (n : ℕ) → n < cfg0.N → Vec F S1x256x1024 .f32 × Vec F S8x1024 .f32
  | 0, hn => (gradFirst m c ⟨0, hn⟩ rfl, sumsFirst m c ⟨0, hn⟩ rfl)
  | n + 1, hn =>
    let prev := outs c n (by omega)
    if h8 : (n + 1) % 9 = 8 then (prev.1, sumsCtx m c ⟨n + 1, hn⟩ h8 prev.2)
    else (gradLat m c ⟨n + 1, hn⟩ (Nat.succ_ne_zero n) h8 prev.2, sumsLat m c ⟨n + 1, hn⟩ (Nat.succ_ne_zero n) h8 prev.2)

theorem outs_first (c : Dev nD) (t : Fin cfg0.N) (h : t.val = 0) :
    outs m c t.val t.isLt = (gradFirst m c t h, sumsFirst m c t h) := by
  obtain ⟨n, hn⟩ := t
  cases n with
  | zero => rfl
  | succ n => exact absurd h (Nat.succ_ne_zero n)

theorem outs_lat (c : Dev nD) (t : Fin cfg0.N) (h : t.val ≠ 0) (h8 : t.val % 9 ≠ 8) :
    outs m c t.val t.isLt = (gradLat m c t h h8 (outs m c (t.val - 1) (by omega)).2,
      sumsLat m c t h h8 (outs m c (t.val - 1) (by omega)).2) := by
  obtain ⟨n, hn⟩ := t
  cases n with
  | zero => exact absurd rfl h
  | succ n => exact dif_neg h8

theorem outs_ctx (c : Dev nD) (t : Fin cfg0.N) (h8 : t.val % 9 = 8) :
    outs m c t.val t.isLt = ((outs m c (t.val - 1) (by omega)).1,
      sumsCtx m c t h8 (outs m c (t.val - 1) (by omega)).2) := by
  obtain ⟨n, hn⟩ := t
  cases n with
  | zero => exact absurd (show (0 : ℕ) % 9 = 8 from h8) (by decide)
  | succ n => exact dif_pos h8

/-- The proof data: each input's buffer at its block, the two results' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outs m c t.val t.isLt).1
    | ⟨15, _⟩ => (outs m c t.val t.isLt).2
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem live15 (t : Fin cfg0.N) : cfg0.idle 15 (grid0.coords t) = false :=
  (by decide +kernel : ∀ t : Fin grid0.N, cfg0.idle 15 (grid0.coords t) = false) t

/-- The sums' buffer holds, after the first point, what the point before left. -/
theorem before_sums (c : Dev nD) (t : Fin cfg0.N) (h : t.val ≠ 0) (d) :
    (dats m 0 c).before 15 t d = (outs m c (t.val - 1) (by omega)).2 := by
  have hN : t.val < 18 := lt_of_lt_of_eq t.isLt (show cfg0.N = 18 from N_0)
  have hf : (cfg0.win 15).flush ⟨t.val - 1, Nat.lt_of_le_of_lt (Nat.sub_le _ _) t.isLt⟩ = false :=
    Bool.eq_false_iff.mpr fun e => by have := (flush0_15 _).mp e; dsimp only at this; omega
  rw [(dats m 0 c).before_of_pos 15 t h ((cfg0.win 15).fetch_out rfl t), hf, if_neg Bool.false_ne_true]
  unfold Dat.left
  rw [live15]
  unfold Dat.kept
  dsimp only
  rw [Pipeline.fill_of_clip_none 15 _ (fun _ => rfl) d ((dats m 0 c).after 15 _), Window.fill_cut]
  dsimp only [dats]

theorem noFlush (t : Fin cfg0.N) (h8 : t.val % 9 = 8) :
    (cfg0.win 14).flush ⟨t.val - 1, Nat.lt_of_le_of_lt (Nat.sub_le _ _) t.isLt⟩ = false :=
  (by decide +kernel : ∀ t : Fin grid0.N, t.val % 9 = 8 →
    win0_14.flush ⟨t.val - 1, Nat.lt_of_le_of_lt (Nat.sub_le _ _) t.isLt⟩ = false) t h8

theorem liveBefore (t : Fin cfg0.N) (h8 : t.val % 9 = 8) :
    cfg0.idle 14 (grid0.coords ⟨t.val - 1, Nat.lt_of_le_of_lt (Nat.sub_le _ _) t.isLt⟩) = false :=
  (by decide +kernel : ∀ t : Fin grid0.N, t.val % 9 = 8 →
    cfg0.idle 14 (grid0.coords ⟨t.val - 1, Nat.lt_of_le_of_lt (Nat.sub_le _ _) t.isLt⟩) = false) t h8

theorem liveLat (t : Fin cfg0.N) (h8 : t.val % 9 ≠ 8) : cfg0.idle 14 (grid0.coords t) = false :=
  (by decide +kernel : ∀ t : Fin grid0.N, t.val % 9 ≠ 8 → cfg0.idle 14 (grid0.coords t) = false) t h8

theorem idleCtx (t : Fin cfg0.N) (h8 : t.val % 9 = 8) :
    cfg0.idle 14 (grid0.coords t) = true ∧ (cfg0.win 14).flush t = true :=
  (by decide +kernel : ∀ t : Fin grid0.N, t.val % 9 = 8 →
    cfg0.idle 14 (grid0.coords t) = true ∧ win0_14.flush t = true) t h8

/-- At a context point the gradient block is still the one the latent point before it left. -/
theorem before_grad (c : Dev nD) (t : Fin cfg0.N) (h8 : t.val % 9 = 8) (d) :
    (dats m 0 c).before 14 t d = (outs m c (t.val - 1) (by omega)).1 := by
  rw [(dats m 0 c).before_of_pos 14 t (by omega) ((cfg0.win 14).fetch_out rfl t), noFlush t h8,
    if_neg Bool.false_ne_true]
  unfold Dat.left
  rw [liveBefore t h8]
  unfold Dat.kept
  dsimp only
  rw [Pipeline.fill_of_clip_none 14 _ (fun _ => rfl) d ((dats m 0 c).after 14 _), Window.fill_cut]
  dsimp only [dats]

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d
theorem before8 (c : Dev nD) (t : Fin cfg0.N) (d) : (dats m 0 c).before 8 t d = iblk m c 8 t :=
  before0_8_of m (dats m 0 c) (A_eq m c 8) (fun t => by dsimp only [dats]) t d
theorem before9 (c : Dev nD) (t : Fin cfg0.N) (d) : (dats m 0 c).before 9 t d = iblk m c 9 t :=
  before0_9_of m (dats m 0 c) (A_eq m c 9) (fun t => by dsimp only [dats]) t d
theorem before10 (c : Dev nD) (t : Fin cfg0.N) (d) : (dats m 0 c).before 10 t d = iblk m c 10 t :=
  before0_10_of m (dats m 0 c) (A_eq m c 10) (fun t => by dsimp only [dats]) t d
theorem before11 (c : Dev nD) (t : Fin cfg0.N) (d) : (dats m 0 c).before 11 t d = iblk m c 11 t :=
  before0_11_of m (dats m 0 c) (A_eq m c 11) (fun t => by dsimp only [dats]) t d
theorem before12 (c : Dev nD) (t : Fin cfg0.N) (d) : (dats m 0 c).before 12 t d = iblk m c 12 t :=
  before0_12_of m (dats m 0 c) (A_eq m c 12) (fun t => by dsimp only [dats]) t d
theorem before13 (c : Dev nD) (t : Fin cfg0.N) (d) : (dats m 0 c).before 13 t d = iblk m c 13 t :=
  before0_13_of m (dats m 0 c) (A_eq m c 13) (fun t => by dsimp only [dats]) t d

/-- What the body finds at point `t`. -/
def bodyPre (c : Dev nD) (t : Fin cfg0.N) : sProp 𝕄 :=
  iprop((dats m 0 c).Φ t.castSucc ∗ (dats m 0 c).owesAt () t.castSucc ∗ owned c (bufs t) (ins m c t)
    ∗ (∃ d, owns (c : Thread nD τ) (bufs t).a14 fullShare ((dats m 0 c).before 14 t d))
    ∗ (∃ d, owns (c : Thread nD τ) (bufs t).a15 fullShare ((dats m 0 c).before 15 t d)))

/-- What the body leaves at point `t`. -/
def bodyPost (c : Dev nD) (t : Fin cfg0.N) : sProp 𝕄 :=
  iprop((dats m 0 c).Φ t.castSucc ∗ (dats m 0 c).owesAt () t.castSucc ∗ owned c (bufs t) (ins m c t)
    ∗ owns (c : Thread nD τ) (bufs t).a14 fullShare (outs m c t.val t.isLt).1
    ∗ owns (c : Thread nD τ) (bufs t).a15 fullShare (outs m c t.val t.isLt).2)

set_option maxHeartbeats 1000000 in
/-- The body at any point, by its three cases. -/
theorem sound_body (c : Dev nD) (t : Fin cfg0.N) :
    bodyPre m c t ⊢ wp frame (wpE (defs₀ (F := F)) Variants.none c none) Set.univ
      (body (grid0.coords t) (bufs t)) (fun _ => bodyPost m c t) := by
  unfold bodyPre bodyPost
  by_cases h0 : t.val = 0
  · rw [outs_first m c t h0]
    unfold gradFirst sumsFirst
    iintro ⟨HΦ, Ho, HI, ⟨%d14, H14⟩, ⟨%d15, H15⟩⟩
    iapply ((atFirst m c t h0).2.2 Set.univ _)
    isplitl [HI]; · iexact HI
    isplitl [H14]; · iexists _; iexact H14
    isplitl [H15]; · iexists _; iexact H15
    iintro ⟨HI, ⟨%e14, H14⟩, ⟨%e15, H15⟩⟩
    isplitl [HΦ]; · iexact HΦ
    isplitl [Ho]; · iexact Ho
    isplitl [HI]; · iexact HI
    isplitl [H14]
    · unfold owns; iexists _; isplitr
      swap; · iexact H14
      ipureintro; exact View.read_writes_of_cover _ _ _ _ _ (coverFirst m c t h0)
    unfold owns; iexists _; isplitr
    swap; · iexact H15
    ipureintro; exact View.read_writes_of_cover _ _ _ _ _ (coverSums m c t h0)
  · simp only [before_sums m c t h0]
    by_cases h8 : t.val % 9 = 8
    · simp only [before_grad m c t h8]
      rw [outs_ctx m c t h8]
      unfold sumsCtx
      iintro ⟨HΦ, Ho, HI, ⟨%d14, H14⟩, ⟨%d15, H15⟩⟩
      iapply ((atCtx m c t h8 _).2 Set.univ _)
      isplitl [HI]; · iexact HI
      isplitl [H15]; · iexact H15
      iintro ⟨HI, H15⟩
      isplitl [HΦ]; · iexact HΦ
      isplitl [Ho]; · iexact Ho
      isplitl [HI]; · iexact HI
      isplitl [H14]; · iexact H14
      unfold owns; iexists _; isplitr
      swap; · iexact H15
      ipureintro; rfl
    · rw [outs_lat m c t h0 h8]
      unfold gradLat sumsLat
      iintro ⟨HΦ, Ho, HI, ⟨%d14, H14⟩, ⟨%d15, H15⟩⟩
      iapply ((atLat m c t h0 h8 _).2.2 Set.univ _)
      isplitl [HI]; · iexact HI
      isplitl [H14]; · iexists _; iexact H14
      isplitl [H15]; · iexact H15
      iintro ⟨HI, ⟨%e14, H14⟩, H15⟩
      isplitl [HΦ]; · iexact HΦ
      isplitl [Ho]; · iexact Ho
      isplitl [HI]; · iexact HI
      isplitl [H14]
      · unfold owns; iexists _; isplitr
        swap; · iexact H14
        ipureintro; exact View.read_writes_of_cover _ _ _ _ _ (coverLat m c t h0 h8 _)
      unfold owns; iexists _; isplitr
      swap; · iexact H15
      ipureintro; rfl

theorem row (t : Fin cfg0.N) :
    defs₀ (F := F) .tc cfg0.body (cfg0.bodyArgs t (cfg0.slots t)) = body (grid0.coords t) (bufs t) := by
  unfold defs₀; rw [Defs.onTc_tc]; rfl

/-- The gradient block is left at the contents stated, at a latent and at a context point. -/
theorem leaves_grad (c : Dev nD) (t : Fin cfg0.N) : (dats m 0 c).leavesExact 14 t
    = owns (c : Thread nD τ) (bufs t).a14 fullShare (outs m c t.val t.isLt).1 := by
  unfold Dat.leavesExact
  by_cases h8 : t.val % 9 = 8
  · rw [(idleCtx t h8).1, (idleCtx t h8).2]; rfl
  · rw [liveLat t h8]; rfl

theorem leaves_sums (c : Dev nD) (t : Fin cfg0.N) : (dats m 0 c).leavesExact 15 t
    = owns (c : Thread nD τ) (bufs t).a15 fullShare (outs m c t.val t.isLt).2 := by
  unfold Dat.leavesExact
  rw [live15 t]; rfl

/-- What the pipeline requires after the body follows from what the body leaves. -/
theorem post (c : Dev nD) (t : Fin cfg0.N) : bodyPost m c t ⊢ iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t) := by
  rw [leaves_grad, leaves_sums, show (dats m 0 c).Φ t.succ = (dats m 0 c).Φ t.castSucc from rfl,
    show (dats m 0 c).owesAt () t.succ = (dats m 0 c).owesAt () t.castSucc from rfl]
  unfold bodyPost owned
  iintro ⟨HΦ, Ho, ⟨H0, H1, H2, H3, H4, H5, H6, H7, H8, H9, H10, H11, H12, H13⟩, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- What the body finds follows from what the pipeline hands it. -/
theorem pre (c : Dev nD) (t : Fin cfg0.N) : iprop((dats m 0 c).Φ t.castSucc ∗ (dats m 0 c).owesAt () t.castSucc
    ∗ (∃ d, owns (c : Thread nD τ) (bufs t).a0 fullShare ((dats m 0 c).before 0 t d))
    ∗ (∃ d, owns (c : Thread nD τ) (bufs t).a1 fullShare ((dats m 0 c).before 1 t d))
    ∗ (∃ d, owns (c : Thread nD τ) (bufs t).a2 fullShare ((dats m 0 c).before 2 t d))
    ∗ (∃ d, owns (c : Thread nD τ) (bufs t).a3 fullShare ((dats m 0 c).before 3 t d))
    ∗ (∃ d, owns (c : Thread nD τ) (bufs t).a4 fullShare ((dats m 0 c).before 4 t d))
    ∗ (∃ d, owns (c : Thread nD τ) (bufs t).a5 fullShare ((dats m 0 c).before 5 t d))
    ∗ (∃ d, owns (c : Thread nD τ) (bufs t).a6 fullShare ((dats m 0 c).before 6 t d))
    ∗ (∃ d, owns (c : Thread nD τ) (bufs t).a7 fullShare ((dats m 0 c).before 7 t d))
    ∗ (∃ d, owns (c : Thread nD τ) (bufs t).a8 fullShare ((dats m 0 c).before 8 t d))
    ∗ (∃ d, owns (c : Thread nD τ) (bufs t).a9 fullShare ((dats m 0 c).before 9 t d))
    ∗ (∃ d, owns (c : Thread nD τ) (bufs t).a10 fullShare ((dats m 0 c).before 10 t d))
    ∗ (∃ d, owns (c : Thread nD τ) (bufs t).a11 fullShare ((dats m 0 c).before 11 t d))
    ∗ (∃ d, owns (c : Thread nD τ) (bufs t).a12 fullShare ((dats m 0 c).before 12 t d))
    ∗ (∃ d, owns (c : Thread nD τ) (bufs t).a13 fullShare ((dats m 0 c).before 13 t d))
    ∗ (∃ d, owns (c : Thread nD τ) (bufs t).a14 fullShare ((dats m 0 c).before 14 t d))
    ∗ (∃ d, owns (c : Thread nD τ) (bufs t).a15 fullShare ((dats m 0 c).before 15 t d))) ⊢ bodyPre m c t := by
  simp only [before0, before1, before2, before3, before4, before5, before6, before7, before8, before9, before10, before11, before12, before13]
  unfold bodyPre owned
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15⟩
  isplitl [HΦ]; · iexact HΦ
  isplitl [Ho]; · iexact Ho
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexact H14
  iexact H15

theorem body_obligation (c : Dev nD) :
    BodyObligation (dats (F := F) m 0 c) (defs₀ (F := F)) Variants.none () Set.univ := fun t => by
  rw [bigSep_W0, bigSep_W0, row]
  exact triple_restated (sound_body m c t) rfl (pre m c t) fun _ => post m c t

set_option backward.isDefEq.respectTransparency.types false in
/-- The run: every execution ends, with each array at what the proof data say and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

theorem run : θ_run defs (onTc (τ := τ) (main (F := F))) (s₀ m ρ) (Pipeline.FramePost cfgs (dats m) 0 (V m)) :=
  (θ_run defs _ _).mono (fun _ h => h.1) (run_all m ρ)

/-- The frame: every execution ends with the arguments as they were and no counter raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ))
    ((θ_run defs _ _).mono (fun _ h => h.2) (run_all m ρ))

end Cert.Dh

end
-- ==== Proof.DhBits.lean ====
module

public import proofs.«01_k».proof.Defs
public import proofs.«01_k».proof.Proof.Gen.Kernel2
public import proofs.«01_k».proof.Proof.Gen.Pre_finite2
public import proofs.«01_k».proof.Proof.DhFrame

@[expose] public section

noncomputable section

open Idealize.ShloMosaic Idealize.SL.Sem

/-- The frame of the program as printed: its text is that of the idealised program, whose run is stated over any
floats. -/
theorem Cert.Dh.frame_bits : @Cert.quiescent_Kernel2 Cert.Kernel2.Gen.facts :=
  fun m ρ _ => by
  refine cast ?_ (Cert.Dh.frame (F := Bits) m ρ)
  sl_kernel_rfl

end
-- ==== Proof.DhModel.lean ====
/-
The mathematics of the projection's input gradient with the norm, over the real numbers: the product of the
projected gradient with the weights, the norm's gradient of a row, and the row sums that make the small results.
-/
module

public import proofs.«01_k».proof.Proof.Model

@[expose] public section

set_option maxRecDepth 16384

noncomputable section

namespace Cert.DhModel

open Idealize.ShloMosaic Idealize.ShloMosaic.TcCoe
open Cert.Model (Row ms rs xr ms_pos rs_sq)

theorem cone : Ideal.ofBits .f32 0x3F800000#32 = ((1 : ℝ) : EReal) := by
  simp [Ideal.ofBits, Ideal.ieee, -EReal.coe_mul]
  norm_num

/-- Gradient of the normalised row with respect to the row `v`, the incoming gradient being `d`. -/
def normBwd (v d : Row) : Row := fun q => rs v * (d q - xr v q * ((∑ p, d p * xr v p) / 1024))

/-- The norm's gradient as the chain rule writes it, added to another gradient `z`. -/
theorem normBwd_chain (v d : Row) (z : ℝ) (q : Fin 1024) :
    z + d q * rs v + v q * ((∑ p, v p * d p) * (-(1 / 2) * (rs v / ms v)) / 1024)
      + ((∑ p, v p * d p) * (-(1 / 2) * (rs v / ms v)) / 1024) * v q = z + normBwd v d q := by
  have h := rs_sq v
  have hm := (ms_pos v).ne'
  have hr : rs v / ms v = rs v * rs v * rs v := by
    rw [div_eq_iff hm]; linear_combination (-rs v) * h
  have hs : ∑ p, d p * xr v p = (∑ p, v p * d p) * rs v := by
    rw [Finset.sum_mul]; exact Finset.sum_congr rfl fun p _ => by unfold xr; ring
  rw [normBwd, hs, hr, xr]; ring

/-- The arguments as arrays of real numbers: the gradient of the four projected sections (context tokens after the
latent ones), the weights, the two inputs of the norm, the residual's gradient, the modulation and the norm's scale. -/
structure Args where
  dp : Fin 2 → Fin 2304 → Fin 4 → Row
  w : Fin 4 → Fin 1024 → Row
  x : Fin 2 → Fin 2048 → Row
  cx : Fin 2 → Fin 256 → Row
  dx2 : Fin 2 → Fin 2048 → Row
  mod : Fin 3 → Fin 3072 → ℝ
  g : Row

namespace Args

variable (A : Args)

/-- The part of the product that the first half of a section's columns makes. -/
def lo (b : Fin 2) (l : Fin 2304) (s : Fin 4) : Row := fun q =>
  ∑ k : Fin 512, A.dp b l s ⟨k.val, by omega⟩ * A.w s q ⟨k.val, by omega⟩
/-- The part of the product that the second half of a section's columns makes. -/
def hi (b : Fin 2) (l : Fin 2304) (s : Fin 4) : Row := fun q =>
  ∑ k : Fin 512, A.dp b l s ⟨512 + k.val, by omega⟩ * A.w s q ⟨512 + k.val, by omega⟩
/-- Gradient of a latent token's modulated row. -/
def dh (b : Fin 2) (l : Fin 2048) : Row := fun q =>
  ∑ s, ∑ k, A.dp b ⟨l.val, by omega⟩ s k * A.w s q k
/-- Gradient of a context token's modulated row: four half sections only. -/
def dhc (b : Fin 2) (j : Fin 256) : Row := fun q =>
  A.hi b ⟨2048 + j.val, by omega⟩ 0 q + A.lo b ⟨2048 + j.val, by omega⟩ 1 q + A.hi b ⟨2048 + j.val, by omega⟩ 2 q
    + A.lo b ⟨2048 + j.val, by omega⟩ 3 q

theorem dh_halves (b : Fin 2) (l : Fin 2048) (q : Fin 1024) {l' : Fin 2304} (e : l'.val = l.val) :
    A.lo b l' 0 q + A.hi b l' 0 q + A.lo b l' 1 q + A.hi b l' 1 q + A.lo b l' 2 q + A.hi b l' 2 q + A.lo b l' 3 q
      + A.hi b l' 3 q = A.dh b l q := by
  have h : ∀ f : Fin 1024 → ℝ, ∑ k, f k = ∑ k : Fin 512, f ⟨k.val, by omega⟩ + ∑ k : Fin 512, f ⟨512 + k.val, by omega⟩ :=
    fun f => by rw [show (∑ k, f k) = ∑ k : Fin (512 + 512), f k from rfl, Fin.sum_univ_add]; rfl
  obtain rfl : l' = ⟨l.val, Nat.lt_trans l.isLt (by decide)⟩ := Fin.ext e
  unfold dh
  simp only [h, Fin.sum_univ_four, lo, hi]
  ring

/-- Scale of a latent sample's modulation. -/
def scale (b : Fin 2) : Row := fun q => A.mod ⟨b.val, by omega⟩ ⟨1024 + q.val, by omega⟩
/-- Scale of the context's modulation. -/
def scaleC : Row := fun q => A.mod 2 ⟨1024 + q.val, by omega⟩
/-- Gradient of the scaled normalised row. -/
def dhn (b : Fin 2) (l : Fin 2048) : Row := fun q => A.dh b l q * (1 + A.scale b q)
def dhnC (b : Fin 2) (j : Fin 256) : Row := fun q => A.dhc b j q * (1 + A.scaleC q)
/-- Gradient of the normalised row. -/
def dxn (b : Fin 2) (l : Fin 2048) : Row := fun q => A.dhn b l q * A.g q
/-- Gradient with respect to the latent input, the residual's added. -/
def gx (b : Fin 2) (l : Fin 2048) : Row := fun q => A.dx2 b l q + normBwd (A.x b l) (A.dxn b l) q

/-- The term a latent token contributes to row `r` of the small sums. -/
def term (r : Fin 8) (q : Fin 1024) (b : Fin 2) (l : Fin 2048) : ℝ :=
  if r.val = 0 then A.dhn b l q * xr (A.x b l) q else if r.val = 3 + b.val then A.dh b l q
  else if r.val = 5 + b.val then A.dh b l q * (xr (A.x b l) q * A.g q) else 0
/-- The term a context token contributes. -/
def termC (r : Fin 8) (q : Fin 1024) (b : Fin 2) (j : Fin 256) : ℝ :=
  if r.val = 0 then A.dhnC b j q * xr (A.cx b j) q else if r.val = 1 then A.dhc b j q
  else if r.val = 2 then A.dhc b j q * (xr (A.cx b j) q * A.g q) else 0
/-- The small sums: the gradients of the norm's scale, of the context's shift and scale, and of each sample's shift
and scale; the last row is zero. -/
def sm (r : Fin 8) (q : Fin 1024) : ℝ := ∑ b, ∑ l, A.term r q b l + ∑ b, ∑ j, A.termC r q b j

end Args

/-! ## Sums over the tokens, point by point -/

/-- The part of a sum over all tokens that one grid point's tile contributes: eight latent tiles and the context of a
sample, then the other sample's. -/
def tileSum (G : Fin 2 → Fin 2048 → ℝ) (C : Fin 2 → Fin 256 → ℝ) (n : ℕ) : ℝ :=
  if h : n < 18 then
    if h8 : n % 9 < 8 then ∑ p : Fin 256, G ⟨n / 9, by omega⟩ ⟨n % 9 * 256 + p.val, by omega⟩
    else ∑ p : Fin 256, C ⟨n / 9, by omega⟩ p
  else 0

/-- The part the points up to `n` contribute. -/
def partSum (G : Fin 2 → Fin 2048 → ℝ) (C : Fin 2 → Fin 256 → ℝ) : ℕ → ℝ
  | 0 => tileSum G C 0
  | n + 1 => partSum G C n + tileSum G C (n + 1)

theorem sum_tiles (f : Fin 2048 → ℝ) : ∑ l, f l = ∑ i : Fin 8, ∑ p : Fin 256, f ⟨i.val * 256 + p.val, by omega⟩ := by
  rw [← Fintype.sum_prod_type' (f := fun (i : Fin 8) (p : Fin 256) => f ⟨i.val * 256 + p.val, by omega⟩)]
  refine (Fintype.sum_equiv (finProdFinEquiv (m := 8) (n := 256)) _ f fun x => ?_).symm
  refine congrArg f (Fin.ext ?_)
  show x.1.val * 256 + x.2.val = x.2.val + 256 * x.1.val
  ring

theorem partSum_last (G : Fin 2 → Fin 2048 → ℝ) (C : Fin 2 → Fin 256 → ℝ) :
    partSum G C 17 = ∑ b, ∑ l, G b l + ∑ b, ∑ j, C b j := by
  rw [Fin.sum_univ_two, Fin.sum_univ_two, sum_tiles, sum_tiles, Fin.sum_univ_eight, Fin.sum_univ_eight]
  simp only [partSum, tileSum, Nat.reduceLT, ↓reduceDIte, Nat.reduceDiv, Nat.reduceMod, Nat.reduceAdd, Nat.lt_irrefl,
    Nat.zero_add]
  change ((((((((((((((((((_ : ℝ) + _) + _) + _) + _) + _) + _) + _) + _) + _) + _) + _) + _) + _) + _) + _) + _) + _) = _
  simp only [Fin.val_zero, Fin.val_one]
  exact regroup _ _ _ _ _ _ _ _ _ _ _ _ _ _ _ _ _ _
where
  regroup (a0 a1 a2 a3 a4 a5 a6 a7 c0 b0 b1 b2 b3 b4 b5 b6 b7 c1 : ℝ) :
      a0 + a1 + a2 + a3 + a4 + a5 + a6 + a7 + c0 + b0 + b1 + b2 + b3 + b4 + b5 + b6 + b7 + c1
        = a0 + a1 + a2 + a3 + a4 + a5 + a6 + a7 + (b0 + b1 + b2 + b3 + b4 + b5 + b6 + b7) + (c0 + c1) := by ring

/-- Seven arrays of extended reals are the real arguments `A`. -/
structure Holds (A : Args) (x0 : (⟨4, ![2, 2304, 4, 1024]⟩ : Shape).Idx → EReal)
    (x1 : (⟨3, ![4, 1024, 1024]⟩ : Shape).Idx → EReal) (x2 : (⟨3, ![2, 2048, 1024]⟩ : Shape).Idx → EReal)
    (x3 : (⟨3, ![2, 256, 1024]⟩ : Shape).Idx → EReal) (x4 : (⟨3, ![2, 2048, 1024]⟩ : Shape).Idx → EReal)
    (x5 : (⟨2, ![3, 3072]⟩ : Shape).Idx → EReal) (x6 : (⟨1, ![1024]⟩ : Shape).Idx → EReal) : Prop where
  dp : ∀ b l s k, x0 (ix4 b l s k) = ((A.dp b l s k : ℝ) : EReal)
  w : ∀ s q k, x1 (ix3 s q k) = ((A.w s q k : ℝ) : EReal)
  x : ∀ b l k, x2 (ix3 b l k) = ((A.x b l k : ℝ) : EReal)
  cx : ∀ b j k, x3 (ix3 b j k) = ((A.cx b j k : ℝ) : EReal)
  dx2 : ∀ b l k, x4 (ix3 b l k) = ((A.dx2 b l k : ℝ) : EReal)
  mod : ∀ b k, x5 (ix2 b k) = ((A.mod b k : ℝ) : EReal)
  g : ∀ k, x6 (ix1 k) = ((A.g k : ℝ) : EReal)

end Cert.DhModel

end
-- ==== Proof.DhRef.lean ====
/- The reference of the projection's input gradient, read at an index as real numbers. -/
module

public import proofs.«01_k».proof.Proof.Gen.Reference2Ideal.Read
public import proofs.«01_k».proof.Proof.DhModel

@[expose] public section

set_option maxRecDepth 16384

noncomputable section

namespace Cert.Reference2Ideal.Read

open Cert.Reference2Ideal Cert.Reference2Ideal.Gen Idealize.ShloMosaic Idealize.ShloMosaic.TcCoe Idealize.SL.Sem Idealize.ShloMosaic.StableHlo
open Cert.DhModel
open Cert.Model (coe_sum coe_div coe_rsqrt c1024 eps_coe cnhalf ms rs xr ms_pos hostSum_front)

variable {x0 : (⟨S2x2304x4x1024, .f32⟩ : BufTy).Contents (Elt Ideal)} {x1 : (⟨S4x1024x1024, .f32⟩ : BufTy).Contents (Elt Ideal)}
  {x2 : (⟨S2x2048x1024, .f32⟩ : BufTy).Contents (Elt Ideal)} {x3 : (⟨S2x256x1024, .f32⟩ : BufTy).Contents (Elt Ideal)}
  {x4 : (⟨S2x2048x1024, .f32⟩ : BufTy).Contents (Elt Ideal)} {x5 : (⟨S3x3072, .f32⟩ : BufTy).Contents (Elt Ideal)}
  {x6 : (⟨S1024, .f32⟩ : BufTy).Contents (Elt Ideal)} {A : Args} (H : Holds A x0 x1 x2 x3 x4 x5 x6)

include H

theorem rdh (b : Fin 2) (l : Fin 2048) (q : Fin 1024) :
    val_main_v83 (F := Ideal) x0 x1 (ix3 b l q) = ((A.dh b l q : ℝ) : EReal) := by
  pointwise [val_main_v83, val_main_v67]
  simp only [H.dp, H.w, ← EReal.coe_mul, coe_sum, Args.dh]

theorem rdhc (b : Fin 2) (j : Fin 256) (q : Fin 1024) :
    val_main_v82 (F := Ideal) x0 x1 (ix3 b j q) = ((A.dhc b j q : ℝ) : EReal) := by
  pointwise [val_main_v82, val_main_v80, val_main_v78, val_main_v76, val_main_v77, val_main_v79, val_main_v81, val_main_v75,
    val_main_v74, val_main_v73, val_main_v72, val_main_v71, val_main_v70, val_main_v69, val_main_v68, val_main_v65, val_main_v64,
    val_main_v62, val_main_v61, val_main_v59, val_main_v58, val_main_v56, val_main_v55]
  simp only [H.dp, H.w, ← EReal.coe_mul, coe_sum, ← EReal.coe_add]
  refine congrArg _ (Eq.trans ?_ (reorder _ _ _ _))
  rfl
where
  reorder (a b c d : ℝ) : d + c + b + a = a + b + c + d := by ring

theorem rms (b : Fin 2) (l : Fin 2048) :
    val_main_v12 (F := Ideal) x2 (ix3 b l 0) = ((ms (A.x b l) : ℝ) : EReal) := by
  pointwise [val_main_v12, val_main_v11, val_main_v10, val_main_v9, val_main_v8, val_main_v7, val_main_v6, val_main_cst,
    val_main_cst_0, val_main_cst_1]
  simp only [H.x, ← EReal.coe_mul, coe_sum, c1024, eps_coe, coe_div (by norm_num : (1024 : ℝ) ≠ 0), ← EReal.coe_add, ms]

theorem rrs (b : Fin 2) (l : Fin 2048) :
    val_main_v13 (F := Ideal) x2 (ix3 b l 0) = ((rs (A.x b l) : ℝ) : EReal) := by
  pointwise [val_main_v13]
  simp only [rms H, coe_rsqrt (ms_pos _), rs]

theorem rslope (b : Fin 2) (l : Fin 2048) :
    val_main_v16 (F := Ideal) x2 (ix3 b l 0) = ((-(1 / 2) * (rs (A.x b l) / ms (A.x b l)) : ℝ) : EReal) := by
  pointwise [val_main_v16, val_main_v15, val_main_v14, val_main_cst_2]
  simp only [rms H, rrs H, coe_div (ms_pos _).ne', cnhalf, ← EReal.coe_mul]

theorem rxn (b : Fin 2) (l : Fin 2048) (q : Fin 1024) :
    val_main_v18 (F := Ideal) x2 (ix3 b l q) = ((xr (A.x b l) q : ℝ) : EReal) := by
  pointwise [val_main_v18, val_main_v17]
  simp only [H.x, rrs H, ← EReal.coe_mul, xr]

theorem rmsc (b : Fin 2) (j : Fin 256) :
    val_main_v36 (F := Ideal) x3 (ix3 b j 0) = ((ms (A.cx b j) : ℝ) : EReal) := by
  pointwise [val_main_v36, val_main_v35, val_main_v34, val_main_v33, val_main_v32, val_main_v31, val_main_v30, val_main_cst_4,
    val_main_cst_5, val_main_cst_6]
  simp only [H.cx, ← EReal.coe_mul, coe_sum, c1024, eps_coe, coe_div (by norm_num : (1024 : ℝ) ≠ 0), ← EReal.coe_add, ms]

theorem rrsc (b : Fin 2) (j : Fin 256) :
    val_main_v37 (F := Ideal) x3 (ix3 b j 0) = ((rs (A.cx b j) : ℝ) : EReal) := by
  pointwise [val_main_v37]
  simp only [rmsc H, coe_rsqrt (ms_pos _), rs]

theorem rxnc (b : Fin 2) (j : Fin 256) (q : Fin 1024) :
    val_main_v42 (F := Ideal) x3 (ix3 b j q) = ((xr (A.cx b j) q : ℝ) : EReal) := by
  pointwise [val_main_v42, val_main_v41]
  simp only [H.cx, rrsc H, ← EReal.coe_mul, xr]

theorem rdhn (b : Fin 2) (l : Fin 2048) (q : Fin 1024) :
    val_main_v120 (F := Ideal) x0 x1 x5 (ix3 b l q) = ((A.dhn b l q : ℝ) : EReal) := by
  pointwise [val_main_v120, val_main_v119, val_main_v24, val_main_v23, val_main_v22, val_main_v1, val_main_cst_3]
  have one : (1 : EReal) = ((1 : ℝ) : EReal) := EReal.coe_one.symm
  simp only [rdh H, H.mod, cone, one, ← EReal.coe_add, ← EReal.coe_mul, Args.dhn, Args.scale]

theorem rdhnC (b : Fin 2) (j : Fin 256) (q : Fin 1024) :
    val_main_v91 (F := Ideal) x0 x1 x5 (ix3 b j q) = ((A.dhnC b j q : ℝ) : EReal) := by
  pointwise [val_main_v91, val_main_v90, val_main_v48, val_main_v47, val_main_v46, val_main_v5, val_main_v4, val_main_cst_8]
  have one : (1 : EReal) = ((1 : ℝ) : EReal) := EReal.coe_one.symm
  simp only [rdhc H, H.mod, cone, one, ← EReal.coe_add, ← EReal.coe_mul]
  rfl

theorem rdxn (b : Fin 2) (l : Fin 2048) (q : Fin 1024) :
    val_main_v126 (F := Ideal) x0 x1 x5 x6 (ix3 b l q) = ((A.dxn b l q : ℝ) : EReal) := by
  pointwise [val_main_v126, val_main_v125, val_main_v19]
  simp only [rdhn H, H.g, ← EReal.coe_mul, Args.dxn]

/-- The gradient with respect to the latent input. -/
theorem out_gx (b : Fin 2) (l : Fin 2048) (q : Fin 1024) :
    val_main_v143 (F := Ideal) x0 x1 x2 x4 x5 x6 (ix3 b l q) = ((A.gx b l q : ℝ) : EReal) := by
  pointwise [val_main_v143, val_main_v142, val_main_v141, val_main_v140, val_main_v139, val_main_v138, val_main_v137, val_main_v136,
    val_main_v135, val_main_v134, val_main_v133, val_main_v132, val_main_v131, val_main_v130, val_main_v129, val_main_cst_24,
    val_main_cst_25, val_main_cst_26]
  simp only [Fin.sum_univ_one]
  simp only [H.x, H.dx2, rdxn H, rrs H, rslope H, ← EReal.coe_mul, coe_sum, c1024, coe_div (by norm_num : (1024 : ℝ) ≠ 0),
    ← EReal.coe_add]
  exact congrArg _ (normBwd_chain (A.x b l) (A.dxn b l) (A.dx2 b l q) q)

/-! ## The small sums -/

theorem sum_dhc (q : Fin 1024) :
    val_main_v86 (F := Ideal) x0 x1 (ix1 q) = ((∑ b, ∑ j, A.dhc b j q : ℝ) : EReal) := by
  pointwise [val_main_v86, val_main_cst_10]
  rw [hostSum_front]
  pointwise [val_main_v85, val_main_v84, val_main_cst_9]
  rw [Fin.sum_univ_one, Fin.sum_univ_one, hostSum_front]
  pointwise
  simp only [rdhc H, coe_sum]

theorem sum_scaleC (q : Fin 1024) :
    val_main_v92 (F := Ideal) x0 x1 x3 x6 (ix1 q) = ((∑ b, ∑ j, A.dhc b j q * (xr (A.cx b j) q * A.g q) : ℝ) : EReal) := by
  pointwise [val_main_v92, val_main_cst_12]
  rw [hostSum_front]
  pointwise [val_main_v89, val_main_v88, val_main_cst_11]
  rw [Fin.sum_univ_one, Fin.sum_univ_one, hostSum_front]
  pointwise [val_main_v87, val_main_v45, val_main_v44, val_main_v43]
  simp only [rdhc H, rxnc H, H.g, ← EReal.coe_mul, coe_sum]
  exact congrArg _ (Finset.sum_congr rfl fun b _ => Finset.sum_congr rfl fun j _ => mul_comm _ _)

theorem sum_gC (q : Fin 1024) :
    val_main_v98 (F := Ideal) x0 x1 x3 x5 (ix1 q) = ((∑ b, ∑ j, A.dhnC b j q * xr (A.cx b j) q : ℝ) : EReal) := by
  pointwise [val_main_v98, val_main_cst_14]
  rw [hostSum_front]
  pointwise [val_main_v95, val_main_v94, val_main_cst_13]
  rw [Fin.sum_univ_one, Fin.sum_univ_one, hostSum_front]
  pointwise [val_main_v93]
  simp only [rdhnC H, rxnc H, ← EReal.coe_mul, coe_sum]
  exact congrArg _ (Finset.sum_congr rfl fun b _ => Finset.sum_congr rfl fun j _ => mul_comm _ _)

theorem sum_gL (q : Fin 1024) :
    val_main_v127 (F := Ideal) x0 x1 x2 x5 (ix1 q) = ((∑ b, ∑ l, A.dhn b l q * xr (A.x b l) q : ℝ) : EReal) := by
  pointwise [val_main_v127, val_main_cst_23]
  rw [hostSum_front]
  pointwise [val_main_v124, val_main_v123, val_main_cst_22]
  rw [Fin.sum_univ_one, Fin.sum_univ_one, hostSum_front]
  pointwise [val_main_v122]
  simp only [rdhn H, rxn H, ← EReal.coe_mul, coe_sum]
  exact congrArg _ (Finset.sum_congr rfl fun b _ => Finset.sum_congr rfl fun l _ => mul_comm _ _)

theorem sum_shift (b : Fin 2) (q : Fin 1024) :
    val_main_v115 (F := Ideal) x0 x1 (ix2 b q) = ((∑ l, A.dh b l q : ℝ) : EReal) := by
  pointwise [val_main_v115, val_main_v114, val_main_v113, val_main_cst_18, val_main_cst_19]
  simp only [Fin.sum_univ_one, rdh H, coe_sum]

theorem sum_scale (b : Fin 2) (q : Fin 1024) :
    val_main_v121 (F := Ideal) x0 x1 x2 x6 (ix2 b q) = ((∑ l, A.dh b l q * (xr (A.x b l) q * A.g q) : ℝ) : EReal) := by
  pointwise [val_main_v121, val_main_v118, val_main_v117, val_main_v116, val_main_v21, val_main_v20, val_main_v19, val_main_cst_20,
    val_main_cst_21]
  simp only [Fin.sum_univ_one, rdh H, rxn H, H.g, ← EReal.coe_mul, coe_sum]
  exact congrArg _ (Finset.sum_congr rfl fun l _ => mul_comm _ _)

theorem row0 (z : Fin 1) (q : Fin 1024) :
    val_main_v144 (F := Ideal) x0 x1 x2 x3 x5 (ix2 z q)
      = ((∑ b, ∑ j, A.dhnC b j q * xr (A.cx b j) q + ∑ b, ∑ l, A.dhn b l q * xr (A.x b l) q : ℝ) : EReal) := by
  pointwise [val_main_v144, val_main_v128]
  rw [sum_gC H, sum_gL H, ← EReal.coe_add]

theorem row1 (z : Fin 1) (q : Fin 1024) :
    val_main_v145 (F := Ideal) x0 x1 (ix2 z q) = ((∑ b, ∑ j, A.dhc b j q : ℝ) : EReal) := by
  pointwise [val_main_v145]
  exact sum_dhc H q

theorem row2 (z : Fin 1) (q : Fin 1024) :
    val_main_v146 (F := Ideal) x0 x1 x3 x6 (ix2 z q) = ((∑ b, ∑ j, A.dhc b j q * (xr (A.cx b j) q * A.g q) : ℝ) : EReal) := by
  pointwise [val_main_v146]
  exact sum_scaleC H q

omit H in
theorem row7 (z : Fin 1) (q : Fin 1024) : val_main_v147 (F := Ideal) (ix2 z q) = ((0 : ℝ) : EReal) := by
  pointwise [val_main_v147, val_main_cst_27]
  rfl

/-- The rows of the small sums. -/
theorem out_sm (r : Fin 8) (q : Fin 1024) :
    val_main_v148 (F := Ideal) x0 x1 x2 x3 x5 x6 (ix2 r q) = ((A.sm r q : ℝ) : EReal) := by
  pointwise [val_main_v148]
  simp only [row0 H, row1 H, row2 H, row7, sum_shift H, sum_scale H]
  by_cases h0 : r.val < 1
  · refine (dif_pos h0).trans (congrArg _ ?_)
    have e : r.val = 0 := by omega
    simp only [Args.sm, Args.term, Args.termC, e, ↓reduceIte]
    exact add_comm _ _
  refine (dif_neg h0).trans ?_
  by_cases h1 : r.val - 1 < 1
  · refine (dif_pos h1).trans (congrArg _ ?_)
    obtain rfl : r = 1 := Fin.ext (show r.val = 1 by omega)
    simp [Args.sm, Args.term, Args.termC]
  refine (dif_neg h1).trans ?_
  by_cases h2 : r.val - 1 - 1 < 1
  · refine (dif_pos h2).trans (congrArg _ ?_)
    obtain rfl : r = 2 := Fin.ext (show r.val = 2 by omega)
    simp [Args.sm, Args.term, Args.termC]
  refine (dif_neg h2).trans ?_
  by_cases h3 : r.val - 1 - 1 - 1 < 2
  · refine (dif_pos h3).trans (congrArg _ ?_)
    by_cases e : r.val = 3
    · obtain rfl : r = 3 := Fin.ext e
      simp [Args.sm, Args.term, Args.termC, Fin.sum_univ_two (M := ℝ)]
    · obtain rfl : r = 4 := Fin.ext (show r.val = 4 by omega)
      simp [Args.sm, Args.term, Args.termC, Fin.sum_univ_two (M := ℝ)]
  refine (dif_neg h3).trans ?_
  by_cases h4 : r.val - 1 - 1 - 1 - 2 < 2
  · refine (dif_pos h4).trans (congrArg _ ?_)
    by_cases e : r.val = 5
    · obtain rfl : r = 5 := Fin.ext e
      simp [Args.sm, Args.term, Args.termC, Fin.sum_univ_two (M := ℝ)]
    · obtain rfl : r = 6 := Fin.ext (show r.val = 6 by omega)
      simp [Args.sm, Args.term, Args.termC, Fin.sum_univ_two (M := ℝ)]
  · refine (dif_neg h4).trans (congrArg _ ?_)
    obtain rfl : r = 7 := Fin.ext (show r.val = 7 by omega)
    simp [Args.sm, Args.term, Args.termC, Fin.sum_univ_two (M := ℝ)]

end Cert.Reference2Ideal.Read
end
-- ==== Proof.DhTile.lean ====
/- The kernel's arithmetic on one tile of 256 tokens, latent or context, read at an index as real numbers. -/
module

public import proofs.«01_k».proof.Proof.Gen.Kernel2Ideal.Skeleton
public import proofs.«01_k».proof.Proof.DhModel

@[expose] public section

set_option maxRecDepth 16384

noncomputable section

namespace Cert.Dh

open Cert.Kernel2Ideal Cert.Kernel2Ideal.Gen Idealize.ShloMosaic Idealize.ShloMosaic.TcCoe Idealize.SL.Sem
open Cert.DhModel
open Cert.Model (coe_sum coe_div coe_rsqrt c1024 eps_coe ms_pos)

theorem one_coe : (1 : EReal) = ((1 : ℝ) : EReal) := EReal.coe_one.symm

/-- What the latent tile of sample `b` whose tokens are `l p` loads: the eight half sections, the matching halves of
    the weights, the norm's input, the residual's gradient, the sample's modulation row and the norm's scale. -/
structure Lat (A : Args) (b : Fin 2) (l : Fin 256 → Fin 2048) (v12 v18 v24 v30 v36 v42 v48 v54 : Vec Ideal S1x256x512 .bf16)
    (v14 v20 v26 v32 v38 v44 v50 v56 : Vec Ideal S1x1024x512 .bf16) (v60 v122 : Vec Ideal S1x256x1024 .f32)
    (v63 : Vec Ideal S1x3072 .f32) (v66 : Vec Ideal S1x1024 .f32) : Prop where
  d0 : ∀ (p : Fin 256) (k : Fin 512), v12 (ix3 0 p k) = ((A.dp b ⟨(l p).val, by omega⟩ 0 ⟨k.val, by omega⟩ : ℝ) : EReal)
  d1 : ∀ (p : Fin 256) (k : Fin 512), v18 (ix3 0 p k) = ((A.dp b ⟨(l p).val, by omega⟩ 0 ⟨512 + k.val, by omega⟩ : ℝ) : EReal)
  d2 : ∀ (p : Fin 256) (k : Fin 512), v24 (ix3 0 p k) = ((A.dp b ⟨(l p).val, by omega⟩ 1 ⟨k.val, by omega⟩ : ℝ) : EReal)
  d3 : ∀ (p : Fin 256) (k : Fin 512), v30 (ix3 0 p k) = ((A.dp b ⟨(l p).val, by omega⟩ 1 ⟨512 + k.val, by omega⟩ : ℝ) : EReal)
  d4 : ∀ (p : Fin 256) (k : Fin 512), v36 (ix3 0 p k) = ((A.dp b ⟨(l p).val, by omega⟩ 2 ⟨k.val, by omega⟩ : ℝ) : EReal)
  d5 : ∀ (p : Fin 256) (k : Fin 512), v42 (ix3 0 p k) = ((A.dp b ⟨(l p).val, by omega⟩ 2 ⟨512 + k.val, by omega⟩ : ℝ) : EReal)
  d6 : ∀ (p : Fin 256) (k : Fin 512), v48 (ix3 0 p k) = ((A.dp b ⟨(l p).val, by omega⟩ 3 ⟨k.val, by omega⟩ : ℝ) : EReal)
  d7 : ∀ (p : Fin 256) (k : Fin 512), v54 (ix3 0 p k) = ((A.dp b ⟨(l p).val, by omega⟩ 3 ⟨512 + k.val, by omega⟩ : ℝ) : EReal)
  w0 : ∀ (q : Fin 1024) (k : Fin 512), v14 (ix3 0 q k) = ((A.w 0 q ⟨k.val, by omega⟩ : ℝ) : EReal)
  w1 : ∀ (q : Fin 1024) (k : Fin 512), v20 (ix3 0 q k) = ((A.w 0 q ⟨512 + k.val, by omega⟩ : ℝ) : EReal)
  w2 : ∀ (q : Fin 1024) (k : Fin 512), v26 (ix3 0 q k) = ((A.w 1 q ⟨k.val, by omega⟩ : ℝ) : EReal)
  w3 : ∀ (q : Fin 1024) (k : Fin 512), v32 (ix3 0 q k) = ((A.w 1 q ⟨512 + k.val, by omega⟩ : ℝ) : EReal)
  w4 : ∀ (q : Fin 1024) (k : Fin 512), v38 (ix3 0 q k) = ((A.w 2 q ⟨k.val, by omega⟩ : ℝ) : EReal)
  w5 : ∀ (q : Fin 1024) (k : Fin 512), v44 (ix3 0 q k) = ((A.w 2 q ⟨512 + k.val, by omega⟩ : ℝ) : EReal)
  w6 : ∀ (q : Fin 1024) (k : Fin 512), v50 (ix3 0 q k) = ((A.w 3 q ⟨k.val, by omega⟩ : ℝ) : EReal)
  w7 : ∀ (q : Fin 1024) (k : Fin 512), v56 (ix3 0 q k) = ((A.w 3 q ⟨512 + k.val, by omega⟩ : ℝ) : EReal)
  x : ∀ (p : Fin 256) (q : Fin 1024), v60 (ix3 0 p q) = ((A.x b (l p) q : ℝ) : EReal)
  dx2 : ∀ (p : Fin 256) (q : Fin 1024), v122 (ix3 0 p q) = ((A.dx2 b (l p) q : ℝ) : EReal)
  mod : ∀ k : Fin 3072, v63 (ix2 0 k) = ((A.mod ⟨b.val, by omega⟩ k : ℝ) : EReal)
  g : ∀ q : Fin 1024, v66 (ix2 0 q) = ((A.g q : ℝ) : EReal)

section Latent

variable {A : Args} {b : Fin 2} {l : Fin 256 → Fin 2048} {v12 v18 v24 v30 v36 v42 v48 v54 : Vec Ideal S1x256x512 .bf16}
    {v14 v20 v26 v32 v38 v44 v50 v56 : Vec Ideal S1x1024x512 .bf16} {v60 v122 : Vec Ideal S1x256x1024 .f32}
    {v63 : Vec Ideal S1x3072 .f32} {v66 : Vec Ideal S1x1024 .f32}
    (T : Lat A b l v12 v18 v24 v30 v36 v42 v48 v54 v14 v20 v26 v32 v38 v44 v50 v56 v60 v122 v63 v66)

include T

theorem Lat.dh (p : Fin 256) (q : Fin 1024) :
    k0_pay8 (k0_pay6 v12 v14 v18 v20 v24 v26 v30 v32) (k0_pay7 v36) v38 v42 v44 v48 v50 v54 v56 (ix2 p q)
      = ((A.dh b (l p) q : ℝ) : EReal) := by
  pointwise [k0_pay8, k0_pay7, k0_pay6]
  simp only [T.d0, T.d1, T.d2, T.d3, T.d4, T.d5, T.d6, T.d7, T.w0, T.w1, T.w2, T.w3, T.w4, T.w5, T.w6, T.w7, ← EReal.coe_mul,
    coe_sum, ← EReal.coe_add, zero_add]
  exact congrArg _ (A.dh_halves b (l p) q rfl)

theorem Lat.inp (p : Fin 256) (q : Fin 1024) : k0_pay9 v60 (ix2 p q) = ((A.x b (l p) q : ℝ) : EReal) := by
  pointwise [k0_pay9]
  exact T.x p q

theorem Lat.scale (q : Fin 1024) : k0_pay10 v63 (ix2 0 q) = ((A.scale b q : ℝ) : EReal) := by
  pointwise [k0_pay10]
  exact T.mod _

theorem Lat.gain (q : Fin 1024) : k0_pay11 v66 (ix2 0 q) = ((A.g q : ℝ) : EReal) := by
  pointwise [k0_pay11]
  exact T.g q

end Latent

/-- The arrays a latent tile computes with, read as real numbers. -/
structure LatR (A : Args) (b : Fin 2) (l : Fin 256 → Fin 2048) (v59 v61 : FVec Ideal S256x1024 .f32)
    (v65 v67 : FVec Ideal S1x1024 .f32) : Prop where
  dh : ∀ (p : Fin 256) (q : Fin 1024), v59 (ix2 p q) = ((A.dh b (l p) q : ℝ) : EReal)
  x : ∀ (p : Fin 256) (q : Fin 1024), v61 (ix2 p q) = ((A.x b (l p) q : ℝ) : EReal)
  scale : ∀ q : Fin 1024, v65 (ix2 0 q) = ((A.scale b q : ℝ) : EReal)
  g : ∀ q : Fin 1024, v67 (ix2 0 q) = ((A.g q : ℝ) : EReal)

section LatentR

variable {A : Args} {b : Fin 2} {l : Fin 256 → Fin 2048} {v59 v61 : FVec Ideal S256x1024 .f32}
    {v65 v67 : FVec Ideal S1x1024 .f32} (R : LatR A b l v59 v61 v65 v67)

include R

theorem LatR.rs (p : Fin 256) : k0_pay12 v61 (ix2 p 0) = ((Model.rs (A.x b (l p)) : ℝ) : EReal) := by
  pointwise [k0_pay12]
  simp only [R.x, ← EReal.coe_mul, coe_sum, c1024, eps_coe, coe_div (by norm_num : (1024 : ℝ) ≠ 0), ← EReal.coe_add]
  exact coe_rsqrt (ms_pos _)

theorem LatR.xn (p : Fin 256) (q : Fin 1024) : k0_pay13 v61 (ix2 p q) = ((Model.xr (A.x b (l p)) q : ℝ) : EReal) := by
  pointwise [k0_pay13]
  simp only [R.x, R.rs, ← EReal.coe_mul, Model.xr]

theorem LatR.sumshift (q : Fin 1024) : k0_pay14 v59 (ix2 0 q) = ((∑ p, A.dh b (l p) q : ℝ) : EReal) := by
  pointwise [k0_pay14]
  simp only [R.dh, coe_sum]

theorem LatR.sumscale (q : Fin 1024) :
    k0_pay15 v59 v61 v67 (ix2 0 q) = ((∑ p, A.dh b (l p) q * (Model.xr (A.x b (l p)) q * A.g q) : ℝ) : EReal) := by
  pointwise [k0_pay15]
  simp only [R.dh, R.xn, R.g, ← EReal.coe_mul, coe_sum]

theorem LatR.dhn (p : Fin 256) (q : Fin 1024) : k0_pay16 v59 v65 (ix2 p q) = ((A.dhn b (l p) q : ℝ) : EReal) := by
  pointwise [k0_pay16]
  simp only [R.dh, R.scale, cone, one_coe, ← EReal.coe_add, ← EReal.coe_mul, Args.dhn]

theorem LatR.sumg (old : Vec Ideal S1x1024 .f32) (q : Fin 1024) :
    k0_pay17 v59 v61 v65 old (ix2 0 q) = old (ix2 0 q) + ((∑ p, A.dhn b (l p) q * Model.xr (A.x b (l p)) q : ℝ) : EReal) := by
  pointwise [k0_pay17]
  simp only [R.dhn, R.xn, ← EReal.coe_mul, coe_sum]

theorem LatR.dx (p : Fin 256) (q : Fin 1024) :
    k0_pay18 v59 v61 v65 v67 (ix2 p q) = ((normBwd (A.x b (l p)) (A.dxn b (l p)) q : ℝ) : EReal) := by
  pointwise [k0_pay18]
  simp only [R.dhn, R.xn, R.rs, R.g, ← EReal.coe_mul, coe_sum, c1024, coe_div (by norm_num : (1024 : ℝ) ≠ 0), ← EReal.coe_sub,
    normBwd, Args.dxn]

theorem LatR.gx {v122 : Vec Ideal S1x256x1024 .f32}
    (h : ∀ (p : Fin 256) (q : Fin 1024), v122 (ix3 0 p q) = ((A.dx2 b (l p) q : ℝ) : EReal)) (p : Fin 256) (q : Fin 1024) :
    k0_pay4 (k0_pay18 v59 v61 v65 v67) v122 (ix3 0 p q) = ((A.gx b (l p) q : ℝ) : EReal) := by
  pointwise [k0_pay4]
  simp only [R.dx, h, ← EReal.coe_add, Args.gx]

/-- The row of the sample's shift: the stored sum and this tile's. -/
theorem LatR.rowshift (old : Vec Ideal S1x1024 .f32) (q : Fin 1024) :
    k0_pay2 (k0_pay14 v59) (k0_pay19 old) (ix2 0 q) = old (ix2 0 q) + ((∑ p, A.dh b (l p) q : ℝ) : EReal) := by
  pointwise [k0_pay2, k0_pay19]
  rw [R.sumshift]

/-- The row of the sample's scale. -/
theorem LatR.rowscale (old : Vec Ideal S1x1024 .f32) (q : Fin 1024) :
    k0_pay3 (k0_pay15 v59 v61 v67) old (ix2 0 q)
      = old (ix2 0 q) + ((∑ p, A.dh b (l p) q * (Model.xr (A.x b (l p)) q * A.g q) : ℝ) : EReal) := by
  pointwise [k0_pay3]
  rw [R.sumscale]

end LatentR

/-! ## The context's tile -/

/-- What the context's tile of sample `b` loads. -/
structure Ctx (A : Args) (b : Fin 2) (v12 v18 v24 v30 : Vec Ideal S1x256x512 .bf16)
    (v14 v20 v26 v32 : Vec Ideal S1x1024x512 .bf16) (v36 : Vec Ideal S1x256x1024 .f32)
    (v38 : Vec Ideal S1x3072 .f32) (v41 : Vec Ideal S1x1024 .f32) : Prop where
  d0 : ∀ (p : Fin 256) (k : Fin 512), v12 (ix3 0 p k) = ((A.dp b ⟨2048 + p.val, by omega⟩ 0 ⟨512 + k.val, by omega⟩ : ℝ) : EReal)
  d1 : ∀ (p : Fin 256) (k : Fin 512), v18 (ix3 0 p k) = ((A.dp b ⟨2048 + p.val, by omega⟩ 1 ⟨k.val, by omega⟩ : ℝ) : EReal)
  d2 : ∀ (p : Fin 256) (k : Fin 512), v24 (ix3 0 p k) = ((A.dp b ⟨2048 + p.val, by omega⟩ 2 ⟨512 + k.val, by omega⟩ : ℝ) : EReal)
  d3 : ∀ (p : Fin 256) (k : Fin 512), v30 (ix3 0 p k) = ((A.dp b ⟨2048 + p.val, by omega⟩ 3 ⟨k.val, by omega⟩ : ℝ) : EReal)
  w0 : ∀ (q : Fin 1024) (k : Fin 512), v14 (ix3 0 q k) = ((A.w 0 q ⟨512 + k.val, by omega⟩ : ℝ) : EReal)
  w1 : ∀ (q : Fin 1024) (k : Fin 512), v20 (ix3 0 q k) = ((A.w 1 q ⟨k.val, by omega⟩ : ℝ) : EReal)
  w2 : ∀ (q : Fin 1024) (k : Fin 512), v26 (ix3 0 q k) = ((A.w 2 q ⟨512 + k.val, by omega⟩ : ℝ) : EReal)
  w3 : ∀ (q : Fin 1024) (k : Fin 512), v32 (ix3 0 q k) = ((A.w 3 q ⟨k.val, by omega⟩ : ℝ) : EReal)
  cx : ∀ (p : Fin 256) (q : Fin 1024), v36 (ix3 0 p q) = ((A.cx b p q : ℝ) : EReal)
  mod : ∀ k : Fin 3072, v38 (ix2 0 k) = ((A.mod 2 k : ℝ) : EReal)
  g : ∀ q : Fin 1024, v41 (ix2 0 q) = ((A.g q : ℝ) : EReal)

section Context

variable {A : Args} {b : Fin 2} {v12 v18 v24 v30 : Vec Ideal S1x256x512 .bf16}
    {v14 v20 v26 v32 : Vec Ideal S1x1024x512 .bf16} {v36 : Vec Ideal S1x256x1024 .f32}
    {v38 : Vec Ideal S1x3072 .f32} {v41 : Vec Ideal S1x1024 .f32} (T : Ctx A b v12 v18 v24 v30 v14 v20 v26 v32 v36 v38 v41)

include T

theorem Ctx.dh (p : Fin 256) (q : Fin 1024) :
    k0_pay20 v12 v14 v18 v20 v24 v26 v30 v32 (ix2 p q) = ((A.dhc b p q : ℝ) : EReal) := by
  pointwise [k0_pay20]
  simp only [T.d0, T.d1, T.d2, T.d3, T.w0, T.w1, T.w2, T.w3, ← EReal.coe_mul, coe_sum, ← EReal.coe_add, zero_add, Args.dhc, Args.lo,
    Args.hi]

theorem Ctx.inp (p : Fin 256) (q : Fin 1024) : k0_pay21 v36 (ix2 p q) = ((A.cx b p q : ℝ) : EReal) := by
  pointwise [k0_pay21]
  exact T.cx p q

end Context

/-- The arrays a context tile computes with, read as real numbers. -/
structure CtxR (A : Args) (b : Fin 2) (v35 v37 : FVec Ideal S256x1024 .f32) (v38 : Vec Ideal S1x3072 .f32)
    (v41 : Vec Ideal S1x1024 .f32) : Prop where
  dh : ∀ (p : Fin 256) (q : Fin 1024), v35 (ix2 p q) = ((A.dhc b p q : ℝ) : EReal)
  x : ∀ (p : Fin 256) (q : Fin 1024), v37 (ix2 p q) = ((A.cx b p q : ℝ) : EReal)
  mod : ∀ k : Fin 3072, v38 (ix2 0 k) = ((A.mod 2 k : ℝ) : EReal)
  g : ∀ q : Fin 1024, v41 (ix2 0 q) = ((A.g q : ℝ) : EReal)

section ContextR

variable {A : Args} {b : Fin 2} {v35 v37 : FVec Ideal S256x1024 .f32} {v38 : Vec Ideal S1x3072 .f32}
    {v41 : Vec Ideal S1x1024 .f32} (R : CtxR A b v35 v37 v38 v41)

include R

theorem CtxR.xn (p : Fin 256) (q : Fin 1024) : k0_pay22 v37 (ix2 p q) = ((Model.xr (A.cx b p) q : ℝ) : EReal) := by
  pointwise [k0_pay22]
  simp only [R.x, ← EReal.coe_mul, coe_sum, c1024, eps_coe, coe_div (by norm_num : (1024 : ℝ) ≠ 0), ← EReal.coe_add]
  refine (congrArg (((A.cx b p q : ℝ) : EReal) * ·) (coe_rsqrt (ms_pos (A.cx b p)))).trans ?_
  rw [← EReal.coe_mul]
  rfl

theorem CtxR.sumscale (q : Fin 1024) (old : Vec Ideal S1x1024 .f32) :
    k0_pay5 (k0_pay23 v35 v37 v41) old (ix2 0 q)
      = old (ix2 0 q) + ((∑ p, A.dhc b p q * (Model.xr (A.cx b p) q * A.g q) : ℝ) : EReal) := by
  pointwise [k0_pay5, k0_pay23]
  simp only [R.dh, R.xn, R.g, ← EReal.coe_mul, coe_sum]

theorem CtxR.sumg (old : Vec Ideal S1x1024 .f32) (q : Fin 1024) :
    k0_pay24 v35 v37 v38 old (ix2 0 q) = old (ix2 0 q) + ((∑ p, A.dhnC b p q * Model.xr (A.cx b p) q : ℝ) : EReal) := by
  pointwise [k0_pay24]
  simp only [R.dh, R.xn, R.mod, cone, one_coe, ← EReal.coe_add, ← EReal.coe_mul, coe_sum]
  rfl

theorem CtxR.sumshift (old : Vec Ideal S1x1024 .f32) (q : Fin 1024) :
    k0_pay25 v35 old (ix2 0 q) = old (ix2 0 q) + ((∑ p, A.dhc b p q : ℝ) : EReal) := by
  pointwise [k0_pay25]
  simp only [R.dh, coe_sum]

end ContextR

/-- The zero array the first point stores. -/
theorem zeros (r : Fin 8) (q : Fin 1024) : (k0_pay1 (F := Ideal)) (ix2 r q) = ((0 : ℝ) : EReal) := by
  pointwise [k0_pay1]
  rfl

end Cert.Dh
end
-- ==== Proof.DhBlk.lean ====
/- The kernel's blocks at a grid point, read at an index of the arguments. -/
module

public import proofs.«01_k».proof.Proof.Gen.Kernel2Ideal.Frame
public import proofs.«01_k».proof.Proof.Gen.Kernel2Ideal.Points
public import proofs.«01_k».proof.Proof.DhTile
public import Idealize.ShloMosaic.Lib.Pipeline.ValueKit

@[expose] public section

set_option maxRecDepth 16384

noncomputable section

namespace Cert.Dh

open Cert.Kernel2Ideal Cert.Kernel2Ideal.Gen Idealize.ShloMosaic Idealize.ShloMosaic.TcCoe Idealize.SL.Sem
open Idealize.ShloMosaic.Pipeline (Dat)
open Cert.DhModel

theorem idx : ∀ t : Fin cfg0.N,
    win0_0.index t = ![t.val / 9, min (t.val % 9) 7, 0] ∧ win0_1.index t = ![t.val / 9, t.val % 9, 0]
    ∧ win0_2.index t = ![t.val / 9, t.val % 9, 0] ∧ win0_3.index t = ![t.val / 9, min (t.val % 9) 7, 0]
    ∧ win0_4.index t = ![t.val / 9, min (t.val % 9) 7, 0] ∧ win0_5.index t = ![t.val / 9, t.val % 9, 0]
    ∧ win0_6.index t = ![t.val / 9, t.val % 9, 0] ∧ win0_7.index t = ![t.val / 9, min (t.val % 9) 7, 0]
    ∧ win0_8.index t = ![0, 0, 0] ∧ win0_9.index t = ![t.val / 9, min (t.val % 9) 7, 0]
    ∧ win0_10.index t = ![t.val / 9, 0, 0] ∧ win0_11.index t = ![t.val / 9, min (t.val % 9) 7, 0]
    ∧ win0_12.index t = ![0, 0] ∧ win0_13.index t = ![0, 0]
    ∧ win0_14.index t = ![t.val / 9, min (t.val % 9) 7, 0] ∧ win0_15.index t = ![0, 0] :=
  (by decide +kernel : ∀ t : Fin grid0.N, _)

theorem off1 : ∀ t : Fin cfg0.N, t.val % 9 ≠ 8 → k0_off1 (grid0.coords t) = ![t.val / 9, 0] :=
  (by decide +kernel : ∀ t : Fin grid0.N, _)
theorem off2 : ∀ t : Fin cfg0.N, t.val % 9 ≠ 8 → k0_off2 (grid0.coords t) 3#32 = ![3 + t.val / 9, 0]
    ∧ k0_off2 (grid0.coords t) 5#32 = ![5 + t.val / 9, 0] :=
  (by decide +kernel : ∀ t : Fin grid0.N, _)

theorem ltN (t : Fin cfg0.N) : t.val < 18 := lt_of_lt_of_eq t.isLt N_0

/-- The sample of a grid point, and the token of a row of its tile among the latent ones and among all. -/
def bOf (t : Fin cfg0.N) : Fin 2 := ⟨t.val / 9, by have := ltN t; omega⟩
def lOf (t : Fin cfg0.N) (p : Fin 256) : Fin 2048 := ⟨min (t.val % 9) 7 * 256 + p.val, by omega⟩
def tOf (t : Fin cfg0.N) (p : Fin 256) : Fin 2304 := ⟨t.val % 9 * 256 + p.val, by omega⟩

variable (m : (ℓ : Loc nD τ sig) → Buf (Elt Ideal) ℓ) (c : Dev nD)

theorem blk0 (t : Fin cfg0.N) (p : Fin 256) (k : Fin 512) :
    iblk m c 0 t (ix3 0 p k) = m ((c : Thread nD τ).loc main_arg0) (ix4 (bOf t) ⟨(lOf t p).val, by omega⟩ 0 ⟨k.val, by omega⟩) := by
  have e : iblk m c 0 t (ix3 0 p k) = V m c main_v2 (ix3 (bOf t) (lOf t p) k) := by
    rw [iblk]
    blk_ext! [idx t, bOf, lOf, tOf]
  refine e.trans ?_
  entry_read
  pointwise
theorem blk1 (t : Fin cfg0.N) (p : Fin 256) (k : Fin 512) :
    iblk m c 1 t (ix3 0 p k) = m ((c : Thread nD τ).loc main_arg0) (ix4 (bOf t) (tOf t p) 0 ⟨512 + k.val, by omega⟩) := by
  have e : iblk m c 1 t (ix3 0 p k) = V m c main_v5 (ix3 (bOf t) (tOf t p) k) := by
    rw [iblk]
    blk_ext! [idx t, bOf, lOf, tOf]
  refine e.trans ?_
  entry_read
  pointwise
theorem blk2 (t : Fin cfg0.N) (p : Fin 256) (k : Fin 512) :
    iblk m c 2 t (ix3 0 p k) = m ((c : Thread nD τ).loc main_arg0) (ix4 (bOf t) (tOf t p) 1 ⟨k.val, by omega⟩) := by
  have e : iblk m c 2 t (ix3 0 p k) = V m c main_v8 (ix3 (bOf t) (tOf t p) k) := by
    rw [iblk]
    blk_ext! [idx t, bOf, lOf, tOf]
  refine e.trans ?_
  entry_read
  pointwise
theorem blk3 (t : Fin cfg0.N) (p : Fin 256) (k : Fin 512) :
    iblk m c 3 t (ix3 0 p k) = m ((c : Thread nD τ).loc main_arg0) (ix4 (bOf t) ⟨(lOf t p).val, by omega⟩ 1 ⟨512 + k.val, by omega⟩) := by
  have e : iblk m c 3 t (ix3 0 p k) = V m c main_v11 (ix3 (bOf t) (lOf t p) k) := by
    rw [iblk]
    blk_ext! [idx t, bOf, lOf, tOf]
  refine e.trans ?_
  entry_read
  pointwise
theorem blk4 (t : Fin cfg0.N) (p : Fin 256) (k : Fin 512) :
    iblk m c 4 t (ix3 0 p k) = m ((c : Thread nD τ).loc main_arg0) (ix4 (bOf t) ⟨(lOf t p).val, by omega⟩ 2 ⟨k.val, by omega⟩) := by
  have e : iblk m c 4 t (ix3 0 p k) = V m c main_v14 (ix3 (bOf t) (lOf t p) k) := by
    rw [iblk]
    blk_ext! [idx t, bOf, lOf, tOf]
  refine e.trans ?_
  entry_read
  pointwise
theorem blk5 (t : Fin cfg0.N) (p : Fin 256) (k : Fin 512) :
    iblk m c 5 t (ix3 0 p k) = m ((c : Thread nD τ).loc main_arg0) (ix4 (bOf t) (tOf t p) 2 ⟨512 + k.val, by omega⟩) := by
  have e : iblk m c 5 t (ix3 0 p k) = V m c main_v17 (ix3 (bOf t) (tOf t p) k) := by
    rw [iblk]
    blk_ext! [idx t, bOf, lOf, tOf]
  refine e.trans ?_
  entry_read
  pointwise
theorem blk6 (t : Fin cfg0.N) (p : Fin 256) (k : Fin 512) :
    iblk m c 6 t (ix3 0 p k) = m ((c : Thread nD τ).loc main_arg0) (ix4 (bOf t) (tOf t p) 3 ⟨k.val, by omega⟩) := by
  have e : iblk m c 6 t (ix3 0 p k) = V m c main_v20 (ix3 (bOf t) (tOf t p) k) := by
    rw [iblk]
    blk_ext! [idx t, bOf, lOf, tOf]
  refine e.trans ?_
  entry_read
  pointwise
theorem blk7 (t : Fin cfg0.N) (p : Fin 256) (k : Fin 512) :
    iblk m c 7 t (ix3 0 p k) = m ((c : Thread nD τ).loc main_arg0) (ix4 (bOf t) ⟨(lOf t p).val, by omega⟩ 3 ⟨512 + k.val, by omega⟩) := by
  have e : iblk m c 7 t (ix3 0 p k) = V m c main_v23 (ix3 (bOf t) (lOf t p) k) := by
    rw [iblk]
    blk_ext! [idx t, bOf, lOf, tOf]
  refine e.trans ?_
  entry_read
  pointwise
theorem blk8 (t : Fin cfg0.N) (r : Fin 4) (q k : Fin 1024) :
    iblk m c 8 t (ix3 r q k) = m ((c : Thread nD τ).loc main_arg1) (ix3 r q k) := by
  have e : iblk m c 8 t (ix3 r q k) = V m c main_v26 (ix3 r q k) := by
    rw [iblk]
    blk_ext! [idx t]
  refine e.trans ?_
  entry_read
  pointwise
theorem blk9 (t : Fin cfg0.N) (p : Fin 256) (k : Fin 1024) :
    iblk m c 9 t (ix3 0 p k) = m ((c : Thread nD τ).loc main_arg2) (ix3 (bOf t) (lOf t p) k) := by
  blk_point [iblk, V, idx t, bOf, lOf]
theorem blk10 (t : Fin cfg0.N) (p : Fin 256) (k : Fin 1024) :
    iblk m c 10 t (ix3 0 p k) = m ((c : Thread nD τ).loc main_arg3) (ix3 (bOf t) p k) := by
  blk_point [iblk, V, idx t, bOf, lOf]
theorem blk11 (t : Fin cfg0.N) (p : Fin 256) (k : Fin 1024) :
    iblk m c 11 t (ix3 0 p k) = m ((c : Thread nD τ).loc main_arg4) (ix3 (bOf t) (lOf t p) k) := by
  blk_point [iblk, V, idx t, bOf, lOf]
theorem blk12 (t : Fin cfg0.N) (r : Fin 8) (k : Fin 3072) :
    iblk m c 12 t (ix2 r k) = if h : r.val < 3 then m ((c : Thread nD τ).loc main_arg5) (ix2 ⟨r.val, h⟩ k) else (0 : EReal) := by
  have e : iblk m c 12 t (ix2 r k) = V m c main_v25 (ix2 r k) := by
    rw [iblk]
    blk_ext! [idx t]
  refine e.trans ?_
  entry_read
  pointwise
theorem blk13 (t : Fin cfg0.N) (k : Fin 1024) :
    iblk m c 13 t (ix2 0 k) = m ((c : Thread nD τ).loc main_arg6) (ix1 k) := by
  have e : iblk m c 13 t (ix2 0 k) = V m c main_v27 (ix2 0 k) := by
    rw [iblk]
    blk_ext! [idx t]
  refine e.trans ?_
  entry_read
  pointwise

/-- A half section of the weights, loaded at offset `o` of the columns. -/
theorem ldw (t : Fin cfg0.N) (r : Fin 4) (h : ∀ a, ![r.val, 0, 0] a + ![1, 1024, 512] a ≤ S4x1024x1024.size a) (q : Fin 1024)
    (k : Fin 512) : View.ld (iblk m c 8 t) (Rect.unit ![r.val, 0, 0] ![1, 1024, 512] h) (ix3 0 q k)
      = m ((c : Thread nD τ).loc main_arg1) (ix3 r q ⟨k.val, by omega⟩) := by
  refine Eq.trans (View.ld_unit_apply_of _ _ _ _ _ _ fun a => ?_) (blk8 m c t r q ⟨k.val, by omega⟩)
  match a with
  | ⟨0, _⟩ => rfl
  | ⟨1, _⟩ => exact (Nat.zero_add _).symm
  | ⟨2, _⟩ => exact (Nat.zero_add _).symm
theorem ldw' (t : Fin cfg0.N) (r : Fin 4) (h : ∀ a, ![r.val, 0, 512] a + ![1, 1024, 512] a ≤ S4x1024x1024.size a) (q : Fin 1024)
    (k : Fin 512) : View.ld (iblk m c 8 t) (Rect.unit ![r.val, 0, 512] ![1, 1024, 512] h) (ix3 0 q k)
      = m ((c : Thread nD τ).loc main_arg1) (ix3 r q ⟨512 + k.val, by omega⟩) := by
  refine Eq.trans (View.ld_unit_apply_of _ _ _ _ _ _ fun a => ?_) (blk8 m c t r q ⟨512 + k.val, by omega⟩)
  match a with
  | ⟨0, _⟩ => rfl
  | ⟨1, _⟩ => exact (Nat.zero_add _).symm
  | ⟨2, _⟩ => rfl

/-- The modulation row of a latent point's sample. -/
theorem ldmod (t : Fin cfg0.N) (h8 : t.val % 9 ≠ 8) (h : ∀ a, k0_off1 (grid0.coords t) a + ![1, 3072] a ≤ S8x3072.size a)
    (k : Fin 3072) : View.ld (iblk m c 12 t) (Rect.unit (k0_off1 (grid0.coords t)) ![1, 3072] h) (ix2 0 k)
      = m ((c : Thread nD τ).loc main_arg5) (ix2 ⟨(bOf t).val, by omega⟩ k) := by
  have hb : t.val / 9 < 2 := (bOf t).isLt
  refine (View.ld_unit_apply_of _ _ _ _ _ (ix2 ⟨t.val / 9, by omega⟩ k) fun a => ?_).trans
    ((blk12 m c t _ k).trans (dif_pos (show t.val / 9 < 3 by omega)))
  match a with
  | ⟨0, _⟩ => exact (congrFun (off1 t h8) 0).symm
  | ⟨1, _⟩ => exact ((congrArg (· + k.val) (congrFun (off1 t h8) 1)).trans (Nat.zero_add _)).symm
/-- The modulation row of the context. -/
theorem ldmodc (t : Fin cfg0.N) (h : ∀ a, ![2, 0] a + ![1, 3072] a ≤ S8x3072.size a) (k : Fin 3072) :
    View.ld (iblk m c 12 t) (Rect.unit ![2, 0] ![1, 3072] h) (ix2 0 k) = m ((c : Thread nD τ).loc main_arg5) (ix2 2 k) := by
  refine (View.ld_unit_apply_of _ _ _ _ _ (ix2 2 k) fun a => ?_).trans
    ((blk12 m c t _ k).trans (dif_pos (show (2 : ℕ) < 3 by omega)))
  match a with
  | ⟨0, _⟩ => rfl
  | ⟨1, _⟩ => exact (Nat.zero_add _).symm

variable {A : Args} (H : Holds A (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)))

include H

/-- A latent point's loads are a latent tile's. -/
theorem latTile (t : Fin cfg0.N) (h8 : t.val % 9 ≠ 8) (w0 w1 w2 w3 w4 w5 w6 w7 : _)
    (hm : ∀ a, k0_off1 (grid0.coords t) a + ![1, 3072] a ≤ S8x3072.size a) :
    Lat A (bOf t) (lOf t) (iblk m c 0 t) (iblk m c 1 t) (iblk m c 2 t) (iblk m c 3 t) (iblk m c 4 t) (iblk m c 5 t) (iblk m c 6 t)
      (iblk m c 7 t) (View.ld (iblk m c 8 t) (Rect.unit ![0, 0, 0] ![1, 1024, 512] w0))
      (View.ld (iblk m c 8 t) (Rect.unit ![0, 0, 512] ![1, 1024, 512] w1))
      (View.ld (iblk m c 8 t) (Rect.unit ![1, 0, 0] ![1, 1024, 512] w2))
      (View.ld (iblk m c 8 t) (Rect.unit ![1, 0, 512] ![1, 1024, 512] w3))
      (View.ld (iblk m c 8 t) (Rect.unit ![2, 0, 0] ![1, 1024, 512] w4))
      (View.ld (iblk m c 8 t) (Rect.unit ![2, 0, 512] ![1, 1024, 512] w5))
      (View.ld (iblk m c 8 t) (Rect.unit ![3, 0, 0] ![1, 1024, 512] w6))
      (View.ld (iblk m c 8 t) (Rect.unit ![3, 0, 512] ![1, 1024, 512] w7)) (iblk m c 9 t) (iblk m c 11 t)
      (View.ld (iblk m c 12 t) (Rect.unit (k0_off1 (grid0.coords t)) ![1, 3072] hm)) (iblk m c 13 t) := by
  have e : ∀ p, tOf t p = ⟨(lOf t p).val, by omega⟩ := fun p =>
    Fin.ext (show t.val % 9 * 256 + p.val = min (t.val % 9) 7 * 256 + p.val by omega)
  exact {
    d0 := fun p k => (blk0 m c t p k).trans (H.dp _ _ _ _)
    d1 := fun p k => (blk1 m c t p k).trans ((H.dp _ _ _ _).trans (by rw [e]))
    d2 := fun p k => (blk2 m c t p k).trans ((H.dp _ _ _ _).trans (by rw [e]))
    d3 := fun p k => (blk3 m c t p k).trans (H.dp _ _ _ _)
    d4 := fun p k => (blk4 m c t p k).trans (H.dp _ _ _ _)
    d5 := fun p k => (blk5 m c t p k).trans ((H.dp _ _ _ _).trans (by rw [e]))
    d6 := fun p k => (blk6 m c t p k).trans ((H.dp _ _ _ _).trans (by rw [e]))
    d7 := fun p k => (blk7 m c t p k).trans (H.dp _ _ _ _)
    w0 := fun q k => (ldw m c t 0 w0 q k).trans (H.w _ _ _)
    w1 := fun q k => (ldw' m c t 0 w1 q k).trans (H.w _ _ _)
    w2 := fun q k => (ldw m c t 1 w2 q k).trans (H.w _ _ _)
    w3 := fun q k => (ldw' m c t 1 w3 q k).trans (H.w _ _ _)
    w4 := fun q k => (ldw m c t 2 w4 q k).trans (H.w _ _ _)
    w5 := fun q k => (ldw' m c t 2 w5 q k).trans (H.w _ _ _)
    w6 := fun q k => (ldw m c t 3 w6 q k).trans (H.w _ _ _)
    w7 := fun q k => (ldw' m c t 3 w7 q k).trans (H.w _ _ _)
    x := fun p q => (blk9 m c t p q).trans (H.x _ _ _)
    dx2 := fun p q => (blk11 m c t p q).trans (H.dx2 _ _ _)
    mod := fun k => (ldmod m c t h8 hm k).trans (H.mod _ _)
    g := fun q => (blk13 m c t q).trans (H.g q) }

/-- A context point's loads are a context tile's. -/
theorem ctxTile (t : Fin cfg0.N) (h8 : t.val % 9 = 8) (w0 w1 w2 w3 : _)
    (hm : ∀ a, ![2, 0] a + ![1, 3072] a ≤ S8x3072.size a) :
    Ctx A (bOf t) (iblk m c 1 t) (iblk m c 2 t) (iblk m c 5 t) (iblk m c 6 t)
      (View.ld (iblk m c 8 t) (Rect.unit ![0, 0, 512] ![1, 1024, 512] w0))
      (View.ld (iblk m c 8 t) (Rect.unit ![1, 0, 0] ![1, 1024, 512] w1))
      (View.ld (iblk m c 8 t) (Rect.unit ![2, 0, 512] ![1, 1024, 512] w2))
      (View.ld (iblk m c 8 t) (Rect.unit ![3, 0, 0] ![1, 1024, 512] w3)) (iblk m c 10 t)
      (View.ld (iblk m c 12 t) (Rect.unit ![2, 0] ![1, 3072] hm)) (iblk m c 13 t) := by
  have e : ∀ p : Fin 256, tOf t p = ⟨2048 + p.val, by omega⟩ := fun p =>
    Fin.ext (show t.val % 9 * 256 + p.val = 2048 + p.val by omega)
  exact {
    d0 := fun p k => (blk1 m c t p k).trans ((H.dp _ _ _ _).trans (by rw [e]))
    d1 := fun p k => (blk2 m c t p k).trans ((H.dp _ _ _ _).trans (by rw [e]))
    d2 := fun p k => (blk5 m c t p k).trans ((H.dp _ _ _ _).trans (by rw [e]))
    d3 := fun p k => (blk6 m c t p k).trans ((H.dp _ _ _ _).trans (by rw [e]))
    w0 := fun q k => (ldw' m c t 0 w0 q k).trans (H.w _ _ _)
    w1 := fun q k => (ldw m c t 1 w1 q k).trans (H.w _ _ _)
    w2 := fun q k => (ldw' m c t 2 w2 q k).trans (H.w _ _ _)
    w3 := fun q k => (ldw m c t 3 w3 q k).trans (H.w _ _ _)
    cx := fun p q => (blk10 m c t p q).trans (H.cx _ _ _)
    mod := fun k => (ldmodc m c t hm k).trans (H.mod _ _)
    g := fun q => (blk13 m c t q).trans (H.g q) }

end Cert.Dh
end
-- ==== Proof.DhOut.lean ====
/- What the kernel's two results hold after each grid point: the gradient of a tile, and the row sums so far. -/
module

public import proofs.«01_k».proof.Proof.DhFrame
public import proofs.«01_k».proof.Proof.DhBlk
public import Idealize.ShloMosaic.Lib.WritesUnit

@[expose] public section

set_option maxRecDepth 16384

noncomputable section

namespace Cert.Dh

open Cert.Kernel2Ideal Cert.Kernel2Ideal.Gen Idealize.ShloMosaic Idealize.ShloMosaic.TcCoe Idealize.SL.Sem
open Idealize.ShloMosaic.Pipeline (Dat)
open Cert.DhModel

theorem Lat.toR {A : Args} {b : Fin 2} {l : Fin 256 → Fin 2048} {v12 v18 v24 v30 v36 v42 v48 v54 : Vec Ideal S1x256x512 .bf16}
    {v14 v20 v26 v32 v38 v44 v50 v56 : Vec Ideal S1x1024x512 .bf16} {v60 v122 : Vec Ideal S1x256x1024 .f32}
    {v63 : Vec Ideal S1x3072 .f32} {v66 : Vec Ideal S1x1024 .f32}
    (T : Lat A b l v12 v18 v24 v30 v36 v42 v48 v54 v14 v20 v26 v32 v38 v44 v50 v56 v60 v122 v63 v66) :
    LatR A b l (k0_pay8 (k0_pay6 v12 v14 v18 v20 v24 v26 v30 v32) (k0_pay7 v36) v38 v42 v44 v48 v50 v54 v56) (k0_pay9 v60)
      (k0_pay10 v63) (k0_pay11 v66) := ⟨T.dh, T.inp, T.scale, T.gain⟩

theorem Ctx.toR {A : Args} {b : Fin 2} {v12 v18 v24 v30 : Vec Ideal S1x256x512 .bf16}
    {v14 v20 v26 v32 : Vec Ideal S1x1024x512 .bf16} {v36 : Vec Ideal S1x256x1024 .f32}
    {v38 : Vec Ideal S1x3072 .f32} {v41 : Vec Ideal S1x1024 .f32} (T : Ctx A b v12 v18 v24 v30 v14 v20 v26 v32 v36 v38 v41) :
    CtxR A b (k0_pay20 v12 v14 v18 v20 v24 v26 v30 v32) (k0_pay21 v36) v38 v41 := ⟨T.dh, T.inp, T.mod, T.g⟩

/-! ## Row stores into the sums -/

/-- One row of a load. -/
theorem ld_row (P : Vec Ideal S8x1024 .f32) {off : Fin 2 → ℕ} (inb : ∀ a, off a + ![1, 1024] a ≤ S8x1024.size a) (r : Fin 8)
    (hoff : off = ![r.val, 0]) (q : Fin 1024) : View.ld P (Rect.unit off ![1, 1024] inb) (ix2 0 q) = P (ix2 r q) := by
  subst hoff
  refine View.ld_unit_apply_of _ _ _ _ _ _ fun a => ?_
  match a with
  | 0 => rfl
  | 1 => exact (Nat.zero_add _).symm

/-- The sums `s` with `d` added to row `a`. -/
def upd (s : Fin 8 → Fin 1024 → ℝ) (a : Fin 8) (d : Fin 1024 → ℝ) : Fin 8 → Fin 1024 → ℝ :=
  fun r q => if r = a then s a q + d q else s r q

theorem upd_ne (s : Fin 8 → Fin 1024 → ℝ) {a r : Fin 8} (d : Fin 1024 → ℝ) (h : r ≠ a) (q : Fin 1024) : upd s a d r q = s r q :=
  if_neg h

section Rows

variable {sg' : RefSig} {κ : Kind} {sp : Space} (v : View sg' κ sp S8x1024 .f32) (f : v.ty.Contents (Elt Ideal))
  {L : List (View.Piece (Elt Ideal) S8x1024 .f32)} {s : Fin 8 → Fin 1024 → ℝ}

/-- The buffer, written with `L`, holds the real numbers `s`. -/
def State (L : List (View.Piece (Elt Ideal) S8x1024 .f32)) (s : Fin 8 → Fin 1024 → ℝ) : Prop :=
  ∀ r q, v.read (Elt Ideal) (v.writes (Elt Ideal) f L) (ix2 r q) = ((s r q : ℝ) : EReal)

variable {v f}

theorem State.ld (hL : State v f L s) {off : Fin 2 → ℕ} (inb : ∀ a, off a + ![1, 1024] a ≤ S8x1024.size a) (a : Fin 8)
    (hoff : off = ![a.val, 0]) (q : Fin 1024) :
    View.ld (v.read (Elt Ideal) (v.writes (Elt Ideal) f L)) (Rect.unit off ![1, 1024] inb) (ix2 0 q) = ((s a q : ℝ) : EReal) :=
  (ld_row _ inb a hoff q).trans (hL a q)

/-- A store of row `a` with `d` added leaves the other rows. -/
theorem State.add (hL : State v f L s) {off : Fin 2 → ℕ} (inb : ∀ a, off a + ![1, 1024] a ≤ S8x1024.size a) (a : Fin 8)
    (hoff : off = ![a.val, 0]) (w : Vec Ideal S1x1024 .f32) (d : Fin 1024 → ℝ)
    (hw : ∀ q, w (ix2 0 q) = ((s a q : ℝ) : EReal) + ((d q : ℝ) : EReal)) :
    State v f (⟨Rect.unit off ![1, 1024] inb, w⟩ :: L) (upd s a d) := by
  intro r q
  by_cases h : r = a
  · subst h
    refine (View.read_writes_cons_rows_of_mem v f inb w L (ix2 r q) (ix2 0 q) hoff rfl rfl).trans ((hw q).trans ?_)
    rw [← EReal.coe_add, upd, if_pos rfl]
  · have h' : r.val ≠ a.val := fun e => h (Fin.ext e)
    refine (View.read_writes_cons_rows_of_not_mem v f inb w L (ix2 r q) hoff rfl
      (show r.val < a.val ∨ a.val + 1 ≤ r.val by omega)).trans ((hL r q).trans (congrArg _ (upd_ne s d h q).symm))

end Rows

variable (m : (ℓ : Loc nD τ sig) → Buf (Elt Ideal) ℓ) (c : Dev nD)

/-- The program's arguments are the real arguments `A`. -/
abbrev Hold (A : Args) : Prop := Holds A (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))

variable {A : Args}

/-! ## One point's terms -/

/-- The part of the small sums that point `t` adds. -/
abbrev part (A : Args) (t : ℕ) (r : Fin 8) (q : Fin 1024) : ℝ := tileSum (A.term r q) (A.termC r q) t

theorem part_lat (t : Fin cfg0.N) (h8 : t.val % 9 ≠ 8) (r : Fin 8) (q : Fin 1024) :
    part A t.val r q = ∑ p, A.term r q (bOf t) (lOf t p) := by
  have ht := ltN t
  unfold part tileSum
  rw [dif_pos ht, dif_pos (by omega)]
  refine Finset.sum_congr rfl fun p _ => congrArg (A.term r q (bOf t)) (Fin.ext ?_)
  show t.val % 9 * 256 + p.val = min (t.val % 9) 7 * 256 + p.val
  omega

theorem part_ctx (t : Fin cfg0.N) (h8 : t.val % 9 = 8) (r : Fin 8) (q : Fin 1024) :
    part A t.val r q = ∑ p, A.termC r q (bOf t) p := by
  have ht := ltN t
  unfold part tileSum
  rw [dif_pos ht, dif_neg (by omega)]
  rfl

/-- The three rows a latent point adds to are the point's part. -/
theorem rows_lat (t : Fin cfg0.N) (h8 : t.val % 9 ≠ 8) (s : Fin 8 → Fin 1024 → ℝ) {a1 a2 : Fin 8} (h1 : a1.val = 3 + t.val / 9)
    (h2 : a2.val = 5 + t.val / 9) (r : Fin 8) (q : Fin 1024) :
    upd (upd (upd s 0 fun q => ∑ p, A.dhn (bOf t) (lOf t p) q * Model.xr (A.x (bOf t) (lOf t p)) q) a1
        fun q => ∑ p, A.dh (bOf t) (lOf t p) q) a2
        (fun q => ∑ p, A.dh (bOf t) (lOf t p) q * (Model.xr (A.x (bOf t) (lOf t p)) q * A.g q)) r q
      = s r q + part A t.val r q := by
  have ht := ltN t
  have hb : (bOf t).val = t.val / 9 := rfl
  rw [part_lat t h8]
  unfold Args.term
  have n10 : a1 ≠ 0 := fun e => by rw [e] at h1; exact absurd h1 (by show ¬(0 = _); omega)
  have n20 : a2 ≠ 0 := fun e => by rw [e] at h2; exact absurd h2 (by show ¬(0 = _); omega)
  have n21 : a2 ≠ a1 := fun e => by rw [e] at h2; omega
  by_cases e2 : r = a2
  · subst e2
    rw [upd, if_pos rfl, upd_ne _ _ n21, upd_ne _ _ n20]
    refine congrArg _ (Finset.sum_congr rfl fun p _ => ?_)
    rw [if_neg (by omega), if_neg (by omega), if_pos (by omega)]
  rw [upd_ne _ _ e2]
  by_cases e1 : r = a1
  · subst e1
    rw [upd, if_pos rfl, upd_ne _ _ n10]
    refine congrArg _ (Finset.sum_congr rfl fun p _ => ?_)
    rw [if_neg (by omega), if_pos (by omega)]
  rw [upd_ne _ _ e1]
  by_cases e0 : r = 0
  · subst e0
    rw [upd, if_pos rfl]
    exact congrArg _ (Finset.sum_congr rfl fun p _ => (if_pos rfl).symm)
  have r0 : r.val ≠ 0 := fun e => e0 (Fin.ext e)
  have r1 : r.val ≠ 3 + t.val / 9 := fun e => e1 (Fin.ext (e.trans h1.symm))
  have r2 : r.val ≠ 5 + t.val / 9 := fun e => e2 (Fin.ext (e.trans h2.symm))
  rw [upd_ne _ _ e0]
  refine (add_eq_left.mpr (Finset.sum_eq_zero fun p _ => ?_)).symm
  rw [if_neg r0, if_neg (show ¬ r.val = 3 + (bOf t).val from r1), if_neg (show ¬ r.val = 5 + (bOf t).val from r2)]

/-- The three rows a context point adds to are the point's part. -/
theorem rows_ctx (t : Fin cfg0.N) (h8 : t.val % 9 = 8) (s : Fin 8 → Fin 1024 → ℝ) (r : Fin 8) (q : Fin 1024) :
    upd (upd (upd s 0 fun q => ∑ p, A.dhnC (bOf t) p q * Model.xr (A.cx (bOf t) p) q) 1 fun q => ∑ p, A.dhc (bOf t) p q) 2
        (fun q => ∑ p, A.dhc (bOf t) p q * (Model.xr (A.cx (bOf t) p) q * A.g q)) r q
      = s r q + part A t.val r q := by
  rw [part_ctx t h8]
  unfold Args.termC
  by_cases e2 : r = 2
  · subst e2
    rw [upd, if_pos rfl, upd_ne _ _ (by decide), upd_ne _ _ (by decide)]
    rfl
  rw [upd_ne _ _ e2]
  by_cases e1 : r = 1
  · subst e1
    rw [upd, if_pos rfl, upd_ne _ _ (by decide)]
    rfl
  rw [upd_ne _ _ e1]
  by_cases e0 : r = 0
  · subst e0
    rw [upd, if_pos rfl]
    exact congrArg _ (Finset.sum_congr rfl fun p _ => (if_pos rfl).symm)
  rw [upd_ne _ _ e0]
  refine (add_eq_left.mpr (Finset.sum_eq_zero fun p _ => ?_)).symm
  rw [if_neg (fun e => e0 (Fin.ext e) : ¬ r.val = 0), if_neg (fun e => e1 (Fin.ext e) : ¬ r.val = 1),
    if_neg (fun e => e2 (Fin.ext e) : ¬ r.val = 2)]

section Steps

variable {sg' : RefSig} {κ : Kind} {sp : Space} {v : View sg' κ sp S8x1024 .f32} {f : v.ty.Contents (Elt Ideal)}
  {L : List (View.Piece (Elt Ideal) S8x1024 .f32)} {s : Fin 8 → Fin 1024 → ℝ}

/-- The three row stores of a latent point, each of a row loaded after the stores before it. -/
theorem lat_step (t : Fin cfg0.N) (h8 : t.val % 9 ≠ 8) {v59 v61 : FVec Ideal S256x1024 .f32} {v65 v67 : FVec Ideal S1x1024 .f32}
    (R : LatR A (bOf t) (lOf t) v59 v61 v65 v67) (hL : State v f L s) {old : Vec Ideal S1x1024 .f32}
    (hold : ∀ q, old (ix2 0 q) = ((s 0 q : ℝ) : EReal)) {o3 o5 : Fin 2 → ℕ} (e3 : o3 = ![3 + t.val / 9, 0])
    (e5 : o5 = ![5 + t.val / 9, 0]) (i0 : ∀ a, ![0, 0] a + ![1, 1024] a ≤ S8x1024.size a)
    (i3 : ∀ a, o3 a + ![1, 1024] a ≤ S8x1024.size a) (i5 : ∀ a, o5 a + ![1, 1024] a ≤ S8x1024.size a)
    {w3 w5 : Vec Ideal S1x1024 .f32}
    (h3 : w3 = View.ld (v.read (Elt Ideal) (v.writes (Elt Ideal) f
      (⟨Rect.unit ![0, 0] ![1, 1024] i0, k0_pay17 v59 v61 v65 old⟩ :: L))) (Rect.unit o3 ![1, 1024] i3))
    (h5 : w5 = View.ld (v.read (Elt Ideal) (v.writes (Elt Ideal) f (⟨Rect.unit o3 ![1, 1024] i3, k0_pay2 (k0_pay14 v59) (k0_pay19 w3)⟩
      :: ⟨Rect.unit ![0, 0] ![1, 1024] i0, k0_pay17 v59 v61 v65 old⟩ :: L))) (Rect.unit o5 ![1, 1024] i5)) :
    State v f (⟨Rect.unit o5 ![1, 1024] i5, k0_pay3 (k0_pay15 v59 v61 v67) w5⟩ ::
      ⟨Rect.unit o3 ![1, 1024] i3, k0_pay2 (k0_pay14 v59) (k0_pay19 w3)⟩ ::
      ⟨Rect.unit ![0, 0] ![1, 1024] i0, k0_pay17 v59 v61 v65 old⟩ :: L) (fun r q => s r q + part A t.val r q) := by
  have ht := ltN t
  have s0 := hL.add i0 0 rfl (k0_pay17 v59 v61 v65 old) _ fun q => (R.sumg old q).trans (by rw [hold])
  have s3 := s0.add i3 ⟨3 + t.val / 9, by omega⟩ e3 (k0_pay2 (k0_pay14 v59) (k0_pay19 w3)) _ fun q =>
    (R.rowshift w3 q).trans (by rw [h3, s0.ld i3 ⟨3 + t.val / 9, by omega⟩ e3])
  have s5 := s3.add i5 ⟨5 + t.val / 9, by omega⟩ e5 (k0_pay3 (k0_pay15 v59 v61 v67) w5) _ fun q =>
    (R.rowscale w5 q).trans (by rw [h5, s3.ld i5 ⟨5 + t.val / 9, by omega⟩ e5])
  exact fun r q => (s5 r q).trans (congrArg _ (rows_lat t h8 s rfl rfl r q))

/-- The three row stores of a context point. -/
theorem ctx_step (t : Fin cfg0.N) (h8 : t.val % 9 = 8) {v35 v37 : FVec Ideal S256x1024 .f32} {v38 : Vec Ideal S1x3072 .f32}
    {v41 : Vec Ideal S1x1024 .f32} (R : CtxR A (bOf t) v35 v37 v38 v41) (hL : State v f L s) {w0 w1 w2 : Vec Ideal S1x1024 .f32}
    (h0 : ∀ q, w0 (ix2 0 q) = ((s 0 q : ℝ) : EReal)) (h1 : ∀ q, w1 (ix2 0 q) = ((s 1 q : ℝ) : EReal))
    (h2 : ∀ q, w2 (ix2 0 q) = ((s 2 q : ℝ) : EReal)) (i0 : ∀ a, ![0, 0] a + ![1, 1024] a ≤ S8x1024.size a)
    (i1 : ∀ a, ![1, 0] a + ![1, 1024] a ≤ S8x1024.size a) (i2 : ∀ a, ![2, 0] a + ![1, 1024] a ≤ S8x1024.size a) :
    State v f (⟨Rect.unit ![2, 0] ![1, 1024] i2, k0_pay5 (k0_pay23 v35 v37 v41) w2⟩ ::
      ⟨Rect.unit ![1, 0] ![1, 1024] i1, k0_pay25 v35 w1⟩ ::
      ⟨Rect.unit ![0, 0] ![1, 1024] i0, k0_pay24 v35 v37 v38 w0⟩ :: L) (fun r q => s r q + part A t.val r q) := by
  have s0 := hL.add i0 0 rfl (k0_pay24 v35 v37 v38 w0) _ fun q => (R.sumg w0 q).trans (by rw [h0])
  have s1 := s0.add i1 1 rfl (k0_pay25 v35 w1) _ fun q =>
    (R.sumshift w1 q).trans (by rw [h1, upd_ne s _ (show (1 : Fin 8) ≠ 0 by decide)])
  have s2 := s1.add i2 2 rfl (k0_pay5 (k0_pay23 v35 v37 v41) w2) _ fun q =>
    (R.sumscale q w2).trans (by
      rw [h2, upd_ne _ _ (show (2 : Fin 8) ≠ 1 by decide), upd_ne s _ (show (2 : Fin 8) ≠ 0 by decide)])
  exact fun r q => (s2 r q).trans (congrArg _ (rows_ctx t h8 s r q))

end Steps

/-! ## The two results at a point -/

variable (H : Hold m c A)

include H

theorem grad_first (t : Fin cfg0.N) (h : t.val = 0) (p : Fin 256) (q : Fin 1024) :
    gradFirst m c t h (ix3 0 p q) = ((A.gx (bOf t) (lOf t p) q : ℝ) : EReal) := by
  unfold gradFirst atFirst runFirst
  dsimp only
  frame_out
  have T := latTile m c H t (by omega) inb_S4x1024x1024_S1x1024x512_0_0_0 inb_S4x1024x1024_S1x1024x512_0_0_512
    inb_S4x1024x1024_S1x1024x512_1_0_0 inb_S4x1024x1024_S1x1024x512_1_0_512 inb_S4x1024x1024_S1x1024x512_2_0_0
    inb_S4x1024x1024_S1x1024x512_2_0_512 inb_S4x1024x1024_S1x1024x512_3_0_0 inb_S4x1024x1024_S1x1024x512_3_0_512
    (k0_off1_inb _ ((lat_iff t).mpr (by omega)))
  have R := T.toR
  have d := T.dx2
  dsimp only [ins]
  generalize k0_pay8 (F := Idealize.ShloMosaic.Ideal) _ _ _ _ _ _ _ _ _ = v59 at R ⊢
  generalize k0_pay9 (F := Idealize.ShloMosaic.Ideal) _ = v61 at R ⊢
  generalize k0_pay10 (F := Idealize.ShloMosaic.Ideal) _ = v65 at R ⊢
  generalize k0_pay11 (F := Idealize.ShloMosaic.Ideal) _ = v67 at R ⊢
  exact R.gx d p q

theorem grad_lat (t : Fin cfg0.N) (h : t.val ≠ 0) (h8 : t.val % 9 ≠ 8) (xo : Vec Ideal S8x1024 .f32) (p : Fin 256) (q : Fin 1024) :
    gradLat m c t h h8 xo (ix3 0 p q) = ((A.gx (bOf t) (lOf t p) q : ℝ) : EReal) := by
  unfold gradLat atLat runLat
  dsimp only
  frame_out
  have T := latTile m c H t h8 inb_S4x1024x1024_S1x1024x512_0_0_0 inb_S4x1024x1024_S1x1024x512_0_0_512
    inb_S4x1024x1024_S1x1024x512_1_0_0 inb_S4x1024x1024_S1x1024x512_1_0_512 inb_S4x1024x1024_S1x1024x512_2_0_0
    inb_S4x1024x1024_S1x1024x512_2_0_512 inb_S4x1024x1024_S1x1024x512_3_0_0 inb_S4x1024x1024_S1x1024x512_3_0_512
    (k0_off1_inb _ ((lat_iff t).mpr h8))
  have R := T.toR
  have d := T.dx2
  dsimp only [ins]
  generalize k0_pay8 (F := Idealize.ShloMosaic.Ideal) _ _ _ _ _ _ _ _ _ = v59 at R ⊢
  generalize k0_pay9 (F := Idealize.ShloMosaic.Ideal) _ = v61 at R ⊢
  generalize k0_pay10 (F := Idealize.ShloMosaic.Ideal) _ = v65 at R ⊢
  generalize k0_pay11 (F := Idealize.ShloMosaic.Ideal) _ = v67 at R ⊢
  exact R.gx d p q

theorem sums_first (t : Fin cfg0.N) (h : t.val = 0) (r : Fin 8) (q : Fin 1024) :
    sumsFirst m c t h (ix2 r q) = ((part A t.val r q : ℝ) : EReal) := by
  have h8 : t.val % 9 ≠ 8 := by omega
  have T := latTile m c H t h8 inb_S4x1024x1024_S1x1024x512_0_0_0 inb_S4x1024x1024_S1x1024x512_0_0_512
    inb_S4x1024x1024_S1x1024x512_1_0_0 inb_S4x1024x1024_S1x1024x512_1_0_512 inb_S4x1024x1024_S1x1024x512_2_0_0
    inb_S4x1024x1024_S1x1024x512_2_0_512 inb_S4x1024x1024_S1x1024x512_3_0_0 inb_S4x1024x1024_S1x1024x512_3_0_512
    (k0_off1_inb _ ((lat_iff t).mpr h8))
  have R := T.toR
  have z : State (bufs t).a15.view (bufs t).a15.view.junk
      [⟨Rect.unit ![0, 0] ![8, 1024] inb_S8x1024_S8x1024_0_0, k0_pay1 (F := Idealize.ShloMosaic.Ideal)⟩] (fun _ _ => 0) := fun r q =>
    (View.read_writes_cons_rows_of_mem (Val := Elt Ideal) (size := ![8, 1024]) (bufs t).a15.view (bufs t).a15.view.junk
      inb_S8x1024_S8x1024_0_0 (k0_pay1 (F := Idealize.ShloMosaic.Ideal)) [] (ix2 r q) (ix2 r q) rfl (Nat.zero_add _).symm rfl).trans
      (zeros r q)
  unfold sumsFirst atFirst runFirst
  dsimp only
  frame_out
  simp only [← View.read_writes_junk_eq_canon (bufs t).a15.view]
  dsimp only [ins]
  generalize k0_pay8 (F := Idealize.ShloMosaic.Ideal) _ _ _ _ _ _ _ _ _ = v59 at R ⊢
  generalize k0_pay9 (F := Idealize.ShloMosaic.Ideal) _ = v61 at R ⊢
  generalize k0_pay10 (F := Idealize.ShloMosaic.Ideal) _ = v65 at R ⊢
  generalize k0_pay11 (F := Idealize.ShloMosaic.Ideal) _ = v67 at R ⊢
  refine (lat_step t h8 R z (fun q => ?_) (off2 t h8).1 (off2 t h8).2 _ _ _ rfl rfl r q).trans (congrArg _ (zero_add _))
  exact z.ld _ 0 rfl q

theorem sums_lat (t : Fin cfg0.N) (h : t.val ≠ 0) (h8 : t.val % 9 ≠ 8) (xo : Vec Ideal S8x1024 .f32) (s : Fin 8 → Fin 1024 → ℝ)
    (hx : ∀ r q, xo (ix2 r q) = ((s r q : ℝ) : EReal)) (r : Fin 8) (q : Fin 1024) :
    sumsLat m c t h h8 xo (ix2 r q) = ((s r q + part A t.val r q : ℝ) : EReal) := by
  have T := latTile m c H t h8 inb_S4x1024x1024_S1x1024x512_0_0_0 inb_S4x1024x1024_S1x1024x512_0_0_512
    inb_S4x1024x1024_S1x1024x512_1_0_0 inb_S4x1024x1024_S1x1024x512_1_0_512 inb_S4x1024x1024_S1x1024x512_2_0_0
    inb_S4x1024x1024_S1x1024x512_2_0_512 inb_S4x1024x1024_S1x1024x512_3_0_0 inb_S4x1024x1024_S1x1024x512_3_0_512
    (k0_off1_inb _ ((lat_iff t).mpr h8))
  have R := T.toR
  have z : State (bufs t).a15.view ((bufs t).h15.unread xo) [] s := fun r q =>
    (congrFun (Memref.IsWhole.read_unread _ _) _).trans (hx r q)
  unfold sumsLat atLat runLat
  dsimp only
  frame_out
  dsimp only [ins]
  generalize k0_pay8 (F := Idealize.ShloMosaic.Ideal) _ _ _ _ _ _ _ _ _ = v59 at R ⊢
  generalize k0_pay9 (F := Idealize.ShloMosaic.Ideal) _ = v61 at R ⊢
  generalize k0_pay10 (F := Idealize.ShloMosaic.Ideal) _ = v65 at R ⊢
  generalize k0_pay11 (F := Idealize.ShloMosaic.Ideal) _ = v67 at R ⊢
  refine lat_step t h8 R z (fun q => ?_) (off2 t h8).1 (off2 t h8).2 _ _ _ rfl rfl r q
  exact (ld_row _ _ 0 rfl q).trans (hx 0 q)

theorem sums_ctx (t : Fin cfg0.N) (h8 : t.val % 9 = 8) (xo : Vec Ideal S8x1024 .f32) (s : Fin 8 → Fin 1024 → ℝ)
    (hx : ∀ r q, xo (ix2 r q) = ((s r q : ℝ) : EReal)) (r : Fin 8) (q : Fin 1024) :
    sumsCtx m c t h8 xo (ix2 r q) = ((s r q + part A t.val r q : ℝ) : EReal) := by
  have T := ctxTile m c H t h8 inb_S4x1024x1024_S1x1024x512_0_0_512 inb_S4x1024x1024_S1x1024x512_1_0_0
    inb_S4x1024x1024_S1x1024x512_2_0_512 inb_S4x1024x1024_S1x1024x512_3_0_0 inb_S8x3072_S1x3072_2_0
  have R := T.toR
  have z : State (bufs t).a15.view ((bufs t).h15.unread xo) [] s := fun r q =>
    (congrFun (Memref.IsWhole.read_unread _ _) _).trans (hx r q)
  unfold sumsCtx atCtx runCtx
  dsimp only
  frame_out
  dsimp only [ins]
  generalize k0_pay20 (F := Idealize.ShloMosaic.Ideal) _ _ _ _ _ _ _ _ = v35 at R ⊢
  generalize k0_pay21 (F := Idealize.ShloMosaic.Ideal) _ = v37 at R ⊢
  exact ctx_step t h8 R z (fun q => (ld_row _ _ 0 rfl q).trans (hx 0 q)) (fun q => (ld_row _ _ 1 rfl q).trans (hx 1 q))
    (fun q => (ld_row _ _ 2 rfl q).trans (hx 2 q)) _ _ _ r q

theorem sums_zero (t : Fin cfg0.N) (h : t.val = 0) (r : Fin 8) (q : Fin 1024) :
    (outs m c t.val t.isLt).2 (ix2 r q) = ((part A t.val r q : ℝ) : EReal) :=
  (congrArg (fun o => o.2 (ix2 r q)) (outs_first m c t h)).trans (sums_first m c H t h r q)

/-- The sums after point `n`. -/
theorem sums_at : ∀ (n : ℕ) (hn : n < cfg0.N) (r : Fin 8) (q : Fin 1024),
    (outs m c n hn).2 (ix2 r q) = ((partSum (A.term r q) (A.termC r q) n : ℝ) : EReal) := by
  intro n
  induction n with
  | zero =>
    intro hn r q
    exact sums_zero m c H ⟨0, hn⟩ rfl r q
  | succ n ih =>
    intro hn r q
    by_cases h8 : (n + 1) % 9 = 8
    · rw [outs_ctx m c ⟨n + 1, hn⟩ h8]
      exact sums_ctx m c H ⟨n + 1, hn⟩ h8 _ (fun r q => partSum (A.term r q) (A.termC r q) n) (ih _) r q
    · rw [outs_lat m c ⟨n + 1, hn⟩ (Nat.succ_ne_zero n) h8]
      exact sums_lat m c H ⟨n + 1, hn⟩ (Nat.succ_ne_zero n) h8 _ (fun r q => partSum (A.term r q) (A.termC r q) n) (ih _) r q

/-- The gradient block after a latent point, and after the context point that follows the last one. -/
theorem grad_at (t : Fin cfg0.N) (h8 : t.val % 9 ≠ 8) (p : Fin 256) (q : Fin 1024) :
    (outs m c t.val t.isLt).1 (ix3 0 p q) = ((A.gx (bOf t) (lOf t p) q : ℝ) : EReal) := by
  by_cases h : t.val = 0
  · rw [outs_first m c t h]
    exact grad_first m c H t h p q
  · rw [outs_lat m c t h h8]
    exact grad_lat m c H t h h8 _ p q

theorem grad_all (t : Fin cfg0.N) (p : Fin 256) (q : Fin 1024) :
    (outs m c t.val t.isLt).1 (ix3 0 p q) = ((A.gx (bOf t) (lOf t p) q : ℝ) : EReal) := by
  have ht := ltN t
  by_cases h8 : t.val % 9 = 8
  · rw [outs_ctx m c t h8]
    have lt : t.val - 1 < cfg0.N := Nat.lt_of_le_of_lt (Nat.sub_le _ _) t.isLt
    refine (grad_at m c H ⟨t.val - 1, lt⟩ (show (t.val - 1) % 9 ≠ 8 by omega) p q).trans (congrArg _ ?_)
    have e1 : bOf ⟨t.val - 1, lt⟩ = bOf t := Fin.ext (show (t.val - 1) / 9 = t.val / 9 by omega)
    have e2 : lOf ⟨t.val - 1, lt⟩ p = lOf t p :=
      Fin.ext (show min ((t.val - 1) % 9) 7 * 256 + p.val = min (t.val % 9) 7 * 256 + p.val by omega)
    rw [e1, e2]
  · exact grad_at m c H t h8 p q

end Cert.Dh
end
-- ==== Proof.DhFin.lean ====
/- The two arrays the kernel leaves. -/
module

public import proofs.«01_k».proof.Proof.DhOut
public import Idealize.ShloMosaic.Lib.Pipeline.Value

@[expose] public section

set_option maxRecDepth 16384

noncomputable section

namespace Cert.Dh

open Cert.Kernel2Ideal Cert.Kernel2Ideal.Gen Idealize.ShloMosaic Idealize.ShloMosaic.TcCoe Idealize.SL.Sem
open Idealize.ShloMosaic.Pipeline (Dat)
open Cert.DhModel

variable (m : (ℓ : Loc nD τ sig) → Buf (Elt Ideal) ℓ) (ρ : Dev nD → PrngReg) (c : Dev nD) {A : Args} (H : Hold m c A)

include H

/-- The gradient of the layer's input. -/
theorem arr14 : (dats m 0 c).arrAt 14 cfg0.N = fun i => ((A.gx (i 0) (i 1) (i 2) : ℝ) : EReal) := by
  refine (dats m 0 c).arrAt_eq_of_covers 14 _ (by decide +kernel) fun t hf y => ?_
  blk_simp
  have ey : y = ix3 0 (y 1) (y 2) := by
    funext a; match a with
    | 0 => exact Fin.ext (by have : (y 0).val < 1 := (y 0).isLt; show (y 0).val = 0; omega)
    | 1 => rfl
    | 2 => rfl
  have e0 : (win0_14.blk t).view.emb y 0 = bOf t := Fin.ext (by blk_simp [idx t]; rfl)
  have e1 : (win0_14.blk t).view.emb y 1 = lOf t (y 1) := Fin.ext (by blk_simp [idx t]; rfl)
  have e2 : (win0_14.blk t).view.emb y 2 = y 2 := Fin.ext (by blk_simp [idx t])
  rw [e0, e1, e2]
  exact (congrArg _ ey).trans (grad_all m c H t (y 1) (y 2))

/-- The eight rows of sums. -/
theorem arr15 : (dats m 0 c).arrAt 15 cfg0.N = fun i => ((A.sm (i 0) (i 1) : ℝ) : EReal) := by
  refine (dats m 0 c).arrAt_eq_of_covers 15 _ (by decide +kernel) fun t hf y => ?_
  have h17 : t.val = 17 := by have := (flush0_15 t).mp hf; have := ltN t; omega
  blk_simp
  have e0 : (win0_15.blk t).view.emb y 0 = y 0 := Fin.ext (by blk_simp [idx t])
  have e1 : (win0_15.blk t).view.emb y 1 = y 1 := Fin.ext (by blk_simp [idx t])
  rw [e0, e1]
  refine (congrArg _ (eq_ix2 y)).trans ((sums_at m c H t.val t.isLt (y 0) (y 1)).trans (congrArg _ ?_))
  rw [h17]
  exact partSum_last _ _

omit H c in
/-- The run with the two arrays named and the arguments kept. -/
theorem run_value : θ_run defs (onTc (τ := τ) (main (F := Ideal))) ⟨m, fun _ => 0, ρ⟩ fun r => ∀ c : Dev nD,
      (r.2.mem ((c : Thread nD τ).loc main_v28_0) = (dats m 0 c).arrAt 14 cfg0.N
      ∧ r.2.mem ((c : Thread nD τ).loc main_v28_1) = (dats m 0 c).arrAt 15 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨⟨(h.1 c).1 14, (h.1 c).1 15⟩, h.2.1 c⟩) (θ_run_and (run m ρ) (frame m ρ))

end Cert.Dh
end
-- ==== Proof.DhFinite.lean ====
/- The second program's precondition makes its arguments real numbers. -/
module

public import proofs.«01_k».proof.Proof.Finite
public import proofs.«01_k».proof.Proof.DhModel
public import proofs.«01_k».proof.Proof.Gen.Pre_finite2

@[expose] public section

noncomputable section

namespace Cert.Pre_finite2

open Idealize.ShloMosaic Idealize.SL.Sem Cert.Model Cert.DhModel

variable [Cert.Pre_finite2.Facts] (x0 : FVec Idealize.ShloMosaic.Ideal S2x2304x4x1024 .f32)
  (x1 : FVec Idealize.ShloMosaic.Ideal S4x1024x1024 .f32) (x2 : FVec Idealize.ShloMosaic.Ideal S2x2048x1024 .f32)
  (x3 : FVec Idealize.ShloMosaic.Ideal S2x256x1024 .f32) (x4 : FVec Idealize.ShloMosaic.Ideal S2x2048x1024 .f32)
  (x5 : FVec Idealize.ShloMosaic.Ideal S3x3072 .f32) (x6 : FVec Idealize.ShloMosaic.Ideal S1024 .f32)

/-- The real numbers the arguments hold. -/
def args : DhModel.Args where
  dp b l s k := (x0 (ix4 b l s k)).toReal
  w s q k := (x1 (ix3 s q k)).toReal
  x b l k := (x2 (ix3 b l k)).toReal
  cx b j k := (x3 (ix3 b j k)).toReal
  dx2 b l k := (x4 (ix3 b l k)).toReal
  mod b k := (x5 (ix2 b k)).toReal
  g k := (x6 (ix1 k)).toReal

theorem holds (h : fn x0 x1 x2 x3 x4 x5 x6 = fun _ => 1#1) :
    DhModel.Holds (args x0 x1 x2 x3 x4 x5 x6) x0 x1 x2 x3 x4 x5 x6 := by
  have j : S_.Idx := fun a => a.elim0
  have h6 := of_andi _ _ j (congrFun h j)
  have h5 := of_andi _ _ j h6.1
  have h4 := of_andi _ _ j h5.1
  have h3 := of_andi _ _ j h4.1
  have h2 := of_andi _ _ j h3.1
  have h1 := of_andi _ _ j h2.1
  exact ⟨fun _ _ _ _ => reals x0 _ _ _ _ _ j h1.1 _, fun _ _ _ => reals x1 _ _ _ _ _ j h1.2 _,
    fun _ _ _ => reals x2 _ _ _ _ _ j h2.2 _, fun _ _ _ => reals x3 _ _ _ _ _ j h3.2 _,
    fun _ _ _ => reals x4 _ _ _ _ _ j h4.2 _, fun _ _ => reals x5 _ _ _ _ _ j h5.2 _, fun _ => reals x6 _ _ _ _ _ j h6.2 _⟩

end Cert.Pre_finite2
end
-- ==== Proof.NaSoft.lean ====
/-
A softmax row over the extended reals: a masked score is −∞ and weighs nothing, and dividing the weighted sum by the
weights' total is dividing every weight first.
-/
module

public import proofs.«01_k».proof.Proof.Model

@[expose] public section

set_option maxRecDepth 16384

noncomputable section

namespace Cert.NaSoft

open Idealize.ShloMosaic Idealize.ShloMosaic.TcCoe
open Cert.Model (coe_sum coe_div)

theorem neg_inf : Ideal.ofBits .f32 4286578688#32 = (⊥ : EReal) := by
  simp [Ideal.ofBits, Ideal.ieee]

/-- The largest entry of a row, −∞ for none. -/
def top {ι : Type} [Fintype ι] (s : ι → EReal) : EReal := Finset.fold max ⊥ s Finset.univ

theorem top_le {ι : Type} [Fintype ι] {s : ι → EReal} {x : EReal} : top s ≤ x ↔ ∀ j, s j ≤ x := by
  rw [top, Finset.fold_max_le]
  exact ⟨fun h j => h.2 j (Finset.mem_univ j), fun h => ⟨bot_le, fun j _ => h j⟩⟩

theorem le_top' {ι : Type} [Fintype ι] (s : ι → EReal) (j : ι) : s j ≤ top s := top_le.1 le_rfl j

theorem exp_bot_sub (x : EReal) : Ideal.exp (⊥ - x) = 0 := by
  rw [sub_eq_add_neg, EReal.bot_add]; rfl

theorem exp_coe_sub (a b : ℝ) : Ideal.exp ((a : EReal) - (b : EReal)) = ((Real.exp (a - b) : ℝ) : EReal) := by
  rw [← EReal.coe_sub]; rfl

/-- A score that is real or −∞ has a real weight. -/
theorem weight {s : EReal} (hs : s ≠ ⊤) (μ : ℝ) : ∃ e : ℝ, 0 ≤ e ∧ Ideal.exp (s - (μ : EReal)) = (e : EReal) := by
  induction s with
  | bot => exact ⟨0, le_rfl, (exp_bot_sub _).trans EReal.coe_zero.symm⟩
  | coe a => exact ⟨Real.exp (a - μ), (Real.exp_pos _).le, exp_coe_sub a μ⟩
  | top => exact absurd rfl hs

theorem sum_mul_real {ι : Type} [Fintype ι] (f : ι → EReal) {c : ℝ} (hc : 0 ≤ c) :
    (∑ j, f j) * (c : EReal) = ∑ j, f j * (c : EReal) := by
  classical
  induction (Finset.univ : Finset ι) using Finset.induction_on with
  | empty => simp
  | insert a t ha ih =>
    rw [Finset.sum_insert ha, Finset.sum_insert ha,
      EReal.right_distrib_of_nonneg_of_ne_top (EReal.coe_nonneg.2 hc) (EReal.coe_ne_top c), ih]

/-- The maximum of a row with a real entry is real. -/
theorem top_real {ι κ : Type} [Fintype ι] [Fintype κ] {s : ι → EReal} (hs : ∀ j, s j ≠ ⊤) {t : κ → ℝ} (i : κ) :
    ∃ μ : ℝ, max (top s) (top fun j => (t j : EReal)) = (μ : EReal) := by
  have hb : max (top s) (top fun j => (t j : EReal)) ≠ ⊥ := fun h =>
    absurd (le_bot_iff.1 (h ▸ (le_top' (fun j => (t j : EReal)) i).trans (le_max_right _ _))) (EReal.coe_ne_bot _)
  have lt : ∀ {ι : Type} [Fintype ι] (s : ι → EReal), (∀ j, s j ≠ ⊤) → top s ≠ ⊤ := fun s hs h => by
    have := (Finset.fold_max_lt (b := (⊥ : EReal)) (f := s) (s := Finset.univ) (c := ⊤)).2
      ⟨bot_lt_top, fun j _ => lt_top_iff_ne_top.2 (hs j)⟩
    exact absurd h this.ne
  have ht : max (top s) (top fun j => (t j : EReal)) ≠ ⊤ := by
    rcases max_choice (top s) (top fun j => (t j : EReal)) with h | h <;> rw [h]
    · exact lt s hs
    · exact lt _ fun j => EReal.coe_ne_top _
  exact ⟨_, (EReal.coe_toReal ht hb).symm⟩

/-- The row's result, every weight divided first: scores `s` with values `v`, and real scores `t` with values `u`. -/
def att {ι κ : Type} [Fintype ι] [Fintype κ] (s v : ι → EReal) (t u : κ → EReal) : EReal :=
  ∑ j, Ideal.div (Ideal.exp (s j - max (top s) (top t)))
      (∑ j, Ideal.exp (s j - max (top s) (top t)) + ∑ j, Ideal.exp (t j - max (top s) (top t))) * v j
    + ∑ j, Ideal.div (Ideal.exp (t j - max (top s) (top t)))
      (∑ j, Ideal.exp (s j - max (top s) (top t)) + ∑ j, Ideal.exp (t j - max (top s) (top t))) * u j

/-- The same, the weighted sum multiplied by the inverse of the weights' total. -/
def quo {ι κ : Type} [Fintype ι] [Fintype κ] (s v : ι → EReal) (t u : κ → EReal) : EReal :=
  (∑ j, Ideal.exp (s j - max (top s) (top t)) * v j + ∑ j, Ideal.exp (t j - max (top s) (top t)) * u j)
    * Ideal.div 1 (∑ j, Ideal.exp (s j - max (top s) (top t)) + ∑ j, Ideal.exp (t j - max (top s) (top t)))

/-- The two agree where no score is +∞ and the scores `t` are real. -/
theorem soft {ι κ : Type} [Fintype ι] [Fintype κ] {s v : ι → EReal} (hs : ∀ j, s j ≠ ⊤) (t : κ → ℝ) {u : κ → EReal} (i : κ) :
    quo s v (fun j => (t j : EReal)) u = att s v (fun j => (t j : EReal)) u := by
  unfold att quo
  obtain ⟨μ, hμ⟩ := top_real hs (t := t) i
  rw [hμ]
  choose e he hw using fun j => weight (hs j) μ
  simp only [hw, exp_coe_sub, coe_sum, ← EReal.coe_add]
  have hz : 0 < ∑ j, e j + ∑ j, Real.exp (t j - μ) :=
    add_pos_of_nonneg_of_pos (Finset.sum_nonneg fun j _ => he j)
      (Finset.sum_pos (fun j _ => Real.exp_pos _) ⟨i, Finset.mem_univ i⟩)
  rw [show (1 : EReal) = ((1 : ℝ) : EReal) from EReal.coe_one.symm]
  generalize ∑ j, e j + ∑ j, Real.exp (t j - μ) = z at hz
  simp only [coe_div hz.ne']
  have hc : 0 ≤ 1 / z := by positivity
  rw [EReal.right_distrib_of_nonneg_of_ne_top (EReal.coe_nonneg.2 hc) (EReal.coe_ne_top _), sum_mul_real _ hc, sum_mul_real _ hc]
  refine congrArg₂ (· + ·) (Finset.sum_congr rfl fun j _ => ?_) (Finset.sum_congr rfl fun j _ => ?_)
  · rw [mul_right_comm, ← EReal.coe_mul, mul_one_div]
  · rw [mul_right_comm, ← EReal.coe_mul, mul_one_div]

/-! ## A window within a longer row -/

/-- The row of `n` entries shifted by `o` into a row of `N`. -/
def win {n N : ℕ} (o : ℕ) (h : o + n ≤ N) (j : Fin n) : Fin N := ⟨o + j.val, by omega⟩

theorem win_inj {n N : ℕ} (o : ℕ) (h : o + n ≤ N) : Function.Injective (win o h) := fun a b e =>
  Fin.ext (Nat.add_left_cancel (congrArg Fin.val e))

theorem mem_win {n N : ℕ} (o : ℕ) (h : o + n ≤ N) (j : Fin N) (h1 : o ≤ j.val) (h2 : j.val < o + n) : ∃ i, win o h i = j :=
  ⟨⟨j.val - o, by omega⟩, Fin.ext (show o + (j.val - o) = j.val by omega)⟩

theorem sum_win {n N : ℕ} (o : ℕ) (h : o + n ≤ N) (f : Fin N → EReal)
    (hf : ∀ j, ¬(o ≤ j.val ∧ j.val < o + n) → f j = 0) : ∑ j, f j = ∑ j, f (win o h j) := by
  refine (Finset.sum_of_injOn (win o h) (win_inj o h).injOn (fun _ _ => Finset.mem_coe.2 (Finset.mem_univ _)) (fun j _ hj => hf j ?_)
    fun _ _ => rfl).symm
  rintro ⟨h1, h2⟩
  obtain ⟨i, rfl⟩ := mem_win o h j h1 h2
  exact hj ⟨i, Finset.mem_coe.2 (Finset.mem_univ i), rfl⟩

theorem top_win {n N : ℕ} (o : ℕ) (h : o + n ≤ N) (f : Fin N → EReal)
    (hf : ∀ j, ¬(o ≤ j.val ∧ j.val < o + n) → f j = ⊥) : top f = top fun j => f (win o h j) := by
  refine le_antisymm (top_le.2 fun j => ?_) (top_le.2 fun j => le_top' f _)
  by_cases hj : o ≤ j.val ∧ j.val < o + n
  · obtain ⟨i, rfl⟩ := mem_win o h j hj.1 hj.2
    exact le_top' (fun j => f (win o h j)) i
  · rw [hf j hj]; exact bot_le

/-- A row laid end to end with another. -/
theorem top_split {n k : ℕ} (f : Fin (n + k) → EReal) :
    top f = max (top fun j : Fin n => f (j.castAdd k)) (top fun j : Fin k => f (j.natAdd n)) := by
  refine le_antisymm (top_le.2 fun j => ?_) (max_le (top_le.2 fun j => le_top' f _) (top_le.2 fun j => le_top' f _))
  induction j using Fin.addCases with
  | left j => exact (le_top' (fun j : Fin n => f (j.castAdd k)) j).trans (le_max_left _ _)
  | right j => exact (le_top' (fun j : Fin k => f (j.natAdd n)) j).trans (le_max_right _ _)

/-- A score row whose entries outside a window are −∞ gives the result of its window. -/
theorem quo_win {n N : ℕ} {κ : Type} [Fintype κ] (o : ℕ) (h : o + n ≤ N) {s v : Fin N → EReal} {t u : κ → EReal}
    (hs : ∀ j, ¬(o ≤ j.val ∧ j.val < o + n) → s j = ⊥) :
    quo s v t u = quo (fun j => s (win o h j)) (fun j => v (win o h j)) t u := by
  have e : ∀ x, ∑ j, Ideal.exp (s j - x) = ∑ j, Ideal.exp (s (win o h j) - x) := fun x =>
    sum_win o h (fun j => Ideal.exp (s j - x)) fun j hj => by rw [hs j hj, exp_bot_sub]
  have e' : ∀ x, ∑ j, Ideal.exp (s j - x) * v j = ∑ j, Ideal.exp (s (win o h j) - x) * v (win o h j) := fun x =>
    sum_win o h (fun j => Ideal.exp (s j - x) * v j) fun j hj => by rw [hs j hj, exp_bot_sub, zero_mul]
  unfold quo
  rw [top_win o h s hs]
  simp only [e, e']

end Cert.NaSoft
end
-- ==== Proof.NaModel.lean ====
/-
The mathematics of the neighbourhood attention: a query at row `r` and column `x` of a 32 × 64 grid sees 8 rows by 16
columns of keys, with a bias by their distance, and 256 context keys.
-/
module

public import proofs.«01_k».proof.Proof.NaSoft

@[expose] public section

set_option maxRecDepth 16384

noncomputable section

namespace Cert.NaModel

open Idealize.ShloMosaic Idealize.ShloMosaic.TcCoe
open Cert.NaSoft (att)

/-- The first of the eight rows a query's row sees, and the first of the sixteen columns. -/
def lo (r : Fin 32) : ℕ := min (r.val - 4) 24
def clo (x : Fin 64) : ℕ := min (x.val - 8) 48
/-- Where the bias of the `i`-th row seen, and of key column `y`, stands in its table. -/
def dr (r : Fin 32) (i : ℕ) : Fin 15 := ⟨min (lo r + i + 7 - r.val) 14, by omega⟩
def dc (x : Fin 64) (y : ℕ) : Fin 31 := ⟨min (y + 15 - x.val) 30, by omega⟩
/-- The token at row `r` and column `x`, and the `j`-th token of the eight rows seen from row `r`. -/
def tok (r : Fin 32) (x : Fin 64) : Fin 2048 := ⟨r.val * 64 + x.val, by omega⟩
def seen (r : Fin 32) (j : Fin 512) : Fin 2048 := ⟨lo r * 64 + j.val, by unfold lo; omega⟩
/-- Column `d` of head `h`. -/
def col (h : Fin 8) (d : Fin 64) : Fin 512 := ⟨h.val * 64 + d.val, by omega⟩

/-- The arguments: queries, keys and the bias table are real numbers, the values and the gate any extended reals. -/
structure Args where
  q : Fin 2 → Fin 2048 → Fin 512 → ℝ
  k : Fin 2 → Fin 2048 → Fin 512 → ℝ
  v : Fin 2 → Fin 2048 → Fin 512 → EReal
  g : Fin 2 → Fin 2048 → Fin 512 → EReal
  kc : Fin 2 → Fin 256 → Fin 512 → ℝ
  vc : Fin 2 → Fin 256 → Fin 512 → EReal
  rpb : Fin 8 → Fin 15 → Fin 31 → ℝ

namespace Args

variable (A : Args) (b : Fin 2) (h : Fin 8) (r : Fin 32) (x : Fin 64)

/-- The score of the `j`-th token seen, −∞ outside the sixteen columns. -/
def sl (j : Fin 512) : EReal :=
  if clo x ≤ j.val % 64 ∧ j.val % 64 < clo x + 16 then
    (((∑ d, A.q b (tok r x) (col h d) * A.k b (seen r j) (col h d)) * (1 / 8)
      + A.rpb h (dr r (j.val / 64)) (dc x (j.val % 64)) : ℝ) : EReal)
  else ⊥
/-- The score of a context token. -/
def sc (j : Fin 256) : ℝ := (∑ d, A.q b (tok r x) (col h d) * A.kc b j (col h d)) * (1 / 8)

theorem sl_ne_top (j : Fin 512) : A.sl b h r x j ≠ ⊤ := by
  unfold sl
  split_ifs
  · exact EReal.coe_ne_top _
  · exact bot_ne_top

/-- The attention's result. -/
def o (d : Fin 64) : EReal :=
  att (A.sl b h r x) (fun j => A.v b (seen r j) (col h d)) (fun j => (A.sc b h r x j : EReal)) fun j => A.vc b j (col h d)
/-- The gated result. -/
def y (d : Fin 64) : EReal :=
  A.o b h r x d * (A.g b (tok r x) (col h d) * Ideal.div 1 (1 + Ideal.exp (-A.g b (tok r x) (col h d))))

end Args

/-- Seven arrays of extended reals are the arguments `A`. -/
structure Holds (A : Args) (x0 x1 x2 x3 : (⟨3, ![2, 2048, 512]⟩ : Shape).Idx → EReal)
    (x4 x5 : (⟨3, ![2, 256, 512]⟩ : Shape).Idx → EReal) (x6 : (⟨3, ![8, 15, 31]⟩ : Shape).Idx → EReal) : Prop where
  q : ∀ b l c, x0 (ix3 b l c) = ((A.q b l c : ℝ) : EReal)
  k : ∀ b l c, x1 (ix3 b l c) = ((A.k b l c : ℝ) : EReal)
  v : ∀ b l c, x2 (ix3 b l c) = A.v b l c
  g : ∀ b l c, x3 (ix3 b l c) = A.g b l c
  kc : ∀ b j c, x4 (ix3 b j c) = ((A.kc b j c : ℝ) : EReal)
  vc : ∀ b j c, x5 (ix3 b j c) = A.vc b j c
  rpb : ∀ h i j, x6 (ix3 h i j) = ((A.rpb h i j : ℝ) : EReal)

/-- The factor the scores carry. -/
theorem eighth : Ideal.ofBits .f32 1040187392#32 = ((1 / 8 : ℝ) : EReal) := by
  simp [Ideal.ofBits, Ideal.ieee, -EReal.coe_mul]
  norm_num

end Cert.NaModel
end
-- ==== Proof.NaGather.lean ====
/- Where a gather reads its operand: a kept axis at the result's own index, an indexed axis at the clamped index word. -/
module

public import proofs.«01_k».proof.Proof.Model

@[expose] public section

set_option maxRecDepth 16384

noncomputable section

namespace Cert.NaGather

open Idealize.ShloMosaic Idealize.ShloMosaic.TcCoe

theorem operandIdx_off {s si t : Shape} {w : Nat} (d : GatherDims s si t) (j : t.Idx) (idx : IVec si w) (a : Fin s.rank)
    (h1 : a ∉ d.startIndexMap) (h2 : a ∉ d.operandBatchingDims) (h3 : a ∈ d.sKept) :
    (d.operandIdx j idx a).val
      = (j (d.offsetDims[d.sKept.idxOf a]'(by rw [d.offset_length]; exact List.idxOf_lt_length_iff.2 h3))).val := by
  show d.start j idx a + d.batchCoord j a + d.offCoord j a = _
  rw [GatherDims.batchCoord_eq_zero _ _ _ h2]
  unfold GatherDims.start GatherDims.offCoord
  rw [dif_neg h1, dif_pos h3, Nat.zero_add]

theorem operandIdx_start {s si t : Shape} {w : Nat} (d : GatherDims s si t) (j : t.Idx) (idx : IVec si w) (a : Fin s.rank)
    (h1 : a ∈ d.startIndexMap) (h2 : a ∉ d.operandBatchingDims) (h3 : a ∉ d.sKept) (i : si.Idx)
    (hi : d.siIdx j ⟨d.startIndexMap.idxOf a, List.idxOf_lt_length_iff.2 h1⟩ = i) :
    (d.operandIdx j idx a).val = min (idx i).toInt.toNat (s.size a - d.sliceSizes a) := by
  show d.start j idx a + d.batchCoord j a + d.offCoord j a = _
  rw [GatherDims.batchCoord_eq_zero _ _ _ h2]
  unfold GatherDims.start GatherDims.offCoord
  rw [dif_pos h1, dif_neg h3, hi]
  rfl

end Cert.NaGather
end
-- ==== Proof.NaRead.lean ====
/- The gathers and index words of the reference of the neighbourhood attention. -/
module

public import proofs.«01_k».proof.Proof.Gen.Reference3Ideal.Read
public import proofs.«01_k».proof.Proof.NaModel
public import proofs.«01_k».proof.Proof.NaGather

@[expose] public section

set_option maxRecDepth 16384

noncomputable section

namespace Cert.Reference3Ideal.Read

open Cert.Reference3Ideal Cert.Reference3Ideal.Gen Idealize.ShloMosaic Idealize.ShloMosaic.TcCoe Idealize.SL.Sem Idealize.ShloMosaic.StableHlo
open Cert.NaModel Cert.NaGather
open Cert.NaSoft (att top top_split neg_inf)
open Cert.Model (coe_sum coe_div)

/-! ## The gathers -/

theorem gat_bias {α : Type} (x : S8x15x31.Idx → α) (idx : IVec S32x64x8x64x2 32) (h : Fin 8) (r : Fin 32) (p : Fin 64) (i : Fin 8) (y : Fin 64) :
    Host.gather gather_S8x15x31_S32x64x8x64x2_S8x32x64x8x64_0_12_n_n_12_4_811 x idx (ix5 h r p i y)
      = x (ix3 h ⟨min (idx (ix5 r p i y 0)).toInt.toNat 14, by omega⟩ ⟨min (idx (ix5 r p i y 1)).toInt.toNat 30, by omega⟩) := by
  unfold Host.gather
  congr 1
  funext d
  refine Fin.ext ?_
  match d with
  | ⟨0, _⟩ => exact operandIdx_off gather_S8x15x31_S32x64x8x64x2_S8x32x64x8x64_0_12_n_n_12_4_811 _ idx (0 : Fin 3) (by decide) (by decide) (by decide)
  | ⟨1, _⟩ =>
    refine operandIdx_start gather_S8x15x31_S32x64x8x64x2_S8x32x64x8x64_0_12_n_n_12_4_811 _ idx (1 : Fin 3) (by decide) (by decide) (by decide)
      (ix5 r p i y 0) ?_
    funext b; refine Fin.ext ?_
    match b with
    | ⟨0, _⟩ => rfl
    | ⟨1, _⟩ => rfl
    | ⟨2, _⟩ => rfl
    | ⟨3, _⟩ => rfl
    | ⟨4, _⟩ => rfl
  | ⟨2, _⟩ =>
    refine operandIdx_start gather_S8x15x31_S32x64x8x64x2_S8x32x64x8x64_0_12_n_n_12_4_811 _ idx (2 : Fin 3) (by decide) (by decide) (by decide)
      (ix5 r p i y 1) ?_
    funext b; refine Fin.ext ?_
    match b with
    | ⟨0, _⟩ => rfl
    | ⟨1, _⟩ => rfl
    | ⟨2, _⟩ => rfl
    | ⟨3, _⟩ => rfl
    | ⟨4, _⟩ => rfl

theorem gat_rows {α : Type} (x : S2x8x32x64x64.Idx → α) (idx : IVec S32x8x1 32) (b : Fin 2) (h : Fin 8) (r : Fin 32) (i : Fin 8) (y d : Fin 64) :
    Host.gather gather_S2x8x32x64x64_S32x8x1_S2x8x32x8x64x64_0145_2_n_n_2_2_2816464 x idx (ix6 b h r i y d)
      = x (ix5 b h ⟨min (idx (ix3 r i 0)).toInt.toNat 31, by omega⟩ y d) := by
  unfold Host.gather
  congr 1
  funext e
  refine Fin.ext ?_
  match e with
  | ⟨0, _⟩ => exact operandIdx_off gather_S2x8x32x64x64_S32x8x1_S2x8x32x8x64x64_0145_2_n_n_2_2_2816464 _ idx (0 : Fin 5) (by decide) (by decide) (by decide)
  | ⟨1, _⟩ => exact operandIdx_off gather_S2x8x32x64x64_S32x8x1_S2x8x32x8x64x64_0145_2_n_n_2_2_2816464 _ idx (1 : Fin 5) (by decide) (by decide) (by decide)
  | ⟨2, _⟩ =>
    refine operandIdx_start gather_S2x8x32x64x64_S32x8x1_S2x8x32x8x64x64_0145_2_n_n_2_2_2816464 _ idx (2 : Fin 5) (by decide) (by decide) (by decide)
      (ix3 r i 0) ?_
    funext b; refine Fin.ext ?_
    match b with
    | ⟨0, _⟩ => rfl
    | ⟨1, _⟩ => rfl
    | ⟨2, _⟩ => rfl
  | ⟨3, _⟩ => exact operandIdx_off gather_S2x8x32x64x64_S32x8x1_S2x8x32x8x64x64_0145_2_n_n_2_2_2816464 _ idx (3 : Fin 5) (by decide) (by decide) (by decide)
  | ⟨4, _⟩ => exact operandIdx_off gather_S2x8x32x64x64_S32x8x1_S2x8x32x8x64x64_0145_2_n_n_2_2_2816464 _ idx (4 : Fin 5) (by decide) (by decide) (by decide)

/-! ## The index words -/

theorem rows_word : ∀ (r : Fin 32) (i : Fin 8), min (val_main_v79 (F := Ideal) (ix3 r i 0)).toInt.toNat 31 = lo r + i.val := by
  decide +kernel
theorem rows_word' : ∀ (r : Fin 32) (i : Fin 8), min (val_main_v88 (F := Ideal) (ix3 r i 0)).toInt.toNat 31 = lo r + i.val := by
  decide +kernel
theorem dr_word : ∀ (r : Fin 32) (i : Fin 8), min (val_main_v57 (F := Ideal) (ix4 r 0 i 0)).toInt.toNat 14 = (dr r i.val).val := by
  decide +kernel
theorem dc_word : ∀ x y : Fin 64, min (val_main_v62 (F := Ideal) (ix4 0 x 0 y)).toInt.toNat 30 = (dc x y.val).val := by
  decide +kernel
theorem col_word : ∀ x y : Fin 64, val_main_v37 (F := Ideal) (ix2 x y) = if clo x ≤ y.val ∧ y.val < clo x + 16 then 1#1 else 0#1 := by
  decide +kernel

variable {x0 x1 x2 x3 : (⟨S2x2048x512, .f32⟩ : BufTy).Contents (Elt Ideal)} {x4 x5 : (⟨S2x256x512, .f32⟩ : BufTy).Contents (Elt Ideal)}
  {x6 : (⟨S8x15x31, .f32⟩ : BufTy).Contents (Elt Ideal)} {A : Args} (H : Holds A x0 x1 x2 x3 x4 x5 x6)
  (b : Fin 2) (h : Fin 8) (r : Fin 32) (x : Fin 64)

theorem bias_at (i : Fin 8) (y : Fin 64) :
    val_main_v68 (F := Ideal) x6 (ix5 h r x i y) = x6 (ix3 h (dr r i.val) (dc x y.val)) := by
  rw [val_main_v68, gat_bias]
  have e0 : val_main_v67 (F := Ideal) (ix5 r x i y 0) = val_main_v57 (F := Ideal) (ix4 r 0 i 0) := by
    pointwise [val_main_v67, val_main_v65, val_main_v63]
  have e1 : val_main_v67 (F := Ideal) (ix5 r x i y 1) = val_main_v62 (F := Ideal) (ix4 0 x 0 y) := by
    pointwise [val_main_v67, val_main_v66, val_main_v64]
  exact congrArg₂ (fun a c => x6 (ix3 h a c)) (Fin.ext ((congrArg (fun w => min (BitVec.toInt w).toNat 14) e0).trans (dr_word r i)))
    (Fin.ext ((congrArg (fun w => min (BitVec.toInt w).toNat 30) e1).trans (dc_word x y)))

theorem k_at (j : Fin 512) (d : Fin 64) : val_main_v81 (F := Ideal) x1 (ix5 b h r j d) = x1 (ix3 b (seen r j) (col h d)) := by
  pointwise [val_main_v81, val_main_v80]
  rw [gat_rows]
  pointwise [val_main_v73, val_main_v3, val_main_v2]
  refine congrArg (fun a => x1 (ix3 b a (col h d))) (Fin.ext ?_)
  have e := rows_word r ⟨j.val / 64, by omega⟩
  refine (congrArg (fun n => n * 64 + j.val % 64) e).trans ?_
  show (lo r + j.val / 64) * 64 + j.val % 64 = lo r * 64 + j.val
  omega

theorem v_at (j : Fin 512) (d : Fin 64) : val_main_v90 (F := Ideal) x2 (ix5 b h r j d) = x2 (ix3 b (seen r j) (col h d)) := by
  pointwise [val_main_v90, val_main_v89]
  rw [gat_rows]
  pointwise [val_main_v82, val_main_v5, val_main_v4]
  refine congrArg (fun a => x2 (ix3 b a (col h d))) (Fin.ext ?_)
  have e := rows_word' r ⟨j.val / 64, by omega⟩
  refine (congrArg (fun n => n * 64 + j.val % 64) e).trans ?_
  show (lo r + j.val / 64) * 64 + j.val % 64 = lo r * 64 + j.val
  omega

theorem max_last (y : FVec Ideal S2x8x32x64x768 .f32) (z : FVec Ideal S_ .f32) :
    Host.reduce FloatOps.maximumf y z reducesTo_S2x8x32x64x768_S2x8x32x64_d4 h_S_ (ix4 b h r x)
      = Finset.fold max (z (Shape.Idx.first h_S_)) (fun j : Fin 768 => y (ix5 b h r x j)) Finset.univ := by
  pointwise

theorem sel {α : Type} (P : Prop) [Decidable P] (u v : α) : Scalar.select (if P then 1#1 else 0#1) u v = if P then u else v := by
  split_ifs <;> rfl

end Cert.Reference3Ideal.Read
end
-- ==== Proof.NaScore.lean ====
/- The scores of the reference's neighbourhood attention and their largest, read at an index. -/
module

public import proofs.«01_k».proof.Proof.NaRead

@[expose] public section

set_option maxRecDepth 16384

noncomputable section

namespace Cert.Reference3Ideal.Read

open Cert.Reference3Ideal Cert.Reference3Ideal.Gen Idealize.ShloMosaic Idealize.ShloMosaic.TcCoe Idealize.SL.Sem Idealize.ShloMosaic.StableHlo
open Cert.NaModel Cert.NaGather
open Cert.NaSoft (att top top_split neg_inf)
open Cert.Model (coe_sum coe_div)

variable {x0 x1 x2 x3 : (⟨S2x2048x512, .f32⟩ : BufTy).Contents (Elt Ideal)} {x4 x5 : (⟨S2x256x512, .f32⟩ : BufTy).Contents (Elt Ideal)}
  {x6 : (⟨S8x15x31, .f32⟩ : BufTy).Contents (Elt Ideal)} {A : Args} (H : Holds A x0 x1 x2 x3 x4 x5 x6)
  (b : Fin 2) (h : Fin 8) (r : Fin 32) (x : Fin 64)

theorem split_max (f : Fin 768 → EReal) : Finset.fold max ⊥ f Finset.univ
    = max (top fun j : Fin 512 => f ⟨j.val, by omega⟩) (top fun j : Fin 256 => f ⟨512 + j.val, by omega⟩) :=
  top_split (n := 512) (k := 256) f

theorem split_sum (f : Fin 768 → EReal) : ∑ j, f j = ∑ j : Fin 512, f ⟨j.val, by omega⟩ + ∑ j : Fin 256, f ⟨512 + j.val, by omega⟩ :=
  Fin.sum_univ_add (a := 512) (b := 256) f

include H

/-- The scores of the tokens seen. -/
theorem sl_at (j : Fin 512) : val_main_v98 (F := Ideal) x0 x1 x6 (ix5 b h r x j) = A.sl b h r x j := by
  pointwise [val_main_v98, val_main_call3_v1, val_main_call3_v2, val_main_call3_v0, val_main_cst_18, val_main_v72, val_main_v71, val_main_v70, val_main_v97,
    val_main_v96, val_main_v95, val_main_v94, val_main_v93, val_main_v92, val_main_v91, val_main_v1, val_main_v0, val_main_cst, val_main_v69]
  have hb := bias_at (x6 := x6) h r x ⟨j.val / 64, by omega⟩ ⟨j.val % 64, by omega⟩
  have hk := fun d => k_at (x1 := x1) b h r j d
  have hm := col_word x ⟨j.val % 64, by omega⟩
  rw [hb, hm]
  simp only [hk, H.q, H.k, H.rpb, eighth, ← EReal.coe_mul, coe_sum, ← EReal.coe_add]
  unfold Args.sl
  rw [sel]
  exact if_congr Iff.rfl rfl neg_inf

/-- The scores of the context. -/
theorem sc_at (j : Fin 256) : val_main_v101 (F := Ideal) x0 x4 (ix5 b h r x j) = ((A.sc b h r x j : ℝ) : EReal) := by
  pointwise [val_main_v101, val_main_v100, val_main_v99, val_main_v91, val_main_v1, val_main_v0, val_main_cst_19, val_main_v7, val_main_v6]
  simp only [H.q, H.kc, eighth, ← EReal.coe_mul, coe_sum]
  rfl

theorem cat_lo (j : Fin 512) : val_main_v102 (F := Ideal) x0 x1 x4 x6 (ix5 b h r x ⟨j.val, by omega⟩) = A.sl b h r x j := by
  pointwise [val_main_v102]
  exact sl_at H b h r x j

theorem cat_hi (j : Fin 256) :
    val_main_v102 (F := Ideal) x0 x1 x4 x6 (ix5 b h r x ⟨512 + j.val, by omega⟩) = ((A.sc b h r x j : ℝ) : EReal) := by
  pointwise [val_main_v102]
  exact sc_at H b h r x j

omit H in
theorem max_pad : val_main_v105 (F := Ideal) x0 x1 x4 x6 (ix4 b h r x)
    = max (Ideal.ofBits .f32 4286578688#32) (val_main_v103 (F := Ideal) x0 x1 x4 x6 (ix4 b h r x)) := by
  rw [val_main_v105_apply]
  generalize val_main_v103 (F := Ideal) x0 x1 x4 x6 (ix4 b h r x) = y
  rw [val_main_v104_apply, val_main_cst_21_apply]
  rfl

omit H in
theorem max_fold : val_main_v103 (F := Ideal) x0 x1 x4 x6 (ix4 b h r x)
    = Finset.fold max (Ideal.ofBits .f32 4286578688#32) (fun j : Fin 768 => val_main_v102 (F := Ideal) x0 x1 x4 x6 (ix5 b h r x j)) Finset.univ := by
  unfold val_main_v103
  generalize val_main_v102 (F := Ideal) x0 x1 x4 x6 = y
  exact max_last b h r x y _

/-- The largest score of a query. -/
theorem max_at : val_main_v105 (F := Ideal) x0 x1 x4 x6 (ix4 b h r x)
    = max (top (A.sl b h r x)) (top fun j => (A.sc b h r x j : EReal)) := by
  rw [max_pad, max_fold, neg_inf, max_eq_right bot_le, split_max]
  exact congrArg₂ max (congrArg top (funext fun j => cat_lo H b h r x j)) (congrArg top (funext fun j => cat_hi H b h r x j))

end Cert.Reference3Ideal.Read
end
-- ==== Proof.NaRef.lean ====
/- The reference of the neighbourhood attention, read at an index. -/
module

public import proofs.«01_k».proof.Proof.NaScore

@[expose] public section

set_option maxRecDepth 16384

noncomputable section

namespace Cert.Reference3Ideal.Read

open Cert.Reference3Ideal Cert.Reference3Ideal.Gen Idealize.ShloMosaic Idealize.ShloMosaic.TcCoe Idealize.SL.Sem Idealize.ShloMosaic.StableHlo
open Cert.NaModel Cert.NaGather
open Cert.NaSoft (att top top_split neg_inf)
open Cert.Model (coe_sum coe_div)

variable {x0 x1 x2 x3 : (⟨S2x2048x512, .f32⟩ : BufTy).Contents (Elt Ideal)} {x4 x5 : (⟨S2x256x512, .f32⟩ : BufTy).Contents (Elt Ideal)}
  {x6 : (⟨S8x15x31, .f32⟩ : BufTy).Contents (Elt Ideal)} {A : Args} (H : Holds A x0 x1 x2 x3 x4 x5 x6)
  (b : Fin 2) (h : Fin 8) (r : Fin 32) (x : Fin 64)

/-! ## The operators between the scores and the result -/

theorem max_bc (j : Fin 768) : val_main_v107 (F := Ideal) x0 x1 x4 x6 (ix5 b h r x j) = val_main_v105 (F := Ideal) x0 x1 x4 x6 (ix4 b h r x) := by
  unfold val_main_v107 val_main_v106
  generalize val_main_v105 (F := Ideal) x0 x1 x4 x6 = y
  pointwise

theorem sum_bc (j : Fin 768) : val_main_v112 (F := Ideal) x0 x1 x4 x6 (ix5 b h r x j) = val_main_v110 (F := Ideal) x0 x1 x4 x6 (ix4 b h r x) := by
  unfold val_main_v112 val_main_v111
  generalize val_main_v110 (F := Ideal) x0 x1 x4 x6 = y
  pointwise

theorem exp_at (j : Fin 768) : val_main_v109 (F := Ideal) x0 x1 x4 x6 (ix5 b h r x j)
    = Ideal.exp (val_main_v102 (F := Ideal) x0 x1 x4 x6 (ix5 b h r x j) - val_main_v105 (F := Ideal) x0 x1 x4 x6 (ix4 b h r x)) := by
  rw [val_main_v109_apply, val_main_v108_apply, max_bc]
  generalize val_main_v102 (F := Ideal) x0 x1 x4 x6 (ix5 b h r x j) = y
  generalize val_main_v105 (F := Ideal) x0 x1 x4 x6 (ix4 b h r x) = z
  rfl

theorem sum_at : val_main_v110 (F := Ideal) x0 x1 x4 x6 (ix4 b h r x) = ∑ j : Fin 768, val_main_v109 (F := Ideal) x0 x1 x4 x6 (ix5 b h r x j) := by
  unfold val_main_v110
  generalize val_main_v109 (F := Ideal) x0 x1 x4 x6 = y
  pointwise [val_main_cst_22]

theorem quot_at (j : Fin 768) : val_main_v113 (F := Ideal) x0 x1 x4 x6 (ix5 b h r x j)
    = Ideal.div (val_main_v109 (F := Ideal) x0 x1 x4 x6 (ix5 b h r x j)) (val_main_v110 (F := Ideal) x0 x1 x4 x6 (ix4 b h r x)) := by
  rw [val_main_v113_apply, sum_bc]
  generalize val_main_v109 (F := Ideal) x0 x1 x4 x6 (ix5 b h r x j) = y
  generalize val_main_v110 (F := Ideal) x0 x1 x4 x6 (ix4 b h r x) = z
  rfl

theorem dot_lo (d : Fin 64) : val_main_v115 (F := Ideal) x0 x1 x2 x4 x6 (ix5 b h r x d)
    = ∑ j : Fin 512, val_main_v113 (F := Ideal) x0 x1 x4 x6 (ix5 b h r x ⟨j.val, by omega⟩) * val_main_v90 (F := Ideal) x2 (ix5 b h r j d) := by
  unfold val_main_v115 val_main_v114
  generalize val_main_v113 (F := Ideal) x0 x1 x4 x6 = y
  generalize val_main_v90 (F := Ideal) x2 = z
  pointwise

theorem dot_hi (d : Fin 64) : val_main_v117 (F := Ideal) x0 x1 x4 x5 x6 (ix5 b h r x d)
    = ∑ j : Fin 256, val_main_v113 (F := Ideal) x0 x1 x4 x6 (ix5 b h r x ⟨512 + j.val, by omega⟩) * val_main_v9 (F := Ideal) x5 (ix4 b h j d) := by
  unfold val_main_v117 val_main_v116
  generalize val_main_v113 (F := Ideal) x0 x1 x4 x6 = y
  generalize val_main_v9 (F := Ideal) x5 = z
  pointwise

theorem vc_at (j : Fin 256) (d : Fin 64) : val_main_v9 (F := Ideal) x5 (ix4 b h j d) = x5 (ix3 b j (col h d)) := by
  pointwise [val_main_v9, val_main_v8]
  rfl

theorem add_at (d : Fin 64) : val_main_v118 (F := Ideal) x0 x1 x2 x4 x5 x6 (ix5 b h r x d)
    = (show EReal from val_main_v115 (F := Ideal) x0 x1 x2 x4 x6 (ix5 b h r x d)) + val_main_v117 (F := Ideal) x0 x1 x4 x5 x6 (ix5 b h r x d) := by
  rw [val_main_v118_apply]
  generalize val_main_v115 (F := Ideal) x0 x1 x2 x4 x6 (ix5 b h r x d) = y
  generalize val_main_v117 (F := Ideal) x0 x1 x4 x5 x6 (ix5 b h r x d) = z
  rfl

/-- Token `l` and column `c` as a row, a column, a head and a head's column. -/
abbrev rowOf (l : Fin 2048) : Fin 32 := ⟨l.val / 64, by omega⟩
abbrev xOf (l : Fin 2048) : Fin 64 := ⟨l.val % 64, by omega⟩
abbrev headOf (c : Fin 512) : Fin 8 := ⟨c.val / 64, by omega⟩
abbrev dOf (c : Fin 512) : Fin 64 := ⟨c.val % 64, by omega⟩

theorem merge_at (l : Fin 2048) (c : Fin 512) : val_main_v121 (F := Ideal) x0 x1 x2 x4 x5 x6 (ix3 b l c)
    = val_main_v118 (F := Ideal) x0 x1 x2 x4 x5 x6 (ix5 b (headOf c) (rowOf l) (xOf l) (dOf c)) := by
  unfold val_main_v121 val_main_v120 val_main_v119
  generalize val_main_v118 (F := Ideal) x0 x1 x2 x4 x5 x6 = y
  pointwise

theorem silu_at (l : Fin 2048) (c : Fin 512) : val_main_v122 (F := Ideal) x3 (ix3 b l c)
    = (show EReal from x3 (ix3 b l c)) * Ideal.div 1 (1 + Ideal.exp (-(show EReal from x3 (ix3 b l c)))) := by
  pointwise [val_main_v122, val_main_call4_v5, val_main_call4_v4, val_main_call4_v3, val_main_call4_v2, val_main_call4_v1, val_main_call4_v0,
    val_main_call4_cst, val_main_call4_cst_0]

/-! ## The result -/

include H

theorem e_at (j : Fin 768) : val_main_v109 (F := Ideal) x0 x1 x4 x6 (ix5 b h r x j)
    = Ideal.exp (val_main_v102 (F := Ideal) x0 x1 x4 x6 (ix5 b h r x j) - max (top (A.sl b h r x)) (top fun j => (A.sc b h r x j : EReal))) := by
  rw [exp_at, max_at H]

/-- The weights' total. -/
theorem z_at : val_main_v110 (F := Ideal) x0 x1 x4 x6 (ix4 b h r x)
    = ∑ j, Ideal.exp (A.sl b h r x j - max (top (A.sl b h r x)) (top fun j => (A.sc b h r x j : EReal)))
      + ∑ j, Ideal.exp ((A.sc b h r x j : EReal) - max (top (A.sl b h r x)) (top fun j => (A.sc b h r x j : EReal))) := by
  rw [sum_at, split_sum]
  refine congrArg₂ (· + ·) (Finset.sum_congr rfl fun j _ => ?_) (Finset.sum_congr rfl fun j _ => ?_)
  · rw [e_at H, cat_lo H]
  · rw [e_at H, cat_hi H]

theorem o_at (d : Fin 64) : val_main_v118 (F := Ideal) x0 x1 x2 x4 x5 x6 (ix5 b h r x d) = A.o b h r x d := by
  rw [add_at, dot_lo, dot_hi]
  refine congrArg₂ (· + ·) (Finset.sum_congr rfl fun j _ => ?_) (Finset.sum_congr rfl fun j _ => ?_)
  · rw [quot_at, e_at H, cat_lo H, z_at H, v_at, H.v]
  · rw [quot_at, e_at H, cat_hi H, z_at H, vc_at, H.vc]

omit h r x in
theorem out_o (l : Fin 2048) (c : Fin 512) :
    val_main_v125 (F := Ideal) x0 x1 x2 x4 x5 x6 (ix3 b l c) = A.o b (headOf c) (rowOf l) (xOf l) (dOf c) := by
  rw [val_main_v125_apply, merge_at, o_at H]
  rfl

omit h r x in
theorem out_y (l : Fin 2048) (c : Fin 512) :
    val_main_v124 (F := Ideal) x0 x1 x2 x3 x4 x5 x6 (ix3 b l c) = A.y b (headOf c) (rowOf l) (xOf l) (dOf c) := by
  have el : tok (rowOf l) (xOf l) = l := Fin.ext (show l.val / 64 * 64 + l.val % 64 = l.val by omega)
  have ec : col (headOf c) (dOf c) = c := Fin.ext (show c.val / 64 * 64 + c.val % 64 = c.val by omega)
  rw [val_main_v124_apply, val_main_v123_apply, merge_at, o_at H, silu_at, H.g]
  unfold Args.y
  rw [el, ec]
  rfl

end Cert.Reference3Ideal.Read
end
-- ==== Proof.NaTile.lean ====
/- One head of one tile: the kernel's arithmetic on its loads is the attention of the tile's queries. -/
module

public import proofs.«01_k».proof.Proof.Gen.Kernel3Ideal.Value
public import proofs.«01_k».proof.Proof.NaModel
public import Idealize.ShloMosaic.Lib.Pipeline.ValueKit
public import Idealize.ShloMosaic.Lib.Pointwise

@[expose] public section

set_option maxRecDepth 16384

noncomputable section

namespace Cert.Na

open Cert.Kernel3Ideal Cert.Kernel3Ideal.Gen Idealize.ShloMosaic Idealize.ShloMosaic.TcCoe Idealize.SL.Sem
open Cert.NaModel
open Cert.NaSoft (att quo top win soft quo_win neg_inf)
open Cert.Model (coe_sum)

variable (Q : Vec Ideal S1x256x64 .bf16) (K V : Vec Ideal S1x768x64 .bf16) (KC VC : Vec Ideal S1x256x64 .bf16)
  (B : Vec Ideal S1x1x256x768 .f32) (G : Vec Ideal S1x256x64 .bf16)

/-- A head's result, and its gated result, from its seven loads. -/
def headO : FVec Ideal S1x256x64 .bf16 := k0_pay8 (k0_pay3 V) (k0_pay4 VC) (k0_pay5 Q K B) (k0_pay6 Q KC)
def headY : FVec Ideal S1x256x64 .bf16 := k0_pay10 (k0_pay9 (k0_pay3 V) (k0_pay4 VC) (k0_pay5 Q K B) (k0_pay6 Q KC) G)

theorem s1 (p : Fin 256) (j : Fin 768) :
    k0_pay5 Q K B (ix2 p j) = ∑ x : Fin 64, Q (ix3 0 p x) * K (ix3 0 j x) + B (ix4 0 0 p j) := by
  pointwise [k0_pay5, k0_pay2]

theorem s2 (p j : Fin 256) : k0_pay6 Q KC (ix2 p j) = ∑ x : Fin 64, Q (ix3 0 p x) * KC (ix3 0 j x) := by
  pointwise [k0_pay6, k0_pay2]

theorem v1 (j : Fin 768) (d : Fin 64) : k0_pay3 V (ix2 j d) = V (ix3 0 j d) := by
  pointwise [k0_pay3]

theorem v2 (j : Fin 256) (d : Fin 64) : k0_pay4 VC (ix2 j d) = VC (ix3 0 j d) := by
  pointwise [k0_pay4]

theorem pay8 (V' : FVec Ideal S768x64 .bf16) (VC' : FVec Ideal S256x64 .bf16) (a : FVec Ideal S256x768 .f32)
    (a' : FVec Ideal S256x256 .f32) (p : Fin 256) (d : Fin 64) :
    k0_pay8 V' VC' a a' (ix3 0 p d)
      = quo (fun j : Fin 768 => a (ix2 p j)) (fun j => V' (ix2 j d)) (fun j : Fin 256 => a' (ix2 p j)) fun j => VC' (ix2 j d) := by
  pointwise [k0_pay7, k0_pay8]
  unfold quo top
  rw [neg_inf]

theorem pay10 (V' : FVec Ideal S768x64 .bf16) (VC' : FVec Ideal S256x64 .bf16) (a : FVec Ideal S256x768 .f32)
    (a' : FVec Ideal S256x256 .f32) (p : Fin 256) (d : Fin 64) :
    k0_pay10 (k0_pay9 V' VC' a a' G) (ix3 0 p d)
      = k0_pay8 V' VC' a a' (ix3 0 p d) * (G (ix3 0 p d) * Ideal.div 1 (1 + Ideal.exp (-G (ix3 0 p d)))) := by
  have e : k0_pay8 V' VC' a a' (ix3 0 p d) = k0_pay7 V' VC' a a' (ix2 p d) := by pointwise [k0_pay8]
  rw [e]
  pointwise [k0_pay9, k0_pay10]
  rw [zero_sub]

/-- What the loads of head `h` of a tile hold for the query at row `r` and column `x`, in row `p` of the tile: the keys
start at grid row `st`, `o` rows above the first one the query sees. -/
structure Tile (A : Args) (b : Fin 2) (h : Fin 8) (r : Fin 32) (x : Fin 64) (p : Fin 256) (st o : ℕ) : Prop where
  hst : st + 12 ≤ 32
  ho : st + o = lo r
  ho' : o ≤ 4
  q : ∀ d, Q (ix3 0 p d) = ((A.q b (tok r x) (col h d) * (1 / 8) : ℝ) : EReal)
  k : ∀ (j : Fin 768) d, K (ix3 0 j d) = ((A.k b ⟨st * 64 + j.val, by omega⟩ (col h d) : ℝ) : EReal)
  v : ∀ (j : Fin 768) d, V (ix3 0 j d) = A.v b ⟨st * 64 + j.val, by omega⟩ (col h d)
  kc : ∀ j d, KC (ix3 0 j d) = ((A.kc b j (col h d) : ℝ) : EReal)
  vc : ∀ j d, VC (ix3 0 j d) = A.vc b j (col h d)
  bias : ∀ j : Fin 768, B (ix4 0 0 p j)
    = if (o ≤ j.val / 64 ∧ j.val / 64 < o + 8) ∧ clo x ≤ j.val % 64 ∧ j.val % 64 < clo x + 16 then
        ((A.rpb h (dr r (j.val / 64 - o)) (dc x (j.val % 64)) : ℝ) : EReal)
      else ⊥
  g : ∀ d, G (ix3 0 p d) = A.g b (tok r x) (col h d)

variable {Q K V KC VC B G}

variable {A : Args} {b : Fin 2} {h : Fin 8} {r : Fin 32} {x : Fin 64} {p : Fin 256} {st o : ℕ}
  (T : Tile Q K V KC VC B G A b h r x p st o)

include T

theorem Tile.score (j : Fin 768) : k0_pay5 Q K B (ix2 p j)
    = if (o ≤ j.val / 64 ∧ j.val / 64 < o + 8) ∧ clo x ≤ j.val % 64 ∧ j.val % 64 < clo x + 16 then
        (((∑ d, A.q b (tok r x) (col h d) * A.k b ⟨st * 64 + j.val, by have := T.hst; omega⟩ (col h d)) * (1 / 8)
          + A.rpb h (dr r (j.val / 64 - o)) (dc x (j.val % 64)) : ℝ) : EReal)
      else ⊥ := by
  rw [s1]
  simp only [T.q, T.k, T.bias, ← EReal.coe_mul, coe_sum]
  split_ifs
  · rw [← EReal.coe_add]
    refine congrArg _ (congrArg (· + _) ?_)
    rw [Finset.sum_mul]
    exact Finset.sum_congr rfl fun d _ => by ring
  · exact EReal.add_bot _

theorem Tile.scoreC (j : Fin 256) : k0_pay6 Q KC (ix2 p j) = ((A.sc b h r x j : ℝ) : EReal) := by
  rw [s2]
  simp only [T.q, T.kc, ← EReal.coe_mul, coe_sum, Args.sc]
  refine congrArg _ ?_
  rw [Finset.sum_mul]
  exact Finset.sum_congr rfl fun d _ => by ring

theorem Tile.win_score (j : Fin 512) :
    k0_pay5 Q K B (ix2 p (win (N := 768) (o * 64) (by have := T.ho'; omega) j)) = A.sl b h r x j := by
  rw [T.score]
  have h1 := T.ho
  have h2 := T.hst
  have e1 : (o * 64 + j.val) / 64 = o + j.val / 64 := by omega
  have e2 : (o * 64 + j.val) % 64 = j.val % 64 := by omega
  have ek : (⟨st * 64 + (o * 64 + j.val), by have := T.ho'; omega⟩ : Fin 2048) = seen r j :=
    Fin.ext (show st * 64 + (o * 64 + j.val) = lo r * 64 + j.val by omega)
  have ew : (win (N := 768) (o * 64) (by have := T.ho'; omega) j).val = o * 64 + j.val := rfl
  simp only [ew, e1, e2, ek, Nat.add_sub_cancel_left]
  unfold Args.sl
  refine if_congr ?_ rfl rfl
  constructor
  · exact fun hh => hh.2
  · exact fun hh => ⟨⟨by omega, by omega⟩, hh⟩

/-- The head's result. -/
theorem Tile.head (d : Fin 64) : headO Q K V KC VC B (ix3 0 p d) = A.o b h r x d := by
  have ho' := T.ho'
  have h1 := T.ho
  have h2 := T.hst
  unfold headO
  rw [pay8, quo_win (n := 512) (o * 64) (by omega) (fun j hj => by
    rw [T.score, if_neg]
    rintro ⟨⟨h1, h2⟩, -⟩
    exact hj ⟨by omega, by omega⟩)]
  have es : (fun j : Fin 512 => k0_pay5 Q K B (ix2 p (win (N := 768) (o * 64) (by omega) j))) = A.sl b h r x :=
    funext fun j => T.win_score j
  have et : (fun j : Fin 256 => k0_pay6 Q KC (ix2 p j)) = fun j => ((A.sc b h r x j : ℝ) : EReal) := funext fun j => T.scoreC j
  have ev : (fun j : Fin 512 => k0_pay3 V (ix2 (win (N := 768) (o * 64) (by omega) j) d)) = fun j => A.v b (seen r j) (col h d) :=
    funext fun j => (v1 V _ d).trans ((T.v _ d).trans (congrArg (fun l => A.v b l (col h d))
      (Fin.ext (show st * 64 + (o * 64 + j.val) = lo r * 64 + j.val by omega))))
  have eu : (fun j : Fin 256 => k0_pay4 VC (ix2 j d)) = fun j => A.vc b j (col h d) := funext fun j => (v2 VC j d).trans (T.vc j d)
  rw [es, et, ev, eu]
  exact soft (A.sl_ne_top b h r x) (A.sc b h r x) 0

/-- The head's gated result. -/
theorem Tile.headG (d : Fin 64) : headY Q K V KC VC B G (ix3 0 p d) = A.y b h r x d := by
  unfold headY
  rw [pay10, T.g]
  exact congrArg (· * _) (T.head d)

end Cert.Na
end
-- ==== Proof.NaPieces.lean ====
/- The four pieces the body stores into each of its two outputs: a head's result on its columns. -/
module

public import proofs.«01_k».proof.Proof.NaTile

@[expose] public section

set_option maxRecDepth 16384

noncomputable section

namespace Cert.Na

open Cert.Kernel3Ideal Cert.Kernel3Ideal.Gen Idealize.ShloMosaic Idealize.ShloMosaic.TcCoe Idealize.SL.Sem

theorem load_whole {κ : Kind} {sp : Space} {s : Shape} {e : EltTy} {a : Memref sig κ sp s e} (h : a.IsWhole) (x : s.Idx → Elt Ideal e)
    (r : Rect s) : View.ld x r = a.view.readAt (Elt Ideal) r.toLoadRect (h.unread x) := by
  rw [View.readAt_eq_ld, h.read_unread]

variable (x0 : Vec Ideal S1x256x256 .bf16) (x1 x2 : Vec Ideal S1x2304x256 .bf16) (x3 : Vec Ideal S1x256x256 .bf16)
  (x4 : Vec Ideal S4x3x256x768 .f32)

/-- The columns of a head among the four of a tile: of the tile's rows, and of the context's. -/
abbrev own (o : ℕ) (h : ∀ a, (![0, 0, o] : Fin 3 → ℕ) a + (![1, 256, 64] : Fin 3 → ℕ) a ≤ S1x256x256.size a) : Rect S1x256x256 :=
  Rect.unit ![0, 0, o] ![1, 256, 64] h
abbrev ctx (o : ℕ) (h : ∀ a, (![0, 2048, o] : Fin 3 → ℕ) a + (![1, 256, 64] : Fin 3 → ℕ) a ≤ S1x2304x256.size a) : Rect S1x2304x256 :=
  Rect.unit ![0, 2048, o] ![1, 256, 64] h

/-- The head whose columns start at `o`, its key rows loaded at `f` and its bias at `f'`. -/
def resO (o : ℕ) (h : ∀ a, (![0, 0, o] : Fin 3 → ℕ) a + (![1, 256, 64] : Fin 3 → ℕ) a ≤ S1x256x256.size a)
    (h' : ∀ a, (![0, 2048, o] : Fin 3 → ℕ) a + (![1, 256, 64] : Fin 3 → ℕ) a ≤ S1x2304x256.size a) (f : Fin 3 → ℕ)
    (hf : ∀ a, f a + S1x768x64.size a ≤ S1x2304x256.size a) (f' : Fin 4 → ℕ)
    (hf' : ∀ a, f' a + S1x1x256x768.size a ≤ S4x3x256x768.size a) : Vec Ideal S1x256x64 .bf16 :=
  headO (View.ld x0 (own o h)) (View.ld x1 (Rect.unit (s := S1x2304x256) f S1x768x64.size hf))
    (View.ld x2 (Rect.unit (s := S1x2304x256) f S1x768x64.size hf)) (View.ld x1 (ctx o h')) (View.ld x2 (ctx o h'))
    (View.ld x4 (Rect.unit (s := S4x3x256x768) f' S1x1x256x768.size hf'))
def resY (o : ℕ) (h : ∀ a, (![0, 0, o] : Fin 3 → ℕ) a + (![1, 256, 64] : Fin 3 → ℕ) a ≤ S1x256x256.size a)
    (h' : ∀ a, (![0, 2048, o] : Fin 3 → ℕ) a + (![1, 256, 64] : Fin 3 → ℕ) a ≤ S1x2304x256.size a) (f : Fin 3 → ℕ)
    (hf : ∀ a, f a + S1x768x64.size a ≤ S1x2304x256.size a) (f' : Fin 4 → ℕ)
    (hf' : ∀ a, f' a + S1x1x256x768.size a ≤ S4x3x256x768.size a) : Vec Ideal S1x256x64 .bf16 :=
  headY (View.ld x0 (own o h)) (View.ld x1 (Rect.unit (s := S1x2304x256) f S1x768x64.size hf))
    (View.ld x2 (Rect.unit (s := S1x2304x256) f S1x768x64.size hf)) (View.ld x1 (ctx o h')) (View.ld x2 (ctx o h'))
    (View.ld x4 (Rect.unit (s := S4x3x256x768) f' S1x1x256x768.size hf')) (View.ld x3 (own o h))

theorem pieces6 (c : Dev nD) (i : grid0.Coords) (arg3 : Memref sig .tc .vmem S1x256x256 .bf16) (harg3 : arg3.IsWhole)
    (arg4 : Memref sig .tc .vmem S1x2304x256 .bf16) (harg4 : arg4.IsWhole) (arg5 : Memref sig .tc .vmem S1x2304x256 .bf16) (harg5 : arg5.IsWhole)
    (arg6 : Memref sig .tc .vmem S1x256x256 .bf16) (harg6 : arg6.IsWhole) (arg7 : Memref sig .tc .vmem S4x3x256x768 .f32) (harg7 : arg7.IsWhole)
    (arg8 : Memref sig .tc .vmem S1x256x256 .bf16) (harg8 : arg8.IsWhole) (arg9 : Memref sig .tc .vmem S1x256x256 .bf16) (harg9 : arg9.IsWhole) :
    (kernelRun0_A c i arg3 harg3 arg4 harg4 arg5 harg5 arg6 harg6 arg7 harg7 arg8 harg8 arg9 harg9 x0 x1 x2 x3 x4).2.1
      = [⟨own 192 (by decide), resO x0 x1 x2 x4 192 (by decide) (by decide) (k0_off7 i) (k0_off7_inb i) (k0_off8 i) (k0_off8_inb i)⟩,
        ⟨own 128 (by decide), resO x0 x1 x2 x4 128 (by decide) (by decide) (k0_off5 i) (k0_off5_inb i) (k0_off6 i) (k0_off6_inb i)⟩,
        ⟨own 64 (by decide), resO x0 x1 x2 x4 64 (by decide) (by decide) (k0_off3 i) (k0_off3_inb i) (k0_off4 i) (k0_off4_inb i)⟩,
        ⟨own 0 (by decide), resO x0 x1 x2 x4 0 (by decide) (by decide) (k0_off1 i) (k0_off1_inb i) (k0_off2 i) (k0_off2_inb i)⟩] := by
  unfold resO
  simp only [load_whole harg3 x0, load_whole harg4 x1, load_whole harg5 x2, load_whole harg7 x4]
  unfold kernelRun0_A
  rfl

theorem pieces5 (c : Dev nD) (i : grid0.Coords) (arg3 : Memref sig .tc .vmem S1x256x256 .bf16) (harg3 : arg3.IsWhole)
    (arg4 : Memref sig .tc .vmem S1x2304x256 .bf16) (harg4 : arg4.IsWhole) (arg5 : Memref sig .tc .vmem S1x2304x256 .bf16) (harg5 : arg5.IsWhole)
    (arg6 : Memref sig .tc .vmem S1x256x256 .bf16) (harg6 : arg6.IsWhole) (arg7 : Memref sig .tc .vmem S4x3x256x768 .f32) (harg7 : arg7.IsWhole)
    (arg8 : Memref sig .tc .vmem S1x256x256 .bf16) (harg8 : arg8.IsWhole) (arg9 : Memref sig .tc .vmem S1x256x256 .bf16) (harg9 : arg9.IsWhole) :
    (kernelRun0_A c i arg3 harg3 arg4 harg4 arg5 harg5 arg6 harg6 arg7 harg7 arg8 harg8 arg9 harg9 x0 x1 x2 x3 x4).1
      = [⟨own 192 (by decide), resY x0 x1 x2 x3 x4 192 (by decide) (by decide) (k0_off7 i) (k0_off7_inb i) (k0_off8 i) (k0_off8_inb i)⟩,
        ⟨own 128 (by decide), resY x0 x1 x2 x3 x4 128 (by decide) (by decide) (k0_off5 i) (k0_off5_inb i) (k0_off6 i) (k0_off6_inb i)⟩,
        ⟨own 64 (by decide), resY x0 x1 x2 x3 x4 64 (by decide) (by decide) (k0_off3 i) (k0_off3_inb i) (k0_off4 i) (k0_off4_inb i)⟩,
        ⟨own 0 (by decide), resY x0 x1 x2 x3 x4 0 (by decide) (by decide) (k0_off1 i) (k0_off1_inb i) (k0_off2 i) (k0_off2_inb i)⟩] := by
  unfold resY
  simp only [load_whole harg3 x0, load_whole harg4 x1, load_whole harg5 x2, load_whole harg6 x3, load_whole harg7 x4]
  unfold kernelRun0_A
  rfl

end Cert.Na
end
-- ==== Proof.NaBias.lean ====
/- The bias tiles the host prepares: the learned bias inside a query's window, −∞ outside. -/
module

public import proofs.«01_k».proof.Proof.Gen.Kernel3Ideal.Value
public import proofs.«01_k».proof.Proof.NaModel
public import proofs.«01_k».proof.Proof.NaGather
public import Idealize.ShloMosaic.Lib.Pipeline.ValueKit
public import Idealize.ShloMosaic.Lib.Pointwise

@[expose] public section

set_option maxRecDepth 16384

noncomputable section

namespace Cert.Na

open Cert.Kernel3Ideal Cert.Kernel3Ideal.Gen Idealize.ShloMosaic Idealize.ShloMosaic.TcCoe Idealize.SL.Sem
open Cert.NaModel Cert.NaGather
theorem gatA {α : Type} (x : S8x15x31.Idx → α) (idx : IVec S64x64x1 32) (h : Fin 8) (a : Fin 15) (p q : Fin 64) :
    Host.gather gather_S8x15x31_S64x64x1_S8x15x64x64_01_2_n_n_2_2_8151 x idx (ix4 h a p q)
      = x (ix3 h a ⟨min (idx (ix3 p q 0)).toInt.toNat 30, by omega⟩) := by
  unfold Host.gather
  congr 1
  funext d
  refine Fin.ext ?_
  match d with
  | ⟨0, _⟩ => exact operandIdx_off gather_S8x15x31_S64x64x1_S8x15x64x64_01_2_n_n_2_2_8151 _ idx (0 : Fin 3) (by decide) (by decide) (by decide)
  | ⟨1, _⟩ => exact operandIdx_off gather_S8x15x31_S64x64x1_S8x15x64x64_01_2_n_n_2_2_8151 _ idx (1 : Fin 3) (by decide) (by decide) (by decide)
  | ⟨2, _⟩ =>
    refine operandIdx_start gather_S8x15x31_S64x64x1_S8x15x64x64_01_2_n_n_2_2_8151 _ idx (2 : Fin 3) (by decide) (by decide) (by decide) (ix3 p q 0) ?_
    funext b; refine Fin.ext ?_
    match b with
    | ⟨0, _⟩ => rfl
    | ⟨1, _⟩ => rfl
    | ⟨2, _⟩ => rfl
theorem gatB {α : Type} (x : S8x15x64x64.Idx → α) (idx : IVec S3x4x12x1 32) (h : Fin 8) (t : Fin 3) (a : Fin 4) (b : Fin 12) (p q : Fin 64) :
    Host.gather gather_S8x15x64x64_S3x4x12x1_S8x3x4x12x64x64_045_1_n_n_1_3_816464 x idx (ix6 h t a b p q)
      = x (ix4 h ⟨min (idx (ix4 t a b 0)).toInt.toNat 14, by omega⟩ p q) := by
  unfold Host.gather
  congr 1
  funext d
  refine Fin.ext ?_
  match d with
  | ⟨0, _⟩ => exact operandIdx_off gather_S8x15x64x64_S3x4x12x1_S8x3x4x12x64x64_045_1_n_n_1_3_816464 _ idx (0 : Fin 4) (by decide) (by decide) (by decide)
  | ⟨1, _⟩ =>
    refine operandIdx_start gather_S8x15x64x64_S3x4x12x1_S8x3x4x12x64x64_045_1_n_n_1_3_816464 _ idx (1 : Fin 4) (by decide) (by decide) (by decide) (ix4 t a b 0) ?_
    funext b; refine Fin.ext ?_
    match b with
    | ⟨0, _⟩ => rfl
    | ⟨1, _⟩ => rfl
    | ⟨2, _⟩ => rfl
    | ⟨3, _⟩ => rfl
  | ⟨2, _⟩ => exact operandIdx_off gather_S8x15x64x64_S3x4x12x1_S8x3x4x12x64x64_045_1_n_n_1_3_816464 _ idx (2 : Fin 4) (by decide) (by decide) (by decide)
  | ⟨3, _⟩ => exact operandIdx_off gather_S8x15x64x64_S3x4x12x1_S8x3x4x12x64x64_045_1_n_n_1_3_816464 _ idx (3 : Fin 4) (by decide) (by decide) (by decide)

/-- The host's words: whether key row `b` is in the window of query row `a` of a tile of kind `t`, whether key column `q`
is in the window of query column `p`, and the two offsets into the learned bias. -/
def rowW (t a b : ℕ) : BitVec 1 :=
  IntOp.andi
    (IntOp.cmpi .sge (BitVec.ofNat 32 b)
      (IntOp.minsi (IntOp.maxsi (IntOp.subi (IntOp.addi (BitVec.ofNat 32 a) (IntOp.muli (4#32) (BitVec.ofNat 32 t))) 4#32) 0#32) 4#32))
    (IntOp.cmpi .slt (BitVec.ofNat 32 b)
      (IntOp.addi
        (IntOp.minsi (IntOp.maxsi (IntOp.subi (IntOp.addi (BitVec.ofNat 32 a) (IntOp.muli (4#32) (BitVec.ofNat 32 t))) 4#32) 0#32) 4#32) 8#32))
def colW (p q : ℕ) : BitVec 1 :=
  IntOp.andi
    (IntOp.cmpi .sge (BitVec.ofNat 32 q) (IntOp.minsi (IntOp.maxsi (IntOp.subi (BitVec.ofNat 32 p) 8#32) 0#32) 48#32))
    (IntOp.cmpi .slt (BitVec.ofNat 32 q) (IntOp.addi (IntOp.minsi (IntOp.maxsi (IntOp.subi (BitVec.ofNat 32 p) 8#32) 0#32) 48#32) 16#32))
def drW (t a b : ℕ) : ℕ :=
  min (IntOp.minsi (IntOp.maxsi (IntOp.addi (IntOp.subi (IntOp.subi (BitVec.ofNat 32 b) (BitVec.ofNat 32 a))
    (IntOp.muli (4#32) (BitVec.ofNat 32 t))) 7#32) 0#32) 14#32).toInt.toNat 14
def dcW (p q : ℕ) : ℕ :=
  min (IntOp.minsi (IntOp.maxsi (IntOp.addi (IntOp.subi (BitVec.ofNat 32 q) (BitVec.ofNat 32 p)) 15#32) 0#32) 30#32).toInt.toNat 30

/-- The first key row a query row sees among the tile's twelve, and the bias row of a key row it sees. -/
def first (t a : ℕ) : ℕ := if t = 0 then 0 else if t = 1 then a else 4

theorem row_word : ∀ (t : Fin 3) (a : Fin 4) (b : Fin 12),
    rowW t.val a.val b.val = if first t.val a.val ≤ b.val ∧ b.val < first t.val a.val + 8 then 1#1 else 0#1 := by
  decide +kernel
theorem col_word : ∀ p q : Fin 64, colW p.val q.val = if clo p ≤ q.val ∧ q.val < clo p + 16 then 1#1 else 0#1 := by
  decide +kernel
theorem dr_word : ∀ (t : Fin 3) (a : Fin 4) (b : Fin 12), drW t.val a.val b.val = min (b.val + 7 - a.val - 4 * t.val) 14 := by
  decide +kernel
theorem dc_word : ∀ p q : Fin 64, dcW p.val q.val = (dc p q.val).val := by
  decide +kernel

theorem sel_and {α : Type} (P R : Prop) [Decidable P] [Decidable R] (u v : α) :
    Scalar.select (IntOp.andi (if P then 1#1 else 0#1) (if R then 1#1 else 0#1)) u v = if P ∧ R then u else v := by
  by_cases hP : P <;> by_cases hR : R <;> simp only [hP, hR, if_true, if_false, and_true, and_false] <;> rfl

variable (m : (ℓ : Loc nD τ sig) → Buf (Elt Ideal) ℓ) (c : Dev nD)

theorem bias_entry (h : Fin 8) (t : Fin 3) (p : Fin 256) (j : Fin 768) : V m c main_v69 (ix4 h t p j)
    = if (first t.val (p.val / 64) ≤ j.val / 64 ∧ j.val / 64 < first t.val (p.val / 64) + 8)
        ∧ clo ⟨p.val % 64, by omega⟩ ≤ j.val % 64 ∧ j.val % 64 < clo ⟨p.val % 64, by omega⟩ + 16 then
        m ((c : Thread nD τ).loc main_arg6) (ix3 h ⟨min (j.val / 64 + 7 - p.val / 64 - 4 * t.val) 14, by omega⟩ (dc ⟨p.val % 64, by omega⟩ (j.val % 64)))
      else (⊥ : EReal) := by
  have hr := row_word t ⟨p.val / 64, by omega⟩ ⟨j.val / 64, by omega⟩
  have hc := col_word ⟨p.val % 64, by omega⟩ ⟨j.val % 64, by omega⟩
  have hdr := dr_word t ⟨p.val / 64, by omega⟩ ⟨j.val / 64, by omega⟩
  have hdc := dc_word ⟨p.val % 64, by omega⟩ ⟨j.val % 64, by omega⟩
  entry_read
  pointwise
  rw [gatB, gatA]
  pointwise
  show Scalar.select (IntOp.andi (rowW t.val (p.val / 64) (j.val / 64)) (colW (p.val % 64) (j.val % 64)))
    (m ((c : Thread nD τ).loc main_arg6) (ix3 h ⟨drW t.val (p.val / 64) (j.val / 64), Nat.lt_succ_of_le (min_le_right _ _)⟩
      ⟨dcW (p.val % 64) (j.val % 64), Nat.lt_succ_of_le (min_le_right _ _)⟩)) (Ideal.ofBits FTy.f32 4286578688#32) = _
  refine (congrArg₂ (fun u v => Scalar.select (IntOp.andi u v) _ _) hr hc).trans ((sel_and _ _ _ _).trans (if_congr Iff.rfl ?_ NaSoft.neg_inf))
  exact congrArg₂ (fun u v => m ((c : Thread nD τ).loc main_arg6) (ix3 h u v)) (Fin.ext hdr) (Fin.ext hdc)

end Cert.Na
end
-- ==== Proof.NaPack.lean ====
/- The projections the host packs, read at an index of the arguments. -/
module

public import proofs.«01_k».proof.Proof.NaBias

@[expose] public section

set_option maxRecDepth 16384

noncomputable section

namespace Cert.Na

open Cert.Kernel3Ideal Cert.Kernel3Ideal.Gen Idealize.ShloMosaic Idealize.ShloMosaic.TcCoe Idealize.SL.Sem
open Idealize.ShloMosaic.Pipeline (Dat)
open Cert.NaModel

variable (m : (ℓ : Loc nD τ sig) → Buf (Elt Ideal) ℓ) (c : Dev nD)

theorem pq (b : Fin 2) (l : Fin 2048) (q : Fin 512) : V m c main_v12 (ix3 b ⟨l.val, by omega⟩ ⟨q.val, by omega⟩)
    = (show EReal from m ((c : Thread nD τ).loc main_arg0) (ix3 b l q)) * Ideal.ofBits .f32 1040187392#32 := by
  entry_read
  pointwise
  split_ifs <;> first | omega | rfl
theorem pk (b : Fin 2) (l : Fin 2048) (q : Fin 512) :
    V m c main_v12 (ix3 b ⟨l.val, by omega⟩ ⟨512 + q.val, by omega⟩) = m ((c : Thread nD τ).loc main_arg1) (ix3 b l q) := by
  entry_read
  pointwise
  split_ifs <;> first | omega | exact congrArg _ (congrArg (ix3 b l) (Fin.ext (by simp; try omega)))
theorem pv (b : Fin 2) (l : Fin 2048) (q : Fin 512) :
    V m c main_v12 (ix3 b ⟨l.val, by omega⟩ ⟨1024 + q.val, by omega⟩) = m ((c : Thread nD τ).loc main_arg2) (ix3 b l q) := by
  entry_read
  pointwise
  split_ifs <;> first | omega | exact congrArg _ (congrArg (ix3 b l) (Fin.ext (by simp; try omega)))
theorem pg (b : Fin 2) (l : Fin 2048) (q : Fin 512) :
    V m c main_v12 (ix3 b ⟨l.val, by omega⟩ ⟨1536 + q.val, by omega⟩) = m ((c : Thread nD τ).loc main_arg3) (ix3 b l q) := by
  entry_read
  pointwise
  split_ifs <;> first | omega | exact congrArg _ (congrArg (ix3 b l) (Fin.ext (by simp; try omega)))
theorem pkc (b : Fin 2) (l : Fin 256) (q : Fin 512) :
    V m c main_v12 (ix3 b ⟨2048 + l.val, by omega⟩ ⟨512 + q.val, by omega⟩) = m ((c : Thread nD τ).loc main_arg4) (ix3 b l q) := by
  entry_read
  pointwise
  split_ifs <;> first | omega | exact congrArg _ (congrArg₂ (ix3 b) (Fin.ext (by simp; try omega)) (Fin.ext (by simp; try omega)))
theorem pvc (b : Fin 2) (l : Fin 256) (q : Fin 512) :
    V m c main_v12 (ix3 b ⟨2048 + l.val, by omega⟩ ⟨1024 + q.val, by omega⟩) = m ((c : Thread nD τ).loc main_arg5) (ix3 b l q) := by
  entry_read
  pointwise
  split_ifs <;> first | omega | exact congrArg _ (congrArg₂ (ix3 b) (Fin.ext (by simp; try omega)) (Fin.ext (by simp; try omega)))

end Cert.Na
end
-- ==== Proof.NaBlk.lean ====
/- The kernel's blocks and loads at a grid point, read at an index of the arguments. -/
module

public import proofs.«01_k».proof.Proof.NaPieces
public import proofs.«01_k».proof.Proof.NaPack

@[expose] public section

set_option maxRecDepth 16384

noncomputable section

namespace Cert.Na

open Cert.Kernel3Ideal Cert.Kernel3Ideal.Gen Idealize.ShloMosaic Idealize.ShloMosaic.TcCoe Idealize.SL.Sem
open Idealize.ShloMosaic.Pipeline (Dat)
open Cert.NaModel

theorem idx : ∀ t : Fin cfg0.N,
    win0_0.index t = ![t.val / 8 % 2, t.val % 8, t.val / 16] ∧ win0_1.index t = ![t.val / 8 % 2, 0, 2 + t.val / 16]
    ∧ win0_2.index t = ![t.val / 8 % 2, 0, 4 + t.val / 16] ∧ win0_3.index t = ![t.val / 8 % 2, t.val % 8, 6 + t.val / 16]
    ∧ win0_4.index t = ![t.val / 16, 0, 0, 0] ∧ win0_5.index t = ![t.val / 8 % 2, t.val % 8, t.val / 16]
    ∧ win0_6.index t = ![t.val / 8 % 2, t.val % 8, t.val / 16] :=
  (by decide +kernel : ∀ t : Fin grid0.N, _)

/-- The first key row a point's tile loads, and the kind of the tile. -/
def stOf (t : ℕ) : ℕ := min (4 * (t % 8) - 4) 20
def typOf (t : ℕ) : ℕ := if t % 8 = 0 then 0 else if t % 8 = 7 then 2 else 1

theorem offs : ∀ t : Fin cfg0.N,
    k0_off1 (grid0.coords t) = ![0, 64 * stOf t.val, 0] ∧ k0_off3 (grid0.coords t) = ![0, 64 * stOf t.val, 64]
    ∧ k0_off5 (grid0.coords t) = ![0, 64 * stOf t.val, 128] ∧ k0_off7 (grid0.coords t) = ![0, 64 * stOf t.val, 192]
    ∧ k0_off2 (grid0.coords t) = ![0, typOf t.val, 0, 0] ∧ k0_off4 (grid0.coords t) = ![1, typOf t.val, 0, 0]
    ∧ k0_off6 (grid0.coords t) = ![2, typOf t.val, 0, 0] ∧ k0_off8 (grid0.coords t) = ![3, typOf t.val, 0, 0] :=
  (by decide +kernel : ∀ t : Fin grid0.N, _)

theorem ltN (t : Fin cfg0.N) : t.val < 32 := lt_of_lt_of_eq t.isLt N_0

/-- The sample of a grid point, the token of a row of its tile, its grid row and column, the head of the tile's four and the
column of the tile's. -/
def bOf (t : Fin cfg0.N) : Fin 2 := ⟨t.val / 8 % 2, by omega⟩
def lOf (t : Fin cfg0.N) (p : Fin 256) : Fin 2048 := ⟨t.val % 8 * 256 + p.val, by omega⟩
def cOf (t : Fin cfg0.N) (k : Fin 256) : Fin 512 := ⟨t.val / 16 * 256 + k.val, by have := ltN t; omega⟩
def rOf (t : Fin cfg0.N) (p : Fin 256) : Fin 32 := ⟨4 * (t.val % 8) + p.val / 64, by omega⟩
def xOf (p : Fin 256) : Fin 64 := ⟨p.val % 64, by omega⟩
def hOf (t : Fin cfg0.N) (i : Fin 4) : Fin 8 := ⟨t.val / 16 * 4 + i.val, by have := ltN t; omega⟩

theorem typ_lt (t : ℕ) : typOf t < 3 := by unfold typOf; split_ifs <;> omega

variable (m : (ℓ : Loc nD τ sig) → Buf (Elt Ideal) ℓ) (c : Dev nD)

/-! ## The blocks -/

theorem blk0 (t : Fin cfg0.N) (p k : Fin 256) :
    iblk m c 0 t (ix3 0 p k) = V m c main_v12 (ix3 (bOf t) ⟨(lOf t p).val, by omega⟩ ⟨(cOf t k).val, by omega⟩) := by
  rw [iblk]
  blk_ext! [idx t, bOf, lOf, cOf]
theorem blk1 (t : Fin cfg0.N) (y : Fin 2304) (k : Fin 256) :
    iblk m c 1 t (ix3 0 y k) = V m c main_v12 (ix3 (bOf t) y ⟨512 + (cOf t k).val, by omega⟩) := by
  rw [iblk]
  blk_ext! [idx t, bOf, lOf, cOf]
theorem blk2 (t : Fin cfg0.N) (y : Fin 2304) (k : Fin 256) :
    iblk m c 2 t (ix3 0 y k) = V m c main_v12 (ix3 (bOf t) y ⟨1024 + (cOf t k).val, by omega⟩) := by
  rw [iblk]
  blk_ext! [idx t, bOf, lOf, cOf]
theorem blk3 (t : Fin cfg0.N) (p k : Fin 256) :
    iblk m c 3 t (ix3 0 p k) = V m c main_v12 (ix3 (bOf t) ⟨(lOf t p).val, by omega⟩ ⟨1536 + (cOf t k).val, by omega⟩) := by
  rw [iblk]
  blk_ext! [idx t, bOf, lOf, cOf]
theorem blk4 (t : Fin cfg0.N) (i : Fin 4) (y : Fin 3) (p : Fin 256) (j : Fin 768) :
    iblk m c 4 t (ix4 i y p j) = V m c main_v69 (ix4 (hOf t i) y p j) := by
  rw [iblk]
  blk_ext! [idx t, hOf]

/-! ## The loads -/

/-- The part of a block or window at an offset. -/
theorem ld3 {n k a w : ℕ} (x : Vec Ideal ⟨3, ![1, n, k]⟩ .bf16) (f : Fin 3 → ℕ) (o u : ℕ) (hf : f = ![0, o, u])
    (hb : ∀ e, f e + (![1, a, w] : Fin 3 → ℕ) e ≤ (⟨3, ![1, n, k]⟩ : Shape).size e) (p : Fin a) (d : Fin w) (hp : o + p.val < n) (hd : u + d.val < k) :
    View.ld x (Rect.unit (s := ⟨3, ![1, n, k]⟩) f ![1, a, w] hb) (ix3 0 p d) = x (ix3 0 ⟨o + p.val, hp⟩ ⟨u + d.val, hd⟩) := by
  subst hf
  refine View.ld_unit_apply_of _ _ _ _ _ _ fun e => ?_
  match e with
  | ⟨0, _⟩ => rfl
  | ⟨1, _⟩ => rfl
  | ⟨2, _⟩ => rfl

theorem first_row (t : Fin cfg0.N) (p : Fin 256) : stOf t.val + first (typOf t.val) (p.val / 64) = lo (rOf t p) := by
  show _ = min (4 * (t.val % 8) + p.val / 64 - 4) 24
  unfold stOf first typOf
  split_ifs <;> first | contradiction | omega

theorem row_off (t : Fin cfg0.N) (p : Fin 256) (j : ℕ) (h : first (typOf t.val) (p.val / 64) ≤ j / 64) :
    min (j / 64 + 7 - p.val / 64 - 4 * typOf t.val) 14
      = min (lo (rOf t p) + (j / 64 - first (typOf t.val) (p.val / 64)) + 7 - (4 * (t.val % 8) + p.val / 64)) 14 := by
  have e : stOf t.val + first (typOf t.val) (p.val / 64) + (j / 64 - first (typOf t.val) (p.val / 64)) = stOf t.val + j / 64 := by omega
  rw [← first_row, e]
  clear e
  revert h
  unfold first stOf typOf
  split_ifs <;> intro h <;> first | contradiction | omega

variable {A : Args} (H : Holds A (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)))

include H

/-- A point's loads for its head `i` are that head's tile. -/
theorem tile (t : Fin cfg0.N) (i : Fin 4) (u : ℕ) (hu : u = 64 * i.val) (h : _) (h' : _) (f : Fin 3 → ℕ) (ef : f = ![0, 64 * stOf t.val, u]) (hf : _)
    (f' : Fin 4 → ℕ) (ef' : f' = ![i.val, typOf t.val, 0, 0]) (hf' : ∀ a, f' a + S1x1x256x768.size a ≤ S4x3x256x768.size a) (p : Fin 256) :
    Tile (View.ld (iblk m c 0 t) (own u h)) (View.ld (iblk m c 1 t) (Rect.unit (s := S1x2304x256) f S1x768x64.size hf))
      (View.ld (iblk m c 2 t) (Rect.unit (s := S1x2304x256) f S1x768x64.size hf)) (View.ld (iblk m c 1 t) (ctx u h'))
      (View.ld (iblk m c 2 t) (ctx u h')) (View.ld (iblk m c 4 t) (Rect.unit (s := S4x3x256x768) f' S1x1x256x768.size hf'))
      (View.ld (iblk m c 3 t) (own u h)) A (bOf t) (hOf t i) (rOf t p) (xOf p) p (stOf t.val)
      (first (typOf t.val) (p.val / 64)) := by
  have hN := ltN t
  have hi := i.isLt
  have hs : stOf t.val + 12 ≤ 32 := by unfold stOf; omega
  have hl : tok (rOf t p) (xOf p) = lOf t p := Fin.ext (show (4 * (t.val % 8) + p.val / 64) * 64 + p.val % 64 = t.val % 8 * 256 + p.val by omega)
  have hc : ∀ d : Fin 64, cOf t ⟨u + d.val, by omega⟩ = col (hOf t i) d := fun d =>
    Fin.ext (show t.val / 16 * 256 + (u + d.val) = (t.val / 16 * 4 + i.val) * 64 + d.val by omega)
  have hfirst := first_row t p
  exact {
    hst := hs
    ho := hfirst
    ho' := by unfold first; split_ifs <;> omega
    q := fun d => by
      refine (ld3 (iblk m c 0 t) _ 0 u rfl _ p d (by omega) (by omega)).trans ?_
      have e := (blk0 m c t ⟨0 + p.val, by omega⟩ ⟨u + d.val, by omega⟩).trans (pq m c _ _ _)
      refine e.trans ?_
      rw [H.q, hc, hl, EReal.coe_mul, NaModel.eighth]
      exact congrArg (fun a => (A.q (bOf t) (lOf t a) (col (hOf t i) d) : EReal) * _) (Fin.ext (Nat.zero_add _))
    k := fun j d => by
      refine (ld3 (iblk m c 1 t) _ (64 * stOf t.val) u ef _ j d (by omega) (by omega)).trans ?_
      have e := (blk1 m c t ⟨64 * stOf t.val + j.val, by omega⟩ ⟨u + d.val, by omega⟩).trans
        (pk m c (bOf t) ⟨64 * stOf t.val + j.val, by omega⟩ _)
      refine e.trans ?_
      rw [H.k, hc]
      exact congrArg (fun a => ((A.k (bOf t) a (col (hOf t i) d) : ℝ) : EReal)) (Fin.ext (by show 64 * stOf t.val + j.val = stOf t.val * 64 + j.val; omega))
    v := fun j d => by
      refine (ld3 (iblk m c 2 t) _ (64 * stOf t.val) u ef _ j d (by omega) (by omega)).trans ?_
      have e := (blk2 m c t ⟨64 * stOf t.val + j.val, by omega⟩ ⟨u + d.val, by omega⟩).trans
        (pv m c (bOf t) ⟨64 * stOf t.val + j.val, by omega⟩ _)
      refine e.trans ?_
      rw [H.v, hc]
      exact congrArg (fun a => A.v (bOf t) a (col (hOf t i) d)) (Fin.ext (by show 64 * stOf t.val + j.val = stOf t.val * 64 + j.val; omega))
    kc := fun j d => by
      refine (ld3 (iblk m c 1 t) _ 2048 u rfl _ j d (by omega) (by omega)).trans ?_
      have e := (blk1 m c t ⟨2048 + j.val, by omega⟩ ⟨u + d.val, by omega⟩).trans (pkc m c (bOf t) j _)
      refine e.trans ?_
      rw [H.kc, hc]
    vc := fun j d => by
      refine (ld3 (iblk m c 2 t) _ 2048 u rfl _ j d (by omega) (by omega)).trans ?_
      have e := (blk2 m c t ⟨2048 + j.val, by omega⟩ ⟨u + d.val, by omega⟩).trans (pvc m c (bOf t) j _)
      refine e.trans ?_
      rw [H.vc, hc]
    g := fun d => by
      refine (ld3 (iblk m c 3 t) _ 0 u rfl _ p d (by omega) (by omega)).trans ?_
      have e := (blk3 m c t ⟨0 + p.val, by omega⟩ ⟨u + d.val, by omega⟩).trans (pg m c _ _ _)
      refine e.trans ?_
      rw [H.g, hc, hl]
      exact congrArg (fun a => A.g (bOf t) (lOf t a) (col (hOf t i) d)) (Fin.ext (Nat.zero_add _))
    bias := fun j => by
      subst ef'
      have e : View.ld (iblk m c 4 t) (Rect.unit (s := S4x3x256x768) ![i.val, typOf t.val, 0, 0] S1x1x256x768.size hf') (ix4 0 0 p j)
          = iblk m c 4 t (ix4 i ⟨typOf t.val, typ_lt _⟩ p j) := by
        refine View.ld_unit_apply_of _ _ _ _ _ _ fun e => ?_
        match e with
        | ⟨0, _⟩ => rfl
        | ⟨1, _⟩ => rfl
        | ⟨2, _⟩ => exact (Nat.zero_add _).symm
        | ⟨3, _⟩ => exact (Nat.zero_add _).symm
      refine e.trans ((blk4 m c t i _ p j).trans ((bias_entry m c _ _ p j).trans ?_))
      have hj := j.isLt
      by_cases hh : (first (typOf t.val) (p.val / 64) ≤ j.val / 64 ∧ j.val / 64 < first (typOf t.val) (p.val / 64) + 8)
        ∧ clo (xOf p) ≤ j.val % 64 ∧ j.val % 64 < clo (xOf p) + 16
      · rw [if_pos hh]
        refine (if_pos hh).trans ?_
        rw [H.rpb]
        refine congrArg (fun a => ((A.rpb (hOf t i) a (dc (xOf p) (j.val % 64)) : ℝ) : EReal)) (Fin.ext ?_)
        exact row_off t p j.val hh.1.1
      · rw [if_neg hh]
        exact if_neg hh }

end Cert.Na
end
-- ==== Proof.NaFin.lean ====
/- The two arrays the neighbourhood attention leaves. -/
module

public import proofs.«01_k».proof.Proof.NaBlk
public import Idealize.ShloMosaic.Lib.WritesUnit

@[expose] public section

set_option maxRecDepth 16384

noncomputable section

namespace Cert.Na

open Cert.Kernel3Ideal Cert.Kernel3Ideal.Gen Idealize.ShloMosaic Idealize.ShloMosaic.TcCoe Idealize.SL.Sem
open Idealize.ShloMosaic.Pipeline (Dat)
open Cert.NaModel

/-- Four pieces of 64 columns each, read at a column. -/
theorem read4 {κ : Kind} {sp : Space} (v : View sig κ sp S1x256x256 .bf16) (f : v.ty.Contents (Elt Ideal)) (w : Fin 4 → Vec Ideal S1x256x64 .bf16)
    (h3 : _) (h2 : _) (h1 : _) (h0 : _) (p q : Fin 256) :
    v.read (Elt Ideal) (v.writes (Elt Ideal) f [⟨own 192 h3, w 3⟩, ⟨own 128 h2, w 2⟩, ⟨own 64 h1, w 1⟩, ⟨own 0 h0, w 0⟩]) (ix3 0 p q)
      = w ⟨q.val / 64, by omega⟩ (ix3 0 p ⟨q.val % 64, by omega⟩) := by
  have hit : ∀ (i : Fin 4) (o : ℕ) (_ : o = 64 * i.val) (_ : q.val / 64 = i.val) (h : _) (L : _),
      v.read (Elt Ideal) (v.writes (Elt Ideal) f ((⟨own o h, w i⟩ : View.Piece (Elt Ideal) S1x256x256 .bf16) :: L)) (ix3 0 p q)
        = w ⟨q.val / 64, by omega⟩ (ix3 0 p ⟨q.val % 64, by omega⟩) := fun i o ho hq h L => by
    have e : (⟨q.val / 64, by omega⟩ : Fin 4) = i := Fin.ext hq
    rw [e]
    refine View.read_writes_cons_unit_of_mem v f h (w i) L (ix3 0 p q) (ix3 0 p ⟨q.val % 64, by omega⟩) rfl fun a => ?_
    match a with
    | ⟨0, _⟩ => rfl
    | ⟨1, _⟩ => exact (Nat.zero_add _).symm
    | ⟨2, _⟩ => show q.val = o + q.val % 64; omega
  have miss : ∀ (o : ℕ) (_ : q.val < o) (h : _) (u : Vec Ideal S1x256x64 .bf16) (L : _),
      v.read (Elt Ideal) (v.writes (Elt Ideal) f ((⟨own o h, u⟩ : View.Piece (Elt Ideal) S1x256x256 .bf16) :: L)) (ix3 0 p q)
        = v.read (Elt Ideal) (v.writes (Elt Ideal) f L) (ix3 0 p q) := fun o ho h u L =>
    View.read_writes_cons_unit_of_not_mem v f h u L (ix3 0 p q) rfl (2 : Fin 3) (Or.inl ho)
  by_cases c3 : q.val / 64 = 3
  · exact hit 3 192 rfl c3 _ _
  rw [miss 192 (by omega)]
  by_cases c2 : q.val / 64 = 2
  · exact hit 2 128 rfl c2 _ _
  rw [miss 128 (by omega)]
  by_cases c1 : q.val / 64 = 1
  · exact hit 1 64 rfl c1 _ _
  rw [miss 64 (by omega)]
  exact hit 0 0 rfl (show q.val / 64 = 0 by omega) _ _

/-- The results at a token and a column. -/
def outO (A : Args) (b : Fin 2) (l : Fin 2048) (k : Fin 512) : EReal :=
  A.o b ⟨k.val / 64, by omega⟩ ⟨l.val / 64, by omega⟩ ⟨l.val % 64, by omega⟩ ⟨k.val % 64, by omega⟩
def outY (A : Args) (b : Fin 2) (l : Fin 2048) (k : Fin 512) : EReal :=
  A.y b ⟨k.val / 64, by omega⟩ ⟨l.val / 64, by omega⟩ ⟨l.val % 64, by omega⟩ ⟨k.val % 64, by omega⟩

variable (m : (ℓ : Loc nD τ sig) → Buf (Elt Ideal) ℓ) (c : Dev nD)

variable {A : Args} (H : Holds A (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)))

theorem at_out (t : Fin cfg0.N) (p q : Fin 256) : A.o (bOf t) (hOf t ⟨q.val / 64, by omega⟩) (rOf t p) (xOf p) ⟨q.val % 64, by omega⟩
    = outO A (bOf t) (lOf t p) (cOf t q) := by
  unfold outO
  have e1 : (cOf t q).val / 64 = t.val / 16 * 4 + q.val / 64 := by show (t.val / 16 * 256 + q.val) / 64 = _; omega
  have e2 : (cOf t q).val % 64 = q.val % 64 := by show (t.val / 16 * 256 + q.val) % 64 = _; omega
  have e3 : (lOf t p).val / 64 = 4 * (t.val % 8) + p.val / 64 := by show (t.val % 8 * 256 + p.val) / 64 = _; omega
  have e4 : (lOf t p).val % 64 = p.val % 64 := by show (t.val % 8 * 256 + p.val) % 64 = _; omega
  simp only [e1, e2, e3, e4]
  rfl
theorem at_outY (t : Fin cfg0.N) (p q : Fin 256) : A.y (bOf t) (hOf t ⟨q.val / 64, by omega⟩) (rOf t p) (xOf p) ⟨q.val % 64, by omega⟩
    = outY A (bOf t) (lOf t p) (cOf t q) := by
  unfold outY
  have e1 : (cOf t q).val / 64 = t.val / 16 * 4 + q.val / 64 := by show (t.val / 16 * 256 + q.val) / 64 = _; omega
  have e2 : (cOf t q).val % 64 = q.val % 64 := by show (t.val / 16 * 256 + q.val) % 64 = _; omega
  have e3 : (lOf t p).val / 64 = 4 * (t.val % 8) + p.val / 64 := by show (t.val % 8 * 256 + p.val) / 64 = _; omega
  have e4 : (lOf t p).val % 64 = p.val % 64 := by show (t.val % 8 * 256 + p.val) % 64 = _; omega
  simp only [e1, e2, e3, e4]
  rfl

include H

theorem point6 (t : Fin cfg0.N) (p q : Fin 256) :
    out0_A_6 c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (iblk m c 0 t) (iblk m c 1 t) (iblk m c 2 t) (iblk m c 3 t) (iblk m c 4 t) (ix3 0 p q)
      = outO A (bOf t) (lOf t p) (cOf t q) := by
  obtain ⟨f1, f3, f5, f7, f2, f4, f6, f8⟩ := offs t
  unfold out0_A_6
  rw [pieces6]
  refine (read4 _ _ ![_, _, _, _] _ _ _ _ p q).trans (.trans ?_ (at_out t p q))
  generalize (⟨q.val / 64, by omega⟩ : Fin 4) = i
  match i with
  | 0 => exact (tile m c H t 0 0 rfl _ _ _ f1 _ _ f2 _ p).head _
  | 1 => exact (tile m c H t 1 64 rfl _ _ _ f3 _ _ f4 _ p).head _
  | 2 => exact (tile m c H t 2 128 rfl _ _ _ f5 _ _ f6 _ p).head _
  | 3 => exact (tile m c H t 3 192 rfl _ _ _ f7 _ _ f8 _ p).head _

theorem point5 (t : Fin cfg0.N) (p q : Fin 256) :
    out0_A_5 c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (iblk m c 0 t) (iblk m c 1 t) (iblk m c 2 t) (iblk m c 3 t) (iblk m c 4 t) (ix3 0 p q)
      = outY A (bOf t) (lOf t p) (cOf t q) := by
  obtain ⟨f1, f3, f5, f7, f2, f4, f6, f8⟩ := offs t
  unfold out0_A_5
  rw [pieces5]
  refine (read4 _ _ ![_, _, _, _] _ _ _ _ p q).trans (.trans ?_ (at_outY t p q))
  generalize (⟨q.val / 64, by omega⟩ : Fin 4) = i
  match i with
  | 0 => exact (tile m c H t 0 0 rfl _ _ _ f1 _ _ f2 _ p).headG _
  | 1 => exact (tile m c H t 1 64 rfl _ _ _ f3 _ _ f4 _ p).headG _
  | 2 => exact (tile m c H t 2 128 rfl _ _ _ f5 _ _ f6 _ p).headG _
  | 3 => exact (tile m c H t 3 192 rfl _ _ _ f7 _ _ f8 _ p).headG _

theorem blk_out6 (t : Fin cfg0.N) (y : S1x256x256.Idx) :
    out0_A_6 c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (iblk m c 0 t) (iblk m c 1 t) (iblk m c 2 t) (iblk m c 3 t) (iblk m c 4 t) y
      = outO A (bOf t) (lOf t (y 1)) (cOf t (y 2)) := by
  obtain ⟨z, p, q, rfl⟩ : ∃ z p q, y = ix3 z p q := ⟨_, _, _, eq_ix3 y⟩
  obtain rfl : z = 0 := Subsingleton.elim _ _
  exact point6 m c H t p q

/-- The attention's result. -/
theorem arr6 : (dats m 0 c).arrAt 6 cfg0.N = fun i => outO A (i 0) (i 1) (i 2) := by
  refine (dats m 0 c).arrAt_eq_of_covers 6 _ (by decide +kernel) fun t hf y => ?_
  blk_simp
  rw [after0_6]
  unfold outsAt0
  dsimp only
  have e0 : (win0_6.blk t).view.emb y 0 = bOf t := Fin.ext (by blk_simp [idx t]; rfl)
  have e1 : (win0_6.blk t).view.emb y 1 = lOf t (y 1) := Fin.ext (by blk_simp [idx t]; rfl)
  have e2 : (win0_6.blk t).view.emb y 2 = cOf t (y 2) := Fin.ext (by blk_simp [idx t]; rfl)
  rw [e0, e1, e2]
  exact blk_out6 m c H t y

theorem blk_out5 (t : Fin cfg0.N) (y : S1x256x256.Idx) :
    out0_A_5 c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (iblk m c 0 t) (iblk m c 1 t) (iblk m c 2 t) (iblk m c 3 t) (iblk m c 4 t) y
      = outY A (bOf t) (lOf t (y 1)) (cOf t (y 2)) := by
  obtain ⟨z, p, q, rfl⟩ : ∃ z p q, y = ix3 z p q := ⟨_, _, _, eq_ix3 y⟩
  obtain rfl : z = 0 := Subsingleton.elim _ _
  exact point5 m c H t p q

/-- The gated result. -/
theorem arr5 : (dats m 0 c).arrAt 5 cfg0.N = fun i => outY A (i 0) (i 1) (i 2) := by
  refine (dats m 0 c).arrAt_eq_of_covers 5 _ (by decide +kernel) fun t hf y => ?_
  blk_simp
  rw [after0_5]
  unfold outsAt0
  dsimp only
  have e0 : (win0_5.blk t).view.emb y 0 = bOf t := Fin.ext (by blk_simp [idx t]; rfl)
  have e1 : (win0_5.blk t).view.emb y 1 = lOf t (y 1) := Fin.ext (by blk_simp [idx t]; rfl)
  have e2 : (win0_5.blk t).view.emb y 2 = cOf t (y 2) := Fin.ext (by blk_simp [idx t]; rfl)
  rw [e0, e1, e2]
  exact blk_out5 m c H t y

end Cert.Na
end
-- ==== Proof.NaFinite.lean ====
/- The third program's precondition makes the queries, the keys, the context's keys and the bias real numbers. -/
module

public import proofs.«01_k».proof.Proof.Finite
public import proofs.«01_k».proof.Proof.NaModel
public import proofs.«01_k».proof.Proof.Gen.Pre_finite3

@[expose] public section

noncomputable section

namespace Cert.Pre_finite3

open Idealize.ShloMosaic Idealize.SL.Sem Cert.Model Cert.NaModel

variable [Cert.Pre_finite3.Facts] (x0 x1 x2 x3 : FVec Idealize.ShloMosaic.Ideal S2x2048x512 .f32)
  (x4 x5 : FVec Idealize.ShloMosaic.Ideal S2x256x512 .f32) (x6 : FVec Idealize.ShloMosaic.Ideal S8x15x31 .f32)

/-- What the arguments hold. -/
def args : NaModel.Args where
  q b l k := (x0 (ix3 b l k)).toReal
  k b l k := (x1 (ix3 b l k)).toReal
  v b l k := x2 (ix3 b l k)
  g b l k := x3 (ix3 b l k)
  kc b l k := (x4 (ix3 b l k)).toReal
  vc b l k := x5 (ix3 b l k)
  rpb h r k := (x6 (ix3 h r k)).toReal

theorem holds (h : fn x0 x1 x2 x3 x4 x5 x6 = fun _ => 1#1) :
    NaModel.Holds (args x0 x1 x2 x3 x4 x5 x6) x0 x1 x2 x3 x4 x5 x6 := by
  have j : S_.Idx := fun a => a.elim0
  have h3 := of_andi _ _ j (congrFun h j)
  have h2 := of_andi _ _ j h3.1
  have h1 := of_andi _ _ j h2.1
  exact ⟨fun _ _ _ => reals x0 _ _ _ _ _ j h1.1 _, fun _ _ _ => reals x1 _ _ _ _ _ j h1.2 _, fun _ _ _ => rfl, fun _ _ _ => rfl,
    fun _ _ _ => reals x4 _ _ _ _ _ j h2.2 _, fun _ _ _ => rfl, fun _ _ _ => reals x6 _ _ _ _ _ j h3.2 _⟩

end Cert.Pre_finite3
end
-- ==== Proof.RetSum.lean ====
/-
Retention in both directions as one sum, and by chunks of 256 with a carried state. The weights of the two
directions are powers of two decays; the token itself counts once in each direction.
-/
module

public import Mathlib.Analysis.SpecialFunctions.Exp
public import Mathlib.Algebra.BigOperators.Intervals

@[expose] public section

noncomputable section

namespace Cert.Ret

open Finset Real

/-- The weight of token `s` in token `t`'s result. -/
def wt (lf lb : ℝ) (t s : ℕ) : ℝ :=
  (if s ≤ t then exp (lf * ((t : ℝ) - s)) else 0) + (if t ≤ s then exp (lb * ((s : ℝ) - t)) else 0)

/-- The same inside a chunk, as the kernel writes it. -/
def dm (lf lb : ℝ) (t s : ℕ) : ℝ :=
  exp (((t : ℝ) - s) * (if 0 < (t : ℝ) - s then lf else -lb)) * (if (t : ℝ) - s = 0 then 2 else 1)

theorem dm_eq (lf lb : ℝ) (a t s : ℕ) : dm lf lb t s = wt lf lb (a + t) (a + s) := by
  unfold dm wt
  push_cast
  rw [show (a : ℝ) + t - (a + s) = t - s by ring, show (a : ℝ) + s - (a + t) = s - t by ring]
  rcases lt_trichotomy s t with h | h | h
  · have h' : (s : ℝ) < t := by exact_mod_cast h
    rw [if_pos (by linarith), if_neg (by linarith), if_pos (by omega), if_neg (by omega), mul_one, add_zero, mul_comm]
  · subst h
    simp
    norm_num
  · have h' : (t : ℝ) < s := by exact_mod_cast h
    rw [if_neg (by linarith), if_neg (by linarith), if_neg (by omega), if_pos (by omega), mul_one, zero_add]
    congr 1
    ring

section

variable (k : ℕ → Fin 128 → ℝ) (v : ℕ → ℝ) (lf lb : ℝ) (f0 b0 : Fin 128 → ℝ)

/-- The state carried into chunk `i` from the left, and into chunk `7 - r` from the right. -/
def SF : ℕ → Fin 128 → ℝ
  | 0, d => f0 d
  | i + 1, d => exp (lf * 256) * SF i d + ∑ σ ∈ range 256, k (256 * i + σ) d * exp (lf * (255 - σ)) * v (256 * i + σ)
def SB : ℕ → Fin 128 → ℝ
  | 0, d => b0 d
  | r + 1, d => exp (lb * 256) * SB r d + ∑ σ ∈ range 256, k (256 * (7 - r) + σ) d * exp (lb * σ) * v (256 * (7 - r) + σ)

theorem SF_eq (i : ℕ) (d : Fin 128) : SF k v lf f0 i d
    = exp (lf * (256 * i)) * f0 d + ∑ s ∈ range (256 * i), k s d * exp (lf * (256 * i - 1 - s)) * v s := by
  induction i with
  | zero => simp [SF]
  | succ i ih =>
    rw [SF, ih, mul_add, ← mul_assoc, ← exp_add, mul_sum, Nat.mul_succ, sum_range_add, add_assoc]
    congr 1
    · congr 2; push_cast; ring
    congr 1
    · refine sum_congr rfl fun s _ => ?_
      rw [show lf * (256 * ((i + 1 : ℕ) : ℝ) - 1 - s) = lf * 256 + lf * (256 * i - 1 - s) by push_cast; ring, exp_add]
      ring
    · refine sum_congr rfl fun s _ => ?_
      congr 3; push_cast; ring

theorem SB_eq (r : ℕ) (hr : r ≤ 7) (d : Fin 128) : SB k v lb b0 r d
    = exp (lb * (256 * r)) * b0 d
      + ∑ s ∈ range (256 * r), k (256 * (8 - r) + s) d * exp (lb * s) * v (256 * (8 - r) + s) := by
  induction r with
  | zero => simp [SB]
  | succ r ih =>
    rw [SB, ih (by omega), mul_add, ← mul_assoc, ← exp_add, mul_sum, Nat.mul_succ, add_comm (256 * r) 256, sum_range_add, add_assoc]
    congr 1
    · congr 2; push_cast; ring
    rw [add_comm]
    have e : 8 - (r + 1) = 7 - r := by omega
    congr 1
    · refine sum_congr rfl fun s _ => ?_
      rw [e]
    · refine sum_congr rfl fun s _ => ?_
      rw [show 256 * (8 - (r + 1)) + (256 + s) = 256 * (8 - r) + s by omega, Nat.cast_add, mul_add, exp_add]
      push_cast
      ring

/-- A chunk's result is the sum over all tokens and the two directions' first states. -/
theorem chunk (q : Fin 128 → ℝ) (i : ℕ) (hi : i < 8) (t : ℕ) (ht : t < 256) :
    ∑ s ∈ range 256, (∑ d, q d * k (256 * i + s) d) * dm lf lb t s * v (256 * i + s)
      + ∑ d, q d * exp (lf * (t + 1)) * SF k v lf f0 i d + ∑ d, q d * exp (lb * (256 - t)) * SB k v lb b0 (7 - i) d
    = ∑ s ∈ range 2048, (∑ d, q d * k s d) * wt lf lb (256 * i + t) s * v s
      + ∑ d, q d * exp (lf * (256 * i + t + 1)) * f0 d + ∑ d, q d * exp (lb * (2048 - (256 * i + t))) * b0 d := by
  have hr : 256 * (8 - (7 - i)) = 256 * i + 256 := by omega
  have hF : ∑ d, q d * exp (lf * (t + 1)) * SF k v lf f0 i d
      = ∑ s ∈ range (256 * i), (∑ d, q d * k s d) * wt lf lb (256 * i + t) s * v s
        + ∑ d, q d * exp (lf * (256 * i + t + 1)) * f0 d := by
    rw [sum_congr rfl fun d _ => show q d * exp (lf * (t + 1)) * SF k v lf f0 i d
        = ∑ s ∈ range (256 * i), q d * exp (lf * (t + 1)) * (k s d * exp (lf * (256 * i - 1 - s)) * v s)
          + q d * exp (lf * (t + 1)) * (exp (lf * (256 * i)) * f0 d) from by rw [SF_eq, mul_add, mul_sum, add_comm],
      sum_add_distrib, sum_comm]
    congr 1
    · refine sum_congr rfl fun s hs => ?_
      have hs' := mem_range.1 hs
      unfold wt
      rw [if_pos (by omega), if_neg (by omega), add_zero, sum_mul, sum_mul]
      refine sum_congr rfl fun d _ => ?_
      push_cast
      rw [show lf * (256 * (i : ℝ) + t - s) = lf * (t + 1) + lf * (256 * i - 1 - s) by ring, exp_add]
      ring
    · refine sum_congr rfl fun d _ => ?_
      rw [show lf * (256 * (i : ℝ) + t + 1) = lf * (t + 1) + lf * (256 * i) by ring, exp_add]
      ring
  have hB : ∑ d, q d * exp (lb * (256 - t)) * SB k v lb b0 (7 - i) d
      = ∑ s ∈ range (256 * (7 - i)), (∑ d, q d * k (256 * i + 256 + s) d) * wt lf lb (256 * i + t) (256 * i + 256 + s) * v (256 * i + 256 + s)
        + ∑ d, q d * exp (lb * (2048 - (256 * i + t))) * b0 d := by
    rw [sum_congr rfl fun d _ => show q d * exp (lb * (256 - t)) * SB k v lb b0 (7 - i) d
        = ∑ s ∈ range (256 * (7 - i)), q d * exp (lb * (256 - t)) * (k (256 * i + 256 + s) d * exp (lb * s) * v (256 * i + 256 + s))
          + q d * exp (lb * (256 - t)) * (exp (lb * (256 * (7 - i : ℕ))) * b0 d) from by
        rw [SB_eq k v lb b0 (7 - i) (by omega), hr, mul_add, mul_sum, add_comm],
      sum_add_distrib, sum_comm]
    congr 1
    · refine sum_congr rfl fun s hs => ?_
      unfold wt
      rw [if_neg (by omega), if_pos (by omega), zero_add, sum_mul, sum_mul]
      refine sum_congr rfl fun d _ => ?_
      push_cast
      rw [show lb * (256 * (i : ℝ) + 256 + s - (256 * i + t)) = lb * (256 - t) + lb * s by ring, exp_add]
      ring
    · refine sum_congr rfl fun d _ => ?_
      rw [show lb * (2048 - (256 * (i : ℝ) + t)) = lb * (256 - t) + lb * (256 * ((7 - i : ℕ) : ℝ)) by
        rw [Nat.cast_sub (by omega)]; push_cast; ring, exp_add]
      ring
  rw [hF, hB, show 2048 = 256 * i + 256 + 256 * (7 - i) by omega, sum_range_add, sum_range_add]
  simp only [dm_eq lf lb (256 * i)]
  ring

end

end Cert.Ret
end
-- ==== Proof.RetModel.lean ====
/-
The mathematics of the two-way retention: every token attends to every other with a weight that decays with their
distance, once in each direction, and to the context through a state.
-/
module

public import proofs.«01_k».proof.Proof.Model
public import proofs.«01_k».proof.Proof.RetSum

@[expose] public section

set_option maxRecDepth 16384

noncomputable section

namespace Cert.Ret

open Idealize.ShloMosaic Idealize.ShloMosaic.TcCoe
open Cert.Model (coe_sum coe_div)

/-- Column `d` of head `h`. -/
def col (h : Fin 4) (d : Fin 128) : Fin 512 := ⟨h.val * 128 + d.val, by omega⟩
/-- A column's head, and its place in it. -/
def hd (q : Fin 512) : Fin 4 := ⟨q.val / 128, by omega⟩
def cl (q : Fin 512) : Fin 128 := ⟨q.val % 128, by omega⟩
theorem col_eq (q : Fin 512) : col (hd q) (cl q) = q := Fin.ext (by show q.val / 128 * 128 + q.val % 128 = q.val; omega)

/-- The arguments: the gate and the norm's gain are any extended reals, the others real numbers. -/
structure Args where
  q : Fin 2 → Fin 2048 → Fin 512 → ℝ
  k : Fin 2 → Fin 2048 → Fin 512 → ℝ
  v : Fin 2 → Fin 2048 → Fin 512 → ℝ
  g : Fin 2 → Fin 2048 → Fin 512 → EReal
  kc : Fin 2 → Fin 256 → Fin 512 → ℝ
  vc : Fin 2 → Fin 256 → Fin 512 → ℝ
  df : Fin 4 → ℝ
  db : Fin 4 → ℝ
  gn : Fin 512 → EReal

namespace Args

variable (A : Args) (b : Fin 2) (h : Fin 4)

/-- The logarithms of the decays. -/
def lf : ℝ := -Real.exp (A.df h)
def lb : ℝ := -Real.exp (A.db h)
/-- Keys and values by a token's number. -/
def K (s : ℕ) (d : Fin 128) : ℝ := if hs : s < 2048 then A.k b ⟨s, hs⟩ (col h d) else 0
def V (e : Fin 128) (s : ℕ) : ℝ := if hs : s < 2048 then A.v b ⟨s, hs⟩ (col h e) else 0
/-- The context's states, from the left and from the right. -/
def f0 (e d : Fin 128) : ℝ := ∑ j : Fin 256, A.kc b j (col h d) * Real.exp (A.lf h * (255 - (j.val : ℝ))) * A.vc b j (col h e)
def b0 (e d : Fin 128) : ℝ := ∑ j : Fin 256, A.kc b j (col h d) * Real.exp (A.lb h * (j.val : ℝ)) * A.vc b j (col h e)
/-- The retention's result. -/
def o (t : Fin 2048) (e : Fin 128) : ℝ :=
  ∑ s ∈ Finset.range 2048, (∑ d, A.q b t (col h d) * A.K b h s d) * wt (A.lf h) (A.lb h) t.val s * A.V b h e s
    + ∑ d, A.q b t (col h d) * Real.exp (A.lf h * (t.val + 1)) * A.f0 b h e d
    + ∑ d, A.q b t (col h d) * Real.exp (A.lb h * (2048 - t.val)) * A.b0 b h e d
/-- The inverse of a head's root mean square. -/
def rs (t : Fin 2048) : EReal :=
  Ideal.rsqrt (Ideal.div (((∑ e, A.o b h t e * A.o b h t e : ℝ)) : EReal) (Ideal.ofBits .f32 0x43000000#32) + Ideal.ofBits .f32 0x358637BD#32)
/-- The normed and gated result. -/
def y (t : Fin 2048) (e : Fin 128) : EReal :=
  ((A.o b h t e : ℝ) : EReal) * A.rs b h t * A.gn (col h e)
    * (A.g b t (col h e) * Ideal.div 1 (1 + Ideal.exp (-A.g b t (col h e))))

theorem K_at (s : Fin 2048) (d : Fin 128) : A.K b h s.val d = A.k b s (col h d) := dif_pos s.isLt
theorem V_at (s : Fin 2048) (e : Fin 128) : A.V b h e s.val = A.v b s (col h e) := dif_pos s.isLt

/-- The one direction's part and the other's. -/
def oF (t : Fin 2048) (e : Fin 128) : ℝ :=
  ∑ s : Fin 2048, (∑ d, A.q b t (col h d) * A.k b s (col h d))
      * (if s.val ≤ t.val then Real.exp (A.lf h * ((t.val : ℝ) - s.val)) else 0) * A.v b s (col h e)
    + ∑ d, A.q b t (col h d) * Real.exp (A.lf h * (t.val + 1)) * A.f0 b h e d
def oB (t : Fin 2048) (e : Fin 128) : ℝ :=
  ∑ s : Fin 2048, (∑ d, A.q b t (col h d) * A.k b s (col h d))
      * (if t.val ≤ s.val then Real.exp (A.lb h * ((s.val : ℝ) - t.val)) else 0) * A.v b s (col h e)
    + ∑ d, A.q b t (col h d) * Real.exp (A.lb h * (2048 - t.val)) * A.b0 b h e d

theorem o_eq (t : Fin 2048) (e : Fin 128) : A.o b h t e = A.oF b h t e + A.oB b h t e := by
  unfold o oF oB
  rw [add_add_add_comm, ← Finset.sum_add_distrib, ← add_assoc]
  congr 2
  rw [Finset.sum_range]
  refine Finset.sum_congr rfl fun s _ => ?_
  rw [V_at]
  simp only [K_at]
  unfold wt
  ring

/-- The other direction's part, as a sum that runs the other way. -/
theorem oB_rev (t : Fin 2048) (e : Fin 128) : A.oB b h t e
    = ∑ s : Fin 2048, (∑ d, A.q b t (col h d) * A.k b s.rev (col h d))
        * (if s.val ≤ t.rev.val then Real.exp (A.lb h * ((t.rev.val : ℝ) - s.val)) else 0) * A.v b s.rev (col h e)
      + ∑ d, A.q b t (col h d) * Real.exp (A.lb h * (t.rev.val + 1)) * A.b0 b h e d := by
  have ht : ((t.rev.val : ℕ) : ℝ) = 2047 - t.val := by
    rw [Fin.val_rev, Nat.cast_sub (by omega)]; push_cast; ring
  unfold oB
  refine congrArg₂ (· + ·) ?_ (Finset.sum_congr rfl fun d _ => ?_)
  · rw [← Equiv.sum_comp Fin.revPerm]
    refine Finset.sum_congr rfl fun s _ => ?_
    have hs : ((s.rev.val : ℕ) : ℝ) = 2047 - s.val := by
      rw [Fin.val_rev, Nat.cast_sub (by omega)]; push_cast; ring
    have hc : (t.val ≤ s.rev.val) ↔ (s.val ≤ t.rev.val) := by rw [Fin.val_rev, Fin.val_rev]; omega
    simp only [Fin.revPerm_apply, hc, hs, ht]
    congr 3
    rw [show (2047 - (s.val : ℝ) - t.val) = 2047 - t.val - s.val by ring]
  · rw [ht]
    congr 4
    ring

/-- The context's state from the right, as a sum that runs the other way. -/
theorem b0_rev (e d : Fin 128) : A.b0 b h e d
    = ∑ j : Fin 256, A.kc b j.rev (col h d) * Real.exp (A.lb h * (255 - (j.val : ℝ))) * A.vc b j.rev (col h e) := by
  unfold b0
  rw [← Equiv.sum_comp Fin.revPerm]
  refine Finset.sum_congr rfl fun j _ => ?_
  have hj : ((j.rev.val : ℕ) : ℝ) = 255 - j.val := by
    rw [Fin.val_rev, Nat.cast_sub (by omega)]; push_cast; ring
  rw [Fin.revPerm_apply, hj]

end Args

/-- Nine arrays of extended reals are the arguments `A`. -/
structure Holds (A : Args) (x0 x1 x2 x3 : (⟨3, ![2, 2048, 512]⟩ : Shape).Idx → EReal)
    (x4 x5 : (⟨3, ![2, 256, 512]⟩ : Shape).Idx → EReal) (x6 x7 : (⟨2, ![1, 4]⟩ : Shape).Idx → EReal)
    (x8 : (⟨2, ![1, 512]⟩ : Shape).Idx → EReal) : Prop where
  q : ∀ b l c, x0 (ix3 b l c) = ((A.q b l c : ℝ) : EReal)
  k : ∀ b l c, x1 (ix3 b l c) = ((A.k b l c : ℝ) : EReal)
  v : ∀ b l c, x2 (ix3 b l c) = ((A.v b l c : ℝ) : EReal)
  g : ∀ b l c, x3 (ix3 b l c) = A.g b l c
  kc : ∀ b j c, x4 (ix3 b j c) = ((A.kc b j c : ℝ) : EReal)
  vc : ∀ b j c, x5 (ix3 b j c) = ((A.vc b j c : ℝ) : EReal)
  df : ∀ h, x6 (ix2 0 h) = ((A.df h : ℝ) : EReal)
  db : ∀ h, x7 (ix2 0 h) = ((A.db h : ℝ) : EReal)
  gn : ∀ c, x8 (ix2 0 c) = A.gn c

/-- A word that counts, as a real number. -/
theorem word (n : ℕ) (hn : n < 2147483648) : (((BitVec.ofNat 32 n).toInt : ℝ)) = (n : ℝ) := by
  have : (BitVec.ofNat 32 n).toInt = (n : ℤ) := by
    rw [BitVec.toInt_eq_toNat_of_lt (by rw [BitVec.toNat_ofNat]; omega), BitVec.toNat_ofNat]
    omega
  rw [this]
  norm_cast

theorem si (n : ℕ) (hn : n < 2147483648) :
    (FloatOps.sitofp FTy.f32 (BitVec.ofNat 32 n) : Idealize.ShloMosaic.Ideal .f32) = ((n : ℝ) : EReal) := by
  show ((((BitVec.ofNat 32 n).toInt : ℝ)) : EReal) = _
  rw [word n hn]

theorem c255 : Ideal.ofBits .f32 0x437F0000#32 = ((255 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num

end Cert.Ret
end
-- ==== Proof.RetRef.lean ====
/- The reference of the retention, read at an index. -/
module

public import proofs.«01_k».proof.Proof.Gen.Reference4Ideal.Read
public import proofs.«01_k».proof.Proof.RetModel

@[expose] public section

set_option maxRecDepth 16384

noncomputable section

namespace Cert.Reference4Ideal.Read

open Cert.Reference4Ideal Cert.Reference4Ideal.Gen Idealize.ShloMosaic Idealize.ShloMosaic.TcCoe Idealize.SL.Sem Idealize.ShloMosaic.StableHlo
open Cert.Ret
open Cert.Model (coe_sum coe_div)

theorem exp_coe (r : ℝ) : Ideal.exp (r : EReal) = ((Real.exp r : ℝ) : EReal) := rfl

theorem flip2048 (y : S2x4x2048x128.Idx → EReal) (b : Fin 2) (h : Fin 4) (s : Fin 2048) (d : Fin 128) :
    Host.reverse [2] y (ix4 b h s d) = y (ix4 b h s.rev d) := by
  pointwise
  rfl
theorem flip256 (y : S2x4x256x128.Idx → EReal) (b : Fin 2) (h : Fin 4) (s : Fin 256) (d : Fin 128) :
    Host.reverse [2] y (ix4 b h s d) = y (ix4 b h s.rev d) := by
  pointwise
  rfl

/-- A decay that holds from the token on. -/
theorem weight (l : ℝ) (t s : ℕ) :
    (if (0 : EReal) ≤ (((t : ℝ) - s : ℝ) : EReal) then Ideal.exp ((l : EReal) * max (((t : ℝ) - s : ℝ) : EReal) 0) else 0)
      = ((if s ≤ t then Real.exp (l * ((t : ℝ) - s)) else 0 : ℝ) : EReal) := by
  have e : ((0 : EReal) ≤ (((t : ℝ) - s : ℝ) : EReal)) ↔ s ≤ t := by
    rw [← EReal.coe_zero, EReal.coe_le_coe_iff, sub_nonneg, Nat.cast_le]
  simp only [e]
  split_ifs with h
  · rw [max_eq_left (e.2 h), ← EReal.coe_mul]; rfl
  · rfl

variable {x0 x1 x2 x3 : (⟨S2x2048x512, .f32⟩ : BufTy).Contents (Elt Ideal)} {x4 x5 : (⟨S2x256x512, .f32⟩ : BufTy).Contents (Elt Ideal)}
  {x6 x7 : (⟨S1x4, .f32⟩ : BufTy).Contents (Elt Ideal)} {x8 : (⟨S1x512, .f32⟩ : BufTy).Contents (Elt Ideal)}
  {A : Args} (H : Holds A x0 x1 x2 x3 x4 x5 x6 x7 x8)
  (b : Fin 2) (h : Fin 4)

include H

theorem lf_at : val_main_v12 (F := Ideal) x6 (ix1 h) = ((A.lf h : ℝ) : EReal) := by
  pointwise [val_main_v12, val_main_v11, val_main_v10]
  rw [H.df]; rfl

theorem lb_at : val_main_v15 (F := Ideal) x7 (ix1 h) = ((A.lb h : ℝ) : EReal) := by
  pointwise [val_main_v15, val_main_v14, val_main_v13]
  rw [H.db]; rfl

theorem w_at (j : Fin 256) : val_main_v24 (F := Ideal) x6 (ix2 h j) = ((Real.exp (A.lf h * (255 - (j.val : ℝ))) : ℝ) : EReal) := by
  pointwise [val_main_v24, val_main_v23, val_main_v22, val_main_v21, val_main_v20, val_main_v19, val_main_v18, val_main_v17, val_main_v16,
    val_main_cst]
  rw [lf_at H, si _ (by omega), c255, ← EReal.coe_sub, ← EReal.coe_mul]; rfl

theorem q_at (s : Fin 2048) (d : Fin 128) : val_main_v1 (F := Ideal) x0 (ix4 b h s d) = ((A.q b s (col h d) : ℝ) : EReal) := by
  pointwise [val_main_v1, val_main_v0]
  exact H.q _ _ _
theorem k_at (s : Fin 2048) (d : Fin 128) : val_main_v3 (F := Ideal) x1 (ix4 b h s d) = ((A.k b s (col h d) : ℝ) : EReal) := by
  pointwise [val_main_v3, val_main_v2]
  exact H.k _ _ _
theorem v_at (s : Fin 2048) (d : Fin 128) : val_main_v5 (F := Ideal) x2 (ix4 b h s d) = ((A.v b s (col h d) : ℝ) : EReal) := by
  pointwise [val_main_v5, val_main_v4]
  exact H.v _ _ _
theorem kc_at (s : Fin 256) (d : Fin 128) : val_main_v7 (F := Ideal) x4 (ix4 b h s d) = ((A.kc b s (col h d) : ℝ) : EReal) := by
  pointwise [val_main_v7, val_main_v6]
  exact H.kc _ _ _
theorem vc_at (s : Fin 256) (d : Fin 128) : val_main_v9 (F := Ideal) x5 (ix4 b h s d) = ((A.vc b s (col h d) : ℝ) : EReal) := by
  pointwise [val_main_v9, val_main_v8]
  exact H.vc _ _ _

theorem f0_at (d e : Fin 128) : val_main_v28 (F := Ideal) x4 x5 x6 (ix4 b h d e) = ((A.f0 b h e d : ℝ) : EReal) := by
  pointwise [val_main_v28, val_main_v27, val_main_v26, val_main_v25]
  simp only [w_at H, kc_at H, vc_at H, ← EReal.coe_mul, ← coe_sum]; rfl

theorem decay_at (t s : Fin 2048) : val_main_v45 (F := Ideal) x6 (ix3 h t s)
    = ((if s.val ≤ t.val then Real.exp (A.lf h * ((t.val : ℝ) - s.val)) else 0 : ℝ) : EReal) := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_call0_v1, val_main_call0_v2,
    val_main_cst_0, val_main_cst_1, val_main_call0_v0, val_main_cst_2]
  simp only [id]
  pointwise
  rw [lf_at H, si _ (by omega), si _ (by omega), ← EReal.coe_sub]
  exact weight _ t.val s.val

theorem oF_at (t : Fin 2048) (e : Fin 128) : val_main_v63 (F := Ideal) x0 x1 x2 x4 x5 x6 (ix4 b h t e) = ((A.oF b h t e : ℝ) : EReal) := by
  pointwise [val_main_v63, val_main_v62, val_main_v61, val_main_v60, val_main_v59, val_main_v58, val_main_v57, val_main_v56, val_main_v55, val_main_v54, val_main_v53, val_main_v52, val_main_v51, val_main_v50, val_main_cst_3, val_main_v49, val_main_v48, val_main_v47, val_main_v46, val_main_v29]
  rw [lf_at H, si _ (by omega), ← EReal.coe_one, ← EReal.coe_add, ← EReal.coe_mul, exp_coe]
  unfold Args.oF
  simp only [q_at H, k_at H, v_at H, f0_at H, decay_at H, EReal.coe_mul, ← coe_sum, EReal.coe_add]

theorem wb_at (j : Fin 256) : val_main_v77 (F := Ideal) x7 (ix2 h j) = ((Real.exp (A.lb h * (255 - (j.val : ℝ))) : ℝ) : EReal) := by
  pointwise [val_main_v77, val_main_v76, val_main_v75, val_main_v74, val_main_v73, val_main_v72, val_main_v71, val_main_v70, val_main_v69,
    val_main_cst_4]
  rw [lb_at H, si _ (by omega), c255, ← EReal.coe_sub, ← EReal.coe_mul]; rfl

theorem qr_at (s : Fin 2048) (d : Fin 128) : val_main_v64 (F := Ideal) x0 (ix4 b h s d) = ((A.q b s.rev (col h d) : ℝ) : EReal) :=
  (flip2048 (val_main_v1 (F := Ideal) x0) b h s d).trans (q_at H b h s.rev d)
theorem kr_at (s : Fin 2048) (d : Fin 128) : val_main_v65 (F := Ideal) x1 (ix4 b h s d) = ((A.k b s.rev (col h d) : ℝ) : EReal) :=
  (flip2048 (val_main_v3 (F := Ideal) x1) b h s d).trans (k_at H b h s.rev d)
theorem vr_at (s : Fin 2048) (d : Fin 128) : val_main_v66 (F := Ideal) x2 (ix4 b h s d) = ((A.v b s.rev (col h d) : ℝ) : EReal) :=
  (flip2048 (val_main_v5 (F := Ideal) x2) b h s d).trans (v_at H b h s.rev d)
theorem kcr_at (s : Fin 256) (d : Fin 128) : val_main_v67 (F := Ideal) x4 (ix4 b h s d) = ((A.kc b s.rev (col h d) : ℝ) : EReal) :=
  (flip256 (val_main_v7 (F := Ideal) x4) b h s d).trans (kc_at H b h s.rev d)
theorem vcr_at (s : Fin 256) (d : Fin 128) : val_main_v68 (F := Ideal) x5 (ix4 b h s d) = ((A.vc b s.rev (col h d) : ℝ) : EReal) :=
  (flip256 (val_main_v9 (F := Ideal) x5) b h s d).trans (vc_at H b h s.rev d)

theorem b0_at (d e : Fin 128) : val_main_v81 (F := Ideal) x4 x5 x7 (ix4 b h d e) = ((A.b0 b h e d : ℝ) : EReal) := by
  pointwise [val_main_v81, val_main_v80, val_main_v79, val_main_v78]
  simp only [wb_at H, kcr_at H, vcr_at H, ← EReal.coe_mul, ← coe_sum, Args.b0_rev]

theorem decayB_at (t s : Fin 2048) : val_main_v98 (F := Ideal) x7 (ix3 h t s)
    = ((if s.val ≤ t.val then Real.exp (A.lb h * ((t.val : ℝ) - s.val)) else 0 : ℝ) : EReal) := by
  pointwise [val_main_v98, val_main_v97, val_main_v96, val_main_v95, val_main_v94, val_main_v93, val_main_v92, val_main_v91, val_main_v90, val_main_v89, val_main_v88, val_main_v87, val_main_v86, val_main_v85, val_main_v84, val_main_v83, val_main_v82, val_main_call6_v1, val_main_call6_v2,
    val_main_cst_5, val_main_cst_6, val_main_call6_v0, val_main_cst_7]
  simp only [id]
  pointwise
  rw [lb_at H, si _ (by omega), si _ (by omega), ← EReal.coe_sub]
  exact weight _ t.val s.val

theorem oB_at (t : Fin 2048) (e : Fin 128) : val_main_v117 (F := Ideal) x0 x1 x2 x4 x5 x7 (ix4 b h t e) = ((A.oB b h t e : ℝ) : EReal) := by
  rw [val_main_v117, flip2048]
  pointwise [val_main_v116, val_main_v115, val_main_v114, val_main_v113, val_main_v112, val_main_v111, val_main_v110, val_main_v109, val_main_v108, val_main_v107, val_main_v106, val_main_v105, val_main_v104, val_main_v103, val_main_cst_8, val_main_v102, val_main_v101, val_main_v100, val_main_v99, val_main_v82]
  rw [lb_at H, si _ (by omega), ← EReal.coe_one, ← EReal.coe_add, ← EReal.coe_mul, exp_coe]
  rw [Args.oB_rev]
  simp only [qr_at H, kr_at H, vr_at H, Fin.rev_rev, b0_at H, decayB_at H, ← coe_sum, EReal.coe_mul, EReal.coe_add]

theorem o_at (t : Fin 2048) (e : Fin 128) :
    val_main_v118 (F := Ideal) x0 x1 x2 x4 x5 x6 x7 (ix4 b h t e) = ((A.o b h t e : ℝ) : EReal) := by
  rw [val_main_v118_apply, oF_at H, oB_at H, A.o_eq, EReal.coe_add]; rfl

theorem o_out (t : Fin 2048) (e : Fin 128) :
    val_main_v138 (F := Ideal) x0 x1 x2 x4 x5 x6 x7 (ix3 b t (col h e)) = ((A.o b h t e : ℝ) : EReal) := by
  rw [← o_at H]
  unfold val_main_v138 val_main_v137
  generalize val_main_v118 (F := Ideal) x0 x1 x2 x4 x5 x6 x7 = z
  pointwise
  exact congrArg₂ (fun p q => z (ix4 b p t q)) (Fin.ext (by show (h.val * 128 + e.val) / 128 = h.val; omega))
    (Fin.ext (by show (h.val * 128 + e.val) % 128 = e.val; omega))

theorem n_at (t : Fin 2048) (e : Fin 128) :
    val_main_v130 (F := Ideal) x0 x1 x2 x4 x5 x6 x7 (ix3 b t (col h e)) = ((A.o b h t e : ℝ) : EReal) * A.rs b h t := by
  unfold Args.rs
  have e0 : ((∑ e, A.o b h t e * A.o b h t e : ℝ) : EReal) = ∑ e, ((A.o b h t e : ℝ) : EReal) * ((A.o b h t e : ℝ) : EReal) := by
    simp only [← coe_sum, EReal.coe_mul]
  rw [e0]
  simp only [← o_at H]
  unfold val_main_v130 val_main_v129 val_main_v128 val_main_v127 val_main_v126 val_main_v125 val_main_v123 val_main_v121 val_main_v120 val_main_v119
  generalize val_main_v118 (F := Ideal) x0 x1 x2 x4 x5 x6 x7 = z
  pointwise [val_main_cst_9, val_main_v122, val_main_cst_10, val_main_v124, val_main_cst_11]
  have e1 : (⟨(col h e).val / 128, by omega⟩ : Fin 4) = h := Fin.ext (by show (h.val * 128 + e.val) / 128 = h.val; omega)
  have e2 : (⟨(col h e).val % 128, by omega⟩ : Fin 128) = e := Fin.ext (by show (h.val * 128 + e.val) % 128 = e.val; omega)
  rw [e1, e2]

theorem y_at (t : Fin 2048) (e : Fin 128) : val_main_v136 (F := Ideal) x0 x1 x2 x3 x4 x5 x6 x7 x8 (ix3 b t (col h e)) = A.y b h t e := by
  unfold val_main_v136 val_main_v135 val_main_v133
  unfold Args.y
  rw [← n_at H]
  generalize val_main_v130 (F := Ideal) x0 x1 x2 x4 x5 x6 x7 = z
  pointwise [val_main_v134, val_main_v132, val_main_v131, val_main_call8_v5, val_main_call8_v4, val_main_call8_v3, val_main_call8_v2, val_main_call8_v1, val_main_call8_v0, val_main_call8_cst, val_main_call8_cst_0]
  rw [H.gn, H.g]

theorem out_y (l : Fin 2048) (q : Fin 512) : val_main_v136 (F := Ideal) x0 x1 x2 x3 x4 x5 x6 x7 x8 (ix3 b l q) = A.y b (hd q) l (cl q) := by
  rw [← y_at H, col_eq]

theorem out_o (l : Fin 2048) (q : Fin 512) :
    val_main_v138 (F := Ideal) x0 x1 x2 x4 x5 x6 x7 (ix3 b l q) = ((A.o b (hd q) l (cl q) : ℝ) : EReal) := by
  rw [← o_out H, col_eq]

end Cert.Reference4Ideal.Read
end
-- ==== Proof.RetStep.lean ====
/- The steps of the retention's carried states, read at an index. -/
module

public import proofs.«01_k».proof.Proof.Gen.Kernel4Ideal.Frame
public import proofs.«01_k».proof.Proof.RetModel
public import Idealize.ShloMosaic.Lib.Pipeline.ValueKit
public import Idealize.ShloMosaic.Lib.Pointwise
public import Idealize.ShloMosaic.Lib.WritesUnit

@[expose] public section

set_option maxRecDepth 16384

noncomputable section

namespace Cert.Ret

open Cert.Kernel4Ideal Cert.Kernel4Ideal.Gen Idealize.ShloMosaic Idealize.ShloMosaic.TcCoe Idealize.SL.Sem
open Cert.Model (coe_sum coe_div)

theorem exp_real (r : ℝ) : Ideal.exp (r : EReal) = ((Real.exp r : ℝ) : EReal) := rfl

/-- The lane of a head among the four, picked by a sum over a mask. -/
theorem lane (h : Fin 4) (x : Vec Ideal S1x4 .f32) (l : Fin 4 → ℝ) (hx : ∀ j, x (ix2 0 j) = ((l j : ℝ) : EReal)) :
    k1_pay16 (iota .tc S1x4 32 [1] iota_S1x4_d1_w32) (BitVec.ofNat 32 h.val) x (ix2 0 0) = ((-Real.exp (l h) : ℝ) : EReal) := by
  pointwise [k1_pay16]
  rw [zero_sub, EReal.coe_neg, Fin.sum_univ_four]
  match h with
  | 0 => simp [Scalar.select, IntOp.cmpi, hx, exp_real]
  | 1 => simp [Scalar.select, IntOp.cmpi, hx, exp_real]
  | 2 => simp [Scalar.select, IntOp.cmpi, hx, exp_real]
  | 3 => simp [Scalar.select, IntOp.cmpi, hx, exp_real]

/-- A chunk's step of a carried state, from the chunk's weights, the state's decay, the state and the chunk's keys and values. -/
theorem step_at (w : FVec Ideal S256x1 .f32) (g : FVec Ideal S1x1 .f32) (s : FVec Ideal S128x128 .f32) (K V : Vec Ideal S1x256x128 .bf16)
    (d e : Fin 128) : k0_pay21 w g s K V (ix2 d e)
      = g (ix2 0 0) * s (ix2 d e) + ∑ j : Fin 256, K (ix3 0 j d) * w (ix2 j 0) * V (ix3 0 j e) := by
  pointwise [k0_pay21]

theorem first_at (l : FVec Ideal S1x1 .f32) (K V : Vec Ideal S1x256x128 .bf16) (d e : Fin 128) :
    k0_pay12 l k0_pay4 (k0_pay9 K) V (ix2 d e)
      = ∑ j : Fin 256, K (ix3 0 j d) * Ideal.exp (l (ix2 0 0) * ((255 - (j.val : ℝ) : ℝ) : EReal)) * V (ix3 0 j e) := by
  pointwise [k0_pay12, k0_pay4, k0_pay9, k0_pay10, k0_pay11]
  refine Finset.sum_congr rfl fun j _ => ?_
  rw [si _ (by omega), c255, ← EReal.coe_sub]

theorem firstB_at (l : FVec Ideal S1x1 .f32) (K V : Vec Ideal S1x256x128 .bf16) (d e : Fin 128) :
    k0_pay30 l k0_pay4 (k0_pay10 (k0_pay9 K)) (k0_pay11 V) (ix2 d e)
      = ∑ j : Fin 256, K (ix3 0 j d) * Ideal.exp (l (ix2 0 0) * ((j.val : ℝ) : EReal)) * V (ix3 0 j e) := by
  pointwise [k0_pay30, k0_pay4, k0_pay9, k0_pay10, k0_pay11]
  refine Finset.sum_congr rfl fun j _ => ?_
  rw [si _ (by omega)]
theorem w5 (i : grid0.Coords) (x : Vec Ideal S1x4 .f32) (j : Fin 256) :
    k0_pay5 i x (ix2 j 0) = Ideal.exp (k0_pay1 i x (ix2 0 0) * ((255 - (j.val : ℝ) : ℝ) : EReal)) := by
  unfold k0_pay5
  generalize k0_pay1 i x = z
  pointwise [k0_pay3]
  rw [si _ (by omega), c255, ← EReal.coe_sub]
theorem w6 (i : grid0.Coords) (x : Vec Ideal S1x4 .f32) (j : Fin 256) :
    k0_pay6 i x (ix2 j 0) = Ideal.exp (k0_pay2 i x (ix2 0 0) * ((j.val : ℝ) : EReal)) := by
  unfold k0_pay6
  generalize k0_pay2 i x = z
  pointwise [k0_pay3]
  rw [si _ (by omega)]
theorem w7 (i : grid0.Coords) (x : Vec Ideal S1x4 .f32) :
    k0_pay7 i x (ix2 0 0) = Ideal.exp (k0_pay1 i x (ix2 0 0) * ((256 : ℝ) : EReal)) := by
  unfold k0_pay7
  generalize k0_pay1 i x = z
  pointwise
  rw [c256]
theorem w8 (i : grid0.Coords) (x : Vec Ideal S1x4 .f32) :
    k0_pay8 i x (ix2 0 0) = Ideal.exp (k0_pay2 i x (ix2 0 0) * ((256 : ℝ) : EReal)) := by
  unfold k0_pay8
  generalize k0_pay2 i x = z
  pointwise
  rw [c256]

/-! ## The carried states -/

/-- The rows of chunk `n`, counted from the left and from the right, and the context's rows. -/
def rowsF (x : Vec Ideal S1x2304x128 .bf16) (n : ℕ) : Vec Ideal S1x256x128 .bf16 :=
  View.ld x (Rect.unit (s := S1x2304x128) (k0_off1 (BitVec.ofNat 32 (n % 8))) S1x256x128.size (k0_off1_inb ⟨n % 8, Nat.mod_lt _ (by decide)⟩))
def rowsB (x : Vec Ideal S1x2304x128 .bf16) (n : ℕ) : Vec Ideal S1x256x128 .bf16 :=
  View.ld x (Rect.unit (s := S1x2304x128) (k0_off3 (BitVec.ofNat 32 (n % 8))) S1x256x128.size (k0_off3_inb ⟨n % 8, Nat.mod_lt _ (by decide)⟩))
def rowsC (x : Vec Ideal S1x2304x128 .bf16) : Vec Ideal S1x256x128 .bf16 :=
  View.ld x (Rect.unit (s := S1x2304x128) ![0, 2048, 0] S1x256x128.size inb_S1x2304x128_S1x256x128_0_2048_0)
def dec (x : Vec Ideal S1x4 .f32) : Vec Ideal S1x4 .f32 := View.ld x (Rect.unit (s := S1x4) ![0, 0] S1x4.size inb_S1x4_S1x4_0_0)

/-- The states after `n` chunks from the left, and from the right. -/
def stF (i : grid0.Coords) (x0 : Vec Ideal S1x4 .f32) (x2 x3 : Vec Ideal S1x2304x128 .bf16) : ℕ → FVec Ideal S128x128 .f32
  | 0 => k0_pay12 (k0_pay1 i (dec x0)) k0_pay4 (k0_pay9 (rowsC x2)) (rowsC x3)
  | n + 1 => k0_pay21 (k0_pay5 i (dec x0)) (k0_pay7 i (dec x0)) (stF i x0 x2 x3 n) (rowsF x2 n) (rowsF x3 n)
def stB (i : grid0.Coords) (x1 : Vec Ideal S1x4 .f32) (x2 x3 : Vec Ideal S1x2304x128 .bf16) : ℕ → FVec Ideal S128x128 .f32
  | 0 => k0_pay30 (k0_pay2 i (dec x1)) k0_pay4 (k0_pay10 (k0_pay9 (rowsC x2))) (k0_pay11 (rowsC x3))
  | n + 1 => k0_pay21 (k0_pay6 i (dec x1)) (k0_pay8 i (dec x1)) (stB i x1 x2 x3 n) (rowsB x2 n) (rowsB x3 n)

/-- Three-dimensional rows loaded at an offset. -/
theorem ld_rows (x : Vec Ideal S1x2304x128 .bf16) (f : Fin 3 → ℕ) (o : ℕ) (hf : f = ![0, o, 0])
    (hb : ∀ e, f e + S1x256x128.size e ≤ S1x2304x128.size e) (p : Fin 256) (d : Fin 128) (hp : o + p.val < 2304) :
    View.ld x (Rect.unit (s := S1x2304x128) f S1x256x128.size hb) (ix3 0 p d) = x (ix3 0 ⟨o + p.val, hp⟩ d) := by
  subst hf
  refine View.ld_unit_apply_of _ _ _ _ _ _ fun e => ?_
  match e with
  | ⟨0, _⟩ => rfl
  | ⟨1, _⟩ => rfl
  | ⟨2, _⟩ => exact (Nat.zero_add _).symm

theorem dec_at (x : Vec Ideal S1x4 .f32) (j : Fin 4) : dec x (ix2 0 j) = x (ix2 0 j) := by
  refine View.ld_unit_apply_of _ _ _ _ _ _ fun e => ?_
  match e with
  | ⟨0, _⟩ => rfl
  | ⟨1, _⟩ => exact (Nat.zero_add _).symm

/-- What a grid point's four blocks hold. -/
structure Head (A : Args) (b : Fin 2) (h : Fin 4) (i : grid0.Coords) (x0 x1 : Vec Ideal S1x4 .f32) (x2 x3 : Vec Ideal S1x2304x128 .bf16) : Prop where
  hi : (i 1).val = h.val
  df : ∀ j, x0 (ix2 0 j) = ((A.df j : ℝ) : EReal)
  db : ∀ j, x1 (ix2 0 j) = ((A.db j : ℝ) : EReal)
  k : ∀ (s : Fin 2048) d, x2 (ix3 0 ⟨s.val, by omega⟩ d) = ((A.k b s (col h d) : ℝ) : EReal)
  v : ∀ (s : Fin 2048) d, x3 (ix3 0 ⟨s.val, by omega⟩ d) = ((A.v b s (col h d) : ℝ) : EReal)
  kc : ∀ (s : Fin 256) d, x2 (ix3 0 ⟨2048 + s.val, by omega⟩ d) = ((A.kc b s (col h d) : ℝ) : EReal)
  vc : ∀ (s : Fin 256) d, x3 (ix3 0 ⟨2048 + s.val, by omega⟩ d) = ((A.vc b s (col h d) : ℝ) : EReal)

namespace Head

variable {A : Args} {b : Fin 2} {h : Fin 4} {i : grid0.Coords} {x0 x1 : Vec Ideal S1x4 .f32} {x2 x3 : Vec Ideal S1x2304x128 .bf16}
  (H : Head A b h i x0 x1 x2 x3)

include H

theorem lf_at : k0_pay1 i (dec x0) (ix2 0 0) = ((A.lf h : ℝ) : EReal) := by
  refine .trans ?_ (lane h (dec x0) A.df fun j => (dec_at x0 j).trans (H.df j))
  rw [← H.hi]; rfl
theorem lb_at : k0_pay2 i (dec x1) (ix2 0 0) = ((A.lb h : ℝ) : EReal) := by
  refine .trans ?_ (lane h (dec x1) A.db fun j => (dec_at x1 j).trans (H.db j))
  rw [← H.hi]; rfl

theorem kc_at (j : Fin 256) (d : Fin 128) : rowsC x2 (ix3 0 j d) = ((A.kc b j (col h d) : ℝ) : EReal) :=
  (ld_rows x2 _ 2048 rfl _ j d (by omega)).trans (H.kc j d)
theorem vc_at (j : Fin 256) (d : Fin 128) : rowsC x3 (ix3 0 j d) = ((A.vc b j (col h d) : ℝ) : EReal) :=
  (ld_rows x3 _ 2048 rfl _ j d (by omega)).trans (H.vc j d)

theorem K_at (s : ℕ) (hs : s < 2048) (d : Fin 128) : x2 (ix3 0 ⟨s, by omega⟩ d) = ((A.K b h s d : ℝ) : EReal) := by
  rw [Args.K, dif_pos hs]
  exact H.k ⟨s, hs⟩ d
theorem V_at (s : ℕ) (hs : s < 2048) (d : Fin 128) : x3 (ix3 0 ⟨s, by omega⟩ d) = ((A.V b h d s : ℝ) : EReal) := by
  rw [Args.V, dif_pos hs]
  exact H.v ⟨s, hs⟩ d

theorem stF_at (n : ℕ) (hn : n < 8) (d e : Fin 128) :
    stF i x0 x2 x3 n (ix2 d e) = ((SF (A.K b h) (A.V b h e) (A.lf h) (A.f0 b h e) n d : ℝ) : EReal) := by
  induction n with
  | zero =>
    rw [stF, first_at, H.lf_at, SF, Args.f0]
    simp only [H.kc_at, H.vc_at, ← EReal.coe_mul, exp_real, coe_sum]
  | succ n ih =>
    have hm : n % 8 = n := Nat.mod_eq_of_lt (by omega)
    have ho : k0_off1 (BitVec.ofNat 32 (n % 8)) = ![0, 256 * n, 0] := by rw [hm]; exact k0_off1_eq ⟨n, by omega⟩
    have ek : ∀ (j : Fin 256) d, rowsF x2 n (ix3 0 j d) = ((A.K b h (256 * n + j.val) d : ℝ) : EReal) := fun j d =>
      (ld_rows x2 _ _ ho _ j d (by omega)).trans (H.K_at _ (by omega) d)
    have ev : ∀ (j : Fin 256), rowsF x3 n (ix3 0 j e) = ((A.V b h e (256 * n + j.val) : ℝ) : EReal) := fun j =>
      (ld_rows x3 _ _ ho _ j e (by omega)).trans (H.V_at _ (by omega) e)
    rw [stF, step_at, w7, ih (by omega), H.lf_at, SF, Finset.sum_range]
    simp only [ek, ev, w5, H.lf_at, ← EReal.coe_mul, exp_real, coe_sum, ← EReal.coe_add]

theorem stB_at (n : ℕ) (hn : n < 8) (d e : Fin 128) :
    stB i x1 x2 x3 n (ix2 d e) = ((SB (A.K b h) (A.V b h e) (A.lb h) (A.b0 b h e) n d : ℝ) : EReal) := by
  induction n with
  | zero =>
    rw [stB, firstB_at, H.lb_at, SB, Args.b0]
    simp only [H.kc_at, H.vc_at, ← EReal.coe_mul, exp_real, coe_sum]
  | succ n ih =>
    have hm : n % 8 = n := Nat.mod_eq_of_lt (by omega)
    have ho : k0_off3 (BitVec.ofNat 32 (n % 8)) = ![0, 256 * (7 - n), 0] := by
      rw [hm, show 256 * (7 - n) = 1792 - 256 * n by omega]; exact k0_off3_eq ⟨n, by omega⟩
    have ek : ∀ (j : Fin 256) d, rowsB x2 n (ix3 0 j d) = ((A.K b h (256 * (7 - n) + j.val) d : ℝ) : EReal) := fun j d =>
      (ld_rows x2 _ _ ho _ j d (by omega)).trans (H.K_at _ (by omega) d)
    have ev : ∀ (j : Fin 256), rowsB x3 n (ix3 0 j e) = ((A.V b h e (256 * (7 - n) + j.val) : ℝ) : EReal) := fun j =>
      (ld_rows x3 _ _ ho _ j e (by omega)).trans (H.V_at _ (by omega) e)
    rw [stB, step_at, w8, ih (by omega), H.lb_at, SB, Finset.sum_range]
    simp only [ek, ev, w6, H.lb_at, ← EReal.coe_mul, exp_real, coe_sum, ← EReal.coe_add]

end Head

end Cert.Ret
end
-- ==== Proof.RetPieces.lean ====
/- The sixteen pieces the states' body stores: the state of each chunk, of either direction. -/
module

public import proofs.«01_k».proof.Proof.RetStep

@[expose] public section

set_option maxRecDepth 16384

noncomputable section

namespace Cert.Ret

open Cert.Kernel4Ideal Cert.Kernel4Ideal.Gen Idealize.ShloMosaic Idealize.ShloMosaic.TcCoe Idealize.SL.Sem

theorem load_whole {κ : Kind} {sp : Space} {s : Shape} {e : EltTy} {a : Memref sig κ sp s e} (h : a.IsWhole) (x : s.Idx → Elt Ideal e)
    (r : Rect s) : View.ld x r = a.view.readAt (Elt Ideal) r.toLoadRect (h.unread x) := by
  rw [View.readAt_eq_ld, h.read_unread]

/-- The offsets of the pieces of either direction. -/
def o4 (r : Fin 8) : Fin 5 → ℕ := ![0, 0, r.val, 0, 0]
theorem o4_inb (r : Fin 8) : ∀ a, o4 r a + S1x1x1x128x128.size a ≤ S1x1x8x128x128.size a := by
  revert r; decide
def o5 (r : Fin 8) : Fin 5 → ℕ := k0_off2 (BitVec.ofNat 32 r.val)

section

variable (x0 x1 : Vec Ideal S1x4 .f32) (x2 x3 : Vec Ideal S1x2304x128 .bf16) (c : Dev nD) (i : grid0.Coords)
  (arg2 : Memref sig .tc .vmem S1x4 .f32) (harg2 : arg2.IsWhole) (arg3 : Memref sig .tc .vmem S1x4 .f32) (harg3 : arg3.IsWhole)
  (arg4 : Memref sig .tc .vmem S1x2304x128 .bf16) (harg4 : arg4.IsWhole) (arg5 : Memref sig .tc .vmem S1x2304x128 .bf16) (harg5 : arg5.IsWhole)
  (arg6 : Memref sig .tc .vmem S1x1x8x128x128 .f32) (harg6 : arg6.IsWhole) (arg7 : Memref sig .tc .vmem S1x1x8x128x128 .f32) (harg7 : arg7.IsWhole)

/-- A list of eight pieces, the last stored first. -/
abbrev eight (o : Fin 8 → Fin 5 → ℕ) (h : ∀ r a, o r a + S1x1x1x128x128.size a ≤ S1x1x8x128x128.size a)
    (w : Fin 8 → Vec Ideal S1x1x1x128x128 .f32) : List (View.Piece (Elt Ideal) S1x1x8x128x128 .f32) :=
  [⟨Rect.unit (o 7) S1x1x1x128x128.size (h 7), w 7⟩, ⟨Rect.unit (o 6) S1x1x1x128x128.size (h 6), w 6⟩,
   ⟨Rect.unit (o 5) S1x1x1x128x128.size (h 5), w 5⟩, ⟨Rect.unit (o 4) S1x1x1x128x128.size (h 4), w 4⟩,
   ⟨Rect.unit (o 3) S1x1x1x128x128.size (h 3), w 3⟩, ⟨Rect.unit (o 2) S1x1x1x128x128.size (h 2), w 2⟩,
   ⟨Rect.unit (o 1) S1x1x1x128x128.size (h 1), w 1⟩, ⟨Rect.unit (o 0) S1x1x1x128x128.size (h 0), w 0⟩]

theorem pieces4 :
    (kernelRun0_A c i arg2 harg2 arg3 harg3 arg4 harg4 arg5 harg5 arg6 harg6 arg7 harg7 x0 x1 x2 x3).1
      = eight o4 o4_inb fun r => k0_pay20 (stF i x0 x2 x3 r.val) := by
  unfold eight
  simp only [stF, rowsF, rowsC, dec, load_whole harg2 x0, load_whole harg4 x2, load_whole harg5 x3]
  unfold kernelRun0_A
  rfl

theorem pieces5 :
    (kernelRun0_A c i arg2 harg2 arg3 harg3 arg4 harg4 arg5 harg5 arg6 harg6 arg7 harg7 x0 x1 x2 x3).2.1
      = eight o5 k0_off2_inb fun r => k0_pay20 (stB i x1 x2 x3 r.val) := by
  unfold eight
  simp only [stB, rowsB, rowsC, dec, load_whole harg3 x1, load_whole harg4 x2, load_whole harg5 x3]
  unfold kernelRun0_A
  rfl

end

/-- The eight pieces, read at a plane. -/
theorem read8 {κ : Kind} {sp : Space} (v : View sig κ sp S1x1x8x128x128 .f32) (f : v.ty.Contents (Elt Ideal))
    (o : Fin 8 → Fin 5 → ℕ) (h : ∀ r a, o r a + S1x1x1x128x128.size a ≤ S1x1x8x128x128.size a)
    (w : Fin 8 → Vec Ideal S1x1x1x128x128 .f32) (s : Fin 8 → Fin 8) (ho : ∀ r, o r = ![0, 0, (s r).val, 0, 0])
    (hs : Function.Injective s) (r : Fin 8) (d e : Fin 128) :
    v.read (Elt Ideal) (v.writes (Elt Ideal) f (eight o h w)) (ix5 0 0 (s r) d e) = w r (ix5 0 0 0 d e) := by
  have hit : ∀ (r : Fin 8) (L : _),
      v.read (Elt Ideal) (v.writes (Elt Ideal) f ((⟨Rect.unit (o r) S1x1x1x128x128.size (h r), w r⟩ : View.Piece (Elt Ideal) S1x1x8x128x128 .f32) :: L))
        (ix5 0 0 (s r) d e) = w r (ix5 0 0 0 d e) := fun r L => by
    refine View.read_writes_cons_unit_of_mem v f (h r) (w r) L (ix5 0 0 (s r) d e) (ix5 0 0 0 d e) (ho r) fun a => ?_
    match a with
    | ⟨0, _⟩ => rfl
    | ⟨1, _⟩ => rfl
    | ⟨2, _⟩ => rfl
    | ⟨3, _⟩ => exact (Nat.zero_add _).symm
    | ⟨4, _⟩ => exact (Nat.zero_add _).symm
  have miss : ∀ (r n : Fin 8) (_ : r ≠ n) (L : _),
      v.read (Elt Ideal) (v.writes (Elt Ideal) f ((⟨Rect.unit (o n) S1x1x1x128x128.size (h n), w n⟩ : View.Piece (Elt Ideal) S1x1x8x128x128 .f32) :: L))
        (ix5 0 0 (s r) d e) = v.read (Elt Ideal) (v.writes (Elt Ideal) f L) (ix5 0 0 (s r) d e) := fun r n hn L =>
    View.read_writes_cons_unit_of_not_mem v f (h n) (w n) L (ix5 0 0 (s r) d e) (ho n) (2 : Fin 5) (by
      show (s r).val < (s n).val ∨ (s n).val + 1 ≤ (s r).val
      have : (s r).val ≠ (s n).val := fun hv => hn (hs (Fin.ext hv))
      omega)
  unfold eight
  by_cases h7 : r = 7
  · subst h7; exact hit 7 _
  rw [miss r 7 h7]
  by_cases h6 : r = 6
  · subst h6; exact hit 6 _
  rw [miss r 6 h6]
  by_cases h5 : r = 5
  · subst h5; exact hit 5 _
  rw [miss r 5 h5]
  by_cases h4 : r = 4
  · subst h4; exact hit 4 _
  rw [miss r 4 h4]
  by_cases h3 : r = 3
  · subst h3; exact hit 3 _
  rw [miss r 3 h3]
  by_cases h2 : r = 2
  · subst h2; exact hit 2 _
  rw [miss r 2 h2]
  by_cases h1 : r = 1
  · subst h1; exact hit 1 _
  rw [miss r 1 h1]
  obtain rfl : r = 0 := by omega
  exact hit 0 _

theorem pay20_at (s : FVec Ideal S128x128 .f32) (d e : Fin 128) : k0_pay20 s (ix5 0 0 0 d e) = s (ix2 d e) := by
  pointwise [k0_pay20]

end Cert.Ret
end
-- ==== Proof.RetPack.lean ====
/- The projections the host packs, read at an index of the arguments. -/
module

public import proofs.«01_k».proof.Proof.RetStep

@[expose] public section

set_option maxRecDepth 16384

noncomputable section

namespace Cert.Ret

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

theorem pq (b : Fin 2) (l : Fin 2048) (q : Fin 512) : V1 m ρ c main_v10 (ix3 b ⟨l.val, by omega⟩ ⟨2048 + q.val, by omega⟩)
    = m ((c : Thread nD τ).loc main_arg0) (ix3 b l q) := by
  show StableHlo.after hostOps0 (W0 m ρ c) (Proc.devRef .tc main_v10) _ = _
  entry_read
  pointwise
  split_ifs <;> first | omega | exact congrArg _ (congrArg (ix3 b l) (Fin.ext (by simp; try omega)))
theorem pk (b : Fin 2) (l : Fin 2048) (q : Fin 512) : V1 m ρ c main_v10 (ix3 b ⟨l.val, by omega⟩ ⟨2560 + q.val, by omega⟩)
    = m ((c : Thread nD τ).loc main_arg1) (ix3 b l q) := by
  show StableHlo.after hostOps0 (W0 m ρ c) (Proc.devRef .tc main_v10) _ = _
  entry_read
  pointwise
  split_ifs <;> first | omega | exact congrArg _ (congrArg (ix3 b l) (Fin.ext (by simp; try omega)))
theorem pv (b : Fin 2) (l : Fin 2048) (q : Fin 512) : V1 m ρ c main_v10 (ix3 b ⟨l.val, by omega⟩ ⟨3072 + q.val, by omega⟩)
    = m ((c : Thread nD τ).loc main_arg2) (ix3 b l q) := by
  show StableHlo.after hostOps0 (W0 m ρ c) (Proc.devRef .tc main_v10) _ = _
  entry_read
  pointwise
  split_ifs <;> first | omega | exact congrArg _ (congrArg (ix3 b l) (Fin.ext (by simp; try omega)))
theorem pg (b : Fin 2) (l : Fin 2048) (q : Fin 512) : V1 m ρ c main_v10 (ix3 b ⟨l.val, by omega⟩ ⟨3584 + q.val, by omega⟩)
    = m ((c : Thread nD τ).loc main_arg3) (ix3 b l q) := by
  show StableHlo.after hostOps0 (W0 m ρ c) (Proc.devRef .tc main_v10) _ = _
  entry_read
  pointwise
  split_ifs <;> first | omega | exact congrArg _ (congrArg (ix3 b l) (Fin.ext (by simp; try omega)))
theorem pkc (b : Fin 2) (l : Fin 256) (q : Fin 512) : V1 m ρ c main_v10 (ix3 b ⟨2048 + l.val, by omega⟩ ⟨2560 + q.val, by omega⟩)
    = m ((c : Thread nD τ).loc main_arg4) (ix3 b l q) := by
  show StableHlo.after hostOps0 (W0 m ρ c) (Proc.devRef .tc main_v10) _ = _
  entry_read
  pointwise
  split_ifs <;> first | omega | exact congrArg _ (congrArg₂ (ix3 b) (Fin.ext (by simp; try omega)) (Fin.ext (by simp; try omega)))
theorem pvc (b : Fin 2) (l : Fin 256) (q : Fin 512) : V1 m ρ c main_v10 (ix3 b ⟨2048 + l.val, by omega⟩ ⟨3072 + q.val, by omega⟩)
    = m ((c : Thread nD τ).loc main_arg5) (ix3 b l q) := by
  show StableHlo.after hostOps0 (W0 m ρ c) (Proc.devRef .tc main_v10) _ = _
  entry_read
  pointwise
  split_ifs <;> first | omega | exact congrArg _ (congrArg₂ (ix3 b) (Fin.ext (by simp; try omega)) (Fin.ext (by simp; try omega)))

end Cert.Ret
end
-- ==== Proof.RetStates.lean ====
/- The two arrays of carried states. -/
module

public import proofs.«01_k».proof.Proof.RetPieces
public import proofs.«01_k».proof.Proof.RetPack

@[expose] public section

set_option maxRecDepth 16384

noncomputable section

namespace Cert.Ret

open Cert.Kernel4Ideal Cert.Kernel4Ideal.Gen Idealize.ShloMosaic Idealize.ShloMosaic.TcCoe Idealize.SL.Sem
open Idealize.ShloMosaic.Pipeline (Dat)

theorem idx0 : ∀ t : Fin cfg0.N,
    win0_0.index t = ![0, 0] ∧ win0_1.index t = ![0, 0]
    ∧ win0_2.index t = ![t.val / 4, 0, 20 + t.val % 4] ∧ win0_3.index t = ![t.val / 4, 0, 24 + t.val % 4]
    ∧ win0_4.index t = ![t.val / 4, t.val % 4, 0, 0, 0] ∧ win0_5.index t = ![t.val / 4, t.val % 4, 0, 0, 0]
    ∧ (grid0.coords t 1).val = t.val % 4 :=
  (by decide +kernel : ∀ t : Fin grid0.N, _)

theorem lt0 (t : Fin cfg0.N) : t.val < 8 := lt_of_lt_of_eq t.isLt N_0

/-- The sample and the head of a grid point. -/
def bOf (t : Fin cfg0.N) : Fin 2 := ⟨t.val / 4, by have := lt0 t; omega⟩
def hOf (t : Fin cfg0.N) : Fin 4 := ⟨t.val % 4, by omega⟩

variable (m : (ℓ : Loc nD τ sig) → Buf (Elt Ideal) ℓ) (ρ : Dev nD → PrngReg) (c : Dev nD)

theorem blk0 (t : Fin cfg0.N) (j : Fin 4) : iblk0 (V1 m ρ) c 0 t (ix2 0 j) = V1 m ρ c main_arg6 (ix2 0 j) := by
  rw [iblk0]
  blk_ext! [idx0 t]
theorem blk1 (t : Fin cfg0.N) (j : Fin 4) : iblk0 (V1 m ρ) c 1 t (ix2 0 j) = V1 m ρ c main_arg7 (ix2 0 j) := by
  rw [iblk0]
  blk_ext! [idx0 t]
theorem blk2 (t : Fin cfg0.N) (y : Fin 2304) (d : Fin 128) :
    iblk0 (V1 m ρ) c 2 t (ix3 0 y d) = V1 m ρ c main_v10 (ix3 (bOf t) y ⟨2560 + (col (hOf t) d).val, by omega⟩) := by
  rw [iblk0]
  blk_ext! [idx0 t, bOf, hOf, col]
theorem blk3 (t : Fin cfg0.N) (y : Fin 2304) (d : Fin 128) :
    iblk0 (V1 m ρ) c 3 t (ix3 0 y d) = V1 m ρ c main_v10 (ix3 (bOf t) y ⟨3072 + (col (hOf t) d).val, by omega⟩) := by
  rw [iblk0]
  blk_ext! [idx0 t, bOf, hOf, col]

/-- The states at an index. -/
def sF (A : Args) (b : Fin 2) (h : Fin 4) (n : Fin 8) (d e : Fin 128) : EReal :=
  ((SF (A.K b h) (A.V b h e) (A.lf h) (A.f0 b h e) n.val d : ℝ) : EReal)
def sB (A : Args) (b : Fin 2) (h : Fin 4) (n : Fin 8) (d e : Fin 128) : EReal :=
  ((SB (A.K b h) (A.V b h e) (A.lb h) (A.b0 b h e) (7 - n.val) d : ℝ) : EReal)

variable {A : Args} (H : Holds A (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)))

include H

theorem head (t : Fin cfg0.N) : Head A (bOf t) (hOf t) (grid0.coords t) (iblk0 (V1 m ρ) c 0 t) (iblk0 (V1 m ρ) c 1 t)
    (iblk0 (V1 m ρ) c 2 t) (iblk0 (V1 m ρ) c 3 t) where
  hi := (idx0 t).2.2.2.2.2.2
  df j := (blk0 m ρ c t j).trans ((congrFun (W1_args m ρ c main_arg6 (by decide)) _).trans (H.df j))
  db j := (blk1 m ρ c t j).trans ((congrFun (W1_args m ρ c main_arg7 (by decide)) _).trans (H.db j))
  k s d := (blk2 m ρ c t _ d).trans ((pk m ρ c _ s _).trans (H.k _ s _))
  v s d := (blk3 m ρ c t _ d).trans ((pv m ρ c _ s _).trans (H.v _ s _))
  kc s d := (blk2 m ρ c t _ d).trans ((pkc m ρ c _ s _).trans (H.kc _ s _))
  vc s d := (blk3 m ρ c t _ d).trans ((pvc m ρ c _ s _).trans (H.vc _ s _))

theorem point4 (t : Fin cfg0.N) (y : S1x1x8x128x128.Idx) :
    out0_A_4 c (grid0.coords t) (ms0_0 t) (hs0_0 t) (ms0_1 t) (hs0_1 t) (ms0_2 t) (hs0_2 t) (ms0_3 t) (hs0_3 t) (ms0_4 t) (hs0_4 t) (ms0_5 t)
      (hs0_5 t) (iblk0 (V1 m ρ) c 0 t) (iblk0 (V1 m ρ) c 1 t) (iblk0 (V1 m ρ) c 2 t) (iblk0 (V1 m ρ) c 3 t) y
      = sF A (bOf t) (hOf t) (y 2) (y 3) (y 4) := by
  obtain ⟨z, z', n, d, e, rfl⟩ : ∃ z z' n d e, y = ix5 z z' n d e := ⟨_, _, _, _, _, eq_ix5 y⟩
  obtain rfl : z = 0 := Subsingleton.elim _ _
  obtain rfl : z' = 0 := Subsingleton.elim _ _
  unfold out0_A_4
  rw [pieces4]
  refine (read8 _ _ o4 o4_inb _ id (fun _ => rfl) Function.injective_id n d e).trans ?_
  exact (pay20_at _ d e).trans ((head m ρ c H t).stF_at n.val n.isLt d e)

theorem point5 (t : Fin cfg0.N) (y : S1x1x8x128x128.Idx) :
    out0_A_5 c (grid0.coords t) (ms0_0 t) (hs0_0 t) (ms0_1 t) (hs0_1 t) (ms0_2 t) (hs0_2 t) (ms0_3 t) (hs0_3 t) (ms0_4 t) (hs0_4 t) (ms0_5 t)
      (hs0_5 t) (iblk0 (V1 m ρ) c 0 t) (iblk0 (V1 m ρ) c 1 t) (iblk0 (V1 m ρ) c 2 t) (iblk0 (V1 m ρ) c 3 t) y
      = sB A (bOf t) (hOf t) (y 2) (y 3) (y 4) := by
  obtain ⟨z, z', n, d, e, rfl⟩ : ∃ z z' n d e, y = ix5 z z' n d e := ⟨_, _, _, _, _, eq_ix5 y⟩
  obtain rfl : z = 0 := Subsingleton.elim _ _
  obtain rfl : z' = 0 := Subsingleton.elim _ _
  unfold out0_A_5
  rw [pieces5]
  have hn : n = Fin.rev (Fin.rev n) := (Fin.rev_rev n).symm
  have hv : (Fin.rev n).val = 7 - n.val := by rw [Fin.val_rev]; omega
  rw [hn]
  refine (read8 _ _ o5 k0_off2_inb _ Fin.rev (fun r => (k0_off2_eq r).trans ?_) Fin.rev_injective (Fin.rev n) d e).trans ?_
  · rw [Fin.val_rev, show 8 - (r.val + 1) = 7 - r.val by omega]
  · refine (pay20_at _ d e).trans (((head m ρ c H t).stB_at _ (Fin.rev n).isLt d e).trans ?_)
    rw [← hn, hv]
    rfl

/-- The states carried from the left, and from the right. -/
theorem arr4 : (dat0 (V1 m ρ) c).arrAt 4 cfg0.N = fun i => sF A (i 0) (i 1) (i 2) (i 3) (i 4) := by
  refine (dat0 (V1 m ρ) c).arrAt_eq_of_covers 4 _ (by decide +kernel) fun t hf y => ?_
  blk_simp
  rw [after0_4]
  unfold outsAt0
  dsimp only
  have e0 : (win0_4.blk t).view.emb y 0 = bOf t := Fin.ext (by blk_simp [idx0 t]; rfl)
  have e1 : (win0_4.blk t).view.emb y 1 = hOf t := Fin.ext (by blk_simp [idx0 t]; rfl)
  have e2 : (win0_4.blk t).view.emb y 2 = y 2 := Fin.ext (by blk_simp [idx0 t])
  have e3 : (win0_4.blk t).view.emb y 3 = y 3 := Fin.ext (by blk_simp [idx0 t])
  have e4 : (win0_4.blk t).view.emb y 4 = y 4 := Fin.ext (by blk_simp [idx0 t])
  rw [e0, e1, e2, e3, e4]
  exact point4 m ρ c H t y
theorem arr5 : (dat0 (V1 m ρ) c).arrAt 5 cfg0.N = fun i => sB A (i 0) (i 1) (i 2) (i 3) (i 4) := by
  refine (dat0 (V1 m ρ) c).arrAt_eq_of_covers 5 _ (by decide +kernel) fun t hf y => ?_
  blk_simp
  rw [after0_5]
  unfold outsAt0
  dsimp only
  have e0 : (win0_5.blk t).view.emb y 0 = bOf t := Fin.ext (by blk_simp [idx0 t]; rfl)
  have e1 : (win0_5.blk t).view.emb y 1 = hOf t := Fin.ext (by blk_simp [idx0 t]; rfl)
  have e2 : (win0_5.blk t).view.emb y 2 = y 2 := Fin.ext (by blk_simp [idx0 t])
  have e3 : (win0_5.blk t).view.emb y 3 = y 3 := Fin.ext (by blk_simp [idx0 t])
  have e4 : (win0_5.blk t).view.emb y 4 = y 4 := Fin.ext (by blk_simp [idx0 t])
  rw [e0, e1, e2, e3, e4]
  exact point5 m ρ c H t y

end Cert.Ret
end
-- ==== Proof.RetTile.lean ====
/- One head of one chunk: the kernel's arithmetic on its loads is the retention of the chunk's queries. -/
module

public import proofs.«01_k».proof.Proof.RetStep

@[expose] public section

set_option maxRecDepth 16384

noncomputable section

namespace Cert.Ret

open Cert.Kernel4Ideal Cert.Kernel4Ideal.Gen Idealize.ShloMosaic Idealize.ShloMosaic.TcCoe Idealize.SL.Sem
open Cert.Model (coe_sum coe_div)

/-- The logarithm of head `h`'s decay, from the four parameters. -/
def lg (h : BitVec 32) (x : Vec Ideal S1x4 .f32) : FVec Ideal S1x1 .f32 := k1_pay16 (iota .tc S1x4 32 [1] iota_S1x4_d1_w32) h x

/-- The weights inside a chunk, the diagonal's factor apart. -/
def decay (lf lb : FVec Ideal S1x1 .f32) : FVec Ideal S256x256 .f32 :=
  exp (mulf (k1_pay6 (F := Ideal))
    (select (cmpf .ogt (k1_pay6 (F := Ideal)) (broadcast S256x256 (Scalar.ofBits .f32 0x00000000#32 : Ideal .f32)))
      (broadcastTo S256x256 (shapeCast S1x1 lf shapeCasts_S1x1_S1x1) broadcasts_S1x1_S256x256)
      (broadcastTo S256x256 (shapeCast S1x1 (subf (broadcast S1x1 (Scalar.ofBits .f32 0x00000000#32 : Ideal .f32)) lb) shapeCasts_S1x1_S1x1)
        broadcasts_S1x1_S256x256)))

variable (h : BitVec 32) (x0 x1 : Vec Ideal S1x4 .f32) (Q K V G : Vec Ideal S1x256x128 .bf16) (N : Vec Ideal S1x128 .f32)
  (SF SB : Vec Ideal S1x1x1x128x128 .f32)

/-- A head's result without its part from the right, its queries weighted for that part, and its two pieces. -/
def accL : FVec Ideal S256x128 .f32 :=
  k1_pay11 (lg h x0) (k1_pay5 (F := Ideal)) (decay (lg h x0) (lg h x1)) (k1_pay8 (F := Ideal)) (Scalar.ofBits .f32 0x40000000#32 : Ideal .f32) Q K V SF
def qR : FVec Ideal S256x128 .bf16 := k1_pay12 (lg h x1) (k1_pay5 (F := Ideal)) Q
def pieceO : FVec Ideal S1x256x128 .f32 := k1_pay14 (accL h x0 x1 Q K V SF) (qR h x1 Q) SB
def pieceY : FVec Ideal S1x256x128 .bf16 := k1_pay15 (accL h x0 x1 Q K V SF) (qR h x1 Q) SB G N

theorem two_word : Ideal.ofBits .f32 0x40000000#32 = ((2 : ℝ) : EReal) := by
  simp [Ideal.ofBits, Ideal.ieee, -EReal.coe_mul]; norm_num
theorem one_word (p : ℕ) : ((p : ℝ) : EReal) + 1 = (((p : ℝ) + 1 : ℝ) : EReal) := rfl

theorem decay_at (lf lb : FVec Ideal S1x1 .f32) (p s : Fin 256) : decay lf lb (ix2 p s)
    = Ideal.exp ((((p.val : ℝ) - s.val : ℝ) : EReal) * if (0 : ℝ) < (p.val : ℝ) - s.val then lf (ix2 0 0) else 0 - lb (ix2 0 0)) := by
  pointwise [decay, k1_pay5, k1_pay6]
  rw [si _ (by omega), si _ (by omega), ← EReal.coe_sub]
  by_cases hp : (0 : ℝ) < (p.val : ℝ) - s.val
  · rw [if_pos hp, if_pos (EReal.coe_pos.mpr hp)]
  · rw [if_neg hp, if_neg fun hq => hp (EReal.coe_pos.mp hq)]

theorem pay11_at (lf : FVec Ideal S1x1 .f32) (D : FVec Ideal S256x256 .f32) (p : Fin 256) (e : Fin 128) :
    k1_pay11 lf (k1_pay5 (F := Ideal)) D (k1_pay8 (F := Ideal)) (Scalar.ofBits .f32 0x40000000#32 : Ideal .f32) Q K V SF (ix2 p e)
      = ∑ s : Fin 256, (∑ d : Fin 128, Q (ix3 0 p d) * K (ix3 0 s d)) * (D (ix2 p s) * if (p.val : ℝ) - s.val = 0 then ((2 : ℝ) : EReal) else 1)
          * V (ix3 0 s e)
        + ∑ d : Fin 128, Q (ix3 0 p d) * Ideal.exp (lf (ix2 0 0) * (((p.val : ℝ) + 1 : ℝ) : EReal)) * SF (ix5 0 0 0 d e) := by
  pointwise [k1_pay11, k1_pay10, k1_pay9, k1_pay8, k1_pay6, k1_pay5]
  simp only [si _ (lt_trans p.isLt (by decide)), one_word, two_word]
  refine congrArg (· + _) (Finset.sum_congr rfl fun s _ => ?_)
  rw [si _ (by omega), ← EReal.coe_sub]
  by_cases hp : (p.val : ℝ) - s.val = 0
  · rw [if_pos hp, if_pos (EReal.coe_eq_zero.mpr hp)]
  · rw [if_neg hp, if_neg fun hq => hp (EReal.coe_eq_zero.mp hq)]

theorem pay12_at (lb : FVec Ideal S1x1 .f32) (p : Fin 256) (d : Fin 128) : k1_pay12 lb k1_pay5 Q (ix2 p d)
    = Q (ix3 0 p d) * Ideal.exp (lb (ix2 0 0) * ((256 - (p.val : ℝ) : ℝ) : EReal)) := by
  pointwise [k1_pay12, k1_pay10, k1_pay9, k1_pay5]
  rw [si _ (by omega), c256, ← EReal.coe_sub]

theorem pay13_at (a : FVec Ideal S256x128 .f32) (q : FVec Ideal S256x128 .bf16) (p : Fin 256) (e : Fin 128) :
    k1_pay13 a q SB (ix2 p e) = a (ix2 p e) + ∑ d : Fin 128, q (ix2 p d) * SB (ix5 0 0 0 d e) := by
  pointwise [k1_pay13]

theorem pay14_at (a : FVec Ideal S256x128 .f32) (q : FVec Ideal S256x128 .bf16) (p : Fin 256) (e : Fin 128) :
    k1_pay14 a q SB (ix3 0 p e) = k1_pay13 a q SB (ix2 p e) := by
  unfold k1_pay14
  generalize k1_pay13 a q SB = z
  pointwise

theorem pay15_at (a : FVec Ideal S256x128 .f32) (q : FVec Ideal S256x128 .bf16) (p : Fin 256) (e : Fin 128) :
    k1_pay15 a q SB G N (ix3 0 p e)
      = k1_pay13 a q SB (ix2 p e)
        * Ideal.rsqrt (Ideal.div (∑ d : Fin 128, k1_pay13 a q SB (ix2 p d) * k1_pay13 a q SB (ix2 p d)) (Ideal.ofBits .f32 0x43000000#32)
          + Ideal.ofBits .f32 0x358637BD#32)
        * N (ix2 0 e) * (G (ix3 0 p e) * Ideal.div 1 (1 + Ideal.exp (-G (ix3 0 p e)))) := by
  unfold k1_pay15
  generalize k1_pay13 a q SB = z
  pointwise
  rw [zero_sub]

variable (x2 x3 x4 x5 : Vec Ideal S1x256x512 .bf16) (x6 : Vec Ideal S1x512 .f32) (x7 x8 : Vec Ideal S1x4x1x128x128 .f32)

theorem pieces10 : out1_10 x0 x1 x2 x3 x4 x5 x6 x7 x8 = View.canon
    [⟨r1_10, pieceO 3#32 (View.ld x0 r1_0) (View.ld x1 r1_0) (View.ld x2 r1_10) (View.ld x3 r1_10) (View.ld x4 r1_10) (View.ld x7 r1_11) (View.ld x8 r1_11)⟩,
     ⟨r1_7, pieceO 2#32 (View.ld x0 r1_0) (View.ld x1 r1_0) (View.ld x2 r1_7) (View.ld x3 r1_7) (View.ld x4 r1_7) (View.ld x7 r1_8) (View.ld x8 r1_8)⟩,
     ⟨r1_4, pieceO 1#32 (View.ld x0 r1_0) (View.ld x1 r1_0) (View.ld x2 r1_4) (View.ld x3 r1_4) (View.ld x4 r1_4) (View.ld x7 r1_5) (View.ld x8 r1_5)⟩,
     ⟨r1_1, pieceO 0#32 (View.ld x0 r1_0) (View.ld x1 r1_0) (View.ld x2 r1_1) (View.ld x3 r1_1) (View.ld x4 r1_1) (View.ld x7 r1_2) (View.ld x8 r1_2)⟩] := by
  rfl
theorem pieces9 : out1_9 x0 x1 x2 x3 x4 x5 x6 x7 x8 = View.canon
    [⟨r1_10, pieceY 3#32 (View.ld x0 r1_0) (View.ld x1 r1_0) (View.ld x2 r1_10) (View.ld x3 r1_10) (View.ld x4 r1_10) (View.ld x5 r1_10) (View.ld x6 r1_12) (View.ld x7 r1_11) (View.ld x8 r1_11)⟩,
     ⟨r1_7, pieceY 2#32 (View.ld x0 r1_0) (View.ld x1 r1_0) (View.ld x2 r1_7) (View.ld x3 r1_7) (View.ld x4 r1_7) (View.ld x5 r1_7) (View.ld x6 r1_9) (View.ld x7 r1_8) (View.ld x8 r1_8)⟩,
     ⟨r1_4, pieceY 1#32 (View.ld x0 r1_0) (View.ld x1 r1_0) (View.ld x2 r1_4) (View.ld x3 r1_4) (View.ld x4 r1_4) (View.ld x5 r1_4) (View.ld x6 r1_6) (View.ld x7 r1_5) (View.ld x8 r1_5)⟩,
     ⟨r1_1, pieceY 0#32 (View.ld x0 r1_0) (View.ld x1 r1_0) (View.ld x2 r1_1) (View.ld x3 r1_1) (View.ld x4 r1_1) (View.ld x5 r1_1) (View.ld x6 r1_3) (View.ld x7 r1_2) (View.ld x8 r1_2)⟩] := by
  rfl

/-- What the loads of head `h` hold for the query in row `p` of chunk `i`. -/
structure Tile (sf sb : Vec Ideal S1x1x1x128x128 .f32) (A : Args) (b : Fin 2) (j : Fin 4) (i : Fin 8) (p : Fin 256) : Prop where
  hh : h = BitVec.ofNat 32 j.val
  df : ∀ j, x0 (ix2 0 j) = ((A.df j : ℝ) : EReal)
  db : ∀ j, x1 (ix2 0 j) = ((A.db j : ℝ) : EReal)
  q : ∀ d, Q (ix3 0 p d) = ((A.q b ⟨256 * i.val + p.val, by omega⟩ (col j d) : ℝ) : EReal)
  k : ∀ (s : Fin 256) d, K (ix3 0 s d) = ((A.K b j (256 * i.val + s.val) d : ℝ) : EReal)
  v : ∀ (s : Fin 256) d, V (ix3 0 s d) = ((A.V b j d (256 * i.val + s.val) : ℝ) : EReal)
  g : ∀ d, G (ix3 0 p d) = A.g b ⟨256 * i.val + p.val, by omega⟩ (col j d)
  n : ∀ d, N (ix2 0 d) = A.gn (col j d)
  f : ∀ d e, sf (ix5 0 0 0 d e) = ((Ret.SF (A.K b j) (A.V b j e) (A.lf j) (A.f0 b j e) i.val d : ℝ) : EReal)
  r : ∀ d e, sb (ix5 0 0 0 d e) = ((Ret.SB (A.K b j) (A.V b j e) (A.lb j) (A.b0 b j e) (7 - i.val) d : ℝ) : EReal)

namespace Tile

variable {h : BitVec 32} {x0 x1 : Vec Ideal S1x4 .f32} {Q K V G : Vec Ideal S1x256x128 .bf16} {N : Vec Ideal S1x128 .f32}
  {sf sb : Vec Ideal S1x1x1x128x128 .f32} {A : Args} {b : Fin 2} {j : Fin 4} {i : Fin 8} {p : Fin 256}
  (T : Tile h x0 x1 Q K V G N sf sb A b j i p)

include T

theorem lf : lg h x0 (ix2 0 0) = ((A.lf j : ℝ) : EReal) := by
  rw [T.hh]
  exact lane j x0 A.df T.df
theorem lb : lg h x1 (ix2 0 0) = ((A.lb j : ℝ) : EReal) := by
  rw [T.hh]
  exact lane j x1 A.db T.db

theorem weight (s : Fin 256) : decay (lg h x0) (lg h x1) (ix2 p s) * (if (p.val : ℝ) - s.val = 0 then ((2 : ℝ) : EReal) else 1)
    = ((dm (A.lf j) (A.lb j) p.val s.val : ℝ) : EReal) := by
  rw [decay_at, T.lf, T.lb, zero_sub, dm]
  have e1 : (if (0 : ℝ) < (p.val : ℝ) - s.val then ((A.lf j : ℝ) : EReal) else -((A.lb j : ℝ) : EReal))
      = ((if (0 : ℝ) < (p.val : ℝ) - s.val then A.lf j else -A.lb j : ℝ) : EReal) := by split_ifs <;> rfl
  have e2 : (if (p.val : ℝ) - s.val = 0 then ((2 : ℝ) : EReal) else 1) = ((if (p.val : ℝ) - s.val = 0 then 2 else 1 : ℝ) : EReal) := by
    split_ifs <;> rfl
  rw [e1, e2, ← EReal.coe_mul, exp_real, ← EReal.coe_mul]

theorem acc (e : Fin 128) : k1_pay13 (accL h x0 x1 Q K V sf) (qR h x1 Q) sb (ix2 p e)
    = ((A.o b j ⟨256 * i.val + p.val, by omega⟩ e : ℝ) : EReal) := by
  rw [pay13_at, accL, pay11_at]
  simp only [qR, pay12_at, T.weight, T.lf, T.lb, T.q, T.k, T.v, T.f, T.r, ← EReal.coe_mul, exp_real, coe_sum, ← EReal.coe_add]
  refine congrArg _ ?_
  have c := chunk (A.K b j) (A.V b j e) (A.lf j) (A.lb j) (A.f0 b j e) (A.b0 b j e)
    (fun d => A.q b ⟨256 * i.val + p.val, by omega⟩ (col j d)) i.val i.isLt p.val p.isLt
  rw [Finset.sum_range] at c
  refine c.trans ?_
  unfold Args.o
  push_cast
  rfl

theorem out (e : Fin 128) : pieceO h x0 x1 Q K V sf sb (ix3 0 p e) = ((A.o b j ⟨256 * i.val + p.val, by omega⟩ e : ℝ) : EReal) := by
  unfold pieceO
  rw [pay14_at]
  exact T.acc e

theorem outY (e : Fin 128) : pieceY h x0 x1 Q K V G N sf sb (ix3 0 p e) = A.y b j ⟨256 * i.val + p.val, by omega⟩ e := by
  unfold pieceY
  rw [pay15_at]
  simp only [T.acc, T.g, T.n, ← EReal.coe_mul, coe_sum]
  rfl

end Tile

end Cert.Ret
end
-- ==== Proof.RetFin.lean ====
/- The two arrays the retention leaves. -/
module

public import proofs.«01_k».proof.Proof.RetStates
public import proofs.«01_k».proof.Proof.RetTile

@[expose] public section

set_option maxRecDepth 16384

noncomputable section

namespace Cert.Ret

open Cert.Kernel4Ideal Cert.Kernel4Ideal.Gen Idealize.ShloMosaic Idealize.ShloMosaic.TcCoe Idealize.SL.Sem
open Idealize.ShloMosaic.Pipeline (Dat)

/-- The columns of a head, its state and its gains. -/
abbrev cols (o : ℕ) (h : ∀ a, (![0, 0, o] : Fin 3 → ℕ) a + (![1, 256, 128] : Fin 3 → ℕ) a ≤ S1x256x512.size a) : Rect S1x256x512 :=
  Rect.unit ![0, 0, o] ![1, 256, 128] h

/-- Four pieces of 128 columns each, read at a column. -/
theorem read4 {e : EltTy} [Inhabited (Elt Ideal e)] (w : Fin 4 → Vec Ideal S1x256x128 e) (h3 : _) (h2 : _) (h1 : _) (h0 : _) (p : Fin 256) (q : Fin 512) :
    View.canon [⟨cols 384 h3, w 3⟩, ⟨cols 256 h2, w 2⟩, ⟨cols 128 h1, w 1⟩, ⟨cols 0 h0, w 0⟩] (ix3 0 p q) = w (hd q) (ix3 0 p (cl q)) := by
  have hit : ∀ (i : Fin 4) (o : ℕ) (_ : o = 128 * i.val) (_ : hd q = i) (h : _) (L : _),
      View.canon ((⟨cols o h, w i⟩ : View.Piece (Elt Ideal) S1x256x512 e) :: L) (ix3 0 p q) = w (hd q) (ix3 0 p (cl q)) := fun i o ho hq h L => by
    have hv : q.val / 128 = i.val := congrArg Fin.val hq
    have hy : (cols o h).emb (ix3 0 p (cl q)) = ix3 0 p q := funext fun a => Fin.ext (by
      match a with
      | ⟨0, _⟩ => rfl
      | ⟨1, _⟩ => show 0 + 1 * p.val = p.val; omega
      | ⟨2, _⟩ => show o + 1 * (q.val % 128) = q.val; omega)
    rw [hq, ← hy]
    exact View.canon_cons_emb (Val := Elt Ideal) (cols o h) (w i) L (ix3 0 p (cl q))
  have miss : ∀ (o : ℕ) (_ : q.val < o) (h : _) (u : Vec Ideal S1x256x128 e) (L : _),
      View.canon ((⟨cols o h, u⟩ : View.Piece (Elt Ideal) S1x256x512 e) :: L) (ix3 0 p q) = View.canon L (ix3 0 p q) := fun o ho h u L => by
    refine View.canon_cons_of_not_mem (Val := Elt Ideal) _ L fun hm => ?_
    have h2 := (Rect.mem_set_unit (s := S1x256x512) (inb := h)).1 hm (2 : Fin 3)
    have h3 : o ≤ q.val := h2.1
    omega
  by_cases c3 : hd q = 3
  · exact hit 3 384 rfl c3 _ _
  have n3 : q.val / 128 ≠ 3 := fun hv => c3 (Fin.ext hv)
  rw [miss 384 (by omega)]
  by_cases c2 : hd q = 2
  · exact hit 2 256 rfl c2 _ _
  have n2 : q.val / 128 ≠ 2 := fun hv => c2 (Fin.ext hv)
  rw [miss 256 (by omega)]
  by_cases c1 : hd q = 1
  · exact hit 1 128 rfl c1 _ _
  have n1 : q.val / 128 ≠ 1 := fun hv => c1 (Fin.ext hv)
  rw [miss 128 (by omega)]
  exact hit 0 0 rfl (Fin.ext (by show q.val / 128 = 0; omega)) _ _

theorem idx1 : ∀ t : Fin cfg1.N,
    win1_0.index t = ![0, 0] ∧ win1_1.index t = ![0, 0]
    ∧ win1_2.index t = ![t.val / 8, t.val % 8, 4] ∧ win1_3.index t = ![t.val / 8, t.val % 8, 5]
    ∧ win1_4.index t = ![t.val / 8, t.val % 8, 6] ∧ win1_5.index t = ![t.val / 8, t.val % 8, 7]
    ∧ win1_6.index t = ![0, 0]
    ∧ win1_7.index t = ![t.val / 8, 0, t.val % 8, 0, 0] ∧ win1_8.index t = ![t.val / 8, 0, t.val % 8, 0, 0]
    ∧ win1_9.index t = ![t.val / 8, t.val % 8, 0] ∧ win1_10.index t = ![t.val / 8, t.val % 8, 0] :=
  (by decide +kernel : ∀ t : Fin grid1.N, _)

theorem lt1 (t : Fin cfg1.N) : t.val < 16 := lt_of_lt_of_eq t.isLt N_1

/-- The sample, the chunk and the token of a grid point's row. -/
def b1 (t : Fin cfg1.N) : Fin 2 := ⟨t.val / 8, by have := lt1 t; omega⟩
def i1 (t : Fin cfg1.N) : Fin 8 := ⟨t.val % 8, by omega⟩
def l1 (t : Fin cfg1.N) (p : Fin 256) : Fin 2048 := ⟨256 * (i1 t).val + p.val, by omega⟩

variable (m : (ℓ : Loc nD τ sig) → Buf (Elt Ideal) ℓ) (ρ : Dev nD → PrngReg) (c : Dev nD)

theorem same : V2 m ρ c main_v10 = V1 m ρ c main_v10 := W2_of m ρ c main_v10 (by decide)

theorem bl0 (t : Fin cfg1.N) (j : Fin 4) : iblk1 (V2 m ρ) c 0 t (ix2 0 j) = V2 m ρ c main_arg6 (ix2 0 j) := by
  rw [iblk1]
  blk_ext! [idx1 t]
theorem bl1 (t : Fin cfg1.N) (j : Fin 4) : iblk1 (V2 m ρ) c 1 t (ix2 0 j) = V2 m ρ c main_arg7 (ix2 0 j) := by
  rw [iblk1]
  blk_ext! [idx1 t]
theorem bl2 (t : Fin cfg1.N) (p : Fin 256) (q : Fin 512) :
    iblk1 (V2 m ρ) c 2 t (ix3 0 p q) = V2 m ρ c main_v10 (ix3 (b1 t) ⟨(l1 t p).val, by omega⟩ ⟨2048 + q.val, by omega⟩) := by
  rw [iblk1]
  blk_ext! [idx1 t, b1, i1, l1]
theorem bl3 (t : Fin cfg1.N) (p : Fin 256) (q : Fin 512) :
    iblk1 (V2 m ρ) c 3 t (ix3 0 p q) = V2 m ρ c main_v10 (ix3 (b1 t) ⟨(l1 t p).val, by omega⟩ ⟨2560 + q.val, by omega⟩) := by
  rw [iblk1]
  blk_ext! [idx1 t, b1, i1, l1]
theorem bl4 (t : Fin cfg1.N) (p : Fin 256) (q : Fin 512) :
    iblk1 (V2 m ρ) c 4 t (ix3 0 p q) = V2 m ρ c main_v10 (ix3 (b1 t) ⟨(l1 t p).val, by omega⟩ ⟨3072 + q.val, by omega⟩) := by
  rw [iblk1]
  blk_ext! [idx1 t, b1, i1, l1]
theorem bl5 (t : Fin cfg1.N) (p : Fin 256) (q : Fin 512) :
    iblk1 (V2 m ρ) c 5 t (ix3 0 p q) = V2 m ρ c main_v10 (ix3 (b1 t) ⟨(l1 t p).val, by omega⟩ ⟨3584 + q.val, by omega⟩) := by
  rw [iblk1]
  blk_ext! [idx1 t, b1, i1, l1]
theorem bl6 (t : Fin cfg1.N) (q : Fin 512) : iblk1 (V2 m ρ) c 6 t (ix2 0 q) = V2 m ρ c main_arg8 (ix2 0 q) := by
  rw [iblk1]
  blk_ext! [idx1 t]
theorem bl7 (t : Fin cfg1.N) (h : Fin 4) (d e : Fin 128) :
    iblk1 (V2 m ρ) c 7 t (ix5 0 h 0 d e) = V2 m ρ c main_v11_0 (ix5 (b1 t) h (i1 t) d e) := by
  rw [iblk1]
  blk_ext! [idx1 t, b1, i1]
theorem bl8 (t : Fin cfg1.N) (h : Fin 4) (d e : Fin 128) :
    iblk1 (V2 m ρ) c 8 t (ix5 0 h 0 d e) = V2 m ρ c main_v11_1 (ix5 (b1 t) h (i1 t) d e) := by
  rw [iblk1]
  blk_ext! [idx1 t, b1, i1]

/-! ## The loads -/

theorem ldC (x : Vec Ideal S1x256x512 .bf16) (j : Fin 4) (o : ℕ) (ho : o = 128 * j.val) (h : _) (p : Fin 256) (d : Fin 128) :
    View.ld x (cols o h) (ix3 0 p d) = x (ix3 0 p (col j d)) := by
  refine View.ld_unit_apply_of _ _ _ _ _ _ fun e => ?_
  match e with
  | ⟨0, _⟩ => rfl
  | ⟨1, _⟩ => exact (Nat.zero_add _).symm
  | ⟨2, _⟩ => show j.val * 128 + d.val = o + d.val; omega
theorem ldN (x : Vec Ideal S1x512 .f32) (j : Fin 4) (o : ℕ) (ho : o = 128 * j.val) (h : ∀ a, (![0, o] : Fin 2 → ℕ) a + S1x128.size a ≤ S1x512.size a)
    (d : Fin 128) : View.ld x (Rect.unit (s := S1x512) ![0, o] S1x128.size h) (ix2 0 d) = x (ix2 0 (col j d)) := by
  refine View.ld_unit_apply_of _ _ _ _ _ _ fun e => ?_
  match e with
  | ⟨0, _⟩ => rfl
  | ⟨1, _⟩ => show j.val * 128 + d.val = o + d.val; omega
theorem ldS (x : Vec Ideal S1x4x1x128x128 .f32) (j : Fin 4) (h : ∀ a, (![0, j.val, 0, 0, 0] : Fin 5 → ℕ) a + S1x1x1x128x128.size a ≤ S1x4x1x128x128.size a)
    (d e : Fin 128) : View.ld x (Rect.unit (s := S1x4x1x128x128) ![0, j.val, 0, 0, 0] S1x1x1x128x128.size h) (ix5 0 0 0 d e) = x (ix5 0 j 0 d e) := by
  refine View.ld_unit_apply_of _ _ _ _ _ _ fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

variable {A : Args} (H : Holds A (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)))

include H

/-- A point's loads for its head `j`. -/
theorem tile (t : Fin cfg1.N) (j : Fin 4) (o : ℕ) (ho : o = 128 * j.val) (h : _) (h' : _) (hs : _) (p : Fin 256) :
    Tile (BitVec.ofNat 32 j.val) (View.ld (iblk1 (V2 m ρ) c 0 t) r1_0) (View.ld (iblk1 (V2 m ρ) c 1 t) r1_0)
      (View.ld (iblk1 (V2 m ρ) c 2 t) (cols o h)) (View.ld (iblk1 (V2 m ρ) c 3 t) (cols o h)) (View.ld (iblk1 (V2 m ρ) c 4 t) (cols o h))
      (View.ld (iblk1 (V2 m ρ) c 5 t) (cols o h)) (View.ld (iblk1 (V2 m ρ) c 6 t) (Rect.unit (s := S1x512) ![0, o] S1x128.size h'))
      (View.ld (iblk1 (V2 m ρ) c 7 t) (Rect.unit (s := S1x4x1x128x128) ![0, j.val, 0, 0, 0] S1x1x1x128x128.size hs))
      (View.ld (iblk1 (V2 m ρ) c 8 t) (Rect.unit (s := S1x4x1x128x128) ![0, j.val, 0, 0, 0] S1x1x1x128x128.size hs))
      A (b1 t) j (i1 t) p where
  hh := rfl
  df a := (dec_at _ a).trans ((bl0 m ρ c t a).trans ((congrFun (W2_args m ρ c main_arg6 (by decide)) _).trans (H.df a)))
  db a := (dec_at _ a).trans ((bl1 m ρ c t a).trans ((congrFun (W2_args m ρ c main_arg7 (by decide)) _).trans (H.db a)))
  q d := (ldC _ j o ho h p d).trans ((bl2 m ρ c t p _).trans ((congrFun (same m ρ c) _).trans ((pq m ρ c _ (l1 t p) _).trans (H.q _ _ _))))
  k s d := (ldC _ j o ho h s d).trans ((bl3 m ρ c t s _).trans ((congrFun (same m ρ c) _).trans ((pk m ρ c _ (l1 t s) _).trans
    ((H.k _ _ _).trans (congrArg _ (A.K_at (b1 t) j (l1 t s) d).symm)))))
  v s d := (ldC _ j o ho h s d).trans ((bl4 m ρ c t s _).trans ((congrFun (same m ρ c) _).trans ((pv m ρ c _ (l1 t s) _).trans
    ((H.v _ _ _).trans (congrArg _ (A.V_at (b1 t) j (l1 t s) d).symm)))))
  g d := (ldC _ j o ho h p d).trans ((bl5 m ρ c t p _).trans ((congrFun (same m ρ c) _).trans ((pg m ρ c _ (l1 t p) _).trans (H.g _ _ _))))
  n d := (ldN _ j o ho h' d).trans ((bl6 m ρ c t _).trans ((congrFun (W2_args m ρ c main_arg8 (by decide)) _).trans (H.gn _)))
  f d e := (ldS _ j hs d e).trans ((bl7 m ρ c t j d e).trans (congrFun ((W2_arr m ρ c 4).trans (arr4 m ρ c H)) _))
  r d e := (ldS _ j hs d e).trans ((bl8 m ρ c t j d e).trans (congrFun ((W2_arr m ρ c 5).trans (arr5 m ρ c H)) _))

/-- The results at a token and a column. -/
theorem point10 (t : Fin cfg1.N) (p : Fin 256) (q : Fin 512) :
    out1_10 (iblk1 (V2 m ρ) c 0 t) (iblk1 (V2 m ρ) c 1 t) (iblk1 (V2 m ρ) c 2 t) (iblk1 (V2 m ρ) c 3 t) (iblk1 (V2 m ρ) c 4 t)
      (iblk1 (V2 m ρ) c 5 t) (iblk1 (V2 m ρ) c 6 t) (iblk1 (V2 m ρ) c 7 t) (iblk1 (V2 m ρ) c 8 t) (ix3 0 p q)
      = ((A.o (b1 t) (hd q) (l1 t p) (cl q) : ℝ) : EReal) := by
  rw [pieces10]
  refine (read4 ![_, _, _, _] _ _ _ _ p q).trans ?_
  generalize hd q = i
  match i with
  | 0 => exact (tile m ρ c H t 0 0 rfl _ (by decide) _ p).out _
  | 1 => exact (tile m ρ c H t 1 128 rfl _ (by decide) _ p).out _
  | 2 => exact (tile m ρ c H t 2 256 rfl _ (by decide) _ p).out _
  | 3 => exact (tile m ρ c H t 3 384 rfl _ (by decide) _ p).out _

theorem point9 (t : Fin cfg1.N) (p : Fin 256) (q : Fin 512) :
    out1_9 (iblk1 (V2 m ρ) c 0 t) (iblk1 (V2 m ρ) c 1 t) (iblk1 (V2 m ρ) c 2 t) (iblk1 (V2 m ρ) c 3 t) (iblk1 (V2 m ρ) c 4 t)
      (iblk1 (V2 m ρ) c 5 t) (iblk1 (V2 m ρ) c 6 t) (iblk1 (V2 m ρ) c 7 t) (iblk1 (V2 m ρ) c 8 t) (ix3 0 p q)
      = A.y (b1 t) (hd q) (l1 t p) (cl q) := by
  rw [pieces9]
  refine (read4 ![_, _, _, _] _ _ _ _ p q).trans ?_
  generalize hd q = i
  match i with
  | 0 => exact (tile m ρ c H t 0 0 rfl _ _ _ p).outY _
  | 1 => exact (tile m ρ c H t 1 128 rfl _ _ _ p).outY _
  | 2 => exact (tile m ρ c H t 2 256 rfl _ _ _ p).outY _
  | 3 => exact (tile m ρ c H t 3 384 rfl _ _ _ p).outY _

/-- The retention's result. -/
theorem arr10 : (dat1 (V2 m ρ) c).arrAt 10 cfg1.N = fun i => ((A.o (i 0) (hd (i 2)) (i 1) (cl (i 2)) : ℝ) : EReal) := by
  refine (dat1 (V2 m ρ) c).arrAt_eq_of_covers 10 _ (by decide +kernel) fun t hf y => ?_
  blk_simp
  rw [after1_10]
  have e0 : (win1_10.blk t).view.emb y 0 = b1 t := Fin.ext (by blk_simp [idx1 t]; rfl)
  have e1 : (win1_10.blk t).view.emb y 1 = l1 t (y 1) := Fin.ext (by
    blk_simp [idx1 t]
    show t.val % 8 * 256 + (y 1).val = 256 * (t.val % 8) + (y 1).val
    omega)
  have e2 : (win1_10.blk t).view.emb y 2 = y 2 := Fin.ext (by blk_simp [idx1 t])
  rw [e0, e1, e2]
  obtain ⟨z, p, q, rfl⟩ : ∃ z p q, y = ix3 z p q := ⟨_, _, _, eq_ix3 y⟩
  obtain rfl : z = 0 := Subsingleton.elim _ _
  exact point10 m ρ c H t p q

/-- The normed and gated result. -/
theorem arr9 : (dat1 (V2 m ρ) c).arrAt 9 cfg1.N = fun i => A.y (i 0) (hd (i 2)) (i 1) (cl (i 2)) := by
  refine (dat1 (V2 m ρ) c).arrAt_eq_of_covers 9 _ (by decide +kernel) fun t hf y => ?_
  blk_simp
  rw [after1_9]
  have e0 : (win1_9.blk t).view.emb y 0 = b1 t := Fin.ext (by blk_simp [idx1 t]; rfl)
  have e1 : (win1_9.blk t).view.emb y 1 = l1 t (y 1) := Fin.ext (by
    blk_simp [idx1 t]
    show t.val % 8 * 256 + (y 1).val = 256 * (t.val % 8) + (y 1).val
    omega)
  have e2 : (win1_9.blk t).view.emb y 2 = y 2 := Fin.ext (by blk_simp [idx1 t])
  rw [e0, e1, e2]
  obtain ⟨z, p, q, rfl⟩ : ∃ z p q, y = ix3 z p q := ⟨_, _, _, eq_ix3 y⟩
  obtain rfl : z = 0 := Subsingleton.elim _ _
  exact point9 m ρ c H t p q

end Cert.Ret
end
-- ==== Proof.RetRun.lean ====
/-
The run of the retention's two launches: it ends with the two results at what the second launch's write-backs leave,
the arguments as they were and every counter at zero.
-/
module

public import proofs.«01_k».proof.Proof.Gen.Kernel4Ideal.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.Ret

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the contents it leaves in the results. -/
theorem run_value : θ_run defs (onTc (τ := τ) (main (F := F))) ⟨m, fun _ => 0, ρ⟩ (fun r => (∀ c : Dev nD,
      r.2.mem ((c.tc : Thread nD τ).loc main_v12_0) = (dat1 (V2 m ρ) c).arrAt 9 cfg1.N
      ∧ r.2.mem ((c.tc : Thread nD τ).loc main_v12_1) = (dat1 (V2 m ρ) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v12_0 (by decide))).trans (W3_arr m ρ c 9),
       (h c _ (mem_uc main_v12_1 (by decide))).trans (W3_arr m ρ c 10),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩), funext fun g => hz g (.inr (no_unscoped g.2))⟩)

end Cert.Ret
end
-- ==== Proof.RetFinite.lean ====
/- The fourth program's precondition makes every argument but the gate and the norm's gain real numbers. -/
module

public import proofs.«01_k».proof.Proof.Finite
public import proofs.«01_k».proof.Proof.RetModel
public import proofs.«01_k».proof.Proof.Gen.Pre_finite4

@[expose] public section

noncomputable section

namespace Cert.Pre_finite4

open Idealize.ShloMosaic Idealize.SL.Sem Cert.Model Cert.Ret

variable [Cert.Pre_finite4.Facts] (x0 x1 x2 x3 : FVec Idealize.ShloMosaic.Ideal S2x2048x512 .f32)
  (x4 x5 : FVec Idealize.ShloMosaic.Ideal S2x256x512 .f32) (x6 x7 : FVec Idealize.ShloMosaic.Ideal S1x4 .f32)
  (x8 : FVec Idealize.ShloMosaic.Ideal S1x512 .f32)

/-- What the arguments hold. -/
def args : Ret.Args where
  q b l k := (x0 (ix3 b l k)).toReal
  k b l k := (x1 (ix3 b l k)).toReal
  v b l k := (x2 (ix3 b l k)).toReal
  g b l k := x3 (ix3 b l k)
  kc b l k := (x4 (ix3 b l k)).toReal
  vc b l k := (x5 (ix3 b l k)).toReal
  df h := (x6 (ix2 0 h)).toReal
  db h := (x7 (ix2 0 h)).toReal
  gn k := x8 (ix2 0 k)

theorem holds (h : fn x0 x1 x2 x3 x4 x5 x6 x7 x8 = fun _ => 1#1) :
    Ret.Holds (args x0 x1 x2 x3 x4 x5 x6 x7 x8) x0 x1 x2 x3 x4 x5 x6 x7 x8 := by
  have j : S_.Idx := fun a => a.elim0
  have h6 := of_andi _ _ j (congrFun h j)
  have h5 := of_andi _ _ j h6.1
  have h4 := of_andi _ _ j h5.1
  have h3 := of_andi _ _ j h4.1
  have h2 := of_andi _ _ j h3.1
  have h1 := of_andi _ _ j h2.1
  exact {
    q := fun _ _ _ => reals x0 _ _ _ _ _ j h1.1 _
    k := fun _ _ _ => reals x1 _ _ _ _ _ j h1.2 _
    v := fun _ _ _ => reals x2 _ _ _ _ _ j h2.2 _
    g := fun _ _ _ => rfl
    kc := fun _ _ _ => reals x4 _ _ _ _ _ j h3.2 _
    vc := fun _ _ _ => reals x5 _ _ _ _ _ j h4.2 _
    df := fun _ => reals x6 _ _ _ _ _ j h5.2 _
    db := fun _ => reals x7 _ _ _ _ _ j h6.2 _
    gn := fun _ => rfl }

end Cert.Pre_finite4
end
-- ==== Proof.Mod.lean ====
/- The conditioning's product with the modulation weights: what its launch leaves, and the two results cut from it. -/
module

public import proofs.«01_k».proof.Proof.Gen.Kernel5Ideal.Frame
public import proofs.«01_k».proof.Proof.Gen.Reference5Ideal.Read
public import Idealize.ShloMosaic.Lib.Pipeline.ValueKit
public import Idealize.ShloMosaic.Lib.Pointwise
public import Idealize.ShloMosaic.Lib.WritesUnit

@[expose] public section

set_option maxRecDepth 16384

noncomputable section

namespace Cert.Mod

open Cert.Kernel5Ideal Cert.Kernel5Ideal.Gen Idealize.ShloMosaic Idealize.ShloMosaic.TcCoe Idealize.SL.Sem
open Idealize.ShloMosaic.Pipeline (Dat)

/-- The gated conditioning entry. -/
def silu (a : EReal) : EReal := a * Ideal.div 1 (1 + Ideal.exp (-a))

variable (m : (ℓ : Loc nD τ sig) → Buf (Elt Ideal) ℓ) (ρ : Dev nD → PrngReg) (c : Dev nD)

/-- The sixteen samples' conditioning, the context's, the weights and the offset as launched. -/
abbrev x0 : Vec Ideal S16x1024 .f32 := m ((c : Thread nD τ).loc main_arg0)
abbrev x1 : Vec Ideal S1024 .f32 := m ((c : Thread nD τ).loc main_arg1)
abbrev x2 : Vec Ideal S1x1024x768 .f32 := m ((c : Thread nD τ).loc main_arg2)
abbrev x3 : Vec Ideal S1x3072 .f32 := m ((c : Thread nD τ).loc main_arg3)

/-! ## What the launch finds -/

theorem rows_lo (b : Fin 16) (k : Fin 1024) : V m c main_v2 (ix2 ⟨b.val, by omega⟩ k) = x0 m c (ix2 b k) := by
  show StableHlo.after hostOps0 (fun b => m (c, b)) (Proc.devRef .tc main_v2) _ = _
  simp only [hostOps0]
  after_results
  pointwise
  rw [StableHlo.unary_result_ne]; rotate_left; decide
  rw [StableHlo.nullary_result_ne]; rotate_left; decide
  rw [StableHlo.reshape_result_ne]; rotate_left; decide
theorem rows_ctx (k : Fin 1024) : V m c main_v2 (ix2 16 k) = x1 m c (ix1 k) := by
  show StableHlo.after hostOps0 (fun b => m (c, b)) (Proc.devRef .tc main_v2) _ = _
  simp only [hostOps0]
  after_results
  pointwise
  rw [StableHlo.unary_result_ne]; rotate_left; decide
  rw [StableHlo.nullary_result_ne]; rotate_left; decide
  rw [StableHlo.reshape_result]
  pointwise
theorem weights (k : Fin 1024) (q : Fin 768) : V m c main_v4 (ix2 k q) = x2 m c (ix3 0 k q) := by
  show StableHlo.after hostOps0 (fun b => m (c, b)) (Proc.devRef .tc main_v4) _ = _
  entry_read
  pointwise
theorem offset (q : Fin 768) : V m c main_v5 (ix2 0 q) = x3 m c (ix2 0 ⟨q.val, by omega⟩) := by
  show StableHlo.after hostOps0 (fun b => m (c, b)) (Proc.devRef .tc main_v5) _ = _
  entry_read
  pointwise

/-! ## What it leaves -/

theorem pay_at (x : Vec Ideal S24x1024 .f32) (w : Vec Ideal S1024x768 .bf16) (b : Vec Ideal S1x768 .f32) (p : Fin 24) (q : Fin 768) :
    k0_pay1 x w b (ix2 p q) = ∑ k : Fin 1024, silu (x (ix2 p k)) * w (ix2 k q) + b (ix2 0 q) := by
  pointwise [k0_pay1, silu]
  simp only [zero_sub]

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem bl0 (t : Fin cfg0.N) (p : Fin 24) (k : Fin 1024) : iblk m c 0 t (ix2 p k) = V m c main_v2 (ix2 p k) := by
  rw [iblk]
  blk_ext! [idx t]
theorem bl1 (t : Fin cfg0.N) (k : Fin 1024) (q : Fin 768) : iblk m c 1 t (ix2 k q) = V m c main_v4 (ix2 k q) := by
  rw [iblk]
  blk_ext! [idx t]
theorem bl2 (t : Fin cfg0.N) (q : Fin 768) : iblk m c 2 t (ix2 0 q) = V m c main_v5 (ix2 0 q) := by
  rw [iblk]
  blk_ext! [idx t]

/-- The table of all rows. -/
def table (p : Fin 24) (q : Fin 768) : EReal :=
  ∑ k : Fin 1024, silu (V m c main_v2 (ix2 p k)) * V m c main_v4 (ix2 k q) + V m c main_v5 (ix2 0 q)

theorem out_at (t : Fin cfg0.N) (p : Fin 24) (q : Fin 768) :
    out0_3 (iblk m c 0 t) (iblk m c 1 t) (iblk m c 2 t) (ix2 p q) = table m c p q := by
  unfold out0_3
  rw [View.ld_unit_lit _ _ (by decide), View.ld_unit_lit _ _ (by decide), View.ld_unit_lit _ _ (by decide)]
  refine (congrFun (View.canon_cons_unit_lit _ _ _ (by decide)) _).trans ((pay_at _ _ _ p q).trans ?_)
  unfold table
  rw [bl2]
  refine congrArg (· + _) (Finset.sum_congr rfl fun k _ => ?_)
  rw [bl0, bl1]

theorem arr3 : (dats m 0 c).arrAt 3 cfg0.N = fun i => table m c (i 0) (i 1) := by
  refine (dats m 0 c).arrAt_eq_of_covers 3 _ (by decide +kernel) fun t hf y => ?_
  blk_simp
  rw [after0_3]
  have ey : y = ix2 (y 0) (y 1) := by
    funext a; match a with
    | 0 => rfl
    | 1 => rfl
  have e0 : (win0_3.blk t).view.emb y 0 = y 0 := Fin.ext (by blk_simp [idx t])
  have e1 : (win0_3.blk t).view.emb y 1 = y 1 := Fin.ext (by blk_simp [idx t])
  rw [e0, e1]
  exact (congrArg _ ey).trans (out_at m c t (y 0) (y 1))

/-! ## The results -/

theorem tail7 : Pipeline.afterTail₀ cfgs (dats m) 0 (V0 m) [hostOps1] c main_v7
    = extractStridedSlice S16x768 ![0, 0] ((dats m 0 c).arrAt 3 cfg0.N : Vec Ideal S24x768 .f32) slices_S24x768_S16x768_0_0 := by
  unfold Pipeline.afterTail₀
  simp only [hostOps1, List.flatten_cons, List.flatten_nil, List.append_nil]
  after_results
  exact congrArg (fun u => extractStridedSlice S16x768 ![0, 0] u slices_S24x768_S16x768_0_0)
    (Pipeline.withArrays_arr spec0 launch0.win.arr_inj c (V0 m c) _ 3)

theorem tail9 : Pipeline.afterTail₀ cfgs (dats m) 0 (V0 m) [hostOps1] c main_v9
    = shapeCast S768 (extractStridedSlice S1x768 ![16, 0] ((dats m 0 c).arrAt 3 cfg0.N : Vec Ideal S24x768 .f32) slices_S24x768_S1x768_16_0)
        shapeCasts_S1x768_S768 := by
  unfold Pipeline.afterTail₀
  simp only [hostOps1, List.flatten_cons, List.flatten_nil, List.append_nil]
  after_results
  exact congrArg (fun u => shapeCast S768 (extractStridedSlice S1x768 ![16, 0] u slices_S24x768_S1x768_16_0) shapeCasts_S1x768_S768)
    (Pipeline.withArrays_arr spec0 launch0.win.arr_inj c (V0 m c) _ 3)

/-- The samples' modulation. -/
theorem res7 (b : Fin 16) (q : Fin 768) : (show Vec Ideal S16x768 .f32 from Pipeline.afterTail₀ cfgs (dats m) 0 (V0 m) [hostOps1] c main_v7) (ix2 b q)
    = ∑ k : Fin 1024, silu (x0 m c (ix2 b k)) * x2 m c (ix3 0 k q) + x3 m c (ix2 0 ⟨q.val, by omega⟩) := by
  rw [tail7, arr3]
  have e : table m c ⟨b.val, by omega⟩ q
      = ∑ k : Fin 1024, silu (x0 m c (ix2 b k)) * x2 m c (ix3 0 k q) + x3 m c (ix2 0 ⟨q.val, by omega⟩) := by
    unfold table
    rw [offset]
    refine congrArg (· + _) (Finset.sum_congr rfl fun k _ => ?_)
    rw [rows_lo, weights]
  rw [← e]
  generalize table m c = f
  pointwise

/-- The context's modulation. -/
theorem res9 (q : Fin 768) : (show Vec Ideal S768 .f32 from Pipeline.afterTail₀ cfgs (dats m) 0 (V0 m) [hostOps1] c main_v9) (ix1 q)
    = ∑ k : Fin 1024, silu (x1 m c (ix1 k)) * x2 m c (ix3 0 k q) + x3 m c (ix2 0 ⟨q.val, by omega⟩) := by
  rw [tail9, arr3]
  have e : table m c 16 q
      = ∑ k : Fin 1024, silu (x1 m c (ix1 k)) * x2 m c (ix3 0 k q) + x3 m c (ix2 0 ⟨q.val, by omega⟩) := by
    unfold table
    rw [offset]
    refine congrArg (· + _) (Finset.sum_congr rfl fun k _ => ?_)
    rw [rows_ctx, weights]
  rw [← e]
  generalize table m c = f
  pointwise

/-- The run, with the contents it leaves in the results. -/
theorem run_value : θ_run defs (onTc (τ := τ) (main (F := Ideal))) ⟨m, fun _ => 0, ρ⟩ (fun r => (∀ c : Dev nD,
      r.2.mem ((c.tc : Thread nD τ).loc main_v7) = Pipeline.afterTail₀ cfgs (dats m) 0 (V0 m) [hostOps1] c main_v7
      ∧ r.2.mem ((c.tc : Thread nD τ).loc main_v9) = Pipeline.afterTail₀ cfgs (dats m) 0 (V0 m) [hostOps1] c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c).2 main_v7 (Pipeline.mem_restRefs_of main_v7 (by decide) (by decide)),
      (h.1 c).2 main_v9 (Pipeline.mem_restRefs_of main_v9 (by decide) (by decide)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩, h.2⟩)
    (run_main_quiescent m ρ)

end Cert.Mod

namespace Cert.Mod

open Cert.Reference5Ideal Cert.Reference5Ideal.Gen Cert.Reference5Ideal.Read Idealize.ShloMosaic Idealize.ShloMosaic.TcCoe Idealize.SL.Sem

/-! ## The reference -/

variable (y0 : (⟨S16x1024, .f32⟩ : BufTy).Contents (Elt Ideal)) (y1 : (⟨S1024, .f32⟩ : BufTy).Contents (Elt Ideal))
  (y2 : (⟨S1x1024x768, .f32⟩ : BufTy).Contents (Elt Ideal)) (y3 : (⟨S1x3072, .f32⟩ : BufTy).Contents (Elt Ideal))

theorem ref7 (b : Fin 16) (q : Fin 768) : val_main_v7 (F := Ideal) y0 y2 y3 (ix2 b q)
    = ∑ k : Fin 1024, silu (y0 (ix2 b k)) * y2 (ix3 0 k q) + y3 (ix2 0 ⟨q.val, by omega⟩) := by
  unfold val_main_v7 val_main_v2 val_main_v0 val_main_call0_v5 val_main_call0_v4 val_main_call0_v3 val_main_call0_v2 val_main_call0_v1
    val_main_call0_v0 val_main_call0_cst val_main_call0_cst_0 val_main_v1 val_main_v6 val_main_v5 val_main_v4 val_main_v3
  pointwise [silu]

theorem ref13 (q : Fin 768) : val_main_v13 (F := Ideal) y1 y2 y3 (ix1 q)
    = ∑ k : Fin 1024, silu (y1 (ix1 k)) * y2 (ix3 0 k q) + y3 (ix2 0 ⟨q.val, by omega⟩) := by
  unfold val_main_v13 val_main_v10 val_main_v8 val_main_call1_v5 val_main_call1_v4 val_main_call1_v3 val_main_call1_v2 val_main_call1_v1
    val_main_call1_v0 val_main_call1_cst val_main_call1_cst_0 val_main_v9 val_main_v12 val_main_v11
  pointwise [silu]

end Cert.Mod
end
-- ==== Proof.Adam.lean ====
/- The optimiser's step on the projection weights: what each launch point leaves, and the reference's entries. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.WritesUnit

@[expose] public section

set_option maxRecDepth 16384

noncomputable section

namespace Cert.Adam

open Cert.Kernel6Ideal Cert.Kernel6Ideal.Gen Idealize.ShloMosaic Idealize.ShloMosaic.TcCoe Idealize.SL.Sem
open Idealize.ShloMosaic.Pipeline (Dat)

/-- The new first moment, of a gradient and the moment before it: the weights 0.9 and 0.1, rounded. -/
def moment (g a : EReal) : EReal := Ideal.ofBits .f32 0x3F666666#32 * a + Ideal.ofBits .f32 0x3DCCCCCD#32 * g
/-- The new second moment: the weights 0.999 and 0.001, rounded. -/
def square (g a : EReal) : EReal := Ideal.ofBits .f32 0x3F7FBE77#32 * a + Ideal.ofBits .f32 0x3A83126F#32 * (g * g)
/-- The weight's change: the moments freed of their start at zero, the decay, and the rate. -/
def change (w g a b : EReal) : EReal :=
  Ideal.ofBits .f32 0xBA83126F#32 *
    (Ideal.div (Ideal.div (moment g a) (Ideal.ofBits .f32 0x3F26BD02#32))
        (Ideal.sqrt (Ideal.div (square g b) (Ideal.ofBits .f32 0x3C231ACC#32)) + Ideal.ofBits .f32 0x322BCC77#32)
      + Ideal.ofBits .f32 0x3C23D70A#32 * w)

variable (m : (ℓ : Loc nD τ sig) → Buf (Elt Ideal) ℓ) (c : Dev nD)

/-- The weight, the gradient and the two moments as launched. -/
abbrev w0 : Vec Ideal S1024x1024 .f32 := m ((c : Thread nD τ).loc main_arg0)
abbrev g0 : Vec Ideal S1024x1024 .f32 := m ((c : Thread nD τ).loc main_arg1)
abbrev a0 : Vec Ideal S1024x1024 .f32 := m ((c : Thread nD τ).loc main_arg2)
abbrev b0 : Vec Ideal S1024x1024 .f32 := m ((c : Thread nD τ).loc main_arg3)

/-! ## The tiles -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem ltN (t : Fin cfg0.N) : t.val < 2 := lt_of_lt_of_eq t.isLt N_0

/-- The row of the whole array that a tile's row is. -/
def row (t : Fin cfg0.N) (p : Fin 512) : Fin 1024 := ⟨t.val * 512 + p.val, by have := ltN t; omega⟩

theorem blk0 (t : Fin cfg0.N) (p : Fin 512) (q : Fin 1024) : iblk m c 0 t (ix2 p q) = w0 m c (ix2 (row t p) q) := by
  blk_point [iblk, V, idx t, row]
theorem blk1 (t : Fin cfg0.N) (p : Fin 512) (q : Fin 1024) : iblk m c 1 t (ix2 p q) = a0 m c (ix2 (row t p) q) := by
  blk_point [iblk, V, idx t, row]
theorem blk2 (t : Fin cfg0.N) (p : Fin 512) (q : Fin 1024) : iblk m c 2 t (ix2 p q) = b0 m c (ix2 (row t p) q) := by
  blk_point [iblk, V, idx t, row]
theorem blk3 (t : Fin cfg0.N) (p : Fin 512) (q : Fin 1024) : iblk m c 3 t (ix2 p q) = g0 m c (ix2 (row t p) q) := by
  blk_point [iblk, V, idx t, row]

theorem out4 (t : Fin cfg0.N) (p : Fin 512) (q : Fin 1024) :
    out0_4 (iblk m c 0 t) (iblk m c 1 t) (iblk m c 2 t) (iblk m c 3 t) (ix2 p q) = g0 m c (ix2 (row t p) q) := by
  unfold out0_4
  rw [View.ld_unit_lit _ _ (by decide)]
  exact (congrFun (View.canon_cons_unit_lit _ _ _ (by decide)) _).trans (blk3 m c t p q)

theorem out5 (t : Fin cfg0.N) (p : Fin 512) (q : Fin 1024) :
    out0_5 (iblk m c 0 t) (iblk m c 1 t) (iblk m c 2 t) (iblk m c 3 t) (ix2 p q)
      = change (w0 m c (ix2 (row t p) q)) (g0 m c (ix2 (row t p) q)) (a0 m c (ix2 (row t p) q)) (b0 m c (ix2 (row t p) q)) := by
  unfold out0_5
  rw [View.ld_unit_lit _ _ (by decide), View.ld_unit_lit _ _ (by decide), View.ld_unit_lit _ _ (by decide),
    View.ld_unit_lit _ _ (by decide)]
  refine (congrFun (View.canon_cons_unit_lit _ _ _ (by decide)) _).trans ?_
  rw [← blk0, ← blk1, ← blk2, ← blk3]
  rfl

theorem out6 (t : Fin cfg0.N) (p : Fin 512) (q : Fin 1024) :
    out0_6 (iblk m c 0 t) (iblk m c 1 t) (iblk m c 2 t) (iblk m c 3 t) (ix2 p q)
      = moment (g0 m c (ix2 (row t p) q)) (a0 m c (ix2 (row t p) q)) := by
  unfold out0_6
  rw [View.ld_unit_lit _ _ (by decide), View.ld_unit_lit _ _ (by decide)]
  refine (congrFun (View.canon_cons_unit_lit _ _ _ (by decide)) _).trans ?_
  rw [← blk1, ← blk3]
  rfl

theorem out7 (t : Fin cfg0.N) (p : Fin 512) (q : Fin 1024) :
    out0_7 (iblk m c 0 t) (iblk m c 1 t) (iblk m c 2 t) (iblk m c 3 t) (ix2 p q)
      = square (g0 m c (ix2 (row t p) q)) (b0 m c (ix2 (row t p) q)) := by
  unfold out0_7
  rw [View.ld_unit_lit _ _ (by decide), View.ld_unit_lit _ _ (by decide)]
  refine (congrFun (View.canon_cons_unit_lit _ _ _ (by decide)) _).trans ?_
  rw [← blk2, ← blk3]
  rfl

/-! ## The whole arrays -/

theorem y_eq (y : S512x1024.Idx) : y = ix2 (y 0) (y 1) := by
  funext a; match a with
  | 0 => rfl
  | 1 => rfl

theorem arr4 : (dats m 0 c).arrAt 4 cfg0.N = g0 m c := by
  refine (dats m 0 c).arrAt_eq_of_covers 4 _ (by decide +kernel) fun t hf y => ?_
  blk_simp
  rw [after0_4]
  have e : (win0_4.blk t).view.emb y = ix2 (row t (y 0)) (y 1) := by blk_ext! [idx t, row]
  rw [e]
  exact (congrArg _ (y_eq y)).trans (out4 m c t (y 0) (y 1))

theorem arr5 : (dats m 0 c).arrAt 5 cfg0.N = fun i => change (w0 m c i) (g0 m c i) (a0 m c i) (b0 m c i) := by
  refine (dats m 0 c).arrAt_eq_of_covers 5 _ (by decide +kernel) fun t hf y => ?_
  blk_simp
  rw [after0_5]
  have e : (win0_5.blk t).view.emb y = ix2 (row t (y 0)) (y 1) := by blk_ext! [idx t, row]
  rw [e]
  exact (congrArg _ (y_eq y)).trans (out5 m c t (y 0) (y 1))

theorem arr6 : (dats m 0 c).arrAt 6 cfg0.N = fun i => moment (g0 m c i) (a0 m c i) := by
  refine (dats m 0 c).arrAt_eq_of_covers 6 _ (by decide +kernel) fun t hf y => ?_
  blk_simp
  rw [after0_6]
  have e : (win0_6.blk t).view.emb y = ix2 (row t (y 0)) (y 1) := by blk_ext! [idx t, row]
  rw [e]
  exact (congrArg _ (y_eq y)).trans (out6 m c t (y 0) (y 1))

theorem arr7 : (dats m 0 c).arrAt 7 cfg0.N = fun i => square (g0 m c i) (b0 m c i) := by
  refine (dats m 0 c).arrAt_eq_of_covers 7 _ (by decide +kernel) fun t hf y => ?_
  blk_simp
  rw [after0_7]
  have e : (win0_7.blk t).view.emb y = ix2 (row t (y 0)) (y 1) := by blk_ext! [idx t, row]
  rw [e]
  exact (congrArg _ (y_eq y)).trans (out7 m c t (y 0) (y 1))

end Cert.Adam

namespace Cert.Adam

open Cert.Reference6Ideal Cert.Reference6Ideal.Gen Cert.Reference6Ideal.Read Idealize.ShloMosaic Idealize.ShloMosaic.TcCoe Idealize.SL.Sem

/-! ## The reference -/

variable (y0 y1 y2 y3 : (⟨S1024x1024, .f32⟩ : BufTy).Contents (Elt Ideal))

theorem ref4 : val_main_v4 (F := Ideal) y1 y2 = fun i => moment (y1 i) (y2 i) := rfl
theorem ref10 : val_main_v10 (F := Ideal) y1 y3 = fun i => square (y1 i) (y3 i) := rfl
theorem ref23 : val_main_v23 (F := Ideal) y0 y1 y2 y3 = fun i => change (y0 i) (y1 i) (y2 i) (y3 i) := rfl

end Cert.Adam
end
-- ==== Proof.DwStore.lean ====
/- Sums kept in sections of a buffer: a store of what a section held, plus a term, adds the term in that section. -/
module

public import proofs.«01_k».proof.Proof.Gen.Kernel7Ideal.Value
public import Idealize.ShloMosaic.Lib.Pipeline.ValueKit
public import Idealize.ShloMosaic.Lib.Pointwise
public import Idealize.ShloMosaic.Lib.WritesUnit

@[expose] public section

set_option maxRecDepth 16384

noncomputable section

namespace Cert.Dw

open Cert.Kernel7Ideal Cert.Kernel7Ideal.Gen Idealize.ShloMosaic Idealize.ShloMosaic.TcCoe Idealize.SL.Sem
open Idealize.ShloMosaic.Pipeline (Dat)

/-- Sums of all sections: shard, row, column. -/
abbrev Sums := Fin 4 → Fin 1024 → Fin 1024 → EReal

/-- The sums `g` with the terms `d` added. -/
def plus (g d : Sums) : Sums := fun s k e => g s k e + d s k e
/-- The sums `b` in the first `n` sections (a shard's half of the columns each), and `g` in the others. -/
def part (g b : Sums) (n : ℕ) : Sums := fun s k e => if 2 * s.val + e.val / 512 < n then b s k e else g s k e

theorem part_zero (g b : Sums) : part g b 0 = g := by
  funext s k e
  exact if_neg (by omega)
theorem part_all (g b : Sums) (s : Fin 4) (k e : Fin 1024) : part g b 8 s k e = b s k e := if_pos (by omega)

/-- The column `e` of half `h`. -/
def col (h : Fin 2) (e : Fin 512) : Fin 1024 := ⟨512 * h.val + e.val, by omega⟩

variable {sg' : RefSig} {κ : Kind} {sp : Space} (v : View sg' κ sp S4x1024x1024 .f32) (f : v.ty.Contents (Elt Ideal))

/-- The buffer that the stores `L` leave holds the sums `g`. -/
def Has (L : List (View.Piece (Elt Ideal) S4x1024x1024 .f32)) (g : Sums) : Prop :=
  ∀ s k e, v.read (Elt Ideal) (v.writes (Elt Ideal) f L) (ix3 s k e) = g s k e

/-- A load of one section. -/
theorem ld_sec (P : Vec Ideal S4x1024x1024 .f32) {off : Fin 3 → ℕ} (inb : ∀ a, off a + ![1, 1024, 512] a ≤ S4x1024x1024.size a)
    (s0 : Fin 4) (h0 : Fin 2) (hoff : off = ![s0.val, 0, 512 * h0.val]) (k : Fin 1024) (e : Fin 512) :
    View.ld P (Rect.unit off ![1, 1024, 512] inb) (ix3 0 k e) = P (ix3 s0 k (col h0 e)) := by
  subst hoff
  refine View.ld_unit_apply_of _ _ _ _ _ _ fun a => ?_
  match a with
  | 0 => rfl
  | 1 => exact (Nat.zero_add _).symm
  | 2 => rfl

variable {v f}

theorem part_col (g b : Sums) (s : Fin 4) (h : Fin 2) (k : Fin 1024) (e : Fin 512) : part g b (2 * s.val + h.val) s k (col h e) = g s k (col h e) :=
  if_neg (by show ¬2 * s.val + (512 * h.val + e.val) / 512 < 2 * s.val + h.val; omega)

/-- A store of one section whose values are the new sums. -/
theorem Has.put {L : List (View.Piece (Elt Ideal) S4x1024x1024 .f32)} {g b : Sums} (s0 : Fin 4) (h0 : Fin 2)
    (H : Has v f L (part g b (2 * s0.val + h0.val))) {off : Fin 3 → ℕ}
    (inb : ∀ a, off a + ![1, 1024, 512] a ≤ S4x1024x1024.size a) (hoff : off = ![s0.val, 0, 512 * h0.val])
    (w : Vec Ideal S1x1024x512 .f32) (hw : ∀ k e, w (ix3 0 k e) = b s0 k (col h0 e)) :
    Has v f (⟨Rect.unit off ![1, 1024, 512] inb, w⟩ :: L) (part g b (2 * s0.val + h0.val + 1)) := by
  intro s k e
  by_cases hs : s = s0
  · by_cases hh : e.val / 512 = h0.val
    · refine (View.read_writes_cons_unit_of_mem v f inb w L (ix3 s k e) (ix3 0 k ⟨e.val % 512, by omega⟩) hoff fun a => ?_).trans ?_
      · match a with
        | 0 => exact congrArg Fin.val hs
        | 1 => exact (Nat.zero_add _).symm
        | 2 => show e.val = 512 * h0.val + e.val % 512; omega
      · have he : col h0 ⟨e.val % 512, by omega⟩ = e := Fin.ext (by show 512 * h0.val + e.val % 512 = e.val; omega)
        rw [hw, he, hs]
        exact (if_pos (by rw [hh]; omega)).symm
    · refine (View.read_writes_cons_unit_of_not_mem v f inb w L (ix3 s k e) hoff 2 ?_).trans ((H s k e).trans ?_)
      · show e.val < 512 * h0.val ∨ 512 * h0.val + 512 ≤ e.val
        omega
      · unfold part
        exact if_congr (by rw [hs]; omega) rfl rfl
  · have hne := fun h : s.val = s0.val => hs (Fin.ext h)
    refine (View.read_writes_cons_unit_of_not_mem v f inb w L (ix3 s k e) hoff 0 ?_).trans ((H s k e).trans ?_)
    · show s.val < s0.val ∨ s0.val + 1 ≤ s.val
      omega
    · unfold part
      exact if_congr (by omega) rfl rfl

/-- A section that is left alone, where the term is zero. -/
theorem Has.skip {L : List (View.Piece (Elt Ideal) S4x1024x1024 .f32)} {g d : Sums} (s0 : Fin 4) (h0 : Fin 2)
    (H : Has v f L (part g (plus g d) (2 * s0.val + h0.val))) (hd : ∀ k e, e.val / 512 = h0.val → d s0 k e = 0) :
    Has v f L (part g (plus g d) (2 * s0.val + h0.val + 1)) := by
  intro s k e
  refine (H s k e).trans ?_
  unfold part
  by_cases h : s = s0 ∧ e.val / 512 = h0.val
  · rw [h.1, h.2, if_neg (by omega), if_pos (by omega), plus, hd k e h.2, add_zero]
  · refine if_congr ?_ rfl rfl
    have hne : ¬(s.val = s0.val ∧ e.val / 512 = h0.val) := fun q => h ⟨Fin.ext q.1, q.2⟩
    omega

/-- The same as `Has.put` where the stored values come from a load of what the stores before it left. -/
theorem Has.cov {v : View sg' κ sp S4x1024x1024 .f32} {L : List (View.Piece (Elt Ideal) S4x1024x1024 .f32)} {g d : Sums} (s0 : Fin 4) (h0 : Fin 2)
    (H : Has v v.junk L (part g (plus g d) (2 * s0.val + h0.val))) {off : Fin 3 → ℕ}
    (inb : ∀ a, off a + ![1, 1024, 512] a ≤ S4x1024x1024.size a) (hoff : off = ![s0.val, 0, 512 * h0.val])
    (pay : Vec Ideal S1x1024x512 .f32 → Vec Ideal S1x1024x512 .f32)
    (hp : ∀ old k e, pay old (ix3 0 k e) = old (ix3 0 k e) + d s0 k (col h0 e)) :
    Has v v.junk (⟨Rect.unit off ![1, 1024, 512] inb,
      pay (v.readCov L (Rect.toLoadRect (s := S4x1024x1024) (Rect.unit (s := S4x1024x1024) off ![1, 1024, 512] inb)))⟩ :: L)
      (part g (plus g d) (2 * s0.val + h0.val + 1)) :=
  H.put s0 h0 inb hoff _ fun k e => (hp _ k e).trans
    (congrArg (· + _) ((ld_sec _ inb s0 h0 hoff k e).trans ((H _ _ _).trans (part_col g _ s0 h0 k e))))

/-- The same where the stored values come from a load of what the buffer held before any store. -/
theorem Has.old {L : List (View.Piece (Elt Ideal) S4x1024x1024 .f32)} {a g d : Sums} (s0 : Fin 4) (h0 : Fin 2)
    (H : Has v f L (part a (plus g d) (2 * s0.val + h0.val))) (P : Vec Ideal S4x1024x1024 .f32) (hP : ∀ s k e, P (ix3 s k e) = g s k e)
    {off : Fin 3 → ℕ} (inb : ∀ a, off a + ![1, 1024, 512] a ≤ S4x1024x1024.size a) (hoff : off = ![s0.val, 0, 512 * h0.val])
    (pay : Vec Ideal S1x1024x512 .f32 → Vec Ideal S1x1024x512 .f32)
    (hp : ∀ old k e, pay old (ix3 0 k e) = old (ix3 0 k e) + d s0 k (col h0 e)) :
    Has v f (⟨Rect.unit off ![1, 1024, 512] inb, pay (View.ld P (Rect.unit off ![1, 1024, 512] inb))⟩ :: L)
      (part a (plus g d) (2 * s0.val + h0.val + 1)) :=
  H.put s0 h0 inb hoff _ fun k e => (hp _ k e).trans (congrArg (· + _) ((ld_sec P inb s0 h0 hoff k e).trans (hP _ _ _)))

end Cert.Dw
end
-- ==== Proof.DwBlk.lean ====
/- What a grid point loads, from the arguments of the program, and what its products are at an index. -/
module

public import proofs.«01_k».proof.Proof.DwStore

@[expose] public section

set_option maxRecDepth 16384

noncomputable section

namespace Cert.Dw

open Cert.Kernel7Ideal Cert.Kernel7Ideal.Gen Idealize.ShloMosaic Idealize.ShloMosaic.TcCoe Idealize.SL.Sem
open Idealize.ShloMosaic.Pipeline (Dat)

theorem ltN (t : Fin cfg0.N) : t.val < 10 := lt_of_lt_of_eq t.isLt N_0

/-- The tile of latent tokens that is loaded at point `t` (the context's points keep the last one). -/
abbrev jOf (t : Fin cfg0.N) : ℕ := min (t.val % 5) 3

theorem idx : ∀ t : Fin cfg0.N, win0_0.index t = ![t.val / 5, jOf t, 0] ∧ win0_1.index t = ![t.val / 5, jOf t, 0]
    ∧ win0_2.index t = ![t.val / 5, jOf t, 0] ∧ win0_3.index t = ![t.val / 5, jOf t, 0]
    ∧ win0_4.index t = ![t.val / 5, jOf t, 0] ∧ win0_5.index t = ![t.val / 5, jOf t, 0]
    ∧ win0_6.index t = ![t.val / 5, jOf t, 0] ∧ win0_7.index t = ![t.val / 5, jOf t, 0]
    ∧ win0_8.index t = ![t.val / 5, 8, 0] ∧ win0_9.index t = ![t.val / 5, 8, 0]
    ∧ win0_10.index t = ![t.val / 5, 8, 0] ∧ win0_11.index t = ![t.val / 5, 8, 0]
    ∧ win0_12.index t = ![t.val / 5, jOf t, 0] ∧ win0_13.index t = ![t.val / 5, 8, 0] :=
  (by decide +kernel : ∀ t : Fin grid0.N, _)

/-- The sample of a grid point, the token of a row of its latent tile, and of a row of the context. -/
def bOf (t : Fin cfg0.N) : Fin 2 := ⟨t.val / 5, by have := ltN t; omega⟩
def lOf (t : Fin cfg0.N) (p : Fin 512) : Fin 2304 := ⟨jOf t * 512 + p.val, by unfold jOf; omega⟩
def cOf (p : Fin 256) : Fin 2304 := ⟨2048 + p.val, by omega⟩

variable (m : (ℓ : Loc nD τ sig) → Buf (Elt Ideal) ℓ) (c : Dev nD)

/-- The two arguments: the projections' gradient and the projections' input. -/
abbrev dp : Vec Ideal S2x2304x4x1024 .f32 := m ((c : Thread nD τ).loc main_arg0)
abbrev hh : Vec Ideal S2x2304x1024 .f32 := m ((c : Thread nD τ).loc main_arg1)

/-- The host's sections with the latent tokens only, one of each shard. -/
def secS : Fin 4 → Vec Ideal S2x2048x512 .f32
  | 0 => V m c main_v1 | 1 => V m c main_v7 | 2 => V m c main_v9 | 3 => V m c main_v15
/-- The host's sections with all tokens, one of each shard. -/
def secF : Fin 4 → Vec Ideal S2x2304x512 .f32
  | 0 => V m c main_v3 | 1 => V m c main_v5 | 2 => V m c main_v11 | 3 => V m c main_v13
/-- The half of the columns that a shard's latent-only section holds, and the other one. -/
def halfS : Fin 4 → Fin 2
  | 0 => 0 | 1 => 1 | 2 => 0 | 3 => 1
def halfF : Fin 4 → Fin 2
  | 0 => 1 | 1 => 0 | 2 => 1 | 3 => 0

theorem secS_apply (s : Fin 4) (b : Fin 2) (l : Fin 2048) (e : Fin 512) :
    secS m c s (ix3 b l e) = dp m c (ix4 b ⟨l.val, by omega⟩ s (col (halfS s) e)) := by
  match s with
  | 0 | 1 | 2 | 3 => dsimp only [secS, halfS]; entry_read; pointwise [col]
theorem secF_apply (s : Fin 4) (b : Fin 2) (l : Fin 2304) (e : Fin 512) :
    secF m c s (ix3 b l e) = dp m c (ix4 b l s (col (halfF s) e)) := by
  match s with
  | 0 | 1 | 2 | 3 => dsimp only [secF, halfF]; entry_read; pointwise [col]
theorem input_apply (b : Fin 2) (l : Fin 2304) (k : Fin 1024) : V m c main_v16 (ix3 b l k) = hh m c (ix3 b l k) := by
  entry_read
  pointwise

theorem lOf_lt (t : Fin cfg0.N) (p : Fin 512) : (lOf t p).val < 2048 := by
  show jOf t * 512 + p.val < 2048
  unfold jOf
  omega

/-- The tiles of latent tokens that a point loads, by shard: of the latent-only sections, and of the others. -/
def latS (t : Fin cfg0.N) : Fin 4 → Vec Ideal S1x512x512 .f32
  | 0 => iblk m c 0 t | 1 => iblk m c 3 t | 2 => iblk m c 4 t | 3 => iblk m c 7 t
def latF (t : Fin cfg0.N) : Fin 4 → Vec Ideal S1x512x512 .f32
  | 0 => X0_1 m c t | 1 => X0_2 m c t | 2 => X0_5 m c t | 3 => X0_6 m c t
/-- The tile of context tokens, of the sections that have one. -/
def ctxF (t : Fin cfg0.N) : Fin 4 → Vec Ideal S1x256x512 .f32
  | 0 => iblk m c 8 t | 1 => iblk m c 9 t | 2 => iblk m c 10 t | 3 => iblk m c 11 t

theorem latS_apply (t : Fin cfg0.N) (s : Fin 4) (p e : Fin 512) :
    latS m c t s (ix3 0 p e) = dp m c (ix4 (bOf t) (lOf t p) s (col (halfS s) e)) := by
  refine Eq.trans ?_ (secS_apply m c s (bOf t) ⟨(lOf t p).val, lOf_lt t p⟩ e)
  match s with
  | 0 | 1 | 2 | 3 => dsimp only [latS, secS]; rw [iblk]; blk_ext! [idx t, bOf, lOf]
theorem latF_apply (t : Fin cfg0.N) (s : Fin 4) (p e : Fin 512) :
    latF m c t s (ix3 0 p e) = dp m c (ix4 (bOf t) (lOf t p) s (col (halfF s) e)) := by
  refine Eq.trans ?_ (secF_apply m c s (bOf t) (lOf t p) e)
  match s with
  | 0 | 1 | 2 | 3 =>
    dsimp only [latF, secF, X0_1, X0_2, X0_5, X0_6, Pipeline.Window.fill]
    first
      | rw [dif_pos (moved0_1 t _), iblk]; blk_ext! [idx t, bOf, lOf]
      | rw [dif_pos (moved0_2 t _), iblk]; blk_ext! [idx t, bOf, lOf]
      | rw [dif_pos (moved0_5 t _), iblk]; blk_ext! [idx t, bOf, lOf]
      | rw [dif_pos (moved0_6 t _), iblk]; blk_ext! [idx t, bOf, lOf]
theorem ctxF_apply (t : Fin cfg0.N) (s : Fin 4) (p : Fin 256) (e : Fin 512) :
    ctxF m c t s (ix3 0 p e) = dp m c (ix4 (bOf t) (cOf p) s (col (halfF s) e)) := by
  refine Eq.trans ?_ (secF_apply m c s (bOf t) (cOf p) e)
  match s with
  | 0 | 1 | 2 | 3 => dsimp only [ctxF, secF]; rw [iblk]; blk_ext! [idx t, bOf, cOf]

theorem latH (t : Fin cfg0.N) (p : Fin 512) (k : Fin 1024) : X0_12 m c t (ix3 0 p k) = hh m c (ix3 (bOf t) (lOf t p) k) := by
  refine Eq.trans ?_ (input_apply m c (bOf t) (lOf t p) k)
  unfold X0_12 Pipeline.Window.fill
  rw [dif_pos (moved0_12 t _), iblk]
  blk_ext! [idx t, bOf, lOf]
theorem ctxH (t : Fin cfg0.N) (p : Fin 256) (k : Fin 1024) : iblk m c 13 t (ix3 0 p k) = hh m c (ix3 (bOf t) (cOf p) k) := by
  refine Eq.trans ?_ (input_apply m c (bOf t) (cOf p) k)
  rw [iblk]
  blk_ext! [idx t, bOf, cOf]

/-! The products: what a section held, plus the product of the tile's input with the tile's gradient. -/

theorem prodL (x : Vec Ideal S1x512x1024 .bf16) (y : Vec Ideal S1x512x512 .f32) (old : Vec Ideal S1x1024x512 .f32) (k : Fin 1024) (e : Fin 512) :
    k0_pay10 (F := Ideal) x old y (ix3 0 k e) = old (ix3 0 k e) + ∑ p : Fin 512, x (ix3 0 p k) * y (ix3 0 p e) := by
  pointwise [k0_pay10, k0_pay8]
theorem prodC (x : Vec Ideal S1x256x1024 .bf16) (y : Vec Ideal S1x256x512 .f32) (old : Vec Ideal S1x1024x512 .f32) (k : Fin 1024) (e : Fin 512) :
    k0_pay19 (F := Ideal) x old y (ix3 0 k e) = old (ix3 0 k e) + ∑ p : Fin 256, x (ix3 0 p k) * y (ix3 0 p e) := by
  pointwise [k0_pay19, k0_pay18]
theorem zero1 (s : Fin 4) (k e : Fin 1024) : k0_pay1 (F := Ideal) (ix3 s k e) = 0 := by
  pointwise [k0_pay1]
theorem round7 (x : Vec Ideal S4x1024x1024 .f32) (s : Fin 4) (k e : Fin 1024) : k0_pay7 (F := Ideal) x (ix3 s k e) = x (ix3 s k e) := by
  pointwise [k0_pay7]

/-! The terms of a point. -/

/-- The other arrangement of a column: a half and a place in it. -/
theorem col_div (h : Fin 2) (e : Fin 512) : (col h e).val / 512 = h.val := by show (512 * h.val + e.val) / 512 = h.val; omega

/-- What a point of latent tokens adds to the sums. -/
def dLat (t : Fin cfg0.N) : Sums := fun s k e => ∑ p : Fin 512, hh m c (ix3 (bOf t) (lOf t p) k) * dp m c (ix4 (bOf t) (lOf t p) s e)
/-- What a point of context tokens adds: nothing to the latent-only sections. -/
def dCtx (t : Fin cfg0.N) : Sums := fun s k e =>
  if e.val / 512 = (halfF s).val then ∑ p : Fin 256, hh m c (ix3 (bOf t) (cOf p) k) * dp m c (ix4 (bOf t) (cOf p) s e) else 0

theorem addS (t : Fin cfg0.N) (s : Fin 4) (old : Vec Ideal S1x1024x512 .f32) (k : Fin 1024) (e : Fin 512) :
    k0_pay10 (F := Ideal) (X0_12 m c t) old (latS m c t s) (ix3 0 k e) = old (ix3 0 k e) + dLat m c t s k (col (halfS s) e) := by
  rw [prodL]
  exact congrArg (_ + ·) (Finset.sum_congr rfl fun p _ => congrArg₂ (· * ·) (latH m c t p k) (latS_apply m c t s p e))
theorem addF (t : Fin cfg0.N) (s : Fin 4) (old : Vec Ideal S1x1024x512 .f32) (k : Fin 1024) (e : Fin 512) :
    k0_pay10 (F := Ideal) (X0_12 m c t) old (latF m c t s) (ix3 0 k e) = old (ix3 0 k e) + dLat m c t s k (col (halfF s) e) := by
  rw [prodL]
  exact congrArg (_ + ·) (Finset.sum_congr rfl fun p _ => congrArg₂ (· * ·) (latH m c t p k) (latF_apply m c t s p e))
theorem addC (t : Fin cfg0.N) (s : Fin 4) (old : Vec Ideal S1x1024x512 .f32) (k : Fin 1024) (e : Fin 512) :
    k0_pay19 (F := Ideal) (iblk m c 13 t) old (ctxF m c t s) (ix3 0 k e) = old (ix3 0 k e) + dCtx m c t s k (col (halfF s) e) := by
  rw [prodC, dCtx, if_pos (col_div _ _)]
  exact congrArg (_ + ·) (Finset.sum_congr rfl fun p _ => congrArg₂ (· * ·) (ctxH m c t p k) (ctxF_apply m c t s p e))

end Cert.Dw
end
-- ==== Proof.DwAcc.lean ====
/- The sums that the kernel's buffer holds after each grid point, and the weight gradient that the last one leaves. -/
module

public import proofs.«01_k».proof.Proof.DwBlk

@[expose] public section

set_option maxRecDepth 16384

noncomputable section

namespace Cert.Dw

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The buffer after a point. -/
def buf (n : ℕ) (hn : n < cfg0.N) : Sums := fun s k e => (outsAt0 m c n hn).2 (ix3 s k e)

/-- What a point finds in the buffer. -/
theorem found (n : ℕ) (hn : n < cfg0.N) (s : Fin 4) (k e : Fin 1024) :
    View.read (Elt Ideal) (View.whole cc0_scratch0) ((Memref.isWhole_whole cc0_scratch0).unread (outsAt0 m c n hn).2) (ix3 s k e) = buf m c n hn s k e :=
  congrFun (Memref.IsWhole.read_unread _ _) _

/-- The first point: the buffer is set to zero, and each section loaded, added to and stored. -/
theorem caseA (t : Fin cfg0.N) (h0 : t.val % 10 = 0) (h1 : t.val % 5 ≤ 3) (h2 : ¬t.val % 5 = 4) (h3 : ¬t.val % 10 = 9) :
    buf m c t.val t.isLt = plus (fun _ _ _ => 0) (dLat m c t) := by
  funext s k e
  unfold buf
  rw [outsAt0_A m c t h0 h1 h2 h3]
  frame_out
  rw [← View.read_writes_junk_apply_eq_canon (View.whole cc0_scratch0)]
  have b0 : Has (View.whole cc0_scratch0) (View.whole cc0_scratch0).junk
      [⟨Rect.unit ![0, 0, 0] ![4, 1024, 1024] inb_S4x1024x1024_S4x1024x1024_0_0_0, k0_pay1 (F := Ideal)⟩]
      (part (fun _ _ _ => 0) (plus (fun _ _ _ => 0) (dLat m c t)) 0) := by
    rw [part_zero]
    intro s k e
    refine (View.read_writes_cons_unit_of_mem _ _ _ _ [] (ix3 s k e) (ix3 s k e) rfl fun a => ?_).trans (zero1 s k e)
    match a with
    | 0 | 1 | 2 => exact (Nat.zero_add _).symm
  have b1 := b0.cov 0 0 inb_S4x1024x1024_S1x1024x512_0_0_0 rfl _ (addS m c t 0)
  have b2 := b1.cov 0 1 inb_S4x1024x1024_S1x1024x512_0_0_512 rfl _ (addF m c t 0)
  have b3 := b2.cov 1 0 inb_S4x1024x1024_S1x1024x512_1_0_0 rfl _ (addF m c t 1)
  have b4 := b3.cov 1 1 inb_S4x1024x1024_S1x1024x512_1_0_512 rfl _ (addS m c t 1)
  have b5 := b4.cov 2 0 inb_S4x1024x1024_S1x1024x512_2_0_0 rfl _ (addS m c t 2)
  have b6 := b5.cov 2 1 inb_S4x1024x1024_S1x1024x512_2_0_512 rfl _ (addF m c t 2)
  have b7 := b6.cov 3 0 inb_S4x1024x1024_S1x1024x512_3_0_0 rfl _ (addF m c t 3)
  have b8 := b7.cov 3 1 inb_S4x1024x1024_S1x1024x512_3_0_512 rfl _ (addS m c t 3)
  exact (b8 s k e).trans (part_all _ _ s k e)

/-- A later point of latent tokens: each section is loaded, added to and stored. -/
theorem caseB (t : Fin cfg0.N) (h0 : ¬t.val % 10 = 0) (h1 : t.val % 5 ≤ 3) (h2 : ¬t.val % 5 = 4) (h3 : ¬t.val % 10 = 9) :
    buf m c t.val t.isLt = plus (buf m c (t.val - 1) (by omega)) (dLat m c t) := by
  funext s k e
  unfold buf
  rw [outsAt0_B m c t h0 h1 h2 h3]
  frame_out
  rw [← View.read_writes_junk_apply_eq_canon (View.whole cc0_scratch0)]
  have hP := found m c (t.val - 1) (by omega)
  have b0 : Has (View.whole cc0_scratch0) (View.whole cc0_scratch0).junk []
      (part (fun s k e => View.read (Elt Ideal) (View.whole cc0_scratch0) (View.whole cc0_scratch0).junk (ix3 s k e))
        (plus (buf m c (t.val - 1) (by omega)) (dLat m c t)) 0) := by
    rw [part_zero]
    exact fun s k e => rfl
  have b1 := b0.old 0 0 _ hP inb_S4x1024x1024_S1x1024x512_0_0_0 rfl _ (addS m c t 0)
  have b2 := b1.old 0 1 _ hP inb_S4x1024x1024_S1x1024x512_0_0_512 rfl _ (addF m c t 0)
  have b3 := b2.old 1 0 _ hP inb_S4x1024x1024_S1x1024x512_1_0_0 rfl _ (addF m c t 1)
  have b4 := b3.old 1 1 _ hP inb_S4x1024x1024_S1x1024x512_1_0_512 rfl _ (addS m c t 1)
  have b5 := b4.old 2 0 _ hP inb_S4x1024x1024_S1x1024x512_2_0_0 rfl _ (addS m c t 2)
  have b6 := b5.old 2 1 _ hP inb_S4x1024x1024_S1x1024x512_2_0_512 rfl _ (addF m c t 2)
  have b7 := b6.old 3 0 _ hP inb_S4x1024x1024_S1x1024x512_3_0_0 rfl _ (addF m c t 3)
  have b8 := b7.old 3 1 _ hP inb_S4x1024x1024_S1x1024x512_3_0_512 rfl _ (addS m c t 3)
  exact (b8 s k e).trans (part_all _ _ s k e)

/-- The stores of a point of context tokens: the latent-only sections are left alone. -/
theorem ctxStores (t : Fin cfg0.N) (n : ℕ) (hn : n < cfg0.N) (s : Fin 4) (k e : Fin 1024) :
    View.read (Elt Ideal) (View.whole cc0_scratch0) ((View.whole cc0_scratch0).writes (Elt Ideal)
      ((Memref.isWhole_whole cc0_scratch0).unread (outsAt0 m c n hn).2)
      [⟨Rect.unit ![3, 0, 0] ![1, 1024, 512] inb_S4x1024x1024_S1x1024x512_3_0_0, k0_pay19 (iblk m c 13 t)
          (View.ld (View.read (Elt Ideal) (View.whole cc0_scratch0) ((Memref.isWhole_whole cc0_scratch0).unread (outsAt0 m c n hn).2))
            (Rect.unit ![3, 0, 0] ![1, 1024, 512] inb_S4x1024x1024_S1x1024x512_3_0_0)) (iblk m c 11 t)⟩,
        ⟨Rect.unit ![2, 0, 512] ![1, 1024, 512] inb_S4x1024x1024_S1x1024x512_2_0_512, k0_pay19 (iblk m c 13 t)
          (View.ld (View.read (Elt Ideal) (View.whole cc0_scratch0) ((Memref.isWhole_whole cc0_scratch0).unread (outsAt0 m c n hn).2))
            (Rect.unit ![2, 0, 512] ![1, 1024, 512] inb_S4x1024x1024_S1x1024x512_2_0_512)) (iblk m c 10 t)⟩,
        ⟨Rect.unit ![1, 0, 0] ![1, 1024, 512] inb_S4x1024x1024_S1x1024x512_1_0_0, k0_pay19 (iblk m c 13 t)
          (View.ld (View.read (Elt Ideal) (View.whole cc0_scratch0) ((Memref.isWhole_whole cc0_scratch0).unread (outsAt0 m c n hn).2))
            (Rect.unit ![1, 0, 0] ![1, 1024, 512] inb_S4x1024x1024_S1x1024x512_1_0_0)) (iblk m c 9 t)⟩,
        ⟨Rect.unit ![0, 0, 512] ![1, 1024, 512] inb_S4x1024x1024_S1x1024x512_0_0_512, k0_pay19 (iblk m c 13 t)
          (View.ld (View.read (Elt Ideal) (View.whole cc0_scratch0) ((Memref.isWhole_whole cc0_scratch0).unread (outsAt0 m c n hn).2))
            (Rect.unit ![0, 0, 512] ![1, 1024, 512] inb_S4x1024x1024_S1x1024x512_0_0_512)) (iblk m c 8 t)⟩]) (ix3 s k e)
      = plus (buf m c n hn) (dCtx m c t) s k e := by
  have hP := found m c n hn
  have b0 : Has (View.whole cc0_scratch0) ((Memref.isWhole_whole cc0_scratch0).unread (outsAt0 m c n hn).2) []
      (part (buf m c n hn) (plus (buf m c n hn) (dCtx m c t)) 0) := by
    rw [part_zero]
    exact hP
  have none : ∀ (s : Fin 4) (h : Fin 2), h ≠ halfF s → ∀ k e, e.val / 512 = h.val → dCtx m c t s k e = 0 :=
    fun s h hs k e he => if_neg fun q => hs (Fin.ext (he.symm.trans q))
  have b1 := b0.skip 0 0 (none 0 0 (by decide))
  have b2 := b1.old 0 1 _ hP inb_S4x1024x1024_S1x1024x512_0_0_512 rfl _ (addC m c t 0)
  have b3 := b2.old 1 0 _ hP inb_S4x1024x1024_S1x1024x512_1_0_0 rfl _ (addC m c t 1)
  have b4 := b3.skip 1 1 (none 1 1 (by decide))
  have b5 := b4.skip 2 0 (none 2 0 (by decide))
  have b6 := b5.old 2 1 _ hP inb_S4x1024x1024_S1x1024x512_2_0_512 rfl _ (addC m c t 2)
  have b7 := b6.old 3 0 _ hP inb_S4x1024x1024_S1x1024x512_3_0_0 rfl _ (addC m c t 3)
  have b8 := b7.skip 3 1 (none 3 1 (by decide))
  exact (b8 s k e).trans (part_all _ _ s k e)

/-- The context's point of the first sample. -/
theorem caseC (t : Fin cfg0.N) (h0 : ¬t.val % 10 = 0) (h1 : ¬t.val % 5 ≤ 3) (h2 : t.val % 5 = 4) (h3 : ¬t.val % 10 = 9) :
    buf m c t.val t.isLt = plus (buf m c (t.val - 1) (by omega)) (dCtx m c t) := by
  funext s k e
  unfold buf
  rw [outsAt0_C m c t h0 h1 h2 h3]
  frame_out
  exact ctxStores m c t (t.val - 1) (by omega) s k e

/-- The last point writes the rounded sums back. -/
theorem caseD (t : Fin cfg0.N) (h0 : ¬t.val % 10 = 0) (h1 : ¬t.val % 5 ≤ 3) (h2 : t.val % 5 = 4) (h3 : t.val % 10 = 9) (s : Fin 4) (k e : Fin 1024) :
    (outsAt0 m c t.val t.isLt).1 (ix3 s k e) = plus (buf m c (t.val - 1) (by omega)) (dCtx m c t) s k e := by
  rw [outsAt0_D m c t h0 h1 h2 h3]
  frame_out
  exact (round7 _ s k e).trans (ctxStores m c t (t.val - 1) (by omega) s k e)

end Cert.Dw
end
-- ==== Proof.DwRef.lean ====
/- The reference's weight gradient at an index. -/
module

public import proofs.«01_k».proof.Proof.DwAcc
public import proofs.«01_k».proof.Proof.Gen.Reference7Ideal.Read

@[expose] public section

set_option maxRecDepth 16384

noncomputable section

namespace Cert.Dw

open Cert.Reference7Ideal Cert.Reference7Ideal.Gen Cert.Reference7Ideal.Read Idealize.ShloMosaic Idealize.ShloMosaic.TcCoe Idealize.SL.Sem

variable (x0 : Vec Ideal S2x2304x4x1024 .f32) (x1 : Vec Ideal S2x2304x1024 .f32)

/-- The products over the latent tokens. -/
theorem ref_lat (s : Fin 4) (k e : Fin 1024) : val_main_v26 (F := Ideal) x0 x1 (ix3 s k e)
    = ∑ b : Fin 2, ∑ l : Fin 2048, x1 (ix3 b ⟨l.val, by omega⟩ k) * x0 (ix4 b ⟨l.val, by omega⟩ s e) := by
  pointwise [val_main_v26, val_main_v25, val_main_v24, val_main_v23]
  exact Finset.sum_congr rfl fun b _ => Finset.sum_congr rfl fun l _ => mul_comm _ _

/-- The products over the context's tokens, in one half of each shard's columns. -/
theorem ref_ctx (s : Fin 4) (k e : Fin 1024) : val_main_v22 (F := Ideal) x0 x1 (ix3 s k e)
    = if e.val / 512 = (halfF s).val then ∑ b : Fin 2, ∑ p : Fin 256, x1 (ix3 b (cOf p) k) * x0 (ix4 b (cOf p) s e) else 0 := by
  match s with
  | 0 | 1 | 2 | 3 =>
    pointwise [val_main_v22, val_main_v18, val_main_v19, val_main_v20, val_main_v21, val_main_v5, val_main_v9, val_main_v13, val_main_v17,
      val_main_v1, val_main_cst, val_main_v4, val_main_v8, val_main_v12, val_main_v16, val_main_v3, val_main_v7, val_main_v11, val_main_v15,
      val_main_v2, val_main_v6, val_main_v10, val_main_v14, val_main_v0, cOf]
    by_cases h : e.val < 512
    · have h0 : e.val / 512 = 0 := by omega
      first
        | exact (dif_pos h).trans (if_pos h0).symm
        | exact (dif_pos h).trans (if_neg (by rw [h0]; decide)).symm
    · have h1 : e.val / 512 = 1 := by omega
      have he : 512 + (e.val - 512) = e.val := by omega
      first
        | exact (dif_neg h).trans (Eq.trans (Finset.sum_congr rfl fun b _ => Finset.sum_congr rfl fun p _ =>
            congrArg (fun z => _ * x0 (ix4 b _ _ z)) (Fin.ext he)) (if_pos h1).symm)
        | exact (dif_neg h).trans (if_neg (by rw [h1]; decide)).symm

/-- Tokens of the latent image by tile and place in it. -/
theorem sum_tiles (f : Fin 2048 → EReal) :
    ∑ l : Fin 2048, f l = ∑ j : Fin 4, ∑ p : Fin 512, f ⟨j.val * 512 + p.val, by omega⟩ := by
  rw [← Fintype.sum_prod_type' (f := fun (j : Fin 4) (p : Fin 512) => f ⟨j.val * 512 + p.val, by omega⟩)]
  refine (Fintype.sum_equiv (finProdFinEquiv (m := 4) (n := 512)) _ _ fun x => congrArg f (Fin.ext ?_)).symm
  show x.1.val * 512 + x.2.val = x.2.val + 512 * x.1.val
  omega

end Cert.Dw

namespace Cert.Dw

open Cert.Kernel7Ideal Cert.Kernel7Ideal.Gen Cert.Kernel7Ideal.Value Cert.Reference7Ideal.Read Idealize.ShloMosaic Idealize.ShloMosaic.TcCoe Idealize.SL.Sem

variable (m : (ℓ : Loc nD τ sig) → Buf (Elt Ideal) ℓ) (c : Dev nD)

/-- What point `n` adds. -/
def step (n : ℕ) : Sums := fun s k e =>
  if h : n < cfg0.N then (if n % 5 = 4 then dCtx m c ⟨n, h⟩ s k e else dLat m c ⟨n, h⟩ s k e) else 0

/-- Before the last point the buffer holds what the points up to it have added. -/
theorem buf_sum (n : ℕ) (hn : n < cfg0.N) (h9 : n < 9) (s : Fin 4) (k e : Fin 1024) :
    buf m c n hn s k e = ∑ i ∈ Finset.range (n + 1), step m c i s k e := by
  induction n with
  | zero =>
    rw [Finset.sum_range_one, step, dif_pos hn, if_neg (by decide)]
    exact (congrFun (congrFun (congrFun (caseA m c ⟨0, hn⟩ rfl (Nat.zero_le 3) (by show ¬0 % 5 = 4; decide) (by show ¬0 % 10 = 9; decide)) s) k) e).trans (zero_add _)
  | succ n ih =>
    rw [Finset.sum_range_succ, ← ih (by omega) (by omega), step, dif_pos hn]
    by_cases h : (n + 1) % 5 = 4
    · rw [if_pos h]
      exact congrFun (congrFun (congrFun (caseC m c ⟨n + 1, hn⟩ (by show ¬(n + 1) % 10 = 0; omega) (by show ¬(n + 1) % 5 ≤ 3; omega) h
        (by show ¬(n + 1) % 10 = 9; omega)) s) k) e
    · rw [if_neg h]
      exact congrFun (congrFun (congrFun (caseB m c ⟨n + 1, hn⟩ (by show ¬(n + 1) % 10 = 0; omega) (by show (n + 1) % 5 ≤ 3; omega) h
        (by show ¬(n + 1) % 10 = 9; omega)) s) k) e

/-- The kernel's result: what all points add. -/
theorem last_sum (s : Fin 4) (k e : Fin 1024) : G14 m c (ix3 s k e) = ∑ i ∈ Finset.range 10, step m c i s k e := by
  have h9 : 9 < cfg0.N := lt_of_lt_of_eq (by decide : 9 < 10) N_0.symm
  have h8 : 8 < cfg0.N := lt_of_lt_of_eq (by decide : 8 < 10) N_0.symm
  rw [G14_last, ← outsAt0_sweep m c 9 h9, Finset.sum_range_succ, ← buf_sum m c 8 h8 (by decide), step, dif_pos h9, if_pos (by decide)]
  exact caseD m c ⟨9, h9⟩ (by show ¬9 % 10 = 0; decide) (by show ¬9 % 5 ≤ 3; decide) (by show 9 % 5 = 4; decide) (by show 9 % 10 = 9; decide) s k e

/-- The products over the latent tokens, by points. -/
theorem lat_points (s : Fin 4) (k e : Fin 1024) :
    (∑ b : Fin 2, ∑ l : Fin 2048, hh m c (ix3 b ⟨l.val, by omega⟩ k) * dp m c (ix4 b ⟨l.val, by omega⟩ s e))
      = ∑ b : Fin 2, ∑ j : Fin 4, step m c (5 * b.val + j.val) s k e := by
  refine Finset.sum_congr rfl fun b _ => (sum_tiles _).trans (Finset.sum_congr rfl fun j _ => ?_)
  have hn : 5 * b.val + j.val < cfg0.N := lt_of_lt_of_eq (by omega) N_0.symm
  rw [step, dif_pos hn, if_neg (by omega), dLat]
  have eb : bOf ⟨5 * b.val + j.val, hn⟩ = b := Fin.ext (by show (5 * b.val + j.val) / 5 = b.val; omega)
  have el : ∀ p : Fin 512, lOf ⟨5 * b.val + j.val, hn⟩ p = ⟨j.val * 512 + p.val, by omega⟩ :=
    fun p => Fin.ext (by show min ((5 * b.val + j.val) % 5) 3 * 512 + p.val = j.val * 512 + p.val; omega)
  exact Finset.sum_congr rfl fun p _ => by rw [eb, el p]

/-- The products over the context's tokens, by points. -/
theorem ctx_points (s : Fin 4) (k e : Fin 1024) :
    (if e.val / 512 = (halfF s).val then ∑ b : Fin 2, ∑ p : Fin 256, hh m c (ix3 b (cOf p) k) * dp m c (ix4 b (cOf p) s e) else 0)
      = ∑ b : Fin 2, step m c (5 * b.val + 4) s k e := by
  have hs : ∀ b : Fin 2, step m c (5 * b.val + 4) s k e
      = if e.val / 512 = (halfF s).val then ∑ p : Fin 256, hh m c (ix3 b (cOf p) k) * dp m c (ix4 b (cOf p) s e) else 0 := by
    intro b
    have hn : 5 * b.val + 4 < cfg0.N := lt_of_lt_of_eq (by omega) N_0.symm
    have eb : bOf ⟨5 * b.val + 4, hn⟩ = b := Fin.ext (by show (5 * b.val + 4) / 5 = b.val; omega)
    rw [step, dif_pos hn, if_pos (by omega), dCtx, eb]
  rw [Finset.sum_congr rfl fun b _ => hs b]
  split_ifs with h
  · rfl
  · exact Finset.sum_const_zero.symm

theorem result_at (s : Fin 4) (k e : Fin 1024) : val_main_v28 (F := Ideal) (dp m c) (hh m c) (ix3 s k e) = G14 m c (ix3 s k e) := by
  have e28 : val_main_v28 (F := Ideal) (dp m c) (hh m c) (ix3 s k e)
      = val_main_v26 (F := Ideal) (dp m c) (hh m c) (ix3 s k e) + val_main_v22 (F := Ideal) (dp m c) (hh m c) (ix3 s k e) := by
    pointwise [val_main_v28, val_main_v27]
  refine e28.trans ((congrArg₂ (· + ·) ((ref_lat _ _ s k e).trans (lat_points m c s k e)) ((ref_ctx _ _ s k e).trans (ctx_points m c s k e))).trans
    (Eq.trans ?_ (last_sum m c s k e).symm))
  generalize step m c = f
  simp only [Fin.sum_univ_succ, Finset.sum_range_succ, Finset.sum_range_zero, Fin.val_zero, Fin.val_succ, Finset.univ_eq_empty, Finset.sum_empty]
  norm_num
  abel

/-- The kernel's weight gradient is the reference's. -/
theorem result : val_main_v28 (F := Ideal) (dp m c) (hh m c) = G14 m c := by
  funext i
  exact (congrArg _ (eq_ix3 i)).trans ((result_at m c (i 0) (i 1) (i 2)).trans (congrArg _ (eq_ix3 i).symm))

end Cert.Dw
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.RefVal
public import proofs.«01_k».proof.Proof.KerFin
public import proofs.«01_k».proof.Proof.Finite
public import proofs.«01_k».proof.Proof.DhBits
public import proofs.«01_k».proof.Proof.DhRef
public import proofs.«01_k».proof.Proof.DhFin
public import proofs.«01_k».proof.Proof.DhFinite
public import Idealize.ShloMosaic.Adequacy
public import Idealize.ShloMosaic.Init
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.NaRef
public import proofs.«01_k».proof.Proof.NaFin
public import proofs.«01_k».proof.Proof.NaFinite
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.RetRef
public import proofs.«01_k».proof.Proof.RetFin
public import proofs.«01_k».proof.Proof.RetRun
public import proofs.«01_k».proof.Proof.RetFinite
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Mod
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Adam
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.DwStore
public import proofs.«01_k».proof.Proof.DwBlk
public import proofs.«01_k».proof.Proof.DwAcc
public import proofs.«01_k».proof.Proof.DwRef

@[expose] public section

noncomputable section

namespace Cert.Proof

open Idealize.ShloMosaic Idealize.SL.Sem Cert.Kernel

set_option maxHeartbeats 1600000 in
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_finite2.Gen.facts, Cert.Pre_finite3.Gen.facts, Cert.Pre_finite4.Gen.facts, by
  refine ⟨fun m ρ _ => Cert.Kernel.Gen.frame m ρ, fun m ρ _ => Cert.KernelIdeal.Gen.frame m ρ,
    fun m ρ _ => Cert.KernelIdeal.Gen.frame m ρ, ?_, ?_, Cert.Dh.frame_bits, fun m ρ _ => Cert.Dh.frame m ρ,
    fun m ρ _ => Cert.Dh.frame m ρ, ?_, ?_, fun m ρ _ => Cert.Kernel3.Gen.frame m ρ,
    fun m ρ _ => Cert.Kernel3Ideal.Gen.frame m ρ, fun m ρ _ => Cert.Kernel3Ideal.Gen.frame m ρ, ?_, ?_,
    fun m ρ _ => Cert.Kernel4.Gen.frame m ρ, fun m ρ _ => Cert.Kernel4Ideal.Gen.frame m ρ,
    fun m ρ _ => Cert.Kernel4Ideal.Gen.frame m ρ, ?_, ?_, fun m ρ _ => Cert.Kernel5.Gen.frame m ρ,
    fun m ρ _ => Cert.Kernel5Ideal.Gen.frame m ρ, ?_, fun m ρ _ => Cert.Kernel6.Gen.frame m ρ,
    fun m ρ _ => Cert.Kernel6Ideal.Gen.frame m ρ, ?_, fun m ρ _ => Cert.Kernel7.Gen.frame m ρ,
    fun m ρ _ => Cert.Kernel7Ideal.Gen.frame m ρ, ?_, trivial, ?_, trivial, ?_, trivial, ?_, trivial, ?_, trivial, ?_, trivial, ?_, trivial, ?_⟩
  · intro m g _
    run_from Cert.ReferenceIdeal.Value.run m g
    · simp only [and_self, implies_true]
    · exact sem_eq_zero_of_no_sems (sig := Cert.ReferenceIdeal.sig) rfl _
  · intro m g _
    run_from Cert.ReferenceIdeal.Value.run m g
    · simp only [and_self, implies_true]
    · exact sem_eq_zero_of_no_sems (sig := Cert.ReferenceIdeal.sig) rfl _
  · intro m g _
    run_from Cert.Reference2Ideal.Value.run m g
    · simp only [and_self, implies_true]
    · exact sem_eq_zero_of_no_sems (sig := Cert.Reference2Ideal.sig) rfl _
  · intro m g _
    run_from Cert.Reference2Ideal.Value.run m g
    · simp only [and_self, implies_true]
    · exact sem_eq_zero_of_no_sems (sig := Cert.Reference2Ideal.sig) rfl _
  · intro m g _
    run_from Cert.Reference3Ideal.Value.run m g
    · simp only [and_self, implies_true]
    · exact sem_eq_zero_of_no_sems (sig := Cert.Reference3Ideal.sig) rfl _
  · intro m g _
    run_from Cert.Reference3Ideal.Value.run m g
    · simp only [and_self, implies_true]
    · exact sem_eq_zero_of_no_sems (sig := Cert.Reference3Ideal.sig) rfl _
  · intro m g _
    run_from Cert.Reference4Ideal.Value.run m g
    · simp only [and_self, implies_true]
    · exact sem_eq_zero_of_no_sems (sig := Cert.Reference4Ideal.sig) rfl _
  · intro m g _
    run_from Cert.Reference4Ideal.Value.run m g
    · simp only [and_self, implies_true]
    · exact sem_eq_zero_of_no_sems (sig := Cert.Reference4Ideal.sig) rfl _
  · intro m g _
    run_from Cert.Reference5Ideal.Value.run m g
    · simp only [and_self, implies_true]
    · exact sem_eq_zero_of_no_sems (sig := Cert.Reference5Ideal.sig) rfl _
  · intro m g _
    run_from Cert.Reference6Ideal.Value.run m g
    · simp only [and_self, implies_true]
    · exact sem_eq_zero_of_no_sems (sig := Cert.Reference6Ideal.sig) rfl _
  · intro m g _
    run_from Cert.Reference7Ideal.Value.run m g
    · simp only [and_self, implies_true]
    · exact sem_eq_zero_of_no_sems (sig := Cert.Reference7Ideal.sig) rfl _
  · pair_intro
    · run_from Cert.KernelIdeal.Value.run m g
    · have H := fun c => Cert.Pre_finite.holds _ _ _ _ _ _ _ (hpre c)
      run_from Cert.ReferenceIdeal.Value.run m' g'
      · refine (Cert.ReferenceIdeal.Read.val_main_v73_eq m' c).trans (.trans ?_ (Cert.KernelIdeal.Value.arr7 m c (H c)).symm)
        obtain ⟨a0, a1, a2, a3, a4, a5, a6⟩ := hagree c
        rw [a0, a1, a2, a3, a4, a5, a6]
        funext i
        obtain ⟨b, l, k, rfl⟩ : ∃ b l k, i = ix3 b l k := ⟨_, _, _, eq_ix3 i⟩
        exact Cert.ReferenceIdeal.Read.out_dy (H c) b l k
      · refine (Cert.ReferenceIdeal.Read.val_main_v59_eq m' c).trans (.trans ?_ (Cert.KernelIdeal.Value.arr8 m c (H c)).symm)
        obtain ⟨a0, a1, a2, a3, a4, a5, a6⟩ := hagree c
        rw [a0, a1, a2, a3, a4, a5, a6]
        funext i
        obtain ⟨b, l, q, rfl⟩ : ∃ b l q, i = ix3 b l q := ⟨_, _, _, eq_ix3 i⟩
        exact Cert.ReferenceIdeal.Read.rdx (H c) b l q
      · refine (Cert.ReferenceIdeal.Read.val_main_v74_eq m' c).trans (.trans ?_ (Cert.KernelIdeal.Value.arr9 m c (H c)).symm)
        obtain ⟨a0, a1, a2, a3, a4, a5, a6⟩ := hagree c
        rw [a0, a1, a2, a3, a4, a5, a6]
        funext i
        obtain ⟨k, q, rfl⟩ : ∃ k q, i = ix2 k q := ⟨_, _, eq_ix2 i⟩
        exact Cert.ReferenceIdeal.Read.out_dW (H c) k q
      · refine (Cert.ReferenceIdeal.Read.val_main_v72_eq m' c).trans (.trans ?_ (Cert.KernelIdeal.Value.arr10 m c (H c)).symm)
        obtain ⟨a0, a1, a2, a3, a4, a5, a6⟩ := hagree c
        rw [a0, a1, a2, a3, a4, a5, a6]
        funext i
        obtain ⟨r, q, rfl⟩ : ∃ r q, i = ix2 r q := ⟨_, _, eq_ix2 i⟩
        exact Cert.ReferenceIdeal.Read.out_sm (H c) r q
  · pair_intro
    · run_from Cert.Dh.run_value m g
    · have H := fun c => Cert.Pre_finite2.holds _ _ _ _ _ _ _ (hpre c)
      run_from Cert.Reference2Ideal.Value.run m' g'
      · refine (Cert.Reference2Ideal.Read.val_main_v143_eq m' c).trans (.trans ?_ (Cert.Dh.arr14 m c (H c)).symm)
        obtain ⟨a0, a1, a2, a3, a4, a5, a6⟩ := hagree c
        rw [a0, a1, a2, a4, a5, a6]
        funext i
        obtain ⟨b, l, q, rfl⟩ : ∃ b l q, i = ix3 b l q := ⟨_, _, _, eq_ix3 i⟩
        exact Cert.Reference2Ideal.Read.out_gx (H c) b l q
      · refine (Cert.Reference2Ideal.Read.val_main_v148_eq m' c).trans (.trans ?_ (Cert.Dh.arr15 m c (H c)).symm)
        obtain ⟨a0, a1, a2, a3, a4, a5, a6⟩ := hagree c
        rw [a0, a1, a2, a3, a5, a6]
        funext i
        obtain ⟨r, q, rfl⟩ : ∃ r q, i = ix2 r q := ⟨_, _, eq_ix2 i⟩
        exact Cert.Reference2Ideal.Read.out_sm (H c) r q
  · pair_intro
    · run_from Cert.Kernel3Ideal.Value.run_blocks m g
    · have H := fun c => Cert.Pre_finite3.holds _ _ _ _ _ _ _ (hpre c)
      run_from Cert.Reference3Ideal.Value.run m' g'
      · refine (Cert.Reference3Ideal.Read.val_main_v124_eq m' c).trans (.trans ?_ (Cert.Na.arr5 m c (H c)).symm)
        obtain ⟨a0, a1, a2, a3, a4, a5, a6⟩ := hagree c
        rw [a0, a1, a2, a3, a4, a5, a6]
        funext i
        obtain ⟨b, l, q, rfl⟩ : ∃ b l q, i = ix3 b l q := ⟨_, _, _, eq_ix3 i⟩
        exact Cert.Reference3Ideal.Read.out_y (H c) b l q
      · refine (Cert.Reference3Ideal.Read.val_main_v125_eq m' c).trans (.trans ?_ (Cert.Na.arr6 m c (H c)).symm)
        obtain ⟨a0, a1, a2, a3, a4, a5, a6⟩ := hagree c
        rw [a0, a1, a2, a4, a5, a6]
        funext i
        obtain ⟨b, l, q, rfl⟩ : ∃ b l q, i = ix3 b l q := ⟨_, _, _, eq_ix3 i⟩
        exact Cert.Reference3Ideal.Read.out_o (H c) b l q
  · pair_intro
    · run_from Cert.Ret.run_value m g
    · have H := fun c => Cert.Pre_finite4.holds _ _ _ _ _ _ _ _ _ (hpre c)
      run_from Cert.Reference4Ideal.Value.run m' g'
      · refine (Cert.Reference4Ideal.Read.val_main_v136_eq m' c).trans (.trans ?_ (Cert.Ret.arr9 m g c (H c)).symm)
        obtain ⟨a0, a1, a2, a3, a4, a5, a6, a7, a8⟩ := hagree c
        rw [a0, a1, a2, a3, a4, a5, a6, a7, a8]
        funext i
        obtain ⟨b, l, q, rfl⟩ : ∃ b l q, i = ix3 b l q := ⟨_, _, _, eq_ix3 i⟩
        exact Cert.Reference4Ideal.Read.out_y (H c) b l q
      · refine (Cert.Reference4Ideal.Read.val_main_v138_eq m' c).trans (.trans ?_ (Cert.Ret.arr10 m g c (H c)).symm)
        obtain ⟨a0, a1, a2, a3, a4, a5, a6, a7, a8⟩ := hagree c
        rw [a0, a1, a2, a4, a5, a6, a7]
        funext i
        obtain ⟨b, l, q, rfl⟩ : ∃ b l q, i = ix3 b l q := ⟨_, _, _, eq_ix3 i⟩
        exact Cert.Reference4Ideal.Read.out_o (H c) b l q
  · pair_intro
    · run_from Cert.Mod.run_value m g
    · run_from Cert.Reference5Ideal.Value.run m' g'
      · refine (Cert.Reference5Ideal.Read.val_main_v7_eq _ _ _).trans ?_
        funext i
        obtain ⟨b, q, rfl⟩ : ∃ b q, i = ix2 b q := ⟨_, _, eq_ix2 i⟩
        exact (Cert.Mod.ref7 _ _ _ b q).trans (Cert.Mod.res7 m c b q).symm
      · refine (Cert.Reference5Ideal.Read.val_main_v13_eq _ _ _).trans ?_
        funext i
        obtain ⟨q, rfl⟩ : ∃ q, i = ix1 q := ⟨_, eq_ix1 i⟩
        exact (Cert.Mod.ref13 _ _ _ q).trans (Cert.Mod.res9 m c q).symm
  · pair_intro
    · run_from Cert.Kernel6Ideal.Value.run_blocks m g
    · run_from Cert.Reference6Ideal.Value.run m' g'
      · exact (Cert.Adam.arr4 m c).symm
      · exact (Cert.Reference6Ideal.Read.val_main_v23_eq _ _ _ _).trans ((Cert.Adam.ref23 _ _ _ _).trans (Cert.Adam.arr5 m c).symm)
      · exact (Cert.Reference6Ideal.Read.val_main_v4_eq _ _).trans ((Cert.Adam.ref4 _ _).trans (Cert.Adam.arr6 m c).symm)
      · exact (Cert.Reference6Ideal.Read.val_main_v10_eq _ _).trans ((Cert.Adam.ref10 _ _).trans (Cert.Adam.arr7 m c).symm)
  · pair_intro
    · run_from Cert.Kernel7Ideal.Value.run m g
    · run_from Cert.Reference7Ideal.Value.run m' g'
      · exact (Cert.Reference7Ideal.Read.val_main_v28_eq _ _).trans (Cert.Dw.result m c)⟩

end Cert.Proof
